-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelU (m : (ℓ : Loc Cert.KernelU.nD Cert.KernelU.τ Cert.KernelU.sig) → Buf (Elt Bits) ℓ) : Prop :=
  True

def Pre_KernelUIdeal (m : (ℓ : Loc Cert.KernelUIdeal.nD Cert.KernelUIdeal.τ Cert.KernelUIdeal.sig) → Buf (Elt Ideal) ℓ) : Prop :=
  True

def Pre_ReferenceUIdeal (m : (ℓ : Loc Cert.ReferenceUIdeal.nD Cert.ReferenceUIdeal.τ Cert.ReferenceUIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_ReferenceDIdeal (m : (ℓ : Loc Cert.ReferenceDIdeal.nD Cert.ReferenceDIdeal.τ Cert.ReferenceDIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelJ (m : (ℓ : Loc Cert.KernelJ.nD Cert.KernelJ.τ Cert.KernelJ.sig) → Buf (Elt Bits) ℓ) : Prop :=
  True

def Pre_KernelJIdeal (m : (ℓ : Loc Cert.KernelJIdeal.nD Cert.KernelJIdeal.τ Cert.KernelJIdeal.sig) → Buf (Elt Ideal) ℓ) : Prop :=
  True

def Pre_ReferenceJIdeal (m : (ℓ : Loc Cert.ReferenceJIdeal.nD Cert.ReferenceJIdeal.τ Cert.ReferenceJIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelL (m : (ℓ : Loc Cert.KernelL.nD Cert.KernelL.τ Cert.KernelL.sig) → Buf (Elt Bits) ℓ) : Prop :=
  True

def Pre_KernelLIdeal (m : (ℓ : Loc Cert.KernelLIdeal.nD Cert.KernelLIdeal.τ Cert.KernelLIdeal.sig) → Buf (Elt Ideal) ℓ) : Prop :=
  True

def Pre_ReferenceLIdeal (m : (ℓ : Loc Cert.ReferenceLIdeal.nD Cert.ReferenceLIdeal.τ Cert.ReferenceLIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3)
      ∧ r.2.mem ((c.tc : Thread Cert.KernelX.nD Cert.KernelX.τ).loc Cert.KernelX.main_arg4) = m ((c.tc : Thread Cert.KernelX.nD Cert.KernelX.τ).loc Cert.KernelX.main_arg4))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3)
      ∧ r.2.mem ((c.tc : Thread Cert.KernelH.nD Cert.KernelH.τ).loc Cert.KernelH.main_arg4) = m ((c.tc : Thread Cert.KernelH.nD Cert.KernelH.τ).loc Cert.KernelH.main_arg4))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
      ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1)
      ∧ r.2.mem ((c.tc : Thread Cert.ReferenceHIdeal.nD Cert.ReferenceHIdeal.τ).loc Cert.ReferenceHIdeal.main_arg2) = m ((c.tc : Thread Cert.ReferenceHIdeal.nD Cert.ReferenceHIdeal.τ).loc Cert.ReferenceHIdeal.main_arg2)
      ∧ r.2.mem ((c.tc : Thread Cert.ReferenceHIdeal.nD Cert.ReferenceHIdeal.τ).loc Cert.ReferenceHIdeal.main_arg3) = m ((c.tc : Thread Cert.ReferenceHIdeal.nD Cert.ReferenceHIdeal.τ).loc Cert.ReferenceHIdeal.main_arg3)
      ∧ r.2.mem ((c.tc : Thread Cert.ReferenceHIdeal.nD Cert.ReferenceHIdeal.τ).loc Cert.ReferenceHIdeal.main_arg4) = m ((c.tc : Thread Cert.ReferenceHIdeal.nD Cert.ReferenceHIdeal.τ).loc Cert.ReferenceHIdeal.main_arg4))
      ∧ r.2.sem = fun _ => 0)

def quiescent_KernelU [hKernelU : Cert.KernelU.Facts] : Prop :=
  ∀ (m : (ℓ : Loc Cert.KernelU.nD Cert.KernelU.τ Cert.KernelU.sig) → Buf (Elt Bits) ℓ) (g : Dev Cert.KernelU.nD → PrngReg), Pre_KernelU m →
    θ_run (Cert.KernelU.defs (F := Bits)) (onTc (τ := Cert.KernelU.τ) (Cert.KernelU.main (F := Bits))) ⟨m, fun _ => 0, g⟩ (fun r => (∀ c : Dev Cert.KernelU.nD,
      r.2.mem ((c.tc : Thread Cert.KernelU.nD Cert.KernelU.τ).loc Cert.KernelU.main_arg0) = m ((c.tc : Thread Cert.KernelU.nD Cert.KernelU.τ).loc Cert.KernelU.main_arg0)
      ∧ r.2.mem ((c.tc : Thread Cert.KernelU.nD Cert.KernelU.τ).loc Cert.KernelU.main_arg1) = m ((c.tc : Thread Cert.KernelU.nD Cert.KernelU.τ).loc Cert.KernelU.main_arg1))
      ∧ r.2.sem = fun _ => 0)

def quiescent_KernelUIdeal [hKernelUIdeal : Cert.KernelUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg), Pre_KernelUIdeal m →
    θ_run (Cert.KernelUIdeal.defs (F := Ideal)) (onTc (τ := Cert.KernelUIdeal.τ) (Cert.KernelUIdeal.main (F := Ideal))) ⟨m, fun _ => 0, g⟩ (fun r => (∀ c : Dev Cert.KernelUIdeal.nD,
      r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
      ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1))
      ∧ r.2.sem = fun _ => 0)

def quiescent_ReferenceUIdeal [hReferenceUIdeal : Cert.ReferenceUIdeal.Facts] : Prop :=
  ∀ (m : (ℓ : Loc Cert.ReferenceUIdeal.nD Cert.ReferenceUIdeal.τ Cert.ReferenceUIdeal.sig) → Buf (Elt Ideal) ℓ) (g : Dev Cert.ReferenceUIdeal.nD → PrngReg), Pre_ReferenceUIdeal m →
    θ_run (Cert.ReferenceUIdeal.defs (F := Ideal)) (onTc (τ := Cert.ReferenceUIdeal.τ) (Cert.ReferenceUIdeal.main (F := Ideal))) ⟨m, fun _ => 0, g⟩ (fun r => (∀ c : Dev Cert.ReferenceUIdeal.nD,
      r.2.mem ((c.tc : Thread Cert.ReferenceUIdeal.nD Cert.ReferenceUIdeal.τ).loc Cert.ReferenceUIdeal.main_arg0) = m ((c.tc : Thread Cert.ReferenceUIdeal.nD Cert.ReferenceUIdeal.τ).loc Cert.ReferenceUIdeal.main_arg0)
      ∧ r.2.mem ((c.tc : Thread Cert.ReferenceUIdeal.nD Cert.ReferenceUIdeal.τ).loc Cert.ReferenceUIdeal.main_arg1) = m ((c.tc : Thread Cert.ReferenceUIdeal.nD Cert.ReferenceUIdeal.τ).loc Cert.ReferenceUIdeal.main_arg1))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelJ [hKernelJ : Cert.KernelJ.Facts] : Prop :=
  ∀ (m : (ℓ : Loc Cert.KernelJ.nD Cert.KernelJ.τ Cert.KernelJ.sig) → Buf (Elt Bits) ℓ) (g : Dev Cert.KernelJ.nD → PrngReg), Pre_KernelJ m →
    θ_run (Cert.KernelJ.defs (F := Bits)) (onTc (τ := Cert.KernelJ.τ) (Cert.KernelJ.main (F := Bits))) ⟨m, fun _ => 0, g⟩ (fun r => (∀ c : Dev Cert.KernelJ.nD,
      r.2.mem ((c.tc : Thread Cert.KernelJ.nD Cert.KernelJ.τ).loc Cert.KernelJ.main_arg0) = m ((c.tc : Thread Cert.KernelJ.nD Cert.KernelJ.τ).loc Cert.KernelJ.main_arg0)
      ∧ r.2.mem ((c.tc : Thread Cert.KernelJ.nD Cert.KernelJ.τ).loc Cert.KernelJ.main_arg1) = m ((c.tc : Thread Cert.KernelJ.nD Cert.KernelJ.τ).loc Cert.KernelJ.main_arg1)
      ∧ r.2.mem ((c.tc : Thread Cert.KernelJ.nD Cert.KernelJ.τ).loc Cert.KernelJ.main_arg2) = m ((c.tc : Thread Cert.KernelJ.nD Cert.KernelJ.τ).loc Cert.KernelJ.main_arg2))
      ∧ r.2.sem = fun _ => 0)

def quiescent_KernelJIdeal [hKernelJIdeal : Cert.KernelJIdeal.Facts] : Prop :=
  ∀ (m : (ℓ : Loc Cert.KernelJIdeal.nD Cert.KernelJIdeal.τ Cert.KernelJIdeal.sig) → Buf (Elt Ideal) ℓ) (g : Dev Cert.KernelJIdeal.nD → PrngReg), Pre_KernelJIdeal m →
    θ_run (Cert.KernelJIdeal.defs (F := Ideal)) (onTc (τ := Cert.KernelJIdeal.τ) (Cert.KernelJIdeal.main (F := Ideal))) ⟨m, fun _ => 0, g⟩ (fun r => (∀ c : Dev Cert.KernelJIdeal.nD,
      r.2.mem ((c.tc : Thread Cert.KernelJIdeal.nD Cert.KernelJIdeal.τ).loc Cert.KernelJIdeal.main_arg0) = m ((c.tc : Thread Cert.KernelJIdeal.nD Cert.KernelJIdeal.τ).loc Cert.KernelJIdeal.main_arg0)
      ∧ r.2.mem ((c.tc : Thread Cert.KernelJIdeal.nD Cert.KernelJIdeal.τ).loc Cert.KernelJIdeal.main_arg1) = m ((c.tc : Thread Cert.KernelJIdeal.nD Cert.KernelJIdeal.τ).loc Cert.KernelJIdeal.main_arg1)
      ∧ r.2.mem ((c.tc : Thread Cert.KernelJIdeal.nD Cert.KernelJIdeal.τ).loc Cert.KernelJIdeal.main_arg2) = m ((c.tc : Thread Cert.KernelJIdeal.nD Cert.KernelJIdeal.τ).loc Cert.KernelJIdeal.main_arg2))
      ∧ r.2.sem = fun _ => 0)

def quiescent_ReferenceJIdeal [hReferenceJIdeal : Cert.ReferenceJIdeal.Facts] : Prop :=
  ∀ (m : (ℓ : Loc Cert.ReferenceJIdeal.nD Cert.ReferenceJIdeal.τ Cert.ReferenceJIdeal.sig) → Buf (Elt Ideal) ℓ) (g : Dev Cert.ReferenceJIdeal.nD → PrngReg), Pre_ReferenceJIdeal m →
    θ_run (Cert.ReferenceJIdeal.defs (F := Ideal)) (onTc (τ := Cert.ReferenceJIdeal.τ) (Cert.ReferenceJIdeal.main (F := Ideal))) ⟨m, fun _ => 0, g⟩ (fun r => (∀ c : Dev Cert.ReferenceJIdeal.nD,
      r.2.mem ((c.tc : Thread Cert.ReferenceJIdeal.nD Cert.ReferenceJIdeal.τ).loc Cert.ReferenceJIdeal.main_arg0) = m ((c.tc : Thread Cert.ReferenceJIdeal.nD Cert.ReferenceJIdeal.τ).loc Cert.ReferenceJIdeal.main_arg0)
      ∧ r.2.mem ((c.tc : Thread Cert.ReferenceJIdeal.nD Cert.ReferenceJIdeal.τ).loc Cert.ReferenceJIdeal.main_arg1) = m ((c.tc : Thread Cert.ReferenceJIdeal.nD Cert.ReferenceJIdeal.τ).loc Cert.ReferenceJIdeal.main_arg1)
      ∧ r.2.mem ((c.tc : Thread Cert.ReferenceJIdeal.nD Cert.ReferenceJIdeal.τ).loc Cert.ReferenceJIdeal.main_arg2) = m ((c.tc : Thread Cert.ReferenceJIdeal.nD Cert.ReferenceJIdeal.τ).loc Cert.ReferenceJIdeal.main_arg2))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2)
      ∧ r.2.mem ((c.tc : Thread Cert.KernelY.nD Cert.KernelY.τ).loc Cert.KernelY.main_arg3) = m ((c.tc : Thread Cert.KernelY.nD Cert.KernelY.τ).loc Cert.KernelY.main_arg3))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
      ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2)
      ∧ r.2.mem ((c.tc : Thread Cert.ReferenceYIdeal.nD Cert.ReferenceYIdeal.τ).loc Cert.ReferenceYIdeal.main_arg3) = m ((c.tc : Thread Cert.ReferenceYIdeal.nD Cert.ReferenceYIdeal.τ).loc Cert.ReferenceYIdeal.main_arg3))
      ∧ r.2.sem = fun _ => 0)

def quiescent_KernelL [hKernelL : Cert.KernelL.Facts] : Prop :=
  ∀ (m : (ℓ : Loc Cert.KernelL.nD Cert.KernelL.τ Cert.KernelL.sig) → Buf (Elt Bits) ℓ) (g : Dev Cert.KernelL.nD → PrngReg), Pre_KernelL m →
    θ_run (Cert.KernelL.defs (F := Bits)) (onTc (τ := Cert.KernelL.τ) (Cert.KernelL.main (F := Bits))) ⟨m, fun _ => 0, g⟩ (fun r => (∀ c : Dev Cert.KernelL.nD,
      r.2.mem ((c.tc : Thread Cert.KernelL.nD Cert.KernelL.τ).loc Cert.KernelL.main_arg0) = m ((c.tc : Thread Cert.KernelL.nD Cert.KernelL.τ).loc Cert.KernelL.main_arg0)
      ∧ r.2.mem ((c.tc : Thread Cert.KernelL.nD Cert.KernelL.τ).loc Cert.KernelL.main_arg1) = m ((c.tc : Thread Cert.KernelL.nD Cert.KernelL.τ).loc Cert.KernelL.main_arg1)
      ∧ r.2.mem ((c.tc : Thread Cert.KernelL.nD Cert.KernelL.τ).loc Cert.KernelL.main_arg2) = m ((c.tc : Thread Cert.KernelL.nD Cert.KernelL.τ).loc Cert.KernelL.main_arg2)
      ∧ r.2.mem ((c.tc : Thread Cert.KernelL.nD Cert.KernelL.τ).loc Cert.KernelL.main_arg3) = m ((c.tc : Thread Cert.KernelL.nD Cert.KernelL.τ).loc Cert.KernelL.main_arg3)
      ∧ r.2.mem ((c.tc : Thread Cert.KernelL.nD Cert.KernelL.τ).loc Cert.KernelL.main_arg4) = m ((c.tc : Thread Cert.KernelL.nD Cert.KernelL.τ).loc Cert.KernelL.main_arg4))
      ∧ r.2.sem = fun _ => 0)

def quiescent_KernelLIdeal [hKernelLIdeal : Cert.KernelLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
      ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
      ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
      ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
      ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4))
      ∧ r.2.sem = fun _ => 0)

def quiescent_ReferenceLIdeal [hReferenceLIdeal : Cert.ReferenceLIdeal.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0)
      ∧ r.2.mem ((c.tc : Thread Cert.ReferenceLIdeal.nD Cert.ReferenceLIdeal.τ).loc Cert.ReferenceLIdeal.main_arg1) = m ((c.tc : Thread Cert.ReferenceLIdeal.nD Cert.ReferenceLIdeal.τ).loc Cert.ReferenceLIdeal.main_arg1)
      ∧ r.2.mem ((c.tc : Thread Cert.ReferenceLIdeal.nD Cert.ReferenceLIdeal.τ).loc Cert.ReferenceLIdeal.main_arg2) = m ((c.tc : Thread Cert.ReferenceLIdeal.nD Cert.ReferenceLIdeal.τ).loc Cert.ReferenceLIdeal.main_arg2)
      ∧ r.2.mem ((c.tc : Thread Cert.ReferenceLIdeal.nD Cert.ReferenceLIdeal.τ).loc Cert.ReferenceLIdeal.main_arg3) = m ((c.tc : Thread Cert.ReferenceLIdeal.nD Cert.ReferenceLIdeal.τ).loc Cert.ReferenceLIdeal.main_arg3)
      ∧ r.2.mem ((c.tc : Thread Cert.ReferenceLIdeal.nD Cert.ReferenceLIdeal.τ).loc Cert.ReferenceLIdeal.main_arg4) = m ((c.tc : Thread Cert.ReferenceLIdeal.nD Cert.ReferenceLIdeal.τ).loc Cert.ReferenceLIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)
      ∧ m' ((c.tc : Thread Cert.ReferenceXIdeal.nD Cert.ReferenceXIdeal.τ).loc Cert.ReferenceXIdeal.main_arg4) = m ((c.tc : Thread Cert.KernelXIdeal.nD Cert.KernelXIdeal.τ).loc Cert.KernelXIdeal.main_arg4)) →
    ∃ (v0 : (c : Dev Cert.KernelXIdeal.nD) → Buf (Elt Ideal) ((c.tc : Thread Cert.KernelXIdeal.nD Cert.KernelXIdeal.τ).loc Cert.KernelXIdeal.main_v1_0)) (v1 : (c : Dev Cert.KernelXIdeal.nD) → Buf (Elt Ideal) ((c.tc : Thread Cert.KernelXIdeal.nD Cert.KernelXIdeal.τ).loc Cert.KernelXIdeal.main_v1_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v1_0) = v0 c
          ∧ r.2.mem ((c.tc : Thread Cert.KernelXIdeal.nD Cert.KernelXIdeal.τ).loc Cert.KernelXIdeal.main_v1_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
          ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v43) = v0 c
          ∧ r.2.mem ((c.tc : Thread Cert.ReferenceXIdeal.nD Cert.ReferenceXIdeal.τ).loc Cert.ReferenceXIdeal.main_v42) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3)
          ∧ r.2.mem ((c.tc : Thread Cert.ReferenceXIdeal.nD Cert.ReferenceXIdeal.τ).loc Cert.ReferenceXIdeal.main_arg4) = m' ((c.tc : Thread Cert.ReferenceXIdeal.nD Cert.ReferenceXIdeal.τ).loc Cert.ReferenceXIdeal.main_arg4))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)
      ∧ m' ((c.tc : Thread Cert.ReferenceHIdeal.nD Cert.ReferenceHIdeal.τ).loc Cert.ReferenceHIdeal.main_arg2) = m ((c.tc : Thread Cert.KernelHIdeal.nD Cert.KernelHIdeal.τ).loc Cert.KernelHIdeal.main_arg2)
      ∧ m' ((c.tc : Thread Cert.ReferenceHIdeal.nD Cert.ReferenceHIdeal.τ).loc Cert.ReferenceHIdeal.main_arg3) = m ((c.tc : Thread Cert.KernelHIdeal.nD Cert.KernelHIdeal.τ).loc Cert.KernelHIdeal.main_arg3)
      ∧ m' ((c.tc : Thread Cert.ReferenceHIdeal.nD Cert.ReferenceHIdeal.τ).loc Cert.ReferenceHIdeal.main_arg4) = m ((c.tc : Thread Cert.KernelHIdeal.nD Cert.KernelHIdeal.τ).loc Cert.KernelHIdeal.main_arg4)) →
    ∃ (v0 : (c : Dev Cert.KernelHIdeal.nD) → Buf (Elt Ideal) ((c.tc : Thread Cert.KernelHIdeal.nD Cert.KernelHIdeal.τ).loc Cert.KernelHIdeal.main_v0_0)) (v1 : (c : Dev Cert.KernelHIdeal.nD) → Buf (Elt Ideal) ((c.tc : Thread Cert.KernelHIdeal.nD Cert.KernelHIdeal.τ).loc Cert.KernelHIdeal.main_v0_1)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v0_0) = v0 c
          ∧ r.2.mem ((c.tc : Thread Cert.KernelHIdeal.nD Cert.KernelHIdeal.τ).loc Cert.KernelHIdeal.main_v0_1) = v1 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
          ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
          ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
          ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v42) = v0 c
          ∧ r.2.mem ((c.tc : Thread Cert.ReferenceHIdeal.nD Cert.ReferenceHIdeal.τ).loc Cert.ReferenceHIdeal.main_v41) = v1 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1)
          ∧ r.2.mem ((c.tc : Thread Cert.ReferenceHIdeal.nD Cert.ReferenceHIdeal.τ).loc Cert.ReferenceHIdeal.main_arg2) = m' ((c.tc : Thread Cert.ReferenceHIdeal.nD Cert.ReferenceHIdeal.τ).loc Cert.ReferenceHIdeal.main_arg2)
          ∧ r.2.mem ((c.tc : Thread Cert.ReferenceHIdeal.nD Cert.ReferenceHIdeal.τ).loc Cert.ReferenceHIdeal.main_arg3) = m' ((c.tc : Thread Cert.ReferenceHIdeal.nD Cert.ReferenceHIdeal.τ).loc Cert.ReferenceHIdeal.main_arg3)
          ∧ r.2.mem ((c.tc : Thread Cert.ReferenceHIdeal.nD Cert.ReferenceHIdeal.τ).loc Cert.ReferenceHIdeal.main_arg4) = m' ((c.tc : Thread Cert.ReferenceHIdeal.nD Cert.ReferenceHIdeal.τ).loc Cert.ReferenceHIdeal.main_arg4))

def preserves_KernelU_KernelUIdeal : Prop :=
  True

def algebraic_KernelUIdeal_ReferenceUIdeal [hKernelUIdeal : Cert.KernelUIdeal.Facts] [hReferenceUIdeal : Cert.ReferenceUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg)
    (m' : (ℓ : Loc Cert.ReferenceUIdeal.nD Cert.ReferenceUIdeal.τ Cert.ReferenceUIdeal.sig) → Buf (Elt Ideal) ℓ) (g' : Dev Cert.ReferenceUIdeal.nD → PrngReg), Pre_KernelUIdeal m →
    (∀ c : Dev Cert.KernelUIdeal.nD,
      m' ((c.tc : Thread Cert.ReferenceUIdeal.nD Cert.ReferenceUIdeal.τ).loc Cert.ReferenceUIdeal.main_arg0) = m ((c.tc : Thread Cert.KernelUIdeal.nD Cert.KernelUIdeal.τ).loc Cert.KernelUIdeal.main_arg0)
      ∧ m' ((c.tc : Thread Cert.ReferenceUIdeal.nD Cert.ReferenceUIdeal.τ).loc Cert.ReferenceUIdeal.main_arg1) = m ((c.tc : Thread Cert.KernelUIdeal.nD Cert.KernelUIdeal.τ).loc Cert.KernelUIdeal.main_arg1)) →
    ∃ (v0 : (c : Dev Cert.KernelUIdeal.nD) → Buf (Elt Ideal) ((c.tc : Thread Cert.KernelUIdeal.nD Cert.KernelUIdeal.τ).loc Cert.KernelUIdeal.main_v0)),
      θ_run (Cert.KernelUIdeal.defs (F := Ideal)) (onTc (τ := Cert.KernelUIdeal.τ) (Cert.KernelUIdeal.main (F := Ideal))) ⟨m, fun _ => 0, g⟩ (fun r => ∀ c : Dev Cert.KernelUIdeal.nD,
          r.2.mem ((c.tc : Thread Cert.KernelUIdeal.nD Cert.KernelUIdeal.τ).loc Cert.KernelUIdeal.main_v0) = v0 c
          ∧ r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
          ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1))
      ∧ θ_run (Cert.ReferenceUIdeal.defs (F := Ideal)) (onTc (τ := Cert.ReferenceUIdeal.τ) (Cert.ReferenceUIdeal.main (F := Ideal))) ⟨m', fun _ => 0, g'⟩ (fun r => ∀ c : Dev Cert.ReferenceUIdeal.nD,
          r.2.mem ((c.tc : Thread Cert.ReferenceUIdeal.nD Cert.ReferenceUIdeal.τ).loc Cert.ReferenceUIdeal.main_v6) = v0 c
          ∧ r.2.mem ((c.tc : Thread Cert.ReferenceUIdeal.nD Cert.ReferenceUIdeal.τ).loc Cert.ReferenceUIdeal.main_arg0) = m' ((c.tc : Thread Cert.ReferenceUIdeal.nD Cert.ReferenceUIdeal.τ).loc Cert.ReferenceUIdeal.main_arg0)
          ∧ r.2.mem ((c.tc : Thread Cert.ReferenceUIdeal.nD Cert.ReferenceUIdeal.τ).loc Cert.ReferenceUIdeal.main_arg1) = m' ((c.tc : Thread Cert.ReferenceUIdeal.nD Cert.ReferenceUIdeal.τ).loc Cert.ReferenceUIdeal.main_arg1))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)) →
    ∃ (v0 : (c : Dev Cert.KernelAIdeal.nD) → Buf (Elt Ideal) ((c.tc : Thread Cert.KernelAIdeal.nD Cert.KernelAIdeal.τ).loc Cert.KernelAIdeal.main_v0)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v0) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v1) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1))

def preserves_KernelD_KernelDIdeal : Prop :=
  True

def algebraic_KernelDIdeal_ReferenceDIdeal [hKernelDIdeal : Cert.KernelDIdeal.Facts] [hReferenceDIdeal : Cert.ReferenceDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)) →
    ∃ (v0 : (c : Dev Cert.KernelDIdeal.nD) → Buf (Elt Ideal) ((c.tc : Thread Cert.KernelDIdeal.nD Cert.KernelDIdeal.τ).loc Cert.KernelDIdeal.main_v0)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v0) = v0 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v3) = v0 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)) →
    ∃ (v0 : (c : Dev Cert.KernelNIdeal.nD) → Buf (Elt Ideal) ((c.tc : Thread Cert.KernelNIdeal.nD Cert.KernelNIdeal.τ).loc Cert.KernelNIdeal.main_v0)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v0) = v0 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v7) = v0 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)) →
    ∃ (v0 : (c : Dev Cert.KernelMIdeal.nD) → Buf (Elt Ideal) ((c.tc : Thread Cert.KernelMIdeal.nD Cert.KernelMIdeal.τ).loc Cert.KernelMIdeal.main_v0)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v0) = v0 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v1) = v0 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v3) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelJ_KernelJIdeal : Prop :=
  True

def algebraic_KernelJIdeal_ReferenceJIdeal [hKernelJIdeal : Cert.KernelJIdeal.Facts] [hReferenceJIdeal : Cert.ReferenceJIdeal.Facts] : Prop :=
  ∀ (m : (ℓ : Loc Cert.KernelJIdeal.nD Cert.KernelJIdeal.τ Cert.KernelJIdeal.sig) → Buf (Elt Ideal) ℓ) (g : Dev Cert.KernelJIdeal.nD → PrngReg)
    (m' : (ℓ : Loc Cert.ReferenceJIdeal.nD Cert.ReferenceJIdeal.τ Cert.ReferenceJIdeal.sig) → Buf (Elt Ideal) ℓ) (g' : Dev Cert.ReferenceJIdeal.nD → PrngReg), Pre_KernelJIdeal m →
    (∀ c : Dev Cert.KernelJIdeal.nD,
      m' ((c.tc : Thread Cert.ReferenceJIdeal.nD Cert.ReferenceJIdeal.τ).loc Cert.ReferenceJIdeal.main_arg0) = m ((c.tc : Thread Cert.KernelJIdeal.nD Cert.KernelJIdeal.τ).loc Cert.KernelJIdeal.main_arg0)
      ∧ m' ((c.tc : Thread Cert.ReferenceJIdeal.nD Cert.ReferenceJIdeal.τ).loc Cert.ReferenceJIdeal.main_arg1) = m ((c.tc : Thread Cert.KernelJIdeal.nD Cert.KernelJIdeal.τ).loc Cert.KernelJIdeal.main_arg1)
      ∧ m' ((c.tc : Thread Cert.ReferenceJIdeal.nD Cert.ReferenceJIdeal.τ).loc Cert.ReferenceJIdeal.main_arg2) = m ((c.tc : Thread Cert.KernelJIdeal.nD Cert.KernelJIdeal.τ).loc Cert.KernelJIdeal.main_arg2)) →
    ∃ (v0 : (c : Dev Cert.KernelJIdeal.nD) → Buf (Elt Ideal) ((c.tc : Thread Cert.KernelJIdeal.nD Cert.KernelJIdeal.τ).loc Cert.KernelJIdeal.main_v2_0)) (v1 : (c : Dev Cert.KernelJIdeal.nD) → Buf (Elt Ideal) ((c.tc : Thread Cert.KernelJIdeal.nD Cert.KernelJIdeal.τ).loc Cert.KernelJIdeal.main_v2_1)) (v2 : (c : Dev Cert.KernelJIdeal.nD) → Buf (Elt Ideal) ((c.tc : Thread Cert.KernelJIdeal.nD Cert.KernelJIdeal.τ).loc Cert.KernelJIdeal.main_v2_2)),
      θ_run (Cert.KernelJIdeal.defs (F := Ideal)) (onTc (τ := Cert.KernelJIdeal.τ) (Cert.KernelJIdeal.main (F := Ideal))) ⟨m, fun _ => 0, g⟩ (fun r => ∀ c : Dev Cert.KernelJIdeal.nD,
          r.2.mem ((c.tc : Thread Cert.KernelJIdeal.nD Cert.KernelJIdeal.τ).loc Cert.KernelJIdeal.main_v2_0) = v0 c
          ∧ r.2.mem ((c.tc : Thread Cert.KernelJIdeal.nD Cert.KernelJIdeal.τ).loc Cert.KernelJIdeal.main_v2_1) = v1 c
          ∧ r.2.mem ((c.tc : Thread Cert.KernelJIdeal.nD Cert.KernelJIdeal.τ).loc Cert.KernelJIdeal.main_v2_2) = v2 c
          ∧ r.2.mem ((c.tc : Thread Cert.KernelJIdeal.nD Cert.KernelJIdeal.τ).loc Cert.KernelJIdeal.main_arg0) = m ((c.tc : Thread Cert.KernelJIdeal.nD Cert.KernelJIdeal.τ).loc Cert.KernelJIdeal.main_arg0)
          ∧ r.2.mem ((c.tc : Thread Cert.KernelJIdeal.nD Cert.KernelJIdeal.τ).loc Cert.KernelJIdeal.main_arg1) = m ((c.tc : Thread Cert.KernelJIdeal.nD Cert.KernelJIdeal.τ).loc Cert.KernelJIdeal.main_arg1)
          ∧ r.2.mem ((c.tc : Thread Cert.KernelJIdeal.nD Cert.KernelJIdeal.τ).loc Cert.KernelJIdeal.main_arg2) = m ((c.tc : Thread Cert.KernelJIdeal.nD Cert.KernelJIdeal.τ).loc Cert.KernelJIdeal.main_arg2))
      ∧ θ_run (Cert.ReferenceJIdeal.defs (F := Ideal)) (onTc (τ := Cert.ReferenceJIdeal.τ) (Cert.ReferenceJIdeal.main (F := Ideal))) ⟨m', fun _ => 0, g'⟩ (fun r => ∀ c : Dev Cert.ReferenceJIdeal.nD,
          r.2.mem ((c.tc : Thread Cert.ReferenceJIdeal.nD Cert.ReferenceJIdeal.τ).loc Cert.ReferenceJIdeal.main_v16) = v0 c
          ∧ r.2.mem ((c.tc : Thread Cert.ReferenceJIdeal.nD Cert.ReferenceJIdeal.τ).loc Cert.ReferenceJIdeal.main_v17) = v1 c
          ∧ r.2.mem ((c.tc : Thread Cert.ReferenceJIdeal.nD Cert.ReferenceJIdeal.τ).loc Cert.ReferenceJIdeal.main_v18) = v2 c
          ∧ r.2.mem ((c.tc : Thread Cert.ReferenceJIdeal.nD Cert.ReferenceJIdeal.τ).loc Cert.ReferenceJIdeal.main_arg0) = m' ((c.tc : Thread Cert.ReferenceJIdeal.nD Cert.ReferenceJIdeal.τ).loc Cert.ReferenceJIdeal.main_arg0)
          ∧ r.2.mem ((c.tc : Thread Cert.ReferenceJIdeal.nD Cert.ReferenceJIdeal.τ).loc Cert.ReferenceJIdeal.main_arg1) = m' ((c.tc : Thread Cert.ReferenceJIdeal.nD Cert.ReferenceJIdeal.τ).loc Cert.ReferenceJIdeal.main_arg1)
          ∧ r.2.mem ((c.tc : Thread Cert.ReferenceJIdeal.nD Cert.ReferenceJIdeal.τ).loc Cert.ReferenceJIdeal.main_arg2) = m' ((c.tc : Thread Cert.ReferenceJIdeal.nD Cert.ReferenceJIdeal.τ).loc Cert.ReferenceJIdeal.main_arg2))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)
      ∧ m' ((c.tc : Thread Cert.ReferenceYIdeal.nD Cert.ReferenceYIdeal.τ).loc Cert.ReferenceYIdeal.main_arg3) = m ((c.tc : Thread Cert.KernelYIdeal.nD Cert.KernelYIdeal.τ).loc Cert.KernelYIdeal.main_arg3)) →
    ∃ (v0 : (c : Dev Cert.KernelYIdeal.nD) → Buf (Elt Ideal) ((c.tc : Thread Cert.KernelYIdeal.nD Cert.KernelYIdeal.τ).loc Cert.KernelYIdeal.main_v0_0)) (v1 : (c : Dev Cert.KernelYIdeal.nD) → Buf (Elt Ideal) ((c.tc : Thread Cert.KernelYIdeal.nD Cert.KernelYIdeal.τ).loc Cert.KernelYIdeal.main_v0_1)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0_0) = v0 c
          ∧ r.2.mem ((c.tc : Thread Cert.KernelYIdeal.nD Cert.KernelYIdeal.τ).loc Cert.KernelYIdeal.main_v0_1) = v1 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
          ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v3) = v0 c
          ∧ r.2.mem ((c.tc : Thread Cert.ReferenceYIdeal.nD Cert.ReferenceYIdeal.τ).loc Cert.ReferenceYIdeal.main_v18) = v1 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2)
          ∧ r.2.mem ((c.tc : Thread Cert.ReferenceYIdeal.nD Cert.ReferenceYIdeal.τ).loc Cert.ReferenceYIdeal.main_arg3) = m' ((c.tc : Thread Cert.ReferenceYIdeal.nD Cert.ReferenceYIdeal.τ).loc Cert.ReferenceYIdeal.main_arg3))

def preserves_KernelL_KernelLIdeal : Prop :=
  True

def algebraic_KernelLIdeal_ReferenceLIdeal [hKernelLIdeal : Cert.KernelLIdeal.Facts] [hReferenceLIdeal : Cert.ReferenceLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg)
    (m' : (ℓ : Loc Cert.ReferenceLIdeal.nD Cert.ReferenceLIdeal.τ Cert.ReferenceLIdeal.sig) → Buf (Elt Ideal) ℓ) (g' : Dev Cert.ReferenceLIdeal.nD → PrngReg), Pre_KernelLIdeal m →
    (∀ c : Dev Cert.KernelLIdeal.nD,
      m' ((c.tc : Thread Cert.ReferenceLIdeal.nD Cert.ReferenceLIdeal.τ).loc Cert.ReferenceLIdeal.main_arg0) = m ((c.tc : Thread Cert.KernelLIdeal.nD Cert.KernelLIdeal.τ).loc Cert.KernelLIdeal.main_arg0)
      ∧ m' ((c.tc : Thread Cert.ReferenceLIdeal.nD Cert.ReferenceLIdeal.τ).loc Cert.ReferenceLIdeal.main_arg1) = m ((c.tc : Thread Cert.KernelLIdeal.nD Cert.KernelLIdeal.τ).loc Cert.KernelLIdeal.main_arg1)
      ∧ m' ((c.tc : Thread Cert.ReferenceLIdeal.nD Cert.ReferenceLIdeal.τ).loc Cert.ReferenceLIdeal.main_arg2) = m ((c.tc : Thread Cert.KernelLIdeal.nD Cert.KernelLIdeal.τ).loc Cert.KernelLIdeal.main_arg2)
      ∧ m' ((c.tc : Thread Cert.ReferenceLIdeal.nD Cert.ReferenceLIdeal.τ).loc Cert.ReferenceLIdeal.main_arg3) = m ((c.tc : Thread Cert.KernelLIdeal.nD Cert.KernelLIdeal.τ).loc Cert.KernelLIdeal.main_arg3)
      ∧ m' ((c.tc : Thread Cert.ReferenceLIdeal.nD Cert.ReferenceLIdeal.τ).loc Cert.ReferenceLIdeal.main_arg4) = m ((c.tc : Thread Cert.KernelLIdeal.nD Cert.KernelLIdeal.τ).loc Cert.KernelLIdeal.main_arg4)) →
    ∃ (v0 : (c : Dev Cert.KernelLIdeal.nD) → Buf (Elt Ideal) ((c.tc : Thread Cert.KernelLIdeal.nD Cert.KernelLIdeal.τ).loc Cert.KernelLIdeal.main_v0_0)) (v1 : (c : Dev Cert.KernelLIdeal.nD) → Buf (Elt Ideal) ((c.tc : Thread Cert.KernelLIdeal.nD Cert.KernelLIdeal.τ).loc Cert.KernelLIdeal.main_v0_1)) (v2 : (c : Dev Cert.KernelLIdeal.nD) → Buf (Elt Ideal) ((c.tc : Thread Cert.KernelLIdeal.nD Cert.KernelLIdeal.τ).loc Cert.KernelLIdeal.main_v0_2)),
      θ_run (Cert.KernelLIdeal.defs (F := Ideal)) (onTc (τ := Cert.KernelLIdeal.τ) (Cert.KernelLIdeal.main (F := Ideal))) ⟨m, fun _ => 0, g⟩ (fun r => ∀ c : Dev Cert.KernelLIdeal.nD,
          r.2.mem ((c.tc : Thread Cert.KernelLIdeal.nD Cert.KernelLIdeal.τ).loc Cert.KernelLIdeal.main_v0_0) = v0 c
          ∧ r.2.mem ((c.tc : Thread Cert.KernelLIdeal.nD Cert.KernelLIdeal.τ).loc Cert.KernelLIdeal.main_v0_1) = v1 c
          ∧ r.2.mem ((c.tc : Thread Cert.KernelLIdeal.nD Cert.KernelLIdeal.τ).loc Cert.KernelLIdeal.main_v0_2) = v2 c
          ∧ r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
          ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
          ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
          ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
          ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4))
      ∧ θ_run (Cert.ReferenceLIdeal.defs (F := Ideal)) (onTc (τ := Cert.ReferenceLIdeal.τ) (Cert.ReferenceLIdeal.main (F := Ideal))) ⟨m', fun _ => 0, g'⟩ (fun r => ∀ c : Dev Cert.ReferenceLIdeal.nD,
          r.2.mem ((c.tc : Thread Cert.ReferenceLIdeal.nD Cert.ReferenceLIdeal.τ).loc Cert.ReferenceLIdeal.main_v57) = v0 c
          ∧ r.2.mem ((c.tc : Thread Cert.ReferenceLIdeal.nD Cert.ReferenceLIdeal.τ).loc Cert.ReferenceLIdeal.main_v55) = v1 c
          ∧ r.2.mem ((c.tc : Thread Cert.ReferenceLIdeal.nD Cert.ReferenceLIdeal.τ).loc Cert.ReferenceLIdeal.main_v56) = v2 c
          ∧ r.2.mem ((c.tc : Thread Cert.ReferenceLIdeal.nD Cert.ReferenceLIdeal.τ).loc Cert.ReferenceLIdeal.main_arg0) = m' ((c.tc : Thread Cert.ReferenceLIdeal.nD Cert.ReferenceLIdeal.τ).loc Cert.ReferenceLIdeal.main_arg0)
          ∧ r.2.mem ((c.tc : Thread Cert.ReferenceLIdeal.nD Cert.ReferenceLIdeal.τ).loc Cert.ReferenceLIdeal.main_arg1) = m' ((c.tc : Thread Cert.ReferenceLIdeal.nD Cert.ReferenceLIdeal.τ).loc Cert.ReferenceLIdeal.main_arg1)
          ∧ r.2.mem ((c.tc : Thread Cert.ReferenceLIdeal.nD Cert.ReferenceLIdeal.τ).loc Cert.ReferenceLIdeal.main_arg2) = m' ((c.tc : Thread Cert.ReferenceLIdeal.nD Cert.ReferenceLIdeal.τ).loc Cert.ReferenceLIdeal.main_arg2)
          ∧ r.2.mem ((c.tc : Thread Cert.ReferenceLIdeal.nD Cert.ReferenceLIdeal.τ).loc Cert.ReferenceLIdeal.main_arg3) = m' ((c.tc : Thread Cert.ReferenceLIdeal.nD Cert.ReferenceLIdeal.τ).loc Cert.ReferenceLIdeal.main_arg3)
          ∧ r.2.mem ((c.tc : Thread Cert.ReferenceLIdeal.nD Cert.ReferenceLIdeal.τ).loc Cert.ReferenceLIdeal.main_arg4) = m' ((c.tc : Thread Cert.ReferenceLIdeal.nD Cert.ReferenceLIdeal.τ).loc Cert.ReferenceLIdeal.main_arg4))

def Claim : Prop :=
  ∃ (hKernel : Cert.Kernel.Facts) (hKernelIdeal : Cert.KernelIdeal.Facts) (hReferenceIdeal : Cert.ReferenceIdeal.Facts) (hKernelX : Cert.KernelX.Facts) (hKernelXIdeal : Cert.KernelXIdeal.Facts) (hReferenceXIdeal : Cert.ReferenceXIdeal.Facts) (hKernelH : Cert.KernelH.Facts) (hKernelHIdeal : Cert.KernelHIdeal.Facts) (hReferenceHIdeal : Cert.ReferenceHIdeal.Facts) (hKernelU : Cert.KernelU.Facts) (hKernelUIdeal : Cert.KernelUIdeal.Facts) (hReferenceUIdeal : Cert.ReferenceUIdeal.Facts) (hKernelA : Cert.KernelA.Facts) (hKernelAIdeal : Cert.KernelAIdeal.Facts) (hReferenceAIdeal : Cert.ReferenceAIdeal.Facts) (hKernelD : Cert.KernelD.Facts) (hKernelDIdeal : Cert.KernelDIdeal.Facts) (hReferenceDIdeal : Cert.ReferenceDIdeal.Facts) (hKernelN : Cert.KernelN.Facts) (hKernelNIdeal : Cert.KernelNIdeal.Facts) (hReferenceNIdeal : Cert.ReferenceNIdeal.Facts) (hKernelM : Cert.KernelM.Facts) (hKernelMIdeal : Cert.KernelMIdeal.Facts) (hReferenceMIdeal : Cert.ReferenceMIdeal.Facts) (hKernelO : Cert.KernelO.Facts) (hKernelOIdeal : Cert.KernelOIdeal.Facts) (hReferenceOIdeal : Cert.ReferenceOIdeal.Facts) (hKernelJ : Cert.KernelJ.Facts) (hKernelJIdeal : Cert.KernelJIdeal.Facts) (hReferenceJIdeal : Cert.ReferenceJIdeal.Facts) (hKernelY : Cert.KernelY.Facts) (hKernelYIdeal : Cert.KernelYIdeal.Facts) (hReferenceYIdeal : Cert.ReferenceYIdeal.Facts) (hKernelL : Cert.KernelL.Facts) (hKernelLIdeal : Cert.KernelLIdeal.Facts) (hReferenceLIdeal : Cert.ReferenceLIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelU (hKernelU := hKernelU)
    ∧ quiescent_KernelUIdeal (hKernelUIdeal := hKernelUIdeal)
    ∧ quiescent_ReferenceUIdeal (hReferenceUIdeal := hReferenceUIdeal)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelD (hKernelD := hKernelD)
    ∧ quiescent_KernelDIdeal (hKernelDIdeal := hKernelDIdeal)
    ∧ quiescent_ReferenceDIdeal (hReferenceDIdeal := hReferenceDIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelJ (hKernelJ := hKernelJ)
    ∧ quiescent_KernelJIdeal (hKernelJIdeal := hKernelJIdeal)
    ∧ quiescent_ReferenceJIdeal (hReferenceJIdeal := hReferenceJIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelL (hKernelL := hKernelL)
    ∧ quiescent_KernelLIdeal (hKernelLIdeal := hKernelLIdeal)
    ∧ quiescent_ReferenceLIdeal (hReferenceLIdeal := hReferenceLIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelX_KernelXIdeal
    ∧ algebraic_KernelXIdeal_ReferenceXIdeal (hKernelXIdeal := hKernelXIdeal) (hReferenceXIdeal := hReferenceXIdeal)
    ∧ preserves_KernelH_KernelHIdeal
    ∧ algebraic_KernelHIdeal_ReferenceHIdeal (hKernelHIdeal := hKernelHIdeal) (hReferenceHIdeal := hReferenceHIdeal)
    ∧ preserves_KernelU_KernelUIdeal
    ∧ algebraic_KernelUIdeal_ReferenceUIdeal (hKernelUIdeal := hKernelUIdeal) (hReferenceUIdeal := hReferenceUIdeal)
    ∧ preserves_KernelA_KernelAIdeal
    ∧ algebraic_KernelAIdeal_ReferenceAIdeal (hKernelAIdeal := hKernelAIdeal) (hReferenceAIdeal := hReferenceAIdeal)
    ∧ preserves_KernelD_KernelDIdeal
    ∧ algebraic_KernelDIdeal_ReferenceDIdeal (hKernelDIdeal := hKernelDIdeal) (hReferenceDIdeal := hReferenceDIdeal)
    ∧ preserves_KernelN_KernelNIdeal
    ∧ algebraic_KernelNIdeal_ReferenceNIdeal (hKernelNIdeal := hKernelNIdeal) (hReferenceNIdeal := hReferenceNIdeal)
    ∧ preserves_KernelM_KernelMIdeal
    ∧ algebraic_KernelMIdeal_ReferenceMIdeal (hKernelMIdeal := hKernelMIdeal) (hReferenceMIdeal := hReferenceMIdeal)
    ∧ preserves_KernelO_KernelOIdeal
    ∧ algebraic_KernelOIdeal_ReferenceOIdeal (hKernelOIdeal := hKernelOIdeal) (hReferenceOIdeal := hReferenceOIdeal)
    ∧ preserves_KernelJ_KernelJIdeal
    ∧ algebraic_KernelJIdeal_ReferenceJIdeal (hKernelJIdeal := hKernelJIdeal) (hReferenceJIdeal := hReferenceJIdeal)
    ∧ preserves_KernelY_KernelYIdeal
    ∧ algebraic_KernelYIdeal_ReferenceYIdeal (hKernelYIdeal := hKernelYIdeal) (hReferenceYIdeal := hReferenceYIdeal)
    ∧ preserves_KernelL_KernelLIdeal
    ∧ algebraic_KernelLIdeal_ReferenceLIdeal (hKernelLIdeal := hKernelLIdeal) (hReferenceLIdeal := hReferenceLIdeal)
-- ==== Pre_finite.lean ====
abbrev S4096x512 : Shape := ⟨2, ![4096, 512]⟩
abbrev S4096x128 : Shape := ⟨2, ![4096, 128]⟩
abbrev S64x4x64x64 : Shape := ⟨4, ![64, 4, 64, 64]⟩
abbrev S64x4x128x128 : Shape := ⟨4, ![64, 4, 128, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S64x4x64x64 : S_.BroadcastsInDim S64x4x64x64 (![] : Fin 0 → Fin S64x4x64x64.rank)
  reducesTo_S64x4x64x64_S_d0_1_2_3 : S64x4x64x64.ReducesTo [0, 1, 2, 3] S_
  bcast_S_S64x4x128x128 : S_.BroadcastsInDim S64x4x128x128 (![] : Fin 0 → Fin S64x4x128x128.rank)
  reducesTo_S64x4x128x128_S_d0_1_2_3 : S64x4x128x128.ReducesTo [0, 1, 2, 3] S_

variable [Facts]

def fn_part1 {F : FTy → Type} [FloatOps F] (main_arg4 : FVec F S64x4x64x64 .f32) (main_arg5 : FVec F S64x4x128x128 .f32) (main_arg6 : FVec F S4096x512 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S64x4x64x64 .f32 := Host.absf main_arg4
  let main_cst_6 : FVec F S_ .f32 := constant S_ .f32 0x7F800000#32
  let main_v20 : FVec F S64x4x64x64 .f32 := broadcastInDim S64x4x64x64 ![] bcast_S_S64x4x64x64 main_cst_6
  let main_v21 : IVec S64x4x64x64 1 := cmpf .olt main_v19 main_v20
  let main_c_7 : IVec S_ 1 := constantI S_ 1 1#1
  let main_v22 : IVec S_ 1 := (fun x v => Host.reduce IntOp.andi x v reducesTo_S64x4x64x64_S_d0_1_2_3 h_S_) main_v21 main_c_7
  let main_v23 : IVec S_ 1 := andi main_v18 main_v22
  let main_v24 : FVec F S64x4x128x128 .f32 := Host.absf main_arg5
  let main_cst_8 : FVec F S_ .f32 := constant S_ .f32 0x7F800000#32
  let main_v25 : FVec F S64x4x128x128 .f32 := broadcastInDim S64x4x128x128 ![] bcast_S_S64x4x128x128 main_cst_8
  let main_v26 : IVec S64x4x128x128 1 := cmpf .olt main_v24 main_v25
  let main_c_9 : IVec S_ 1 := constantI S_ 1 1#1
  let main_v27 : IVec S_ 1 := (fun x v => Host.reduce IntOp.andi x v reducesTo_S64x4x128x128_S_d0_1_2_3 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  main_v33

def fn {F : FTy → Type} [FloatOps F] (main_arg0 : FVec F S4096x512 .f32) (main_arg1 : FVec F S4096x512 .f32) (main_arg2 : FVec F S4096x512 .f32) (main_arg3 : FVec F S4096x128 .f32) (main_arg4 : FVec F S64x4x64x64 .f32) (main_arg5 : FVec F S64x4x128x128 .f32) (main_arg6 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_arg6 main_v13 main_v16
-- ==== Kernel.lean ====
abbrev S4096x512 : Shape := ⟨2, ![4096, 512]⟩
abbrev S4096x128 : Shape := ⟨2, ![4096, 128]⟩
abbrev S64x4x64x64 : Shape := ⟨4, ![64, 4, 64, 64]⟩
abbrev S64x4x128x128 : Shape := ⟨4, ![64, 4, 128, 128]⟩
abbrev S64x64x128 : Shape := ⟨3, ![64, 64, 128]⟩
abbrev S_ : Shape := ⟨0, ![]⟩
abbrev S64x128x64 : Shape := ⟨3, ![64, 128, 64]⟩
abbrev S64x8x64 : Shape := ⟨3, ![64, 8, 64]⟩
abbrev S256x512 : Shape := ⟨2, ![256, 512]⟩
abbrev S256x128 : Shape := ⟨2, ![256, 128]⟩
abbrev S4x8x64 : Shape := ⟨3, ![4, 8, 64]⟩
abbrev S4x4x64x64 : Shape := ⟨4, ![4, 4, 64, 64]⟩
abbrev S4x4x128x128 : Shape := ⟨4, ![4, 4, 128, 128]⟩
abbrev S4x128x128 : Shape := ⟨3, ![4, 128, 128]⟩
abbrev S64x128 : Shape := ⟨2, ![64, 128]⟩
abbrev S64x1 : Shape := ⟨2, ![64, 1]⟩
abbrev S64x64 : Shape := ⟨2, ![64, 64]⟩
abbrev S1x8x64 : Shape := ⟨3, ![1, 8, 64]⟩
abbrev S8x64 : Shape := ⟨2, ![8, 64]⟩
abbrev S1x64 : Shape := ⟨2, ![1, 64]⟩
abbrev S1x1 : Shape := ⟨2, ![1, 1]⟩
abbrev S1x1x128x128 : Shape := ⟨4, ![1, 1, 128, 128]⟩
abbrev S128x128 : Shape := ⟨2, ![128, 128]⟩
abbrev S1x1x64x64 : Shape := ⟨4, ![1, 1, 64, 64]⟩
abbrev S1x128x128 : Shape := ⟨3, ![1, 128, 128]⟩
abbrev S1 : Shape := ⟨1, ![1]⟩
abbrev S1x1x1 : Shape := ⟨3, ![1, 1, 1]⟩
abbrev S64 : Shape := ⟨1, ![64]⟩
abbrev S1x64x128 : Shape := ⟨3, ![1, 64, 128]⟩

abbrev nBuf : Space → Nat
  | .hbm => 19
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x128, .f32⟩
  | .hbm, ⟨4, _⟩ => ⟨S64x4x64x64, .f32⟩
  | .hbm, ⟨5, _⟩ => ⟨S64x4x128x128, .f32⟩
  | .hbm, ⟨6, _⟩ => ⟨S4096x512, .f32⟩
  | .hbm, ⟨7, _⟩ => ⟨S64x64x128, .f32⟩
  | .hbm, ⟨8, _⟩ => ⟨S_, .f32⟩
  | .hbm, ⟨9, _⟩ => ⟨S_, .f32⟩
  | .hbm, ⟨10, _⟩ => ⟨S64x64x128, .f32⟩
  | .hbm, ⟨11, _⟩ => ⟨S64x128x64, .f32⟩
  | .hbm, ⟨12, _⟩ => ⟨S64x8x64, .f32⟩
  | .hbm, ⟨13, _⟩ => ⟨S64x4x64x64, .f32⟩
  | .hbm, ⟨14, _⟩ => ⟨S4096x128, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4x8x64, .f32⟩
  | .local _ .vmem, ⟨11, _⟩ => ⟨S4x8x64, .f32⟩
  | .local _ .vmem, ⟨12, _⟩ => ⟨S4x4x64x64, .f32⟩
  | .local _ .vmem, ⟨13, _⟩ => ⟨S4x4x64x64, .f32⟩
  | .local _ .vmem, ⟨14, _⟩ => ⟨S4x4x64x64, .f32⟩
  | .local _ .vmem, ⟨15, _⟩ => ⟨S4x4x64x64, .f32⟩
  | .local _ .vmem, ⟨16, _⟩ => ⟨S4x4x128x128, .f32⟩
  | .local _ .vmem, ⟨17, _⟩ => ⟨S4x4x128x128, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x128, .f32⟩
  | .local _ .vmem, ⟨27, _⟩ => ⟨S256x128, .f32⟩
  | .local _ .vmem, ⟨28, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S4096x128 : Shape := ⟨2, ![4096, 128]⟩
abbrev S64x4x64x64 : Shape := ⟨4, ![64, 4, 64, 64]⟩
abbrev S64x4x128x128 : Shape := ⟨4, ![64, 4, 128, 128]⟩
abbrev S_ : Shape := ⟨0, ![]⟩
abbrev S4x128x128 : Shape := ⟨3, ![4, 128, 128]⟩
abbrev S64x64x512 : Shape := ⟨3, ![64, 64, 512]⟩
abbrev S64x64x128 : Shape := ⟨3, ![64, 64, 128]⟩
abbrev S1x64x512 : Shape := ⟨3, ![1, 64, 512]⟩
abbrev S64x512 : Shape := ⟨2, ![64, 512]⟩
abbrev S1x64x128 : Shape := ⟨3, ![1, 64, 128]⟩
abbrev S64x128 : Shape := ⟨2, ![64, 128]⟩
abbrev S1x4x64x64 : Shape := ⟨4, ![1, 4, 64, 64]⟩
abbrev S4x64x64 : Shape := ⟨3, ![4, 64, 64]⟩
abbrev S1x4x128x128 : Shape := ⟨4, ![1, 4, 128, 128]⟩
abbrev S64x4x128 : Shape := ⟨3, ![64, 4, 128]⟩
abbrev S4x64x128 : Shape := ⟨3, ![4, 64, 128]⟩
abbrev S64x4 : Shape := ⟨2, ![64, 4]⟩
abbrev S4x64 : Shape := ⟨2, ![4, 64]⟩
abbrev S64x64 : Shape := ⟨2, ![64, 64]⟩
abbrev S4x1x64 : Shape := ⟨3, ![4, 1, 64]⟩
abbrev S4x64x1 : Shape := ⟨3, ![4, 64, 1]⟩
abbrev S4x64x256 : Shape := ⟨3, ![4, 64, 256]⟩
abbrev S4x1 : Shape := ⟨2, ![4, 1]⟩
abbrev S4 : Shape := ⟨1, ![4]⟩
abbrev S4x1x1 : Shape := ⟨3, ![4, 1, 1]⟩
abbrev S4x128x64 : Shape := ⟨3, ![4, 128, 64]⟩

abbrev nBuf : Space → Nat
  | .hbm => 354
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x128, .f32⟩
  | 4 => ⟨S64x4x64x64, .f32⟩
  | 5 => ⟨S64x4x128x128, .f32⟩
  | 6 => ⟨S4096x512, .f32⟩
  | 7 => ⟨S_, .f32⟩
  | 8 => ⟨S4x128x128, .f32⟩
  | 9 => ⟨S64x64x512, .f32⟩
  | 10 => ⟨S64x64x512, .f32⟩
  | 11 => ⟨S64x64x512, .f32⟩
  | 12 => ⟨S64x64x128, .f32⟩
  | 13 => ⟨S64x64x512, .f32⟩
  | 14 => ⟨S_, .f32⟩
  | 15 => ⟨S64x64x512, .f32⟩
  | 16 => ⟨S_, .f32⟩
  | 17 => ⟨S64x64x512, .f32⟩
  | 18 => ⟨S_, .f32⟩
  | 19 => ⟨S64x64x512, .f32⟩
  | 20 => ⟨S_, .f32⟩
  | 21 => ⟨S64x64x128, .f32⟩
  | 22 => ⟨S_, .i32⟩
  | 23 => ⟨S64x64x512, .f32⟩
  | 24 => ⟨S64x64x512, .f32⟩
  | 25 => ⟨S64x64x512, .f32⟩
  | 26 => ⟨S64x64x128, .f32⟩
  | 27 => ⟨S64x4x64x64, .f32⟩
  | 28 => ⟨S64x4x128x128, .f32⟩
  | 29 => ⟨S64x64x512, .f32⟩
  | 30 => ⟨S_, .i32⟩
  | 31 => ⟨S4x128x128, .f32⟩
  | 32 => ⟨S64x64x512, .f32⟩
  | 33 => ⟨S64x64x512, .f32⟩
  | 34 => ⟨S64x64x512, .f32⟩
  | 35 => ⟨S64x64x128, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S1x64x512, .f32⟩
  | 45 => ⟨S64x512, .f32⟩
  | 46 => ⟨S_, .i32⟩
  | 47 => ⟨S_, .i32⟩
  | 48 => ⟨S1x64x512, .f32⟩
  | 49 => ⟨S64x512, .f32⟩
  | 50 => ⟨S_, .i32⟩
  | 51 => ⟨S_, .i32⟩
  | 52 => ⟨S1x64x512, .f32⟩
  | 53 => ⟨S64x512, .f32⟩
  | 54 => ⟨S_, .i32⟩
  | 55 => ⟨S_, .i32⟩
  | 56 => ⟨S1x64x128, .f32⟩
  | 57 => ⟨S64x128, .f32⟩
  | 58 => ⟨S_, .i32⟩
  | 59 => ⟨S_, .i32⟩
  | 60 => ⟨S_, .i32⟩
  | 61 => ⟨S1x4x64x64, .f32⟩
  | 62 => ⟨S4x64x64, .f32⟩
  | 63 => ⟨S_, .i32⟩
  | 64 => ⟨S_, .i32⟩
  | 65 => ⟨S_, .i32⟩
  | 66 => ⟨S1x4x128x128, .f32⟩
  | 67 => ⟨S4x128x128, .f32⟩
  | 68 => ⟨S_, .i32⟩
  | 69 => ⟨S_, .i32⟩
  | 70 => ⟨S1x64x512, .f32⟩
  | 71 => ⟨S64x512, .f32⟩
  | 72 => ⟨S64x4x128, .f32⟩
  | 73 => ⟨S4x64x128, .f32⟩
  | 74 => ⟨S64x4x128, .f32⟩
  | 75 => ⟨S4x64x128, .f32⟩
  | 76 => ⟨S64x4x128, .f32⟩
  | 77 => ⟨S4x64x128, .f32⟩
  | 78 => ⟨S64x4, .f32⟩
  | 79 => ⟨S4x64, .f32⟩
  | 80 => ⟨S64x4, .f32⟩
  | 81 => ⟨S4x64, .f32⟩
  | 82 => ⟨S_, .i1⟩
  | 83 => ⟨S64x64, .i1⟩
  | 84 => ⟨S64x64, .i32⟩
  | 85 => ⟨S_, .i32⟩
  | 86 => ⟨S64x64, .i32⟩
  | 87 => ⟨S64x64, .i32⟩
  | 88 => ⟨S64x64, .i32⟩
  | 89 => ⟨S64x64, .i1⟩
  | 90 => ⟨S_, .i1⟩
  | 91 => ⟨S64x64, .i1⟩
  | 92 => ⟨S64x64, .i1⟩
  | 93 => ⟨S_, .i1⟩
  | 94 => ⟨S64x64, .i1⟩
  | 95 => ⟨S64x64, .i32⟩
  | 96 => ⟨S_, .i32⟩
  | 97 => ⟨S64x64, .i32⟩
  | 98 => ⟨S64x64, .i32⟩
  | 99 => ⟨S64x64, .i32⟩
  | 100 => ⟨S64x64, .i1⟩
  | 101 => ⟨S_, .i1⟩
  | 102 => ⟨S64x64, .i1⟩
  | 103 => ⟨S64x64, .i1⟩
  | 104 => ⟨S4x1x64, .f32⟩
  | 105 => ⟨S_, .f32⟩
  | 106 => ⟨S_, .f32⟩
  | 107 => ⟨S4x64x64, .i1⟩
  | 108 => ⟨S4x64x64, .f32⟩
  | 109 => ⟨S4x64x64, .f32⟩
  | 110 => ⟨S4x64x64, .f32⟩
  | 111 => ⟨S_, .f32⟩
  | 112 => ⟨S4x64x64, .f32⟩
  | 113 => ⟨S_, .f32⟩
  | 114 => ⟨S4x64, .f32⟩
  | 115 => ⟨S4x64x1, .f32⟩
  | 116 => ⟨S4x1x64, .f32⟩
  | 117 => ⟨S4x64x64, .f32⟩
  | 118 => ⟨S4x64x64, .f32⟩
  | 119 => ⟨S4x64x64, .f32⟩
  | 120 => ⟨S_, .f32⟩
  | 121 => ⟨S_, .f32⟩
  | 122 => ⟨S4x64x64, .i1⟩
  | 123 => ⟨S4x64x64, .f32⟩
  | 124 => ⟨S4x64x64, .f32⟩
  | 125 => ⟨S_, .f32⟩
  | 126 => ⟨S4x64x64, .f32⟩
  | 127 => ⟨S4x64x64, .f32⟩
  | _ => ⟨S4096x512, .f32⟩

abbrev hbmTy0_1 (i : Nat) : BufTy := match i % 128 with
  | 0 => ⟨S4x64x1, .f32⟩
  | 1 => ⟨S4x64x128, .f32⟩
  | 2 => ⟨S4x64x128, .f32⟩
  | 3 => ⟨S4x64x1, .f32⟩
  | 4 => ⟨S4x64x128, .f32⟩
  | 5 => ⟨S4x64x128, .f32⟩
  | 6 => ⟨S4x64x64, .f32⟩
  | 7 => ⟨S4x64x64, .f32⟩
  | 8 => ⟨S_, .f32⟩
  | 9 => ⟨S_, .f32⟩
  | 10 => ⟨S4x64x64, .i1⟩
  | 11 => ⟨S4x64x64, .f32⟩
  | 12 => ⟨S4x64x64, .f32⟩
  | 13 => ⟨S_, .f32⟩
  | 14 => ⟨S4x64x64, .f32⟩
  | 15 => ⟨S4x64, .f32⟩
  | 16 => ⟨S4x64x1, .f32⟩
  | 17 => ⟨S4x64x128, .f32⟩
  | 18 => ⟨S4x64x128, .f32⟩
  | 19 => ⟨S4x64x256, .f32⟩
  | 20 => ⟨S4x64x256, .f32⟩
  | 21 => ⟨S4x64x256, .f32⟩
  | 22 => ⟨S4x64x256, .f32⟩
  | 23 => ⟨S4x64x128, .f32⟩
  | 24 => ⟨S4x64x128, .f32⟩
  | 25 => ⟨S4x64x64, .f32⟩
  | 26 => ⟨S4x64x64, .f32⟩
  | 27 => ⟨S4x64, .f32⟩
  | 28 => ⟨S4x64x1, .f32⟩
  | 29 => ⟨S4x64x128, .f32⟩
  | 30 => ⟨S4x64x128, .f32⟩
  | 31 => ⟨S4x1, .f32⟩
  | 32 => ⟨S4x64, .f32⟩
  | 33 => ⟨S4x64, .f32⟩
  | 34 => ⟨S4x64, .f32⟩
  | 35 => ⟨S4x64x1, .f32⟩
  | 36 => ⟨S4x64x128, .f32⟩
  | 37 => ⟨S4x64x128, .f32⟩
  | 38 => ⟨S4x1, .f32⟩
  | 39 => ⟨S4, .f32⟩
  | 40 => ⟨S4, .f32⟩
  | 41 => ⟨S4x64x128, .f32⟩
  | 42 => ⟨S4x64x128, .f32⟩
  | 43 => ⟨S4x64x128, .f32⟩
  | 44 => ⟨S4x64x128, .f32⟩
  | 45 => ⟨S4x64x128, .f32⟩
  | 46 => ⟨S4x1x1, .f32⟩
  | 47 => ⟨S4x128x128, .f32⟩
  | 48 => ⟨S4x128x128, .f32⟩
  | 49 => ⟨S4x128x128, .f32⟩
  | 50 => ⟨S4x128x128, .f32⟩
  | 51 => ⟨S64x4x128, .f32⟩
  | 52 => ⟨S64x512, .f32⟩
  | 53 => ⟨S64x4x128, .f32⟩
  | 54 => ⟨S4x64x128, .f32⟩
  | 55 => ⟨S4x128x64, .f32⟩
  | 56 => ⟨S4x64x128, .f32⟩
  | 57 => ⟨S4x128x64, .f32⟩
  | 58 => ⟨S4x64x128, .f32⟩
  | 59 => ⟨S4x128x128, .f32⟩
  | 60 => ⟨S_, .f32⟩
  | 61 => ⟨S4, .f32⟩
  | 62 => ⟨S4x1x1, .f32⟩
  | 63 => ⟨S4x128x128, .f32⟩
  | 64 => ⟨S4x128x128, .f32⟩
  | 65 => ⟨S_, .f32⟩
  | 66 => ⟨S4, .f32⟩
  | 67 => ⟨S4x128x64, .f32⟩
  | 68 => ⟨S4x64x128, .f32⟩
  | 69 => ⟨S4x64x128, .f32⟩
  | 70 => ⟨S4x64x64, .f32⟩
  | 71 => ⟨S4x128x128, .f32⟩
  | 72 => ⟨S4x128x128, .f32⟩
  | 73 => ⟨S4x128x128, .f32⟩
  | 74 => ⟨S4x64x128, .f32⟩
  | 75 => ⟨S4x64x128, .f32⟩
  | 76 => ⟨S4x128x128, .f32⟩
  | 77 => ⟨S4x128x128, .f32⟩
  | 78 => ⟨S4x128x128, .f32⟩
  | 79 => ⟨S4x64x128, .f32⟩
  | 80 => ⟨S4, .f32⟩
  | 81 => ⟨S4x1, .f32⟩
  | 82 => ⟨S_, .f32⟩
  | 83 => ⟨S4x64, .f32⟩
  | 84 => ⟨S4x64x128, .f32⟩
  | 85 => ⟨S_, .f32⟩
  | 86 => ⟨S4x64, .f32⟩
  | 87 => ⟨S4x64x1, .f32⟩
  | 88 => ⟨S4x64x128, .f32⟩
  | 89 => ⟨S4x64x128, .f32⟩
  | 90 => ⟨S_, .f32⟩
  | 91 => ⟨S4x64, .f32⟩
  | 92 => ⟨S4x64, .f32⟩
  | 93 => ⟨S_, .f32⟩
  | 94 => ⟨S4, .f32⟩
  | 95 => ⟨S4x1, .f32⟩
  | 96 => ⟨S4x64, .f32⟩
  | 97 => ⟨S4x64, .f32⟩
  | 98 => ⟨S_, .f32⟩
  | 99 => ⟨S4x64, .f32⟩
  | 100 => ⟨S4x64, .f32⟩
  | 101 => ⟨S4x64x128, .f32⟩
  | 102 => ⟨S_, .f32⟩
  | 103 => ⟨S4x64, .f32⟩
  | 104 => ⟨S4x64x1, .f32⟩
  | 105 => ⟨S4x64x128, .f32⟩
  | 106 => ⟨S4x64x128, .f32⟩
  | 107 => ⟨S_, .f32⟩
  | 108 => ⟨S4x64, .f32⟩
  | 109 => ⟨S4x64, .f32⟩
  | 110 => ⟨S4x64, .f32⟩
  | 111 => ⟨S4x64x64, .f32⟩
  | 112 => ⟨S4x64x64, .f32⟩
  | 113 => ⟨S4x64x128, .f32⟩
  | 114 => ⟨S4x64x128, .f32⟩
  | 115 => ⟨S4x64x128, .f32⟩
  | 116 => ⟨S4x64x128, .f32⟩
  | 117 => ⟨S_, .f32⟩
  | 118 => ⟨S4x64x256, .f32⟩
  | 119 => ⟨S_, .f32⟩
  | 120 => ⟨S4x64x256, .f32⟩
  | 121 => ⟨S4x64x256, .f32⟩
  | 122 => ⟨S4x64x256, .f32⟩
  | 123 => ⟨S4x64x256, .f32⟩
  | 124 => ⟨S4x64x64, .f32⟩
  | 125 => ⟨S4x64x128, .f32⟩
  | 126 => ⟨S4x64x128, .f32⟩
  | 127 => ⟨S4x64x128, .f32⟩
  | _ => ⟨S4096x512, .f32⟩

abbrev hbmTy0_2 (i : Nat) : BufTy := match i % 128 with
  | 0 => ⟨S_, .f32⟩
  | 1 => ⟨S4x64, .f32⟩
  | 2 => ⟨S4x64x1, .f32⟩
  | 3 => ⟨S4x64x128, .f32⟩
  | 4 => ⟨S4x64x128, .f32⟩
  | 5 => ⟨S_, .f32⟩
  | 6 => ⟨S4x64, .f32⟩
  | 7 => ⟨S4x64, .f32⟩
  | 8 => ⟨S4x64, .f32⟩
  | 9 => ⟨S_, .f32⟩
  | 10 => ⟨S4x64x64, .f32⟩
  | 11 => ⟨S4x64x64, .f32⟩
  | 12 => ⟨S4x64x64, .f32⟩
  | 13 => ⟨S4x64x64, .f32⟩
  | 14 => ⟨S4x64x64, .f32⟩
  | 15 => ⟨S4x64x128, .f32⟩
  | 16 => ⟨S4x64x128, .f32⟩
  | 17 => ⟨S4x64x128, .f32⟩
  | 18 => ⟨S4x64x128, .f32⟩
  | 19 => ⟨S4x64x128, .f32⟩
  | 20 => ⟨S_, .f32⟩
  | 21 => ⟨S4x64, .f32⟩
  | 22 => ⟨S4x64x1, .f32⟩
  | 23 => ⟨S4x64x128, .f32⟩
  | 24 => ⟨S4x64x128, .f32⟩
  | 25 => ⟨S_, .f32⟩
  | 26 => ⟨S4x64, .f32⟩
  | 27 => ⟨S4x64x128, .f32⟩
  | 28 => ⟨S_, .f32⟩
  | 29 => ⟨S4x64, .f32⟩
  | 30 => ⟨S4x64x1, .f32⟩
  | 31 => ⟨S4x64x128, .f32⟩
  | 32 => ⟨S4x64x128, .f32⟩
  | 33 => ⟨S4x64x128, .f32⟩
  | 34 => ⟨S_, .f32⟩
  | 35 => ⟨S4x64, .f32⟩
  | 36 => ⟨S4x64, .f32⟩
  | 37 => ⟨S4x64x64, .f32⟩
  | 38 => ⟨S_, .f32⟩
  | 39 => ⟨S4x64x64, .f32⟩
  | 40 => ⟨S4x64x64, .f32⟩
  | 41 => ⟨S_, .f32⟩
  | 42 => ⟨S4x64, .f32⟩
  | 43 => ⟨S4x64x1, .f32⟩
  | 44 => ⟨S4x64x64, .f32⟩
  | 45 => ⟨S_, .f32⟩
  | 46 => ⟨S4x64, .f32⟩
  | 47 => ⟨S4x1x64, .f32⟩
  | 48 => ⟨S_, .f32⟩
  | 49 => ⟨S4x64, .f32⟩
  | 50 => ⟨S4x64, .f32⟩
  | 51 => ⟨S_, .f32⟩
  | 52 => ⟨S4x64, .f32⟩
  | 53 => ⟨S4x64, .f32⟩
  | 54 => ⟨S4x64x64, .f32⟩
  | 55 => ⟨S_, .f32⟩
  | 56 => ⟨S4x64x64, .f32⟩
  | 57 => ⟨S4x64x64, .f32⟩
  | 58 => ⟨S_, .f32⟩
  | 59 => ⟨S4x64, .f32⟩
  | 60 => ⟨S4x1x64, .f32⟩
  | 61 => ⟨S_, .f32⟩
  | 62 => ⟨S4x64, .f32⟩
  | 63 => ⟨S64x4, .f32⟩
  | 64 => ⟨S_, .f32⟩
  | 65 => ⟨S64x128, .f32⟩
  | 66 => ⟨S64x4, .f32⟩
  | 67 => ⟨S_, .f32⟩
  | 68 => ⟨S64x128, .f32⟩
  | 69 => ⟨S64x128, .f32⟩
  | 70 => ⟨S64x4x128, .f32⟩
  | 71 => ⟨S64x512, .f32⟩
  | 72 => ⟨S64x4x128, .f32⟩
  | 73 => ⟨S64x512, .f32⟩
  | 74 => ⟨S64x4x128, .f32⟩
  | 75 => ⟨S64x512, .f32⟩
  | 76 => ⟨S1x64x512, .f32⟩
  | 77 => ⟨S_, .i32⟩
  | 78 => ⟨S_, .i32⟩
  | 79 => ⟨S64x64x512, .f32⟩
  | 80 => ⟨S1x64x512, .f32⟩
  | 81 => ⟨S_, .i32⟩
  | 82 => ⟨S_, .i32⟩
  | 83 => ⟨S64x64x512, .f32⟩
  | 84 => ⟨S1x64x512, .f32⟩
  | 85 => ⟨S_, .i32⟩
  | 86 => ⟨S_, .i32⟩
  | 87 => ⟨S64x64x512, .f32⟩
  | 88 => ⟨S1x64x128, .f32⟩
  | 89 => ⟨S_, .i32⟩
  | 90 => ⟨S_, .i32⟩
  | 91 => ⟨S64x64x128, .f32⟩
  | 92 => ⟨S_, .i32⟩
  | 93 => ⟨S_, .i32⟩
  | 94 => ⟨S4096x512, .f32⟩
  | 95 => ⟨S4096x512, .f32⟩
  | 96 => ⟨S4096x512, .f32⟩
  | 97 => ⟨S4096x128, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_c : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev main_v10_6 : Ref sig .tc := ⟨.hbm, 29, rfl⟩
abbrev main_v10_7 : Ref sig .tc := ⟨.hbm, 30, rfl⟩
abbrev main_v10_8 : Ref sig .tc := ⟨.hbm, 31, rfl⟩
abbrev main_v10_9 : Ref sig .tc := ⟨.hbm, 32, rfl⟩
abbrev main_v10_10 : Ref sig .tc := ⟨.hbm, 33, rfl⟩
abbrev main_v10_11 : Ref sig .tc := ⟨.hbm, 34, rfl⟩
abbrev main_v10_12 : Ref sig .tc := ⟨.hbm, 35, rfl⟩
abbrev main_while0c_c_16 : Ref sig .tc := ⟨.hbm, 36, rfl⟩
abbrev main_while0c_v15 : Ref sig .tc := ⟨.hbm, 37, rfl⟩
abbrev main_while0b_c_16 : Ref sig .tc := ⟨.hbm, 38, rfl⟩
abbrev main_while0b_v15 : Ref sig .tc := ⟨.hbm, 39, rfl⟩
abbrev main_while0b_c_17 : Ref sig .tc := ⟨.hbm, 40, rfl⟩
abbrev main_while0b_v16 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_v0 : Ref sig .tc := ⟨.hbm, 44, rfl⟩
abbrev main_while0b_v17 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_v0 : Ref sig .tc := ⟨.hbm, 48, rfl⟩
abbrev main_while0b_v18 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_v0 : Ref sig .tc := ⟨.hbm, 52, rfl⟩
abbrev main_while0b_v19 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_v0 : Ref sig .tc := ⟨.hbm, 56, rfl⟩
abbrev main_while0b_v20 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_c_1 : Ref sig .tc := ⟨.hbm, 60, rfl⟩
abbrev main_while0b_call4_v0 : Ref sig .tc := ⟨.hbm, 61, rfl⟩
abbrev main_while0b_v21 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_c_1 : Ref sig .tc := ⟨.hbm, 65, rfl⟩
abbrev main_while0b_call5_v0 : Ref sig .tc := ⟨.hbm, 66, rfl⟩
abbrev main_while0b_v22 : Ref sig .tc := ⟨.hbm, 67, rfl⟩
abbrev main_while0b_call6_c : Ref sig .tc := ⟨.hbm, 68, rfl⟩
abbrev main_while0b_call6_c_0 : Ref sig .tc := ⟨.hbm, 69, rfl⟩
abbrev main_while0b_call6_v0 : Ref sig .tc := ⟨.hbm, 70, rfl⟩
abbrev main_while0b_v23 : Ref sig .tc := ⟨.hbm, 71, rfl⟩
abbrev main_while0b_v24 : Ref sig .tc := ⟨.hbm, 72, rfl⟩
abbrev main_while0b_v25 : Ref sig .tc := ⟨.hbm, 73, rfl⟩
abbrev main_while0b_v26 : Ref sig .tc := ⟨.hbm, 74, rfl⟩
abbrev main_while0b_v27 : Ref sig .tc := ⟨.hbm, 75, rfl⟩
abbrev main_while0b_v28 : Ref sig .tc := ⟨.hbm, 76, rfl⟩
abbrev main_while0b_v29 : Ref sig .tc := ⟨.hbm, 77, rfl⟩
abbrev main_while0b_v30 : Ref sig .tc := ⟨.hbm, 78, rfl⟩
abbrev main_while0b_v31 : Ref sig .tc := ⟨.hbm, 79, rfl⟩
abbrev main_while0b_v32 : Ref sig .tc := ⟨.hbm, 80, rfl⟩
abbrev main_while0b_v33 : Ref sig .tc := ⟨.hbm, 81, rfl⟩
abbrev main_while0b_c_18 : Ref sig .tc := ⟨.hbm, 82, rfl⟩
abbrev main_while0b_v34 : Ref sig .tc := ⟨.hbm, 83, rfl⟩
abbrev main_while0b_call7_v0 : Ref sig .tc := ⟨.hbm, 84, rfl⟩
abbrev main_while0b_call7_c : Ref sig .tc := ⟨.hbm, 85, rfl⟩
abbrev main_while0b_call7_v1 : Ref sig .tc := ⟨.hbm, 86, rfl⟩
abbrev main_while0b_call7_v2 : Ref sig .tc := ⟨.hbm, 87, rfl⟩
abbrev main_while0b_call7_v3 : Ref sig .tc := ⟨.hbm, 88, rfl⟩
abbrev main_while0b_call7_v4 : Ref sig .tc := ⟨.hbm, 89, rfl⟩
abbrev main_while0b_call7_c_0 : Ref sig .tc := ⟨.hbm, 90, rfl⟩
abbrev main_while0b_call7_v5 : Ref sig .tc := ⟨.hbm, 91, rfl⟩
abbrev main_while0b_v35 : Ref sig .tc := ⟨.hbm, 92, rfl⟩
abbrev main_while0b_c_19 : Ref sig .tc := ⟨.hbm, 93, rfl⟩
abbrev main_while0b_v36 : Ref sig .tc := ⟨.hbm, 94, rfl⟩
abbrev main_while0b_call8_v0 : Ref sig .tc := ⟨.hbm, 95, rfl⟩
abbrev main_while0b_call8_c : Ref sig .tc := ⟨.hbm, 96, rfl⟩
abbrev main_while0b_call8_v1 : Ref sig .tc := ⟨.hbm, 97, rfl⟩
abbrev main_while0b_call8_v2 : Ref sig .tc := ⟨.hbm, 98, rfl⟩
abbrev main_while0b_call8_v3 : Ref sig .tc := ⟨.hbm, 99, rfl⟩
abbrev main_while0b_call8_v4 : Ref sig .tc := ⟨.hbm, 100, rfl⟩
abbrev main_while0b_call8_c_0 : Ref sig .tc := ⟨.hbm, 101, rfl⟩
abbrev main_while0b_call8_v5 : Ref sig .tc := ⟨.hbm, 102, rfl⟩
abbrev main_while0b_v37 : Ref sig .tc := ⟨.hbm, 103, rfl⟩
abbrev main_while0b_v38 : Ref sig .tc := ⟨.hbm, 104, rfl⟩
abbrev main_while0b_cst_20 : Ref sig .tc := ⟨.hbm, 105, rfl⟩
abbrev main_while0b_call9_v0 : Ref sig .tc := ⟨.hbm, 106, rfl⟩
abbrev main_while0b_v39_1 : Ref sig .tc := ⟨.hbm, 107, rfl⟩
abbrev main_while0b_call9_v2 : Ref sig .tc := ⟨.hbm, 108, rfl⟩
abbrev main_while0b_call9_v3 : Ref sig .tc := ⟨.hbm, 109, rfl⟩
abbrev main_while0b_v39_0 : Ref sig .tc := ⟨.hbm, 110, rfl⟩
abbrev main_while0b_call9_cst : Ref sig .tc := ⟨.hbm, 111, rfl⟩
abbrev main_while0b_v39_2 : Ref sig .tc := ⟨.hbm, 112, rfl⟩
abbrev main_while0b_cst_21 : Ref sig .tc := ⟨.hbm, 113, rfl⟩
abbrev main_while0b_v40 : Ref sig .tc := ⟨.hbm, 114, rfl⟩
abbrev main_while0b_v41 : Ref sig .tc := ⟨.hbm, 115, rfl⟩
abbrev main_while0b_v42 : Ref sig .tc := ⟨.hbm, 116, rfl⟩
abbrev main_while0b_v43 : Ref sig .tc := ⟨.hbm, 117, rfl⟩
abbrev main_while0b_v44 : Ref sig .tc := ⟨.hbm, 118, rfl⟩
abbrev main_while0b_v45 : Ref sig .tc := ⟨.hbm, 119, rfl⟩
abbrev main_while0b_cst_22 : Ref sig .tc := ⟨.hbm, 120, rfl⟩
abbrev main_while0b_call10_v0 : Ref sig .tc := ⟨.hbm, 121, rfl⟩
abbrev main_while0b_v46_1 : Ref sig .tc := ⟨.hbm, 122, rfl⟩
abbrev main_while0b_call10_v2 : Ref sig .tc := ⟨.hbm, 123, rfl⟩
abbrev main_while0b_v46_0 : Ref sig .tc := ⟨.hbm, 124, rfl⟩
abbrev main_while0b_call10_cst : Ref sig .tc := ⟨.hbm, 125, rfl⟩
abbrev main_while0b_v46_2 : Ref sig .tc := ⟨.hbm, 126, rfl⟩
abbrev main_while0b_v47 : Ref sig .tc := ⟨.hbm, 127, rfl⟩
abbrev main_while0b_v48 : Ref sig .tc := ⟨.hbm, 128, rfl⟩
abbrev main_while0b_v49 : Ref sig .tc := ⟨.hbm, 129, rfl⟩
abbrev main_while0b_v50 : Ref sig .tc := ⟨.hbm, 130, rfl⟩
abbrev main_while0b_v51 : Ref sig .tc := ⟨.hbm, 131, rfl⟩
abbrev main_while0b_v52 : Ref sig .tc := ⟨.hbm, 132, rfl⟩
abbrev main_while0b_v53 : Ref sig .tc := ⟨.hbm, 133, rfl⟩
abbrev main_while0b_v54 : Ref sig .tc := ⟨.hbm, 134, rfl⟩
abbrev main_while0b_v55 : Ref sig .tc := ⟨.hbm, 135, rfl⟩
abbrev main_while0b_cst_23 : Ref sig .tc := ⟨.hbm, 136, rfl⟩
abbrev main_while0b_call11_v0 : Ref sig .tc := ⟨.hbm, 137, rfl⟩
abbrev main_while0b_v56_1 : Ref sig .tc := ⟨.hbm, 138, rfl⟩
abbrev main_while0b_call11_v2 : Ref sig .tc := ⟨.hbm, 139, rfl⟩
abbrev main_while0b_v56_0 : Ref sig .tc := ⟨.hbm, 140, rfl⟩
abbrev main_while0b_call11_cst : Ref sig .tc := ⟨.hbm, 141, rfl⟩
abbrev main_while0b_v56_2 : Ref sig .tc := ⟨.hbm, 142, rfl⟩
abbrev main_while0b_v57 : Ref sig .tc := ⟨.hbm, 143, rfl⟩
abbrev main_while0b_v58 : Ref sig .tc := ⟨.hbm, 144, rfl⟩
abbrev main_while0b_v59 : Ref sig .tc := ⟨.hbm, 145, rfl⟩
abbrev main_while0b_v60 : Ref sig .tc := ⟨.hbm, 146, rfl⟩
abbrev main_while0b_v61 : Ref sig .tc := ⟨.hbm, 147, rfl⟩
abbrev main_while0b_v62 : Ref sig .tc := ⟨.hbm, 148, rfl⟩
abbrev main_while0b_v63 : Ref sig .tc := ⟨.hbm, 149, rfl⟩
abbrev main_while0b_v64 : Ref sig .tc := ⟨.hbm, 150, rfl⟩
abbrev main_while0b_v65 : Ref sig .tc := ⟨.hbm, 151, rfl⟩
abbrev main_while0b_v66 : Ref sig .tc := ⟨.hbm, 152, rfl⟩
abbrev main_while0b_v67 : Ref sig .tc := ⟨.hbm, 153, rfl⟩
abbrev main_while0b_v68 : Ref sig .tc := ⟨.hbm, 154, rfl⟩
abbrev main_while0b_v69 : Ref sig .tc := ⟨.hbm, 155, rfl⟩
abbrev main_while0b_v70 : Ref sig .tc := ⟨.hbm, 156, rfl⟩
abbrev main_while0b_v71 : Ref sig .tc := ⟨.hbm, 157, rfl⟩
abbrev main_while0b_v72 : Ref sig .tc := ⟨.hbm, 158, rfl⟩
abbrev main_while0b_v73 : Ref sig .tc := ⟨.hbm, 159, rfl⟩
abbrev main_while0b_v74 : Ref sig .tc := ⟨.hbm, 160, rfl⟩
abbrev main_while0b_v75 : Ref sig .tc := ⟨.hbm, 161, rfl⟩
abbrev main_while0b_v76 : Ref sig .tc := ⟨.hbm, 162, rfl⟩
abbrev main_while0b_v77 : Ref sig .tc := ⟨.hbm, 163, rfl⟩
abbrev main_while0b_v78 : Ref sig .tc := ⟨.hbm, 164, rfl⟩
abbrev main_while0b_v79 : Ref sig .tc := ⟨.hbm, 165, rfl⟩
abbrev main_while0b_v80 : Ref sig .tc := ⟨.hbm, 166, rfl⟩
abbrev main_while0b_v81 : Ref sig .tc := ⟨.hbm, 167, rfl⟩
abbrev main_while0b_v82 : Ref sig .tc := ⟨.hbm, 168, rfl⟩
abbrev main_while0b_v83 : Ref sig .tc := ⟨.hbm, 169, rfl⟩
abbrev main_while0b_v84 : Ref sig .tc := ⟨.hbm, 170, rfl⟩
abbrev main_while0b_v85 : Ref sig .tc := ⟨.hbm, 171, rfl⟩
abbrev main_while0b_v86 : Ref sig .tc := ⟨.hbm, 172, rfl⟩
abbrev main_while0b_v87 : Ref sig .tc := ⟨.hbm, 173, rfl⟩
abbrev main_while0b_v88 : Ref sig .tc := ⟨.hbm, 174, rfl⟩
abbrev main_while0b_v89 : Ref sig .tc := ⟨.hbm, 175, rfl⟩
abbrev main_while0b_v90 : Ref sig .tc := ⟨.hbm, 176, rfl⟩
abbrev main_while0b_v91 : Ref sig .tc := ⟨.hbm, 177, rfl⟩
abbrev main_while0b_v92 : Ref sig .tc := ⟨.hbm, 178, rfl⟩
abbrev main_while0b_v93 : Ref sig .tc := ⟨.hbm, 179, rfl⟩
abbrev main_while0b_v94 : Ref sig .tc := ⟨.hbm, 180, rfl⟩
abbrev main_while0b_v95 : Ref sig .tc := ⟨.hbm, 181, rfl⟩
abbrev main_while0b_v96 : Ref sig .tc := ⟨.hbm, 182, rfl⟩
abbrev main_while0b_v97 : Ref sig .tc := ⟨.hbm, 183, rfl⟩
abbrev main_while0b_v98 : Ref sig .tc := ⟨.hbm, 184, rfl⟩
abbrev main_while0b_v99 : Ref sig .tc := ⟨.hbm, 185, rfl⟩
abbrev main_while0b_v100 : Ref sig .tc := ⟨.hbm, 186, rfl⟩
abbrev main_while0b_v101 : Ref sig .tc := ⟨.hbm, 187, rfl⟩
abbrev main_while0b_cst_24 : Ref sig .tc := ⟨.hbm, 188, rfl⟩
abbrev main_while0b_v102 : Ref sig .tc := ⟨.hbm, 189, rfl⟩
abbrev main_while0b_v103 : Ref sig .tc := ⟨.hbm, 190, rfl⟩
abbrev main_while0b_v104 : Ref sig .tc := ⟨.hbm, 191, rfl⟩
abbrev main_while0b_v105 : Ref sig .tc := ⟨.hbm, 192, rfl⟩
abbrev main_while0b_cst_25 : Ref sig .tc := ⟨.hbm, 193, rfl⟩
abbrev main_while0b_v106 : Ref sig .tc := ⟨.hbm, 194, rfl⟩
abbrev main_while0b_v107 : Ref sig .tc := ⟨.hbm, 195, rfl⟩
abbrev main_while0b_v108 : Ref sig .tc := ⟨.hbm, 196, rfl⟩
abbrev main_while0b_v109 : Ref sig .tc := ⟨.hbm, 197, rfl⟩
abbrev main_while0b_v110 : Ref sig .tc := ⟨.hbm, 198, rfl⟩
abbrev main_while0b_v111 : Ref sig .tc := ⟨.hbm, 199, rfl⟩
abbrev main_while0b_v112 : Ref sig .tc := ⟨.hbm, 200, rfl⟩
abbrev main_while0b_v113 : Ref sig .tc := ⟨.hbm, 201, rfl⟩
abbrev main_while0b_v114 : Ref sig .tc := ⟨.hbm, 202, rfl⟩
abbrev main_while0b_v115 : Ref sig .tc := ⟨.hbm, 203, rfl⟩
abbrev main_while0b_v116 : Ref sig .tc := ⟨.hbm, 204, rfl⟩
abbrev main_while0b_v117 : Ref sig .tc := ⟨.hbm, 205, rfl⟩
abbrev main_while0b_v118 : Ref sig .tc := ⟨.hbm, 206, rfl⟩
abbrev main_while0b_v119 : Ref sig .tc := ⟨.hbm, 207, rfl⟩
abbrev main_while0b_v120 : Ref sig .tc := ⟨.hbm, 208, rfl⟩
abbrev main_while0b_v121 : Ref sig .tc := ⟨.hbm, 209, rfl⟩
abbrev main_while0b_cst_26 : Ref sig .tc := ⟨.hbm, 210, rfl⟩
abbrev main_while0b_v122 : Ref sig .tc := ⟨.hbm, 211, rfl⟩
abbrev main_while0b_v123 : Ref sig .tc := ⟨.hbm, 212, rfl⟩
abbrev main_while0b_cst_27 : Ref sig .tc := ⟨.hbm, 213, rfl⟩
abbrev main_while0b_v124 : Ref sig .tc := ⟨.hbm, 214, rfl⟩
abbrev main_while0b_v125 : Ref sig .tc := ⟨.hbm, 215, rfl⟩
abbrev main_while0b_v126 : Ref sig .tc := ⟨.hbm, 216, rfl⟩
abbrev main_while0b_v127 : Ref sig .tc := ⟨.hbm, 217, rfl⟩
abbrev main_while0b_cst_28 : Ref sig .tc := ⟨.hbm, 218, rfl⟩
abbrev main_while0b_v128 : Ref sig .tc := ⟨.hbm, 219, rfl⟩
abbrev main_while0b_v129 : Ref sig .tc := ⟨.hbm, 220, rfl⟩
abbrev main_while0b_cst_29 : Ref sig .tc := ⟨.hbm, 221, rfl⟩
abbrev main_while0b_v130 : Ref sig .tc := ⟨.hbm, 222, rfl⟩
abbrev main_while0b_v131 : Ref sig .tc := ⟨.hbm, 223, rfl⟩
abbrev main_while0b_v132 : Ref sig .tc := ⟨.hbm, 224, rfl⟩
abbrev main_while0b_v133 : Ref sig .tc := ⟨.hbm, 225, rfl⟩
abbrev main_while0b_cst_30 : Ref sig .tc := ⟨.hbm, 226, rfl⟩
abbrev main_while0b_v134 : Ref sig .tc := ⟨.hbm, 227, rfl⟩
abbrev main_while0b_v135 : Ref sig .tc := ⟨.hbm, 228, rfl⟩
abbrev main_while0b_v136 : Ref sig .tc := ⟨.hbm, 229, rfl⟩
abbrev main_while0b_cst_31 : Ref sig .tc := ⟨.hbm, 230, rfl⟩
abbrev main_while0b_v137 : Ref sig .tc := ⟨.hbm, 231, rfl⟩
abbrev main_while0b_v138 : Ref sig .tc := ⟨.hbm, 232, rfl⟩
abbrev main_while0b_v139 : Ref sig .tc := ⟨.hbm, 233, rfl⟩
abbrev main_while0b_v140 : Ref sig .tc := ⟨.hbm, 234, rfl⟩
abbrev main_while0b_cst_32 : Ref sig .tc := ⟨.hbm, 235, rfl⟩
abbrev main_while0b_v141 : Ref sig .tc := ⟨.hbm, 236, rfl⟩
abbrev main_while0b_v142 : Ref sig .tc := ⟨.hbm, 237, rfl⟩
abbrev main_while0b_v143 : Ref sig .tc := ⟨.hbm, 238, rfl⟩
abbrev main_while0b_v144 : Ref sig .tc := ⟨.hbm, 239, rfl⟩
abbrev main_while0b_v145 : Ref sig .tc := ⟨.hbm, 240, rfl⟩
abbrev main_while0b_v146 : Ref sig .tc := ⟨.hbm, 241, rfl⟩
abbrev main_while0b_v147 : Ref sig .tc := ⟨.hbm, 242, rfl⟩
abbrev main_while0b_v148 : Ref sig .tc := ⟨.hbm, 243, rfl⟩
abbrev main_while0b_v149 : Ref sig .tc := ⟨.hbm, 244, rfl⟩
abbrev main_while0b_cst_33 : Ref sig .tc := ⟨.hbm, 245, rfl⟩
abbrev main_while0b_v150 : Ref sig .tc := ⟨.hbm, 246, rfl⟩
abbrev main_while0b_cst_34 : Ref sig .tc := ⟨.hbm, 247, rfl⟩
abbrev main_while0b_v151 : Ref sig .tc := ⟨.hbm, 248, rfl⟩
abbrev main_while0b_v152 : Ref sig .tc := ⟨.hbm, 249, rfl⟩
abbrev main_while0b_v153 : Ref sig .tc := ⟨.hbm, 250, rfl⟩
abbrev main_while0b_v154 : Ref sig .tc := ⟨.hbm, 251, rfl⟩
abbrev main_while0b_v155 : Ref sig .tc := ⟨.hbm, 252, rfl⟩
abbrev main_while0b_v156 : Ref sig .tc := ⟨.hbm, 253, rfl⟩
abbrev main_while0b_v157 : Ref sig .tc := ⟨.hbm, 254, rfl⟩
abbrev main_while0b_v158 : Ref sig .tc := ⟨.hbm, 255, rfl⟩
abbrev main_while0b_cst_35 : Ref sig .tc := ⟨.hbm, 256, rfl⟩
abbrev main_while0b_v159 : Ref sig .tc := ⟨.hbm, 257, rfl⟩
abbrev main_while0b_v160 : Ref sig .tc := ⟨.hbm, 258, rfl⟩
abbrev main_while0b_v161 : Ref sig .tc := ⟨.hbm, 259, rfl⟩
abbrev main_while0b_v162 : Ref sig .tc := ⟨.hbm, 260, rfl⟩
abbrev main_while0b_cst_36 : Ref sig .tc := ⟨.hbm, 261, rfl⟩
abbrev main_while0b_v163 : Ref sig .tc := ⟨.hbm, 262, rfl⟩
abbrev main_while0b_v164 : Ref sig .tc := ⟨.hbm, 263, rfl⟩
abbrev main_while0b_v165 : Ref sig .tc := ⟨.hbm, 264, rfl⟩
abbrev main_while0b_call12_cst : Ref sig .tc := ⟨.hbm, 265, rfl⟩
abbrev main_while0b_call12_v0 : Ref sig .tc := ⟨.hbm, 266, rfl⟩
abbrev main_while0b_v166 : Ref sig .tc := ⟨.hbm, 267, rfl⟩
abbrev main_while0b_v167 : Ref sig .tc := ⟨.hbm, 268, rfl⟩
abbrev main_while0b_v168 : Ref sig .tc := ⟨.hbm, 269, rfl⟩
abbrev main_while0b_v169 : Ref sig .tc := ⟨.hbm, 270, rfl⟩
abbrev main_while0b_v170 : Ref sig .tc := ⟨.hbm, 271, rfl⟩
abbrev main_while0b_v171 : Ref sig .tc := ⟨.hbm, 272, rfl⟩
abbrev main_while0b_v172 : Ref sig .tc := ⟨.hbm, 273, rfl⟩
abbrev main_while0b_v173 : Ref sig .tc := ⟨.hbm, 274, rfl⟩
abbrev main_while0b_v174 : Ref sig .tc := ⟨.hbm, 275, rfl⟩
abbrev main_while0b_cst_37 : Ref sig .tc := ⟨.hbm, 276, rfl⟩
abbrev main_while0b_v175 : Ref sig .tc := ⟨.hbm, 277, rfl⟩
abbrev main_while0b_v176 : Ref sig .tc := ⟨.hbm, 278, rfl⟩
abbrev main_while0b_v177 : Ref sig .tc := ⟨.hbm, 279, rfl⟩
abbrev main_while0b_v178 : Ref sig .tc := ⟨.hbm, 280, rfl⟩
abbrev main_while0b_cst_38 : Ref sig .tc := ⟨.hbm, 281, rfl⟩
abbrev main_while0b_v179 : Ref sig .tc := ⟨.hbm, 282, rfl⟩
abbrev main_while0b_v180 : Ref sig .tc := ⟨.hbm, 283, rfl⟩
abbrev main_while0b_cst_39 : Ref sig .tc := ⟨.hbm, 284, rfl⟩
abbrev main_while0b_v181 : Ref sig .tc := ⟨.hbm, 285, rfl⟩
abbrev main_while0b_v182 : Ref sig .tc := ⟨.hbm, 286, rfl⟩
abbrev main_while0b_v183 : Ref sig .tc := ⟨.hbm, 287, rfl⟩
abbrev main_while0b_v184 : Ref sig .tc := ⟨.hbm, 288, rfl⟩
abbrev main_while0b_v185 : Ref sig .tc := ⟨.hbm, 289, rfl⟩
abbrev main_while0b_cst_40 : Ref sig .tc := ⟨.hbm, 290, rfl⟩
abbrev main_while0b_v186 : Ref sig .tc := ⟨.hbm, 291, rfl⟩
abbrev main_while0b_v187 : Ref sig .tc := ⟨.hbm, 292, rfl⟩
abbrev main_while0b_v188 : Ref sig .tc := ⟨.hbm, 293, rfl⟩
abbrev main_while0b_call13_cst : Ref sig .tc := ⟨.hbm, 294, rfl⟩
abbrev main_while0b_call13_v0 : Ref sig .tc := ⟨.hbm, 295, rfl⟩
abbrev main_while0b_v189 : Ref sig .tc := ⟨.hbm, 296, rfl⟩
abbrev main_while0b_cst_41 : Ref sig .tc := ⟨.hbm, 297, rfl⟩
abbrev main_while0b_v190 : Ref sig .tc := ⟨.hbm, 298, rfl⟩
abbrev main_while0b_v191 : Ref sig .tc := ⟨.hbm, 299, rfl⟩
abbrev main_while0b_v192 : Ref sig .tc := ⟨.hbm, 300, rfl⟩
abbrev main_while0b_cst_42 : Ref sig .tc := ⟨.hbm, 301, rfl⟩
abbrev main_while0b_v193 : Ref sig .tc := ⟨.hbm, 302, rfl⟩
abbrev main_while0b_v194 : Ref sig .tc := ⟨.hbm, 303, rfl⟩
abbrev main_while0b_cst_43 : Ref sig .tc := ⟨.hbm, 304, rfl⟩
abbrev main_while0b_v195 : Ref sig .tc := ⟨.hbm, 305, rfl⟩
abbrev main_while0b_v196 : Ref sig .tc := ⟨.hbm, 306, rfl⟩
abbrev main_while0b_cst_44 : Ref sig .tc := ⟨.hbm, 307, rfl⟩
abbrev main_while0b_v197 : Ref sig .tc := ⟨.hbm, 308, rfl⟩
abbrev main_while0b_v198 : Ref sig .tc := ⟨.hbm, 309, rfl⟩
abbrev main_while0b_v199 : Ref sig .tc := ⟨.hbm, 310, rfl⟩
abbrev main_while0b_call14_cst : Ref sig .tc := ⟨.hbm, 311, rfl⟩
abbrev main_while0b_call14_v0 : Ref sig .tc := ⟨.hbm, 312, rfl⟩
abbrev main_while0b_call14_v1 : Ref sig .tc := ⟨.hbm, 313, rfl⟩
abbrev main_while0b_call14_cst_0 : Ref sig .tc := ⟨.hbm, 314, rfl⟩
abbrev main_while0b_call14_v2 : Ref sig .tc := ⟨.hbm, 315, rfl⟩
abbrev main_while0b_v200 : Ref sig .tc := ⟨.hbm, 316, rfl⟩
abbrev main_while0b_cst_45 : Ref sig .tc := ⟨.hbm, 317, rfl⟩
abbrev main_while0b_v201 : Ref sig .tc := ⟨.hbm, 318, rfl⟩
abbrev main_while0b_v202 : Ref sig .tc := ⟨.hbm, 319, rfl⟩
abbrev main_while0b_cst_46 : Ref sig .tc := ⟨.hbm, 320, rfl⟩
abbrev main_while0b_v203 : Ref sig .tc := ⟨.hbm, 321, rfl⟩
abbrev main_while0b_v204 : Ref sig .tc := ⟨.hbm, 322, rfl⟩
abbrev main_while0b_cst_47 : Ref sig .tc := ⟨.hbm, 323, rfl⟩
abbrev main_while0b_v205 : Ref sig .tc := ⟨.hbm, 324, rfl⟩
abbrev main_while0b_v206 : Ref sig .tc := ⟨.hbm, 325, rfl⟩
abbrev main_while0b_v207 : Ref sig .tc := ⟨.hbm, 326, rfl⟩
abbrev main_while0b_v208 : Ref sig .tc := ⟨.hbm, 327, rfl⟩
abbrev main_while0b_v209 : Ref sig .tc := ⟨.hbm, 328, rfl⟩
abbrev main_while0b_v210 : Ref sig .tc := ⟨.hbm, 329, rfl⟩
abbrev main_while0b_v211 : Ref sig .tc := ⟨.hbm, 330, rfl⟩
abbrev main_while0b_v212 : Ref sig .tc := ⟨.hbm, 331, rfl⟩
abbrev main_while0b_call15_v0 : Ref sig .tc := ⟨.hbm, 332, rfl⟩
abbrev main_while0b_call15_c : Ref sig .tc := ⟨.hbm, 333, rfl⟩
abbrev main_while0b_call15_c_0 : Ref sig .tc := ⟨.hbm, 334, rfl⟩
abbrev main_while0b_v213 : Ref sig .tc := ⟨.hbm, 335, rfl⟩
abbrev main_while0b_call16_v0 : Ref sig .tc := ⟨.hbm, 336, rfl⟩
abbrev main_while0b_call16_c : Ref sig .tc := ⟨.hbm, 337, rfl⟩
abbrev main_while0b_call16_c_0 : Ref sig .tc := ⟨.hbm, 338, rfl⟩
abbrev main_while0b_v214 : Ref sig .tc := ⟨.hbm, 339, rfl⟩
abbrev main_while0b_call17_v0 : Ref sig .tc := ⟨.hbm, 340, rfl⟩
abbrev main_while0b_call17_c : Ref sig .tc := ⟨.hbm, 341, rfl⟩
abbrev main_while0b_call17_c_0 : Ref sig .tc := ⟨.hbm, 342, rfl⟩
abbrev main_while0b_v215 : Ref sig .tc := ⟨.hbm, 343, rfl⟩
abbrev main_while0b_call18_v0 : Ref sig .tc := ⟨.hbm, 344, rfl⟩
abbrev main_while0b_call18_c : Ref sig .tc := ⟨.hbm, 345, rfl⟩
abbrev main_while0b_call18_c_0 : Ref sig .tc := ⟨.hbm, 346, rfl⟩
abbrev main_while0b_v216 : Ref sig .tc := ⟨.hbm, 347, rfl⟩
abbrev main_while0b_c_48 : Ref sig .tc := ⟨.hbm, 348, rfl⟩
abbrev main_while0b_v217 : Ref sig .tc := ⟨.hbm, 349, rfl⟩
abbrev main_v11 : Ref sig .tc := ⟨.hbm, 350, rfl⟩
abbrev main_v12 : Ref sig .tc := ⟨.hbm, 351, rfl⟩
abbrev main_v13 : Ref sig .tc := ⟨.hbm, 352, rfl⟩
abbrev main_v14 : Ref sig .tc := ⟨.hbm, 353, rfl⟩

abbrev nD : Nat := 1
abbrev τ : Topo := Topo.v7x

variable {F : FTy → Type} [FloatOps F]

abbrev main_while0_count : Scf.Loop 32 := ⟨0#32, 64#32, 1#32⟩
-- ==== KernelX.lean ====
abbrev S4096x3200 : Shape := ⟨2, ![4096, 3200]⟩
abbrev S1024x3080 : Shape := ⟨2, ![1024, 3080]⟩
abbrev S4096x1024 : Shape := ⟨2, ![4096, 1024]⟩
abbrev S1x1024 : Shape := ⟨2, ![1, 1024]⟩
abbrev S_ : Shape := ⟨0, ![]⟩
abbrev S1024x3200 : Shape := ⟨2, ![1024, 3200]⟩
abbrev S512x3200 : Shape := ⟨2, ![512, 3200]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x3200, .bf16⟩
  | .hbm, ⟨1, _⟩ => ⟨S1024x3080, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .i32⟩
  | .hbm, ⟨6, _⟩ => ⟨S_, .bf16⟩
  | .hbm, ⟨7, _⟩ => ⟨S1024x3200, .bf16⟩
  | .hbm, ⟨8, _⟩ => ⟨S4096x1024, .f32⟩
  | .hbm, ⟨9, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceXIdeal.lean ====
abbrev S4096x3200 : Shape := ⟨2, ![4096, 3200]⟩
abbrev S1024x3080 : Shape := ⟨2, ![1024, 3080]⟩
abbrev S4096x1024 : Shape := ⟨2, ![4096, 1024]⟩
abbrev S1x1024 : Shape := ⟨2, ![1, 1024]⟩
abbrev S4096x3080 : Shape := ⟨2, ![4096, 3080]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S1024x3080, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x3080, .bf16⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x3080, .f32⟩
  | .hbm, ⟨28, _⟩ => ⟨S4096x3080, .f32⟩
  | .hbm, ⟨29, _⟩ => ⟨S4096x3080, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelH.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceHIdeal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x5632, .f32⟩
  | .hbm, ⟨27, _⟩ => ⟨S4096x5632, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KernelU.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceUIdeal.lean ====
abbrev S4096x1024 : Shape := ⟨2, ![4096, 1024]⟩
abbrev S4096x5632 : Shape := ⟨2, ![4096, 5632]⟩
abbrev S5632x1024 : Shape := ⟨2, ![5632, 1024]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelA.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAIdeal.lean ====
abbrev S4096x1024 : Shape := ⟨2, ![4096, 1024]⟩
abbrev S2816x1024 : Shape := ⟨2, ![2816, 1024]⟩
abbrev S4096x2816 : Shape := ⟨2, ![4096, 2816]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2816x1024, .f32⟩
  | .hbm, ⟨3, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelD.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDIdeal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelN.lean ====
abbrev S4096x1024 : Shape := ⟨2, ![4096, 1024]⟩
abbrev S4096x3200 : Shape := ⟨2, ![4096, 3200]⟩
abbrev S4x1024x770 : Shape := ⟨3, ![4, 1024, 770]⟩
abbrev S1024x1024 : Shape := ⟨2, ![1024, 1024]⟩
abbrev S1024x3200 : Shape := ⟨2, ![1024, 3200]⟩
abbrev S1024x770 : Shape := ⟨2, ![1024, 770]⟩
abbrev S1x1024x770 : Shape := ⟨3, ![1, 1024, 770]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S4x1024x770, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3200, .bf16⟩
  | .local _ .vmem, ⟨3, _⟩ => ⟨S1024x3200, .bf16⟩
  | .local _ .vmem, ⟨4, _⟩ => ⟨S4x1024x770, .bf16⟩
  | .local _ .vmem, ⟨5, _⟩ => ⟨S1024x3200, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x1024x770 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== ReferenceNIdeal.lean ====
abbrev S4096x1024 : Shape := ⟨2, ![4096, 1024]⟩
abbrev S4096x3200 : Shape := ⟨2, ![4096, 3200]⟩
abbrev S4096x3080 : Shape := ⟨2, ![4096, 3080]⟩
abbrev S3080x1024 : Shape := ⟨2, ![3080, 1024]⟩
abbrev S1024x3080 : Shape := ⟨2, ![1024, 3080]⟩
abbrev S1024x4x770 : Shape := ⟨3, ![1024, 4, 770]⟩
abbrev S4x1024x770 : Shape := ⟨3, ![4, 1024, 770]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S4096x3080, .bf16⟩
  | .hbm, ⟨3, _⟩ => ⟨S4096x1024, .f32⟩
  | .hbm, ⟨4, _⟩ => ⟨S4096x3080, .f32⟩
  | .hbm, ⟨5, _⟩ => ⟨S3080x1024, .f32⟩
  | .hbm, ⟨6, _⟩ => ⟨S1024x3080, .f32⟩
  | .hbm, ⟨7, _⟩ => ⟨S1024x3080, .bf16⟩
  | .hbm, ⟨8, _⟩ => ⟨S1024x4x770, .bf16⟩
  | .hbm, ⟨9, _⟩ => ⟨S4x1024x770, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelM.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelO.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelJ.lean ====
abbrev S4096x1024 : Shape := ⟨2, ![4096, 1024]⟩
abbrev S1x1024 : Shape := ⟨2, ![1, 1024]⟩
abbrev S1024x3080 : Shape := ⟨2, ![1024, 3080]⟩
abbrev S1024x4x770 : Shape := ⟨3, ![1024, 4, 770]⟩
abbrev S4x1024x770 : Shape := ⟨3, ![4, 1024, 770]⟩
abbrev S4096x3200 : Shape := ⟨2, ![4096, 3200]⟩
abbrev S1024x3200 : Shape := ⟨2, ![1024, 3200]⟩
abbrev S512x1024 : Shape := ⟨2, ![512, 1024]⟩
abbrev S512x3200 : Shape := ⟨2, ![512, 3200]⟩
abbrev S1024x120 : Shape := ⟨2, ![1024, 120]⟩
abbrev S1x1024x770 : Shape := ⟨3, ![1, 1024, 770]⟩
abbrev S1024x770 : Shape := ⟨2, ![1024, 770]⟩
abbrev S128x1024 : Shape := ⟨2, ![128, 1024]⟩
abbrev S128 : Shape := ⟨1, ![128]⟩
abbrev S128x1 : Shape := ⟨2, ![128, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .bf16⟩
  | .hbm, ⟨3, _⟩ => ⟨S1024x4x770, .bf16⟩
  | .hbm, ⟨4, _⟩ => ⟨S4x1024x770, .bf16⟩
  | .hbm, ⟨5, _⟩ => ⟨S4096x3200, .f32⟩
  | .hbm, ⟨6, _⟩ => ⟨S4096x1024, .bf16⟩
  | .hbm, ⟨7, _⟩ => ⟨S1024x3200, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x770, .bf16⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | .local _ .vmem, ⟨7, _⟩ => ⟨S512x1024, .bf16⟩
  | .local _ .vmem, ⟨8, _⟩ => ⟨S1024x3200, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x770 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceJIdeal.lean ====
abbrev S4096x1024 : Shape := ⟨2, ![4096, 1024]⟩
abbrev S1x1024 : Shape := ⟨2, ![1, 1024]⟩
abbrev S1024x3080 : Shape := ⟨2, ![1024, 3080]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3080 : Shape := ⟨2, ![4096, 3080]⟩
abbrev S4096x3200 : Shape := ⟨2, ![4096, 3200]⟩
abbrev S1024x3200 : Shape := ⟨2, ![1024, 3200]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x3080, .f32⟩
  | .hbm, ⟨21, _⟩ => ⟨S4096x3080, .f32⟩
  | .hbm, ⟨22, _⟩ => ⟨S_, .i32⟩
  | .hbm, ⟨23, _⟩ => ⟨S_, .f32⟩
  | .hbm, ⟨24, _⟩ => ⟨S4096x3200, .f32⟩
  | .hbm, ⟨25, _⟩ => ⟨S4096x1024, .bf16⟩
  | .hbm, ⟨26, _⟩ => ⟨S_, .i32⟩
  | .hbm, ⟨27, _⟩ => ⟨S_, .bf16⟩
  | .hbm, ⟨28, _⟩ => ⟨S1024x3200, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== KernelY.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceYIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelL.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩
abbrev S1x1x1 : Shape := ⟨3, ![1, 1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x128, .f32⟩
  | .hbm, ⟨6, _⟩ => ⟨S4096x1024, .f32⟩
  | .hbm, ⟨7, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceLIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.KTile.lean ====
/-
  The values that the kernel forms for one chunk and one head, in the order in which it forms them: the decays, the
  products of the chunk's arrays (each on operands rounded to bfloat16), the gradients, and the assembly of the
  gradients of the write strength and the log-decay of the four heads into one array of 128 columns. They are
  definitions over any reading of the floats; `KReads.lean` says what they are over the extended reals.
-/
module

public import proofs.«01_k».proof.Proof.Gen.KernelIdeal

@[expose] public section

set_option synthInstance.maxSize 4096

noncomputable section

namespace Cert.KTile

open Idealize.ShloMosaic Cert.KernelIdeal Cert.KernelIdeal.Gen

/-- What the kernel reads for one chunk and one head. -/
structure Tile (F : FTy → Type) [FloatOps F] where
  q : FVec F S64x128 .f32
  k : FVec F S64x128 .f32
  v : FVec F S64x128 .f32
  dO : FVec F S64x128 .f32
  bcol : FVec F S64x1 .f32
  gcol : FVec F S64x1 .f32
  grow : FVec F S1x64 .f32
  A : FVec F S64x64 .f32
  At : FVec F S64x64 .f32
  S : FVec F S128x128 .f32

variable {F : FTy → Type} [FloatOps F] [Named F]

/-- A product of operands rounded to bfloat16, added to zeros. -/
abbrev mm {sa sb sc : Shape} (d : DotDims sa sb sc) (a : FVec F sa .f32) (b : FVec F sb .f32) : FVec F sc .f32 :=
  matmul d none (truncf .bf16 a bitsLt_bf16_f32) (truncf .bf16 b bitsLt_bf16_f32) (constant sc .f32 0x00000000#32)

/-- A square matrix times a block, the matrix in two parts: its rounding to bfloat16 and the rest. -/
abbrev applyA (a : FVec F S64x64 .f32) (u : FVec F S64x128 .f32) : FVec F S64x128 .f32 :=
  addf (mm dot_S64x64_S64x128_S64x128_1_0_0_1_n_n a u)
    (mm dot_S64x64_S64x128_S64x128_1_0_0_1_n_n
      (subf a (extf .f32 (truncf .bf16 a bitsLt_bf16_f32) bitsLt_bf16_f32)) u)

/-- A column of 64 rows, repeated over 128 columns. -/
abbrev wide (c : FVec F S64x1 .f32) : FVec F S64x128 .f32 :=
  broadcastTo S64x128 (shapeCast S64x1 c shapeCasts_S64x1_S64x1) broadcasts_S64x1_S64x128

/-- The row number and the column number in a chunk's square. -/
abbrev ii : IVec S64x64 32 := iota .tc S64x64 32 [0] iota_S64x64_d0_w32
abbrev jj : IVec S64x64 32 := iota .tc S64x64 32 [1] iota_S64x64_d1_w32
/-- Zeros. -/
abbrev z64 : FVec F S64x64 .f32 := broadcast S64x64 (Scalar.ofBits .f32 0x00000000#32)
abbrev z128 : FVec F S64x128 .f32 := broadcast S64x128 (Scalar.ofBits .f32 0x00000000#32)
abbrev z1 : FVec F S64x1 .f32 := broadcast S64x1 (Scalar.ofBits .f32 0x00000000#32)

namespace Tile

variable (t : Tile F) (d : FVec F S128x128 .f32)

/-! ## The decays and the decayed arrays -/

def gam : FVec F S64x64 .f32 :=
  exp (select (cmpi .sge ii jj)
    (subf (broadcastTo S64x64 t.gcol broadcasts_S64x1_S64x64) (broadcastTo S64x64 t.grow broadcasts_S1x64_S64x64))
    (broadcast S64x64 (Named.named κ "mask" 0xF149F2CA#32)))
def glast : FVec F S1x1 .f32 := extractStridedSlice S1x1 ![0, 63] t.grow slices_S1x64_o0_63_S1x1
def cd : FVec F S1x1 .f32 := exp t.glast
def E : FVec F S64x128 .f32 := wide (exp t.gcol)
def Fd : FVec F S64x128 .f32 := wide (exp (subf (broadcastTo S64x1 t.glast broadcasts_S1x1_S64x1) t.gcol))
def beta : FVec F S64x128 .f32 := wide t.bcol
def kb : FVec F S64x128 .f32 := mulf t.k t.beta
def vb : FVec F S64x128 .f32 := mulf t.v t.beta
def W : FVec F S64x128 .f32 := mulf t.kb t.E
def qE : FVec F S64x128 .f32 := mulf t.q t.E
def kt : FVec F S64x128 .f32 := mulf t.k t.Fd

/-! ## The products and the gradients -/

def vn : FVec F S64x128 .f32 :=
  applyA t.A (subf t.vb (mm dot_S64x128_S128x128_S64x128_1_0_0_1_n_n t.W t.S))
def KK : FVec F S64x64 .f32 := mm dot_S64x128_S64x128_S64x64_1_1_0_0_n_n t.kb t.k
def QK : FVec F S64x64 .f32 := mm dot_S64x128_S64x128_S64x64_1_1_0_0_n_n t.q t.k
def dqE : FVec F S64x128 .f32 := mm dot_S64x128_S128x128_S64x128_1_1_0_0_n_n t.dO t.S
def dQK : FVec F S64x64 .f32 :=
  mulf (select (cmpi .sge ii jj) (mm dot_S64x128_S64x128_S64x64_1_1_0_0_n_n t.dO t.vn) z64) t.gam
def dvn : FVec F S64x128 .f32 :=
  addf (mm dot_S64x64_S64x128_S64x128_0_0_1_1_n_n (mulf t.QK t.gam) t.dO)
    (mm dot_S64x128_S128x128_S64x128_1_0_0_1_n_n t.kt d)
def dU : FVec F S64x128 .f32 := applyA t.At (t.dvn d)
def dkt : FVec F S64x128 .f32 := mm dot_S64x128_S128x128_S64x128_1_1_0_0_n_n t.vn d
def dcd : F .f32 :=
  extractAt ![0, 0, 0] (shapeCast S1x1x1 (multiReduction .add [1, 2] S1
    (shapeCast S1x128x128 (mulf t.S d) shapeCasts_S128x128_S1x128x128) 0x00000000#32 reduces_S1x128x128_S1
    (.inl rfl) rfl) shapeCasts_S1_S1x1x1) inpos_S1x1x1_p0_0_0
def dSn : FVec F S128x128 .f32 :=
  subf (addf (mulf (broadcastTo S128x128 t.cd broadcasts_S1x1_S128x128) d)
    (mm dot_S64x128_S64x128_S128x128_0_0_1_1_n_n t.qE t.dO))
    (mm dot_S64x128_S64x128_S128x128_0_0_1_1_n_n t.W (t.dU d))
def dKK : FVec F S64x64 .f32 :=
  mulf (select (cmpi .sgt ii jj) (subf z64 (mm dot_S64x128_S64x128_S64x64_1_1_0_0_n_n (t.dU d) t.vn)) z64) t.gam
def dW : FVec F S64x128 .f32 := subf z128 (mm dot_S64x128_S128x128_S64x128_1_1_0_0_n_n (t.dU d) t.S)
def dq : FVec F S64x128 .f32 := addf (mm dot_S64x64_S64x128_S64x128_1_0_0_1_n_n t.dQK t.k) (mulf t.dqE t.E)
def dkb : FVec F S64x128 .f32 := addf (mm dot_S64x64_S64x128_S64x128_1_0_0_1_n_n (t.dKK d) t.k) (mulf (t.dW d) t.E)
def dk : FVec F S64x128 .f32 :=
  addf (addf (addf (mm dot_S64x64_S64x128_S64x128_0_0_1_1_n_n t.dQK t.q)
    (mm dot_S64x64_S64x128_S64x128_0_0_1_1_n_n (t.dKK d) t.kb)) (mulf (t.dkb d) t.beta)) (mulf (t.dkt d) t.Fd)
def dv : FVec F S64x128 .f32 := mulf (t.dU d) t.beta
def Z : FVec F S64x64 .f32 := addf (mulf t.dQK t.QK) (mulf (t.dKK d) t.KK)
def dbeta : FVec F S64x1 .f32 :=
  shapeCast S64x1 (multiReduction .add [1] S64 (addf (mulf (t.dU d) t.v) (mulf (t.dkb d) t.k)) 0x00000000#32
    reduces_S64x128_S64 (.inl rfl) rfl) shapeCasts_S64_S64x1
def mE : FVec F S64x128 .f32 := mulf (addf (mulf (t.dW d) t.kb) (mulf t.dqE t.q)) t.E
def mF : FVec F S64x128 .f32 := mulf (mulf (t.dkt d) t.k) t.Fd
/-- The column sums of `Z`, on the diagonal. -/
def zdiag : FVec F S64x64 .f32 :=
  select (cmpi .eq ii jj) (broadcastTo S64x64 (shapeCast S1x64 (shapeCast S1x64 (multiReduction .add [0] S64 (t.Z d)
    0x00000000#32 reduces_S64x64_S64 (.inl rfl) rfl) shapeCasts_S64_S1x64) shapeCasts_S1x64_S1x64)
    broadcasts_S1x64_S64x64) z64
/-- All of `mF`, summed. -/
def mFall : F .f32 :=
  extractAt ![0, 0, 0] (shapeCast S1x1x1 (multiReduction .add [1, 2] S1
    (shapeCast S1x64x128 (t.mF d) shapeCasts_S64x128_S1x64x128) 0x00000000#32 reduces_S1x64x128_S1
    (.inl rfl) rfl) shapeCasts_S1_S1x1x1) inpos_S1x1x1_p0_0_0
/-- What the chunk's last row gets besides. -/
def last : FVec F S64x1 .f32 :=
  select (cmpi .eq (iota .tc S64x1 32 [0] iota_S64x1_d0_w32) (broadcast S64x1 63#32))
    (broadcastTo S64x1 (shapeCast S1x1 (addf (broadcast S1x1 (t.mFall d)) (mulf (broadcast S1x1 (t.dcd d)) t.cd))
      shapeCasts_S1x1_S1x1) broadcasts_S1x1_S64x1) z1
def dG : FVec F S64x1 .f32 :=
  addf (addf (shapeCast S64x1 (multiReduction .add [1] S64 (subf (t.mE d) (t.mF d)) 0x00000000#32
      reduces_S64x128_S64 (.inl rfl) rfl) shapeCasts_S64_S64x1)
    (shapeCast S64x1 (multiReduction .add [1] S64 (subf (t.Z d) (t.zdiag d)) 0x00000000#32
      reduces_S64x64_S64_2 (.inl rfl) rfl) shapeCasts_S64_S64x1)) (t.last d)

end Tile

/-! ## The four heads' columns in one array -/

/-- A column at lane `w`, zeros elsewhere. -/
abbrev put (w : BitVec 32) (c : FVec F S64x1 .f32) : FVec F S64x128 .f32 :=
  select (cmpi .eq (iota .tc S64x128 32 [1] iota_S64x128_d1_w32) (broadcast S64x128 w)) (wide c) z128

def put4 (w : Fin 4 → BitVec 32) (c : Fin 4 → FVec F S64x1 .f32) : FVec F S64x128 .f32 :=
  addf (addf (addf (addf z128 (put (w 0) (c 0))) (put (w 1) (c 1))) (put (w 2) (c 2))) (put (w 3) (c 3))

/-- One where the column is not before the row: a product with it sums a column from a row to the end. -/
def rev : FVec F S64x64 .f32 := sitofp .f32 (extui 32 (cmpi .sge jj ii) natLt_1_32)

/-- The gradients of the write strength (lanes 0 to 3) and of the log-decay (lanes 4 to 7). -/
def dbg (t : Fin 4 → Tile F) (d : Fin 4 → FVec F S128x128 .f32) : FVec F S64x128 .f32 :=
  addf (put4 ![0#32, 1#32, 2#32, 3#32] fun h => (t h).dbeta (d h))
    (matmul dot_S64x64_S64x128_S64x128_1_0_0_1_n_n (some .fp32) rev
      (put4 ![4#32, 5#32, 6#32, 7#32] fun h => (t h).dG (d h)) (constant S64x128 .f32 0x00000000#32))

end Cert.KTile

end
-- ==== Proof.KPoint.lean ====
/-
  One grid point of the kernel. Its loads cut the point's blocks into chunks and heads; its stores are, for every
  chunk and head, the gradients that `KTile.lean` names; the state gradient passes from a chunk to the one before.
  The pieces that the kernel's run finds for every output are these stores.
-/
module

public import proofs.«01_k».proof.Proof.KTile
public import proofs.«01_k».proof.Proof.Gen.KernelIdeal.Frame

@[expose] public section

set_option synthInstance.maxSize 4096

noncomputable section

namespace Cert.KPoint

open Idealize.ShloMosaic Cert.KernelIdeal Cert.KernelIdeal.Gen Cert.KTile

/-- The chunks of a point. -/
abbrev cb : ℕ := 4

variable {F : FTy → Type} [FloatOps F] [Named F]

/-- What a point loads, per chunk and head. -/
structure Loads (F : FTy → Type) [FloatOps F] where
  q : Fin cb → Fin 4 → FVec F S64x128 .f32
  k : Fin cb → Fin 4 → FVec F S64x128 .f32
  v : Fin cb → Fin 4 → FVec F S64x128 .f32
  bg : Fin cb → FVec F S64x128 .f32
  gc : Fin cb → FVec F S64x128 .f32
  gct : Fin cb → FVec F S1x8x64 .f32
  a : Fin cb → Fin 4 → FVec F S1x1x64x64 .f32
  at' : Fin cb → Fin 4 → FVec F S1x1x64x64 .f32
  s : Fin cb → Fin 4 → FVec F S1x1x128x128 .f32
  dO : Fin cb → Fin 4 → FVec F S64x128 .f32
  dS : Fin 4 → FVec F S1x128x128 .f32

namespace Loads

variable (L : Loads F)

/-- The write strength's column, the accumulated log-decay's column and row, of a head. -/
def bcol (u : Fin cb) : Fin 4 → FVec F S64x1 .f32 :=
  ![extractStridedSlice S64x1 ![0, 0] (L.bg u) slices_S64x128_o0_0_S64x1,
    extractStridedSlice S64x1 ![0, 1] (L.bg u) slices_S64x128_o0_1_S64x1,
    extractStridedSlice S64x1 ![0, 2] (L.bg u) slices_S64x128_o0_2_S64x1,
    extractStridedSlice S64x1 ![0, 3] (L.bg u) slices_S64x128_o0_3_S64x1]
def gcol (u : Fin cb) : Fin 4 → FVec F S64x1 .f32 :=
  ![extractStridedSlice S64x1 ![0, 4] (shapeCast S64x128 (L.gc u) shapeCasts_S64x128_S64x128) slices_S64x128_o0_4_S64x1,
    extractStridedSlice S64x1 ![0, 5] (shapeCast S64x128 (L.gc u) shapeCasts_S64x128_S64x128) slices_S64x128_o0_5_S64x1,
    extractStridedSlice S64x1 ![0, 6] (shapeCast S64x128 (L.gc u) shapeCasts_S64x128_S64x128) slices_S64x128_o0_6_S64x1,
    extractStridedSlice S64x1 ![0, 7] (shapeCast S64x128 (L.gc u) shapeCasts_S64x128_S64x128) slices_S64x128_o0_7_S64x1]
def grow (u : Fin cb) : Fin 4 → FVec F S1x64 .f32 :=
  ![extractStridedSlice S1x64 ![4, 0] (shapeCast S8x64 (L.gct u) shapeCasts_S1x8x64_S8x64) slices_S8x64_o4_0_S1x64,
    extractStridedSlice S1x64 ![5, 0] (shapeCast S8x64 (L.gct u) shapeCasts_S1x8x64_S8x64) slices_S8x64_o5_0_S1x64,
    extractStridedSlice S1x64 ![6, 0] (shapeCast S8x64 (L.gct u) shapeCasts_S1x8x64_S8x64) slices_S8x64_o6_0_S1x64,
    extractStridedSlice S1x64 ![7, 0] (shapeCast S8x64 (L.gct u) shapeCasts_S1x8x64_S8x64) slices_S8x64_o7_0_S1x64]

/-- The tile of a chunk and a head. -/
def tile (u : Fin cb) (h : Fin 4) : Tile F where
  q := L.q u h
  k := L.k u h
  v := L.v u h
  dO := L.dO u h
  bcol := L.bcol u h
  gcol := L.gcol u h
  grow := L.grow u h
  A := shapeCast S64x64 (L.a u h) shapeCasts_S1x1x64x64_S64x64
  At := shapeCast S64x64 (L.at' u h) shapeCasts_S1x1x64x64_S64x64
  S := shapeCast S128x128 (L.s u h) shapeCasts_S1x1x128x128_S128x128

/-- The chunk handled after `n` others: the last one first. -/
def back (n : ℕ) : Fin cb := ⟨(cb - 1) - n, Nat.lt_of_le_of_lt (Nat.sub_le _ _) (by decide)⟩

/-- The state gradient after `n` chunks. -/
def dSat : ℕ → Fin 4 → FVec F S128x128 .f32
  | 0, h => shapeCast S128x128 (L.dS h) shapeCasts_S1x128x128_S128x128
  | n + 1, h => (L.tile (back n) h).dSn (dSat n h)

end Loads

/-! ## The stores -/

theorem inb_W (n h : ℕ) (hh : h < 4) :
    ∀ a, (![64 * (Loads.back n).val, 128 * h] : Fin 2 → ℕ) a + S64x128.size a ≤ S256x512.size a := fun a => by
  have : (Loads.back n).val < 4 := (Loads.back n).isLt
  fin_cases a
  · show 64 * (Loads.back n).val + 64 ≤ 256; omega
  · show 128 * h + 128 ≤ 512; omega

theorem inb_N (n : ℕ) : ∀ a, (![64 * (Loads.back n).val, 0] : Fin 2 → ℕ) a + S64x128.size a ≤ S256x128.size a := fun a => by
  have : (Loads.back n).val < 4 := (Loads.back n).isLt
  fin_cases a
  · show 64 * (Loads.back n).val + 64 ≤ 256; omega
  · exact Nat.le_refl 128

theorem inb_W' (u : Fin cb) (h : Fin 4) :
    ∀ a, (![64 * u.val, 128 * h.val] : Fin 2 → ℕ) a + S64x128.size a ≤ S256x512.size a := fun a => by
  have : u.val < 4 := u.isLt
  have := h.isLt
  fin_cases a
  · show 64 * u.val + 64 ≤ 256; omega
  · show 128 * h.val + 128 ≤ 512; omega

theorem inb_N' (u : Fin cb) : ∀ a, (![64 * u.val, 0] : Fin 2 → ℕ) a + S64x128.size a ≤ S256x128.size a := fun a => by
  have : u.val < 4 := u.isLt
  fin_cases a
  · show 64 * u.val + 64 ≤ 256; omega
  · exact Nat.le_refl 128

theorem inb_G (u : Fin cb) : ∀ a, (![u.val, 0, 0] : Fin 3 → ℕ) a + S1x8x64.size a ≤ S4x8x64.size a := fun a => by
  have : u.val < 4 := u.isLt
  fin_cases a
  · show u.val + 1 ≤ 4; omega
  · exact Nat.le_refl 8
  · exact Nat.le_refl 64

theorem inb_A (u : Fin cb) (h : Fin 4) :
    ∀ a, (![u.val, h.val, 0, 0] : Fin 4 → ℕ) a + S1x1x64x64.size a ≤ S4x4x64x64.size a := fun a => by
  have : u.val < 4 := u.isLt
  have := h.isLt
  fin_cases a
  · show u.val + 1 ≤ 4; omega
  · show h.val + 1 ≤ 4; omega
  · exact Nat.le_refl 64
  · exact Nat.le_refl 64

theorem inb_S (u : Fin cb) (h : Fin 4) :
    ∀ a, (![u.val, h.val, 0, 0] : Fin 4 → ℕ) a + S1x1x128x128.size a ≤ S4x4x128x128.size a := fun a => by
  have : u.val < 4 := u.isLt
  have := h.isLt
  fin_cases a
  · show u.val + 1 ≤ 4; omega
  · show h.val + 1 ≤ 4; omega
  · exact Nat.le_refl 128
  · exact Nat.le_refl 128

theorem inb_C (h : ℕ) (hh : h < 4) : ∀ a, (![h, 0, 0] : Fin 3 → ℕ) a + S1x128x128.size a ≤ S4x128x128.size a := fun a => by
  fin_cases a
  · show h + 1 ≤ 4; omega
  · exact Nat.le_refl 128
  · exact Nat.le_refl 128

theorem inb_Z : ∀ a, (![0, 0, 0] : Fin 3 → ℕ) a + S4x128x128.size a ≤ S4x128x128.size a := by decide

/-- The stores of one head block per chunk and head, the last store first; store `n` is chunk `n / 4` from the end,
    head `n % 4`. -/
def wide (P : ℕ → Fin 4 → FVec F S64x128 .f32) : ℕ → List (View.Piece (Elt F) S256x512 .f32)
  | 0 => []
  | n + 1 => ⟨Rect.unit ![64 * (Loads.back (n / 4)).val, 128 * (n % 4)] S64x128.size (inb_W (n / 4) (n % 4) (Nat.mod_lt _ (by decide))),
      P (n / 4) ⟨n % 4, Nat.mod_lt _ (by decide)⟩⟩ :: wide P n

/-- The stores of one block of 128 columns per chunk. -/
def narrow (P : ℕ → FVec F S64x128 .f32) : ℕ → List (View.Piece (Elt F) S256x128 .f32)
  | 0 => []
  | n + 1 => ⟨Rect.unit ![64 * (Loads.back n).val, 0] S64x128.size (inb_N n), P n⟩ :: narrow P n

/-- The stores of the state gradients, a head each. -/
def carry (P : Fin 4 → FVec F S128x128 .f32) : List (View.Piece (Elt F) S4x128x128 .f32) :=
  [⟨Rect.unit ![3, 0, 0] S1x128x128.size (inb_C 3 (by decide)), shapeCast S1x128x128 (P 3) shapeCasts_S128x128_S1x128x128⟩,
   ⟨Rect.unit ![2, 0, 0] S1x128x128.size (inb_C 2 (by decide)), shapeCast S1x128x128 (P 2) shapeCasts_S128x128_S1x128x128⟩,
   ⟨Rect.unit ![1, 0, 0] S1x128x128.size (inb_C 1 (by decide)), shapeCast S1x128x128 (P 1) shapeCasts_S128x128_S1x128x128⟩,
   ⟨Rect.unit ![0, 0, 0] S1x128x128.size (inb_C 0 (by decide)), shapeCast S1x128x128 (P 0) shapeCasts_S128x128_S1x128x128⟩]

namespace Loads
variable (L : Loads F)

def dqs : List (View.Piece (Elt F) S256x512 .f32) := wide (fun n h => (L.tile (back n) h).dq) (4 * cb)
def dks : List (View.Piece (Elt F) S256x512 .f32) := wide (fun n h => (L.tile (back n) h).dk (L.dSat n h)) (4 * cb)
def dvs : List (View.Piece (Elt F) S256x512 .f32) := wide (fun n h => (L.tile (back n) h).dv (L.dSat n h)) (4 * cb)
def dbgs : List (View.Piece (Elt F) S256x128 .f32) := narrow (fun n => dbg (L.tile (back n)) (L.dSat n)) cb
def dSs : List (View.Piece (Elt F) S4x128x128 .f32) := carry (L.dSat cb)

end Loads

/-! ## The loads of a run -/

/-- The loads of whole memrefs that hold the point's blocks; the state gradients are given. -/
def loads
  {arg1 : Memref sig .tc .vmem S256x512 .f32} (harg1 : arg1.IsWhole)
  {arg2 : Memref sig .tc .vmem S256x512 .f32} (harg2 : arg2.IsWhole)
  {arg3 : Memref sig .tc .vmem S256x512 .f32} (harg3 : arg3.IsWhole)
  {arg4 : Memref sig .tc .vmem S256x128 .f32} (harg4 : arg4.IsWhole)
  {arg5 : Memref sig .tc .vmem S256x128 .f32} (harg5 : arg5.IsWhole)
  {arg6 : Memref sig .tc .vmem S4x8x64 .f32} (harg6 : arg6.IsWhole)
  {arg7 : Memref sig .tc .vmem S4x4x64x64 .f32} (harg7 : arg7.IsWhole)
  {arg8 : Memref sig .tc .vmem S4x4x64x64 .f32} (harg8 : arg8.IsWhole)
  {arg9 : Memref sig .tc .vmem S4x4x128x128 .f32} (harg9 : arg9.IsWhole)
  {arg10 : Memref sig .tc .vmem S256x512 .f32} (harg10 : arg10.IsWhole)
  (x0 : Vec F S256x512 .f32)
  (x1 : Vec F S256x512 .f32)
  (x2 : Vec F S256x512 .f32)
  (x3 : Vec F S256x128 .f32)
  (x4 : Vec F S256x128 .f32)
  (x5 : Vec F S4x8x64 .f32)
  (x6 : Vec F S4x4x64x64 .f32)
  (x7 : Vec F S4x4x64x64 .f32)
  (x8 : Vec F S4x4x128x128 .f32)
  (x9 : Vec F S256x512 .f32)
  (dS : Fin 4 → FVec F S1x128x128 .f32) : Loads F where
  q u h := View.readAt (Elt F) arg1.view (Rect.unit (s := S256x512) ![64 * u.val, 128 * h.val] S64x128.size (inb_W' u h)).toLoadRect (harg1.unread x0)
  k u h := View.readAt (Elt F) arg2.view (Rect.unit (s := S256x512) ![64 * u.val, 128 * h.val] S64x128.size (inb_W' u h)).toLoadRect (harg2.unread x1)
  v u h := View.readAt (Elt F) arg3.view (Rect.unit (s := S256x512) ![64 * u.val, 128 * h.val] S64x128.size (inb_W' u h)).toLoadRect (harg3.unread x2)
  bg u := View.readAt (Elt F) arg4.view (Rect.unit (s := S256x128) ![64 * u.val, 0] S64x128.size (inb_N' u)).toLoadRect (harg4.unread x3)
  gc u := View.readAt (Elt F) arg5.view (Rect.unit (s := S256x128) ![64 * u.val, 0] S64x128.size (inb_N' u)).toLoadRect (harg5.unread x4)
  gct u := View.readAt (Elt F) arg6.view (Rect.unit (s := S4x8x64) ![u.val, 0, 0] S1x8x64.size (inb_G u)).toLoadRect (harg6.unread x5)
  a u h := View.readAt (Elt F) arg7.view (Rect.unit (s := S4x4x64x64) ![u.val, h.val, 0, 0] S1x1x64x64.size (inb_A u h)).toLoadRect (harg7.unread x6)
  at' u h := View.readAt (Elt F) arg8.view (Rect.unit (s := S4x4x64x64) ![u.val, h.val, 0, 0] S1x1x64x64.size (inb_A u h)).toLoadRect (harg8.unread x7)
  s u h := View.readAt (Elt F) arg9.view (Rect.unit (s := S4x4x128x128) ![u.val, h.val, 0, 0] S1x1x128x128.size (inb_S u h)).toLoadRect (harg9.unread x8)
  dO u h := View.readAt (Elt F) arg10.view (Rect.unit (s := S256x512) ![64 * u.val, 128 * h.val] S64x128.size (inb_W' u h)).toLoadRect (harg10.unread x9)
  dS := dS

/-- The state gradients that the point before left. -/
def carried {arg15 : Memref sig .tc .vmem S4x128x128 .f32} (harg15 : arg15.IsWhole) (xs0 : Vec F S4x128x128 .f32)
    (h : Fin 4) : FVec F S1x128x128 .f32 :=
  View.readAt (Elt F) arg15.view (Rect.unit (s := S4x128x128) ![h.val, 0, 0] S1x128x128.size (inb_C h.val h.isLt)).toLoadRect (harg15.unread xs0)

/-- The state gradients of the first point: zeros, stored and read back. -/
def zeroed (arg15 : Memref sig .tc .vmem S4x128x128 .f32) (h : Fin 4) : FVec F S1x128x128 .f32 :=
  View.readCov (Val := Elt F) arg15.view [⟨Rect.unit (s := S4x128x128) ![0, 0, 0] S4x128x128.size inb_Z, k0_pay3⟩]
    (Rect.unit (s := S4x128x128) ![h.val, 0, 0] S1x128x128.size (inb_C h.val h.isLt)).toLoadRect

section Bridge

variable (c : Dev nD) (i : grid0.Coords)
  {arg1 : Memref sig .tc .vmem S256x512 .f32} (harg1 : arg1.IsWhole)
  {arg2 : Memref sig .tc .vmem S256x512 .f32} (harg2 : arg2.IsWhole)
  {arg3 : Memref sig .tc .vmem S256x512 .f32} (harg3 : arg3.IsWhole)
  {arg4 : Memref sig .tc .vmem S256x128 .f32} (harg4 : arg4.IsWhole)
  {arg5 : Memref sig .tc .vmem S256x128 .f32} (harg5 : arg5.IsWhole)
  {arg6 : Memref sig .tc .vmem S4x8x64 .f32} (harg6 : arg6.IsWhole)
  {arg7 : Memref sig .tc .vmem S4x4x64x64 .f32} (harg7 : arg7.IsWhole)
  {arg8 : Memref sig .tc .vmem S4x4x64x64 .f32} (harg8 : arg8.IsWhole)
  {arg9 : Memref sig .tc .vmem S4x4x128x128 .f32} (harg9 : arg9.IsWhole)
  {arg10 : Memref sig .tc .vmem S256x512 .f32} (harg10 : arg10.IsWhole)
  {arg11 : Memref sig .tc .vmem S256x512 .f32} (harg11 : arg11.IsWhole)
  {arg12 : Memref sig .tc .vmem S256x512 .f32} (harg12 : arg12.IsWhole)
  {arg13 : Memref sig .tc .vmem S256x512 .f32} (harg13 : arg13.IsWhole)
  {arg14 : Memref sig .tc .vmem S256x128 .f32} (harg14 : arg14.IsWhole)
  {arg15 : Memref sig .tc .vmem S4x128x128 .f32} (harg15 : arg15.IsWhole)
  (x0 : Vec F S256x512 .f32)
  (x1 : Vec F S256x512 .f32)
  (x2 : Vec F S256x512 .f32)
  (x3 : Vec F S256x128 .f32)
  (x4 : Vec F S256x128 .f32)
  (x5 : Vec F S4x8x64 .f32)
  (x6 : Vec F S4x4x64x64 .f32)
  (x7 : Vec F S4x4x64x64 .f32)
  (x8 : Vec F S4x4x128x128 .f32)
  (x9 : Vec F S256x512 .f32)

theorem B_dqs (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).1 = (loads harg1 harg2 harg3 harg4 harg5 harg6 harg7 harg8 harg9 harg10 x0 x1 x2 x3 x4 x5 x6 x7 x8 x9 (carried harg15 xs0)).dqs := by
  sl_kernel_rfl

theorem B_dks (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).2.1 = (loads harg1 harg2 harg3 harg4 harg5 harg6 harg7 harg8 harg9 harg10 x0 x1 x2 x3 x4 x5 x6 x7 x8 x9 (carried harg15 xs0)).dks := by
  sl_kernel_rfl

theorem B_dvs (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).2.2.1 = (loads harg1 harg2 harg3 harg4 harg5 harg6 harg7 harg8 harg9 harg10 x0 x1 x2 x3 x4 x5 x6 x7 x8 x9 (carried harg15 xs0)).dvs := by
  sl_kernel_rfl

theorem B_dbgs (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).2.2.2.1 = (loads harg1 harg2 harg3 harg4 harg5 harg6 harg7 harg8 harg9 harg10 x0 x1 x2 x3 x4 x5 x6 x7 x8 x9 (carried harg15 xs0)).dbgs := by
  sl_kernel_rfl

theorem B_dSs (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).2.2.2.2.1 = (loads harg1 harg2 harg3 harg4 harg5 harg6 harg7 harg8 harg9 harg10 x0 x1 x2 x3 x4 x5 x6 x7 x8 x9 (carried harg15 xs0)).dSs := by
  sl_kernel_rfl

theorem A_dqs (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1 = (loads harg1 harg2 harg3 harg4 harg5 harg6 harg7 harg8 harg9 harg10 x0 x1 x2 x3 x4 x5 x6 x7 x8 x9 (zeroed arg15)).dqs := by
  sl_kernel_rfl

theorem A_dks (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1 = (loads harg1 harg2 harg3 harg4 harg5 harg6 harg7 harg8 harg9 harg10 x0 x1 x2 x3 x4 x5 x6 x7 x8 x9 (zeroed arg15)).dks := by
  sl_kernel_rfl

theorem A_dvs (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.1 = (loads harg1 harg2 harg3 harg4 harg5 harg6 harg7 harg8 harg9 harg10 x0 x1 x2 x3 x4 x5 x6 x7 x8 x9 (zeroed arg15)).dvs := by
  sl_kernel_rfl

theorem A_dbgs (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.2.1 = (loads harg1 harg2 harg3 harg4 harg5 harg6 harg7 harg8 harg9 harg10 x0 x1 x2 x3 x4 x5 x6 x7 x8 x9 (zeroed arg15)).dbgs := by
  sl_kernel_rfl

theorem A_dSs (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.2.2.1 = (loads harg1 harg2 harg3 harg4 harg5 harg6 harg7 harg8 harg9 harg10 x0 x1 x2 x3 x4 x5 x6 x7 x8 x9 (zeroed arg15)).dSs ++ [⟨Rect.unit ![0, 0, 0] S4x128x128.size inb_Z, k0_pay3⟩] := by
  sl_kernel_rfl

end Bridge

end Cert.KPoint

end
-- ==== Proof.Chunk.lean ====
/-
  The mathematics of one chunk and one head of the gated delta rule's backward pass, over the real numbers.

  A chunk has 64 rows; a head has queries, keys, values and an output gradient of width 128, a write strength `beta`
  and a log-decay `g` per row. `A` is the inverse of the chunk's triangular system, `S` the state that enters the
  chunk, `dS` the gradient of the state that leaves it. The definitions below are the quantities a backward pass
  forms; the theorems relate the two ways of forming them: through `A (v - W S)` and through `A v - (A W) S`.
-/
module

public import Mathlib.Data.Matrix.Mul
public import Mathlib.Analysis.SpecialFunctions.Exp

@[expose] public section

noncomputable section

namespace DeltaRule

open Matrix

/-- What one chunk of one head is given. -/
structure Head where
  q : Matrix (Fin 64) (Fin 128) ℝ
  k : Matrix (Fin 64) (Fin 128) ℝ
  v : Matrix (Fin 64) (Fin 128) ℝ
  dO : Matrix (Fin 64) (Fin 128) ℝ
  beta : Fin 64 → ℝ
  g : Fin 64 → ℝ
  A : Matrix (Fin 64) (Fin 64) ℝ
  S : Matrix (Fin 128) (Fin 128) ℝ

namespace Head

variable (x : Head) (dS : Matrix (Fin 128) (Fin 128) ℝ)

/-- The log-decay accumulated up to a row. -/
def G (i : Fin 64) : ℝ := ∑ j, if j ≤ i then x.g j else 0
/-- The decay from row `j` to a later row `i`. -/
def gam : Matrix (Fin 64) (Fin 64) ℝ := fun i j => if j ≤ i then Real.exp (x.G i - x.G j) else 0
/-- The decay from the chunk's start to a row. -/
def E (i : Fin 64) : ℝ := Real.exp (x.G i)
/-- The decay from a row to the chunk's end. -/
def Fd (i : Fin 64) : ℝ := Real.exp (x.G 63 - x.G i)
/-- The decay across the chunk. -/
def cd : ℝ := Real.exp (x.G 63)
/-- Keys, values scaled by the write strength; keys and queries with the decay; keys with the decay to the end. -/
def kb : Matrix (Fin 64) (Fin 128) ℝ := fun i c => x.k i c * x.beta i
def vb : Matrix (Fin 64) (Fin 128) ℝ := fun i c => x.v i c * x.beta i
def W : Matrix (Fin 64) (Fin 128) ℝ := fun i c => x.kb i c * x.E i
def qE : Matrix (Fin 64) (Fin 128) ℝ := fun i c => x.q i c * x.E i
def kt : Matrix (Fin 64) (Fin 128) ℝ := fun i c => x.k i c * x.Fd i
/-- The values the chunk writes. -/
def vn : Matrix (Fin 64) (Fin 128) ℝ := x.A * (x.vb - x.W * x.S)
def KK : Matrix (Fin 64) (Fin 64) ℝ := x.kb * x.kᵀ
def QK : Matrix (Fin 64) (Fin 64) ℝ := x.q * x.kᵀ
/-- The attention inside the chunk. -/
def P : Matrix (Fin 64) (Fin 64) ℝ := fun i j => x.QK i j * x.gam i j
def dqE : Matrix (Fin 64) (Fin 128) ℝ := x.dO * x.Sᵀ
def dP : Matrix (Fin 64) (Fin 64) ℝ := x.dO * x.vnᵀ
def dQK : Matrix (Fin 64) (Fin 64) ℝ := fun i j => x.dP i j * x.gam i j
/-- The gradient of the written values. -/
def dvn : Matrix (Fin 64) (Fin 128) ℝ := x.Pᵀ * x.dO + x.kt * dS
/-- The gradient of the triangular system's right-hand side. -/
def dU : Matrix (Fin 64) (Fin 128) ℝ := x.Aᵀ * x.dvn dS
def dkt : Matrix (Fin 64) (Fin 128) ℝ := x.vn * dSᵀ
def dcd : ℝ := ∑ i, ∑ j, x.S i j * dS i j
/-- The gradient of the state that enters the chunk. -/
def dSn : Matrix (Fin 128) (Fin 128) ℝ := fun i j =>
  x.cd * dS i j + (x.qEᵀ * x.dO) i j - (x.Wᵀ * x.dU dS) i j
/-- The gradient of the triangular system, below the diagonal. -/
def dL : Matrix (Fin 64) (Fin 64) ℝ := fun i j => if j < i then 0 - (x.dU dS * x.vnᵀ) i j else 0
def dKK : Matrix (Fin 64) (Fin 64) ℝ := fun i j => x.dL dS i j * x.gam i j
def dW : Matrix (Fin 64) (Fin 128) ℝ := fun i c => 0 - (x.dU dS * x.Sᵀ) i c
def dq : Matrix (Fin 64) (Fin 128) ℝ := fun i c => (x.dQK * x.k) i c + x.dqE i c * x.E i
def dkb : Matrix (Fin 64) (Fin 128) ℝ := fun i c => (x.dKK dS * x.k) i c + x.dW dS i c * x.E i
def dk : Matrix (Fin 64) (Fin 128) ℝ := fun i c =>
  (x.dQKᵀ * x.q) i c + ((x.dKK dS)ᵀ * x.kb) i c + x.dkb dS i c * x.beta i + x.dkt dS i c * x.Fd i
def dv : Matrix (Fin 64) (Fin 128) ℝ := fun i c => x.dU dS i c * x.beta i
def Z : Matrix (Fin 64) (Fin 64) ℝ := fun i j => x.dQK i j * x.QK i j + x.dKK dS i j * x.KK i j
def dbeta (i : Fin 64) : ℝ := ∑ c, (x.dU dS i c * x.v i c + x.dkb dS i c * x.k i c)
def mE : Matrix (Fin 64) (Fin 128) ℝ := fun i c => (x.dW dS i c * x.kb i c + x.dqE i c * x.q i c) * x.E i
def mF : Matrix (Fin 64) (Fin 128) ℝ := fun i c => x.dkt dS i c * x.k i c * x.Fd i
/-- The gradient of the accumulated log-decay at a row, as one formula. -/
def dG (i : Fin 64) : ℝ :=
  (∑ c, (x.mE dS i c - x.mF dS i c)
    + ∑ j, (x.Z dS i j - if i = j then ∑ a, x.Z dS a j else 0))
    + if i = 63 then (∑ a, ∑ c, x.mF dS a c) + x.dcd dS * x.cd else 0
/-- The gradient of the log-decay: the accumulated one's, summed from a row to the chunk's end. -/
def dg (i : Fin 64) : ℝ := ∑ j, (if i ≤ j then 1 else 0) * x.dG dS j

theorem dq_apply (i : Fin 64) (c : Fin 128) :
    x.dq i c = ∑ j, x.dQK i j * x.k j c + x.dqE i c * x.E i := rfl

theorem dkb_apply (i : Fin 64) (c : Fin 128) :
    x.dkb dS i c = ∑ j, x.dKK dS i j * x.k j c + x.dW dS i c * x.E i := rfl

theorem dk_apply (i : Fin 64) (c : Fin 128) :
    x.dk dS i c = ∑ j, x.dQK j i * x.q j c + ∑ j, x.dKK dS j i * x.kb j c + x.dkb dS i c * x.beta i
      + x.dkt dS i c * x.Fd i := rfl

theorem dSn_apply (a c : Fin 128) :
    x.dSn dS a c = x.cd * dS a c + ∑ i, x.qE i a * x.dO i c - ∑ i, x.W i a * x.dU dS i c := rfl

/-! ## The other way of forming them -/

/-- The values the chunk writes, from the solved values and the solved keys. -/
theorem vn_split : x.A * x.vb - (x.A * x.W) * x.S = x.vn := by
  rw [vn, Matrix.mul_sub, Matrix.mul_assoc]

theorem dS_split_apply (a c : Fin 128) :
    ∑ i, (-(x.dvn dS)) i c * (x.A * x.W) i a = -∑ i, x.W i a * x.dU dS i c := by
  have h : (x.A * x.W)ᵀ * (-(x.dvn dS)) = -(x.Wᵀ * x.dU dS) := by
    rw [Matrix.transpose_mul, dU, Matrix.mul_assoc, Matrix.mul_neg, Matrix.mul_neg]
  have h' := congrFun (congrFun h a) c
  rw [Matrix.mul_apply, Matrix.neg_apply, Matrix.mul_apply] at h'
  simp only [Matrix.transpose_apply] at h'
  rw [← h']
  exact Finset.sum_congr rfl fun i _ => mul_comm _ _

theorem dW_split : x.Aᵀ * (-(x.dvn dS) * x.Sᵀ) = x.dW dS := by
  have h : x.dW dS = -(x.dU dS * x.Sᵀ) := by ext i c; simp [dW]
  rw [h, dU, Matrix.mul_assoc, Matrix.neg_mul, Matrix.mul_neg]

/-- The triangular system's gradient from the solution's two halves. -/
theorem dUvn_split :
    -(x.dU dS) * (x.A * x.vb)ᵀ + -(x.dW dS) * (x.A * x.W)ᵀ = -(x.dU dS * x.vnᵀ) := by
  have h : x.dW dS = -(x.dU dS * x.Sᵀ) := by ext i c; simp [dW]
  rw [h, ← vn_split, Matrix.transpose_sub, Matrix.mul_sub, Matrix.transpose_mul (x.A * x.W), neg_neg,
    Matrix.neg_mul, Matrix.mul_assoc]
  abel

/-- The accumulated log-decay's gradient as the sum of its terms. -/
theorem dG_split (i : Fin 64) :
    ((((((if i = 63 then x.dcd dS * x.cd else 0) + -((∑ c, x.k i c * x.dkt dS i c) * x.Fd i))
      + (if i = 63 then ∑ a, (∑ c, x.k a c * x.dkt dS a c) * x.Fd a else 0))
      + (∑ c, x.q i c * x.dqE i c) * x.E i)
      + (∑ c, x.kb i c * x.dW dS i c) * x.E i)
      + ∑ a, -(x.Z dS a i)) + ∑ j, x.Z dS i j = x.dG dS i := by
  have h1 : ∑ j, (x.Z dS i j - if i = j then ∑ a, x.Z dS a j else 0)
      = ∑ j, x.Z dS i j - ∑ a, x.Z dS a i := by
    rw [Finset.sum_sub_distrib]; simp
  have h2 : ∑ c, (x.mE dS i c - x.mF dS i c)
      = (∑ c, x.kb i c * x.dW dS i c) * x.E i + (∑ c, x.q i c * x.dqE i c) * x.E i
        - (∑ c, x.k i c * x.dkt dS i c) * x.Fd i := by
    rw [Finset.sum_mul, Finset.sum_mul, Finset.sum_mul, ← Finset.sum_add_distrib, ← Finset.sum_sub_distrib]
    exact Finset.sum_congr rfl fun c _ => by simp only [mE, mF]; ring
  have h3 : ∀ a, (∑ c, x.k a c * x.dkt dS a c) * x.Fd a = ∑ c, x.mF dS a c := fun a => by
    rw [Finset.sum_mul]; exact Finset.sum_congr rfl fun c _ => by simp only [mF]; ring
  rw [dG, h1, h2, Finset.sum_neg_distrib, Finset.sum_congr rfl fun a _ => h3 a]
  split <;> ring

/-- `Z` from the product of the decay with the undecayed terms. -/
theorem Z_split (i j : Fin 64) :
    (if j ≤ i then (x.QK i j * x.dP i j + x.KK i j * x.dL dS i j) * x.gam i j else 0) = x.Z dS i j := by
  by_cases h : j ≤ i
  · rw [if_pos h]; simp only [Z, dQK, dKK]; ring
  · rw [if_neg h]; simp [Z, dQK, dKK, gam, h]

/-- The log-decay's gradient as the sum over the later rows. -/
theorem dg_split (i : Fin 64) : (∑ a, if i ≤ a then x.dG dS a else 0) = x.dg dS i :=
  Finset.sum_congr rfl fun a _ => by split <;> simp

/-- The write strength's gradient as its two sums. -/
theorem dbeta_split (i : Fin 64) :
    (∑ c, x.v i c * x.dU dS i c) + ∑ c, x.k i c * x.dkb dS i c = x.dbeta dS i := by
  rw [dbeta, Finset.sum_add_distrib]
  congr 1 <;> exact Finset.sum_congr rfl fun c _ => by ring

end Head

end DeltaRule
-- ==== Proof.Data.lean ====
/-
  The backward pass over the real numbers: the sequence is 64 chunks of 64 rows and four heads of 128 columns, and the
  state's gradient runs from the last chunk to the first.
-/
module

public import proofs.«01_k».proof.Proof.Chunk

@[expose] public section

noncomputable section

namespace DeltaRule

/-- Row `i` of chunk `n` in the sequence. -/
def crow (n i : Fin 64) : Fin 4096 := ⟨n.val * 64 + i.val, by omega⟩
/-- Column `c` of head `h` among the heads' columns. -/
def hcol (h : Fin 4) (c : Fin 128) : Fin 512 := ⟨h.val * 128 + c.val, by omega⟩
/-- The column of a head's write strength, and of its log-decay, among 128. -/
def bcolOf (h : Fin 4) : Fin 128 := ⟨h.val, by omega⟩
def gcolOf (h : Fin 4) : Fin 128 := ⟨4 + h.val, by omega⟩

theorem hcol_head (h : Fin 4) (c : Fin 128) (H : (hcol h c).val / 128 < 4) : (⟨(hcol h c).val / 128, H⟩ : Fin 4) = h :=
  Fin.ext (by show (h.val * 128 + c.val) / 128 = h.val; omega)
theorem hcol_lane (h : Fin 4) (c : Fin 128) (H : (hcol h c).val % 128 < 128) :
    (⟨(hcol h c).val % 128, H⟩ : Fin 128) = c :=
  Fin.ext (by show (h.val * 128 + c.val) % 128 = c.val; omega)
theorem crow_chunk (n i : Fin 64) (H : (crow n i).val / 64 < 64) : (⟨(crow n i).val / 64, H⟩ : Fin 64) = n :=
  Fin.ext (by show (n.val * 64 + i.val) / 64 = n.val; omega)
theorem crow_row (n i : Fin 64) (H : (crow n i).val % 64 < 64) : (⟨(crow n i).val % 64, H⟩ : Fin 64) = i :=
  Fin.ext (by show (n.val * 64 + i.val) % 64 = i.val; omega)

/-- Every row and every column is one of these. -/
theorem exists_crow (r : Fin 4096) : ∃ n i, crow n i = r :=
  ⟨⟨r.val / 64, by omega⟩, ⟨r.val % 64, by omega⟩, Fin.ext (by show r.val / 64 * 64 + r.val % 64 = r.val; omega)⟩
theorem exists_hcol (l : Fin 512) : ∃ h c, hcol h c = l :=
  ⟨⟨l.val / 128, by omega⟩, ⟨l.val % 128, by omega⟩, Fin.ext (by show l.val / 128 * 128 + l.val % 128 = l.val; omega)⟩

/-- What the backward pass is given, for the whole sequence. -/
structure Data where
  q : Fin 4096 → Fin 512 → ℝ
  k : Fin 4096 → Fin 512 → ℝ
  v : Fin 4096 → Fin 512 → ℝ
  bg : Fin 4096 → Fin 128 → ℝ
  A : Fin 64 → Fin 4 → Matrix (Fin 64) (Fin 64) ℝ
  S : Fin 64 → Fin 4 → Matrix (Fin 128) (Fin 128) ℝ
  dO : Fin 4096 → Fin 512 → ℝ

namespace Data

variable (d : Data)

/-- One chunk and one head. -/
def head (n : Fin 64) (h : Fin 4) : Head where
  q i c := d.q (crow n i) (hcol h c)
  k i c := d.k (crow n i) (hcol h c)
  v i c := d.v (crow n i) (hcol h c)
  dO i c := d.dO (crow n i) (hcol h c)
  beta i := d.bg (crow n i) (bcolOf h)
  g i := d.bg (crow n i) (gcolOf h)
  A := d.A n h
  S := d.S n h

/-- The chunk handled after `j` others, from the end. -/
def nth (j : ℕ) : Fin 64 := ⟨63 - j, by omega⟩

/-- The gradient of the state after `j` chunks, from the end: of the state that leaves chunk `63 - j`. -/
def dS : ℕ → Fin 4 → Matrix (Fin 128) (Fin 128) ℝ
  | 0, _ => 0
  | j + 1, h => (d.head (nth j) h).dSn (dS j h)

/-- The gradient of the state that leaves chunk `n`. -/
def dSout (n : Fin 64) : Fin 4 → Matrix (Fin 128) (Fin 128) ℝ := d.dS (63 - n.val)

/-- The four results, by chunk. -/
def dq (n i : Fin 64) (h : Fin 4) (c : Fin 128) : ℝ := (d.head n h).dq i c
def dk (n i : Fin 64) (h : Fin 4) (c : Fin 128) : ℝ := (d.head n h).dk (d.dSout n h) i c
def dv (n i : Fin 64) (h : Fin 4) (c : Fin 128) : ℝ := (d.head n h).dv (d.dSout n h) i c
def dbg (n i : Fin 64) (l : Fin 128) : ℝ :=
  ∑ h : Fin 4, ((if l.val = h.val then (d.head n h).dbeta (d.dSout n h) i else 0)
    + if l.val = 4 + h.val then (d.head n h).dg (d.dSout n h) i else 0)

theorem dSout_nth {j : ℕ} (hj : j < 64) : d.dSout (nth j) = d.dS j := by
  unfold dSout nth
  congr 1
  show 63 - (63 - j) = j
  omega

end Data

end DeltaRule
-- ==== Proof.Indices.lean ====
/-
  Indices of arrays by their coordinates, and sums over consecutive blocks of an axis.
-/
module

public import Idealize.ShloMosaic.Lib.Pointwise

@[expose] public section

noncomputable section

namespace Cert

open Idealize.ShloMosaic

/-- An index of two, three, four coordinates is given by them. -/
theorem eq_ix2 {a b : ℕ} (x : (⟨2, ![a, b]⟩ : Shape).Idx) (i : Fin a) (j : Fin b) (h0 : (x 0).val = i.val)
    (h1 : (x 1).val = j.val) : x = ix2 i j := by
  funext k
  fin_cases k
  · exact Fin.ext h0
  · exact Fin.ext h1
theorem eq_ix3 {a b c : ℕ} (x : (⟨3, ![a, b, c]⟩ : Shape).Idx) (i : Fin a) (j : Fin b) (k : Fin c)
    (h0 : (x 0).val = i.val) (h1 : (x 1).val = j.val) (h2 : (x 2).val = k.val) : x = ix3 i j k := by
  funext t
  fin_cases t
  · exact Fin.ext h0
  · exact Fin.ext h1
  · exact Fin.ext h2
theorem eq_ix4 {a b c d : ℕ} (x : (⟨4, ![a, b, c, d]⟩ : Shape).Idx) (i : Fin a) (j : Fin b) (k : Fin c) (l : Fin d)
    (h0 : (x 0).val = i.val) (h1 : (x 1).val = j.val) (h2 : (x 2).val = k.val) (h3 : (x 3).val = l.val) :
    x = ix4 i j k l := by
  funext t
  fin_cases t
  · exact Fin.ext h0
  · exact Fin.ext h1
  · exact Fin.ext h2
  · exact Fin.ext h3

/-- A block that starts at `p · s`, read at `x`, where `p` is zero. -/
theorem at_zero {p s x : ℕ} (hp : p = 0) : p * s + 1 * x = x := by subst hp; omega

/-- Position `i` of block `b`, of blocks of length `n`. -/
def within {a n : ℕ} (b : Fin a) (i : Fin n) : Fin (a * n) := finProdFinEquiv (b, i)

theorem within_val {a n : ℕ} (b : Fin a) (i : Fin n) : (within b i).val = b.val * n + i.val := by
  rw [within, finProdFinEquiv_apply_val, Nat.mul_comm, Nat.add_comm]

/-- Position `k` of block number `p`. -/
theorem pos_eq {a n p : ℕ} (s : Fin a) (hp : p = s.val) (k : Fin n) : p * n + 1 * k.val = (within s k).val := by
  rw [within_val, hp, one_mul]

/-- Every position is one of a block's. -/
theorem exists_within {a n : ℕ} (k : Fin (a * n)) : ∃ (b : Fin a) (i : Fin n), within b i = k :=
  ⟨(finProdFinEquiv.symm k).1, (finProdFinEquiv.symm k).2, finProdFinEquiv.apply_symm_apply k⟩

/-- A sum over an axis is the sum of its blocks' sums. -/
theorem sum_blocks {M : Type} [AddCommMonoid M] (a n : ℕ) (f : Fin (a * n) → M) :
    ∑ k, f k = ∑ b : Fin a, ∑ i : Fin n, f (within b i) := by
  rw [← Fintype.sum_prod_type', ← Equiv.sum_comp finProdFinEquiv]
  rfl

end Cert

end
-- ==== Proof.KStores.lean ====
/-
  A point's stores read back: at a row and a column, an output block holds the one store that covers it.
-/
module

public import proofs.«01_k».proof.Proof.KPoint
public import proofs.«01_k».proof.Proof.Data
public import proofs.«01_k».proof.Proof.Indices
public import Idealize.ShloMosaic.Lib.Pointwise
public import Idealize.ShloMosaic.Lib.Pipeline.ValueKit.Tiles

@[expose] public section

set_option synthInstance.maxSize 4096

noncomputable section

namespace Cert.KPoint

open Idealize.ShloMosaic Cert.KernelIdeal Cert.KernelIdeal.Gen Cert.KTile DeltaRule

variable {F : FTy → Type} [FloatOps F] [Named F]

/-- Row `i` of a point's chunk `u`. -/
def prow (u : Fin cb) (i : Fin 64) : Fin 256 :=
  ⟨u.val * 64 + i.val, by have : u.val < 4 := u.isLt; omega⟩

/-- How many chunks of the point are handled before chunk `u`. -/
def before (u : Fin cb) : ℕ := 3 - u.val

theorem back_before (u : Fin cb) : Loads.back (before u) = u := by
  have : u.val < 4 := u.isLt
  exact Fin.ext (by show (4 - 1) - (3 - u.val) = u.val; omega)

theorem wide_allAt (P : ℕ → Fin 4 → FVec F S64x128 .f32) (u : Fin cb) (i : Fin 64) (h : Fin 4) (c : Fin 128) :
    ∀ n, n ≤ 16 → View.AllAt (Val := Elt F) (wide P n) (ix2 (prow u i) (hcol h c)) (P (before u) h (ix2 i c))
  | 0, _ => View.allAt_nil _ _
  | n + 1, hn => by
    refine View.allAt_cons_unit _ _ _ _ _ ?_ (wide_allAt P u i h c n (by omega))
    intro x hx
    have hu : u.val < 4 := u.isLt
    have h0 : u.val * 64 + i.val = 64 * ((4 - 1) - n / 4) + (x 0).val := hx 0
    have h1 : h.val * 128 + c.val = 128 * (n % 4) + (x 1).val := hx 1
    have b0 : (x 0).val < 64 := (x 0).isLt
    have b1 : (x 1).val < 128 := (x 1).isLt
    have e0 : n / 4 = before u := by show n / 4 = 3 - u.val; omega
    have e1 : (⟨n % 4, Nat.mod_lt _ (by decide)⟩ : Fin 4) = h := Fin.ext (by show n % 4 = h.val; omega)
    have e2 : x = ix2 i c := eq_ix2 x i c (by omega) (by omega)
    show P (n / 4) ⟨n % 4, _⟩ x = _
    rw [e0, e1, e2]

/-- The block of 512 columns at a row and a column. -/
theorem canon_wide (P : ℕ → Fin 4 → FVec F S64x128 .f32) (u : Fin cb) (i : Fin 64) (h : Fin 4) (c : Fin 128) :
    View.canon (Val := Elt F) (wide P (4 * cb)) (ix2 (prow u i) (hcol h c)) = P (before u) h (ix2 i c) :=
  View.canon_eq_of_allAt _ _ _ (View.cover_of_tiledL (s := S256x512) (wide P (4 * cb)) S64x128.size (by sl_kernel_rfl) _)
    (wide_allAt P u i h c 16 (Nat.le_refl _))

theorem narrow_allAt (P : ℕ → FVec F S64x128 .f32) (u : Fin cb) (i : Fin 64) (c : Fin 128) :
    ∀ n, n ≤ 4 → View.AllAt (Val := Elt F) (narrow P n) (ix2 (prow u i) c) (P (before u) (ix2 i c))
  | 0, _ => View.allAt_nil _ _
  | n + 1, hn => by
    refine View.allAt_cons_unit _ _ _ _ _ ?_ (narrow_allAt P u i c n (by omega))
    intro x hx
    have hu : u.val < 4 := u.isLt
    have h0 : u.val * 64 + i.val = 64 * ((4 - 1) - n) + (x 0).val := hx 0
    have h1 : c.val = 0 + (x 1).val := hx 1
    have b0 : (x 0).val < 64 := (x 0).isLt
    have e0 : n = before u := by show n = 3 - u.val; omega
    have e2 : x = ix2 i c := eq_ix2 x i c (by omega) (by omega)
    show P n x = _
    rw [e0, e2]

/-- The block of 128 columns at a row and a column. -/
theorem canon_narrow (P : ℕ → FVec F S64x128 .f32) (u : Fin cb) (i : Fin 64) (c : Fin 128) :
    View.canon (Val := Elt F) (narrow P cb) (ix2 (prow u i) c) = P (before u) (ix2 i c) :=
  View.canon_eq_of_allAt _ _ _ (View.cover_of_tiledL (s := S256x128) (narrow P cb) S64x128.size (by sl_kernel_rfl) _)
    (narrow_allAt P u i c 4 (Nat.le_refl _))

theorem cast_up (P : FVec F S128x128 .f32) (x : S1x128x128.Idx) (a c : Fin 128) (h1 : (x 1).val = a.val)
    (h2 : (x 2).val = c.val) : shapeCast S1x128x128 P shapeCasts_S128x128_S1x128x128 x = P (ix2 a c) := by
  have e : x = ix3 0 a c := eq_ix3 x 0 a c (by have : (x 0).val < 1 := (x 0).isLt; omega) h1 h2
  rw [e]
  pointwise []

theorem carry_allAt (P : Fin 4 → FVec F S128x128 .f32) (h : Fin 4) (a c : Fin 128) :
    View.AllAt (Val := Elt F) (carry P) (ix3 h a c) (P h (ix2 a c)) := by
  have key : ∀ k : Fin 4, View.TileAt (Val := Elt F) (S := S4x128x128) (e := .f32) (ix3 h a c) ![k.val, 0, 0]
      S1x128x128.size (shapeCast S1x128x128 (P k) shapeCasts_S128x128_S1x128x128) (P h (ix2 a c)) := by
    intro k x hx
    have h0 : h.val = k.val + (x 0).val := hx 0
    have h1 : a.val = 0 + (x 1).val := hx 1
    have h2 : c.val = 0 + (x 2).val := hx 2
    have b0 : (x 0).val < 1 := (x 0).isLt
    have e : k = h := Fin.ext (by omega)
    rw [e]
    exact cast_up (P h) x a c (by omega) (by omega)
  unfold carry
  exact View.allAt_cons_unit _ _ _ _ _ (key 3) (View.allAt_cons_unit _ _ _ _ _ (key 2)
    (View.allAt_cons_unit _ _ _ _ _ (key 1) (View.allAt_cons_unit _ _ _ _ _ (key 0) (View.allAt_nil _ _))))

theorem carry_cover (P : Fin 4 → FVec F S128x128 .f32) (y : S4x128x128.Idx) : ∃ p ∈ carry P, y ∈ p.1.set :=
  View.cover_of_tiledL (s := S4x128x128) (carry P) S1x128x128.size (by sl_kernel_rfl) y

/-- The state gradients' block at a head, a row and a column, whatever was stored before. -/
theorem canon_carry (P : Fin 4 → FVec F S128x128 .f32) (L : List (View.Piece (Elt F) S4x128x128 .f32)) (h : Fin 4)
    (a c : Fin 128) : View.canon (Val := Elt F) (carry P ++ L) (ix3 h a c) = P h (ix2 a c) := by
  have app : ∀ (M : List (View.Piece (Elt F) S4x128x128 .f32)) (y : S4x128x128.Idx), (∃ p ∈ M, y ∈ p.1.set) →
      View.canon (Val := Elt F) (M ++ L) y = View.canon M y := by
    intro M y
    induction M with
    | nil => rintro ⟨p, hp, _⟩; exact absurd hp List.not_mem_nil
    | cons p M ih =>
      intro hc
      by_cases hm : y ∈ p.1.set
      · obtain ⟨x, rfl⟩ := p.1.exists_idx_of_mem hm
        rw [List.cons_append, show p.1.idx x = p.1.emb x from rfl, View.canon_cons_emb, View.canon_cons_emb]
      · rw [List.cons_append, View.canon_cons_of_not_mem _ _ hm, View.canon_cons_of_not_mem _ _ hm]
        refine ih ?_
        obtain ⟨q, hq, hy⟩ := hc
        rcases List.mem_cons.mp hq with rfl | hq'
        · exact absurd hy hm
        · exact ⟨q, hq', hy⟩
  rw [app _ _ (carry_cover P _)]
  exact View.canon_eq_of_allAt _ _ _ (carry_cover P _) (carry_allAt P h a c)

end Cert.KPoint

end
-- ==== Proof.Tools.lean ====
/-
  Small facts about real numbers inside the extended reals, and about conditions written as one-bit words, that the
  readings of both programs use.
-/
module

public import proofs.«01_k».proof.Proof.Chunk
public import Idealize.ShloMosaic.Lib.Pointwise

@[expose] public section

noncomputable section

namespace DeltaRule

open Idealize.ShloMosaic

/-- A finite sum of reals, taken in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A selection by a decided condition. -/
theorem sel_ite {α : Type} (p : Prop) [Decidable p] (a b : α) :
    Scalar.select (if p then 1#1 else 0#1) a b = if p then a else b := by split <;> rfl

/-- A real number or zero. -/
theorem ite_coe (p : Prop) [Decidable p] (a : ℝ) :
    (if p then (a : EReal) else 0) = ((if p then a else 0 : ℝ) : EReal) := by split <;> simp

/-- Zero or a real number. -/
theorem ite_coe' (p : Prop) [Decidable p] (a b : ℝ) :
    (if p then (a : EReal) else (b : EReal)) = ((if p then a else b : ℝ) : EReal) := by split <;> rfl

/-- `row ≥ column` on the chunk's row and column numbers. -/
theorem ge_word (i c : Fin 64) :
    IntOp.cmpi .sge (BitVec.ofNat 32 i.val) (BitVec.ofNat 32 c.val) = if c ≤ i then 1#1 else 0#1 := by
  revert i c; decide +kernel

/-- `row > column`. -/
theorem gt_word (i c : Fin 64) :
    IntOp.cmpi .sgt (BitVec.ofNat 32 i.val) (BitVec.ofNat 32 c.val) = if c < i then 1#1 else 0#1 := by
  revert i c; decide +kernel

/-- `row = column`. -/
theorem eq_word (i c : Fin 64) :
    IntOp.cmpi .eq (BitVec.ofNat 32 i.val) (BitVec.ofNat 32 c.val) = if i = c then 1#1 else 0#1 := by
  revert i c; decide +kernel

/-- `row ≥ column`, the row number plus zero. -/
theorem ge_word_add (i c : Fin 64) :
    IntOp.cmpi .sge (IntOp.addi (BitVec.ofNat 32 i.val) 0#32) (BitVec.ofNat 32 c.val) = if c ≤ i then 1#1 else 0#1 := by
  revert i c; decide +kernel

/-- `row − 1 ≥ column`. -/
theorem gt_word_add (i c : Fin 64) :
    IntOp.cmpi .sge (IntOp.addi (BitVec.ofNat 32 i.val) 4294967295#32) (BitVec.ofNat 32 c.val)
      = if c < i then 1#1 else 0#1 := by
  revert i c; decide +kernel

/-- The word of minus infinity. -/
theorem ofBits_bot : Ideal.ofBits .f32 0xFF800000#32 = ⊥ := by simp [Ideal.ofBits, Ideal.ieee]

/-- A decay under its mask: the exponential of a difference, or of minus infinity, which is zero. -/
theorem exp_mask (p : Prop) [Decidable p] (a : ℝ) :
    Ideal.exp (if p then (a : EReal) else ⊥) = ((if p then Real.exp a else 0 : ℝ) : EReal) := by split <;> simp

/-- The real constant `0`, `1`. -/
theorem coe_zero' : (0 : EReal) = ((0 : ℝ) : EReal) := rfl

end DeltaRule
-- ==== Proof.KReads.lean ====
/-
  What the kernel forms for one chunk and one head, over the extended reals: where the tile's entries are real
  numbers, every array of `KTile.lean` holds the real numbers that `Chunk.lean` defines.
-/
module

public import proofs.«01_k».proof.Proof.Tools
public import proofs.«01_k».proof.Proof.KTile

@[expose] public section

noncomputable section

namespace Cert.KTile

open Idealize.ShloMosaic Cert.KernelIdeal Cert.KernelIdeal.Gen DeltaRule Matrix

/-- The tile's entries are the head's real numbers; its decay column and row are the accumulated log-decays. -/
structure Tile.Reads (t : Tile Ideal) (x : Head) : Prop where
  q : ∀ i c, t.q (ix2 i c) = ((x.q i c : ℝ) : EReal)
  k : ∀ i c, t.k (ix2 i c) = ((x.k i c : ℝ) : EReal)
  v : ∀ i c, t.v (ix2 i c) = ((x.v i c : ℝ) : EReal)
  dO : ∀ i c, t.dO (ix2 i c) = ((x.dO i c : ℝ) : EReal)
  bcol : ∀ i, t.bcol (ix2 i 0) = ((x.beta i : ℝ) : EReal)
  gcol : ∀ i, t.gcol (ix2 i 0) = ((x.G i : ℝ) : EReal)
  grow : ∀ i, t.grow (ix2 0 i) = ((x.G i : ℝ) : EReal)
  A : ∀ i c, t.A (ix2 i c) = ((x.A i c : ℝ) : EReal)
  At : ∀ i c, t.At (ix2 i c) = ((x.A c i : ℝ) : EReal)
  S : ∀ i c, t.S (ix2 i c) = ((x.S i c : ℝ) : EReal)

/-- The state gradient's entries are real numbers. -/
def Holds (d : FVec Ideal S128x128 .f32) (D : Matrix (Fin 128) (Fin 128) ℝ) : Prop :=
  ∀ a c, d (ix2 a c) = ((D a c : ℝ) : EReal)

/-- The mask's named constant is minus infinity. -/
theorem mask_bot : (κ "mask").getD (Ideal.ofBits FTy.f32 4048155338#32) = ⊥ := rfl

/-- Column `c` is row 63. -/
theorem last_word (i : Fin 64) : IntOp.cmpi .eq (BitVec.ofNat 32 i.val) 63#32 = if i = 63 then 1#1 else 0#1 := by
  revert i; decide +kernel

namespace Tile

variable {t : Tile Ideal} {x : Head} (r : t.Reads x)
include r

theorem gam_at (i c : Fin 64) : t.gam (ix2 i c) = ((x.gam i c : ℝ) : EReal) := by
  pointwise [Tile.gam, Named.named]
  rw [mask_bot, ge_word, sel_ite, r.gcol, r.grow, ← EReal.coe_sub, exp_mask, Head.gam]

theorem cd_at : t.cd (ix2 0 0) = ((x.cd : ℝ) : EReal) := by
  pointwise [Tile.cd, Tile.glast]
  rw [r.grow, Ideal.exp_coe, Head.cd]

theorem E_at (i : Fin 64) (c : Fin 128) : t.E (ix2 i c) = ((x.E i : ℝ) : EReal) := by
  pointwise [Tile.E]
  rw [r.gcol, Ideal.exp_coe, Head.E]

theorem Fd_at (i : Fin 64) (c : Fin 128) : t.Fd (ix2 i c) = ((x.Fd i : ℝ) : EReal) := by
  pointwise [Tile.Fd, Tile.glast]
  rw [r.gcol, r.grow, ← EReal.coe_sub, Ideal.exp_coe, Head.Fd]

theorem beta_at (i : Fin 64) (c : Fin 128) : t.beta (ix2 i c) = ((x.beta i : ℝ) : EReal) := by
  pointwise [Tile.beta]
  rw [r.bcol]

theorem kb_at (i : Fin 64) (c : Fin 128) : t.kb (ix2 i c) = ((x.kb i c : ℝ) : EReal) := by
  pointwise [Tile.kb]
  rw [r.k, beta_at r, Head.kb, EReal.coe_mul]

theorem vb_at (i : Fin 64) (c : Fin 128) : t.vb (ix2 i c) = ((x.vb i c : ℝ) : EReal) := by
  pointwise [Tile.vb]
  rw [r.v, beta_at r, Head.vb, EReal.coe_mul]

theorem W_at (i : Fin 64) (c : Fin 128) : t.W (ix2 i c) = ((x.W i c : ℝ) : EReal) := by
  pointwise [Tile.W]
  rw [kb_at r, E_at r, Head.W, EReal.coe_mul]

theorem qE_at (i : Fin 64) (c : Fin 128) : t.qE (ix2 i c) = ((x.qE i c : ℝ) : EReal) := by
  pointwise [Tile.qE]
  rw [r.q, E_at r, Head.qE, EReal.coe_mul]

theorem kt_at (i : Fin 64) (c : Fin 128) : t.kt (ix2 i c) = ((x.kt i c : ℝ) : EReal) := by
  pointwise [Tile.kt]
  rw [r.k, Fd_at r, Head.kt, EReal.coe_mul]

theorem vn_at (i : Fin 64) (c : Fin 128) : t.vn (ix2 i c) = ((x.vn i c : ℝ) : EReal) := by
  pointwise [Tile.vn]
  simp only [r.A, vb_at r, W_at r, r.S, ← EReal.coe_mul, sum_coe, ← EReal.coe_sub, sub_self, zero_mul,
    Finset.sum_const_zero, EReal.coe_zero, add_zero]
  rw [Head.vn, Matrix.mul_apply]
  simp only [Matrix.sub_apply, Matrix.mul_apply]

theorem KK_at (i c : Fin 64) : t.KK (ix2 i c) = ((x.KK i c : ℝ) : EReal) := by
  pointwise [Tile.KK]
  simp only [kb_at r, r.k, Head.KK, Matrix.mul_apply, Matrix.transpose_apply, ← EReal.coe_mul, sum_coe]

theorem QK_at (i c : Fin 64) : t.QK (ix2 i c) = ((x.QK i c : ℝ) : EReal) := by
  pointwise [Tile.QK]
  simp only [r.q, r.k, Head.QK, Matrix.mul_apply, Matrix.transpose_apply, ← EReal.coe_mul, sum_coe]

theorem dqE_at (i : Fin 64) (c : Fin 128) : t.dqE (ix2 i c) = ((x.dqE i c : ℝ) : EReal) := by
  pointwise [Tile.dqE]
  simp only [r.dO, r.S, Head.dqE, Matrix.mul_apply, Matrix.transpose_apply, ← EReal.coe_mul, sum_coe]

theorem dQK_at (i c : Fin 64) : t.dQK (ix2 i c) = ((x.dQK i c : ℝ) : EReal) := by
  pointwise [Tile.dQK]
  simp only [r.dO, vn_at r, gam_at r, ← EReal.coe_mul, sum_coe, ge_word, sel_ite, ite_coe]
  simp only [Head.dQK, Head.dP, Head.gam, Matrix.mul_apply, Matrix.transpose_apply]
  by_cases h : c ≤ i <;> simp [h]

theorem dq_at (i : Fin 64) (c : Fin 128) : t.dq (ix2 i c) = ((x.dq i c : ℝ) : EReal) := by
  pointwise [Tile.dq]
  simp only [dQK_at r, r.k, dqE_at r, E_at r, ← EReal.coe_mul, sum_coe, ← EReal.coe_add, Head.dq_apply]

variable {d : FVec Ideal S128x128 .f32} {D : Matrix (Fin 128) (Fin 128) ℝ} (hd : Holds d D)
include hd

theorem dvn_at (i : Fin 64) (c : Fin 128) : t.dvn d (ix2 i c) = ((x.dvn D i c : ℝ) : EReal) := by
  pointwise [Tile.dvn]
  simp only [QK_at r, gam_at r, r.dO, kt_at r, hd _ _, ← EReal.coe_mul, sum_coe, ← EReal.coe_add]
  simp only [Head.dvn, Head.P, Matrix.add_apply, Matrix.mul_apply, Matrix.transpose_apply]

theorem dU_at (i : Fin 64) (c : Fin 128) : t.dU d (ix2 i c) = ((x.dU D i c : ℝ) : EReal) := by
  pointwise [Tile.dU]
  simp only [r.At, dvn_at r hd, ← EReal.coe_mul, sum_coe, ← EReal.coe_sub, sub_self, zero_mul,
    Finset.sum_const_zero, EReal.coe_zero, add_zero]
  simp only [Head.dU, Matrix.mul_apply, Matrix.transpose_apply]

theorem dkt_at (i : Fin 64) (c : Fin 128) : t.dkt d (ix2 i c) = ((x.dkt D i c : ℝ) : EReal) := by
  pointwise [Tile.dkt]
  simp only [vn_at r, hd _ _, Head.dkt, Matrix.mul_apply, Matrix.transpose_apply, ← EReal.coe_mul, sum_coe]

theorem dcd_at : t.dcd d = ((x.dcd D : ℝ) : EReal) := by
  pointwise [Tile.dcd]
  simp only [r.S, hd _ _, Head.dcd, ← EReal.coe_mul, sum_coe]

theorem dSn_at (a c : Fin 128) : t.dSn d (ix2 a c) = ((x.dSn D a c : ℝ) : EReal) := by
  pointwise [Tile.dSn]
  simp only [cd_at r, hd _ _, qE_at r, r.dO, W_at r, dU_at r hd, ← EReal.coe_mul, sum_coe, ← EReal.coe_sub,
    ← EReal.coe_add, Head.dSn_apply]

theorem dKK_at (i c : Fin 64) : t.dKK d (ix2 i c) = ((x.dKK D i c : ℝ) : EReal) := by
  pointwise [Tile.dKK]
  simp only [dU_at r hd, vn_at r, gam_at r, ← EReal.coe_mul, sum_coe, gt_word, sel_ite, coe_zero', ← EReal.coe_sub,
    ite_coe']
  simp only [Head.dKK, Head.dL, Matrix.mul_apply, Matrix.transpose_apply]
  split <;> simp

theorem dW_at (i : Fin 64) (c : Fin 128) : t.dW d (ix2 i c) = ((x.dW D i c : ℝ) : EReal) := by
  pointwise [Tile.dW]
  simp only [dU_at r hd, r.S, ← EReal.coe_mul, sum_coe, coe_zero', ← EReal.coe_sub]
  simp only [Head.dW, Matrix.mul_apply, Matrix.transpose_apply]

theorem dkb_at (i : Fin 64) (c : Fin 128) : t.dkb d (ix2 i c) = ((x.dkb D i c : ℝ) : EReal) := by
  pointwise [Tile.dkb]
  simp only [dKK_at r hd, r.k, dW_at r hd, E_at r, ← EReal.coe_mul, sum_coe, ← EReal.coe_add, Head.dkb_apply]

theorem dk_at (i : Fin 64) (c : Fin 128) : t.dk d (ix2 i c) = ((x.dk D i c : ℝ) : EReal) := by
  pointwise [Tile.dk]
  simp only [dQK_at r, r.q, dKK_at r hd, kb_at r, dkb_at r hd, beta_at r, dkt_at r hd, Fd_at r, ← EReal.coe_mul,
    sum_coe, ← EReal.coe_add, Head.dk_apply]

theorem dv_at (i : Fin 64) (c : Fin 128) : t.dv d (ix2 i c) = ((x.dv D i c : ℝ) : EReal) := by
  pointwise [Tile.dv]
  rw [dU_at r hd, beta_at r, Head.dv, EReal.coe_mul]

theorem Z_at (i c : Fin 64) : t.Z d (ix2 i c) = ((x.Z D i c : ℝ) : EReal) := by
  pointwise [Tile.Z]
  simp only [dQK_at r, QK_at r, dKK_at r hd, KK_at r, ← EReal.coe_mul, ← EReal.coe_add, Head.Z]

theorem dbeta_at (i : Fin 64) : t.dbeta d (ix2 i 0) = ((x.dbeta D i : ℝ) : EReal) := by
  pointwise [Tile.dbeta]
  simp only [dU_at r hd, r.v, dkb_at r hd, r.k, ← EReal.coe_mul, ← EReal.coe_add, sum_coe, Head.dbeta]

theorem mE_at (i : Fin 64) (c : Fin 128) : t.mE d (ix2 i c) = ((x.mE D i c : ℝ) : EReal) := by
  pointwise [Tile.mE]
  simp only [dW_at r hd, kb_at r, dqE_at r, r.q, E_at r, ← EReal.coe_mul, ← EReal.coe_add, Head.mE]

theorem mF_at (i : Fin 64) (c : Fin 128) : t.mF d (ix2 i c) = ((x.mF D i c : ℝ) : EReal) := by
  pointwise [Tile.mF]
  simp only [dkt_at r hd, r.k, Fd_at r, ← EReal.coe_mul, Head.mF]

theorem mFall_at : t.mFall d = ((∑ a, ∑ c, x.mF D a c : ℝ) : EReal) := by
  pointwise [Tile.mFall]
  simp only [mF_at r hd, sum_coe]

theorem zdiag_at (i c : Fin 64) : t.zdiag d (ix2 i c) = ((if i = c then ∑ a, x.Z D a c else 0 : ℝ) : EReal) := by
  pointwise [Tile.zdiag]
  simp only [Z_at r hd, sum_coe, eq_word, sel_ite, ite_coe]

theorem last_at (i : Fin 64) :
    t.last d (ix2 i 0) = ((if i = 63 then (∑ a, ∑ c, x.mF D a c) + x.dcd D * x.cd else 0 : ℝ) : EReal) := by
  pointwise [Tile.last]
  rw [mFall_at r hd, dcd_at r hd, cd_at r, ← EReal.coe_mul, ← EReal.coe_add, last_word, sel_ite, ite_coe]

theorem dG_at (i : Fin 64) : t.dG d (ix2 i 0) = ((x.dG D i : ℝ) : EReal) := by
  pointwise [Tile.dG]
  simp only [mE_at r hd, mF_at r hd, Z_at r hd, zdiag_at r hd, last_at r hd, ← EReal.coe_sub, sum_coe,
    ← EReal.coe_add, Head.dG]

end Tile

/-! ## The four heads' columns in one array -/

theorem put_at (w : BitVec 32) (c : FVec Ideal S64x1 .f32) (i : Fin 64) (l : Fin 128) :
    put w c (ix2 i l) = if BitVec.ofNat 32 l.val = w then c (ix2 i 0) else 0 := by
  pointwise
  by_cases h : BitVec.ofNat 32 l.val = w
  · simp [IntOp.cmpi, h, Scalar.select]
  · have hb : (BitVec.ofNat 32 l.val == w) = false := by simpa using h
    simp [IntOp.cmpi, h, hb, Scalar.select]

theorem put4_at (w : Fin 4 → BitVec 32) (c : Fin 4 → FVec Ideal S64x1 .f32) (i : Fin 64) (l : Fin 128) :
    put4 w c (ix2 i l) = ∑ h, if BitVec.ofNat 32 l.val = w h then c h (ix2 i 0) else 0 := by
  rw [Fin.sum_univ_four, ← put_at, ← put_at, ← put_at, ← put_at]
  pointwise [put4]

theorem rev_at (i j : Fin 64) : rev (F := Ideal) (ix2 i j) = ((if i ≤ j then 1 else 0 : ℝ) : EReal) := by
  pointwise [rev]
  rw [ge_word]
  by_cases h : i ≤ j
  · simp only [h, if_true]
    show (((1#32 : BitVec 32).toInt : ℝ) : EReal) = _
    norm_num
  · simp only [h, if_false]
    show (((0#32 : BitVec 32).toInt : ℝ) : EReal) = _
    norm_num

/-- The array of the small gradients: lane `h` is head `h`'s write strength, lane `4 + h` its log-decay, the other
    lanes are zero. -/
theorem dbg_at {t : Fin 4 → Tile Ideal} {x : Fin 4 → Head} (r : ∀ h, (t h).Reads (x h))
    {d : Fin 4 → FVec Ideal S128x128 .f32} {D : Fin 4 → Matrix (Fin 128) (Fin 128) ℝ} (hd : ∀ h, Holds (d h) (D h))
    (i : Fin 64) (l : Fin 128) :
    dbg t d (ix2 i l) = ((∑ h : Fin 4, ((if l.val = h.val then (x h).dbeta (D h) i else 0)
      + if l.val = 4 + h.val then (x h).dg (D h) i else 0) : ℝ) : EReal) := by
  have hw : ∀ w : ℕ, w < 128 → (BitVec.ofNat 32 l.val = BitVec.ofNat 32 w ↔ l.val = w) := fun w hw => by
    have := l.isLt
    constructor
    · intro h
      have := congrArg BitVec.toNat h
      simp only [BitVec.toNat_ofNat] at this
      omega
    · intro h; rw [h]
  have h1 : ∀ h : Fin 4, (BitVec.ofNat 32 l.val = (![0#32, 1#32, 2#32, 3#32] : Fin 4 → BitVec 32) h) ↔ l.val = h.val := by
    intro h; fin_cases h
    · exact hw 0 (by omega)
    · exact hw 1 (by omega)
    · exact hw 2 (by omega)
    · exact hw 3 (by omega)
  have h2 : ∀ h : Fin 4, (BitVec.ofNat 32 l.val = (![4#32, 5#32, 6#32, 7#32] : Fin 4 → BitVec 32) h) ↔ l.val = 4 + h.val := by
    intro h; fin_cases h
    · exact hw 4 (by omega)
    · exact hw 5 (by omega)
    · exact hw 6 (by omega)
    · exact hw 7 (by omega)
  pointwise [dbg]
  simp only [put4_at, h1, h2, rev_at, Tile.dbeta_at (r _) (hd _), Tile.dG_at (r _) (hd _), ite_coe, sum_coe, ← EReal.coe_mul,
    ← EReal.coe_add]
  congr 1
  rw [Finset.sum_add_distrib]
  congr 1
  simp only [Finset.mul_sum]
  rw [Finset.sum_comm]
  refine Finset.sum_congr rfl fun h _ => ?_
  split
  · rfl
  · simp

end Cert.KTile

end
-- ==== Proof.KLoads.lean ====
/-
  What a point loads, at an index: each load cuts one chunk and one head out of a block. If the blocks hold the rows of
  the point's chunks, the loads of a chunk and head are that head's arrays, and the state gradients that the point
  passes on are the real ones.
-/
module

public import proofs.«01_k».proof.Proof.KStores
public import proofs.«01_k».proof.Proof.KReads
public import Idealize.ShloMosaic.Lib.WholeRead

@[expose] public section

set_option synthInstance.maxSize 4096

noncomputable section

namespace Cert.KPoint

open Idealize.ShloMosaic Cert.KernelIdeal Cert.KernelIdeal.Gen Cert.KTile DeltaRule

/-! ## The slices of a load -/

namespace Loads

variable {F : FTy → Type} [FloatOps F] [Named F] (L : Loads F) (u : Fin cb) (h : Fin 4) (i : Fin 64)

theorem bcol_at : L.bcol u h (ix2 i 0) = L.bg u (ix2 i (bcolOf h)) := by
  unfold bcol
  fin_cases h <;> exact congrArg (L.bg u) (eq_ix2 _ _ _ (Nat.zero_add _) rfl)

theorem gcol_at : L.gcol u h (ix2 i 0) = L.gc u (ix2 i (gcolOf h)) := by
  have e : shapeCast S64x128 (L.gc u) shapeCasts_S64x128_S64x128 = L.gc u := shapeCast_self _ _
  unfold gcol
  rw [e]
  fin_cases h <;> exact congrArg (L.gc u) (eq_ix2 _ _ _ (Nat.zero_add _) rfl)

theorem grow_at : L.grow u h (ix2 0 i) = L.gct u (ix3 0 ⟨4 + h.val, by omega⟩ i) := by
  unfold grow
  fin_cases h <;> (simp only [Matrix.cons_val]; pointwise [])

end Loads

/-- A square cut out of four axes, as a matrix. -/
theorem castA {F : FTy → Type} [FloatOps F] (x : FVec F S1x1x64x64 .f32) (i c : Fin 64) :
    shapeCast S64x64 x shapeCasts_S1x1x64x64_S64x64 (ix2 i c) = x (ix4 0 0 i c) := by
  pointwise []
theorem castS {F : FTy → Type} [FloatOps F] (x : FVec F S1x1x128x128 .f32) (i c : Fin 128) :
    shapeCast S128x128 x shapeCasts_S1x1x128x128_S128x128 (ix2 i c) = x (ix4 0 0 i c) := by
  pointwise []

/-! ## The places that the loads read -/

theorem idx_W (u : Fin cb) (h : Fin 4) (i : Fin 64) (c : Fin 128) :
    (Rect.unit (s := S256x512) ![64 * u.val, 128 * h.val] S64x128.size (inb_W' u h)).toLoadRect.idx (ix2 i c)
      = ix2 (prow u i) (hcol h c) :=
  eq_ix2 _ _ _ (by show 64 * u.val + 1 * i.val = u.val * 64 + i.val; omega)
    (by show 128 * h.val + 1 * c.val = h.val * 128 + c.val; omega)
theorem idx_N (u : Fin cb) (i : Fin 64) (c : Fin 128) :
    (Rect.unit (s := S256x128) ![64 * u.val, 0] S64x128.size (inb_N' u)).toLoadRect.idx (ix2 i c) = ix2 (prow u i) c :=
  eq_ix2 _ _ _ (by show 64 * u.val + 1 * i.val = u.val * 64 + i.val; omega) (by show 0 + 1 * c.val = c.val; omega)
theorem idx_G (u : Fin cb) (l : Fin 8) (i : Fin 64) :
    (Rect.unit (s := S4x8x64) ![u.val, 0, 0] S1x8x64.size (inb_G u)).toLoadRect.idx (ix3 0 l i) = ix3 u l i :=
  eq_ix3 _ _ _ _ (by show u.val + 1 * 0 = u.val; omega) (by show 0 + 1 * l.val = l.val; omega)
    (by show 0 + 1 * i.val = i.val; omega)
theorem idx_A (u : Fin cb) (h : Fin 4) (i c : Fin 64) :
    (Rect.unit (s := S4x4x64x64) ![u.val, h.val, 0, 0] S1x1x64x64.size (inb_A u h)).toLoadRect.idx (ix4 0 0 i c)
      = ix4 u h i c :=
  eq_ix4 _ _ _ _ _ (by show u.val + 1 * 0 = u.val; omega) (by show h.val + 1 * 0 = h.val; omega)
    (by show 0 + 1 * i.val = i.val; omega) (by show 0 + 1 * c.val = c.val; omega)
theorem idx_S (u : Fin cb) (h : Fin 4) (i c : Fin 128) :
    (Rect.unit (s := S4x4x128x128) ![u.val, h.val, 0, 0] S1x1x128x128.size (inb_S u h)).toLoadRect.idx (ix4 0 0 i c)
      = ix4 u h i c :=
  eq_ix4 _ _ _ _ _ (by show u.val + 1 * 0 = u.val; omega) (by show h.val + 1 * 0 = h.val; omega)
    (by show 0 + 1 * i.val = i.val; omega) (by show 0 + 1 * c.val = c.val; omega)
theorem idx_C (h : Fin 4) (i c : Fin 128) :
    (Rect.unit (s := S4x128x128) ![h.val, 0, 0] S1x128x128.size (inb_C h.val h.isLt)).toLoadRect.idx (ix3 0 i c)
      = ix3 h i c :=
  eq_ix3 _ _ _ _ (by show h.val + 1 * 0 = h.val; omega) (by show 0 + 1 * i.val = i.val; omega)
    (by show 0 + 1 * c.val = c.val; omega)

/-! ## The blocks of a point -/

/-- The blocks hold the rows of the chunks `n u`. -/
structure Block (d : Data) (n : Fin cb → Fin 64) (x0 x1 x2 : Vec Ideal S256x512 .f32) (x3 x4 : Vec Ideal S256x128 .f32)
    (x5 : Vec Ideal S4x8x64 .f32) (x6 x7 : Vec Ideal S4x4x64x64 .f32) (x8 : Vec Ideal S4x4x128x128 .f32)
    (x9 : Vec Ideal S256x512 .f32) : Prop where
  q : ∀ u i l, x0 (ix2 (prow u i) l) = ((d.q (crow (n u) i) l : ℝ) : EReal)
  k : ∀ u i l, x1 (ix2 (prow u i) l) = ((d.k (crow (n u) i) l : ℝ) : EReal)
  v : ∀ u i l, x2 (ix2 (prow u i) l) = ((d.v (crow (n u) i) l : ℝ) : EReal)
  bg : ∀ u i l, x3 (ix2 (prow u i) l) = ((d.bg (crow (n u) i) l : ℝ) : EReal)
  gc : ∀ u i h, x4 (ix2 (prow u i) (gcolOf h)) = (((d.head (n u) h).G i : ℝ) : EReal)
  gct : ∀ u (h : Fin 4) i, x5 (ix3 u ⟨4 + h.val, by omega⟩ i) = (((d.head (n u) h).G i : ℝ) : EReal)
  A : ∀ u h i c, x6 (ix4 u h i c) = ((d.A (n u) h i c : ℝ) : EReal)
  At : ∀ u h i c, x7 (ix4 u h i c) = ((d.A (n u) h c i : ℝ) : EReal)
  S : ∀ u h i c, x8 (ix4 u h i c) = ((d.S (n u) h i c : ℝ) : EReal)
  dO : ∀ u i l, x9 (ix2 (prow u i) l) = ((d.dO (crow (n u) i) l : ℝ) : EReal)

section Reads

variable {d : Data} {n : Fin cb → Fin 64}
  {arg1 : Memref sig .tc .vmem S256x512 .f32} (harg1 : arg1.IsWhole)
  {arg2 : Memref sig .tc .vmem S256x512 .f32} (harg2 : arg2.IsWhole)
  {arg3 : Memref sig .tc .vmem S256x512 .f32} (harg3 : arg3.IsWhole)
  {arg4 : Memref sig .tc .vmem S256x128 .f32} (harg4 : arg4.IsWhole)
  {arg5 : Memref sig .tc .vmem S256x128 .f32} (harg5 : arg5.IsWhole)
  {arg6 : Memref sig .tc .vmem S4x8x64 .f32} (harg6 : arg6.IsWhole)
  {arg7 : Memref sig .tc .vmem S4x4x64x64 .f32} (harg7 : arg7.IsWhole)
  {arg8 : Memref sig .tc .vmem S4x4x64x64 .f32} (harg8 : arg8.IsWhole)
  {arg9 : Memref sig .tc .vmem S4x4x128x128 .f32} (harg9 : arg9.IsWhole)
  {arg10 : Memref sig .tc .vmem S256x512 .f32} (harg10 : arg10.IsWhole)
  {x0 x1 x2 : Vec Ideal S256x512 .f32} {x3 x4 : Vec Ideal S256x128 .f32}
  {x5 : Vec Ideal S4x8x64 .f32} {x6 x7 : Vec Ideal S4x4x64x64 .f32} {x8 : Vec Ideal S4x4x128x128 .f32}
  {x9 : Vec Ideal S256x512 .f32} (b : Block d n x0 x1 x2 x3 x4 x5 x6 x7 x8 x9)
  (dS : Fin 4 → FVec Ideal S1x128x128 .f32)

include b in
/-- A chunk's and a head's loads are that head's arrays. -/
theorem loads_reads (u : Fin cb) (h : Fin 4) :
    ((loads harg1 harg2 harg3 harg4 harg5 harg6 harg7 harg8 harg9 harg10 x0 x1 x2 x3 x4 x5 x6 x7 x8 x9 dS).tile u h).Reads
      (d.head (n u) h) where
  q i c := by
    refine (harg1.readAt_unread (Val := Elt Ideal) _ _ _).trans ?_
    rw [idx_W]; exact b.q u i _
  k i c := by
    refine (harg2.readAt_unread (Val := Elt Ideal) _ _ _).trans ?_
    rw [idx_W]; exact b.k u i _
  v i c := by
    refine (harg3.readAt_unread (Val := Elt Ideal) _ _ _).trans ?_
    rw [idx_W]; exact b.v u i _
  dO i c := by
    refine (harg10.readAt_unread (Val := Elt Ideal) _ _ _).trans ?_
    rw [idx_W]; exact b.dO u i _
  bcol i := by
    refine (Loads.bcol_at _ u h i).trans ?_
    refine (harg4.readAt_unread (Val := Elt Ideal) _ _ _).trans ?_
    rw [idx_N]; exact b.bg u i _
  gcol i := by
    refine (Loads.gcol_at _ u h i).trans ?_
    refine (harg5.readAt_unread (Val := Elt Ideal) _ _ _).trans ?_
    rw [idx_N]; exact b.gc u i h
  grow i := by
    refine (Loads.grow_at _ u h i).trans ?_
    refine (harg6.readAt_unread (Val := Elt Ideal) _ _ _).trans ?_
    rw [idx_G]; exact b.gct u h i
  A i c := by
    refine (castA (F := Ideal) (View.readAt (Elt Ideal) arg7.view (Rect.unit (s := S4x4x64x64) ![u.val, h.val, 0, 0] S1x1x64x64.size
      (inb_A u h)).toLoadRect (harg7.unread x6)) i c).trans ?_
    refine (harg7.readAt_unread (Val := Elt Ideal) _ _ _).trans ?_
    rw [idx_A]; exact b.A u h i c
  At i c := by
    refine (castA (F := Ideal) (View.readAt (Elt Ideal) arg8.view (Rect.unit (s := S4x4x64x64) ![u.val, h.val, 0, 0] S1x1x64x64.size
      (inb_A u h)).toLoadRect (harg8.unread x7)) i c).trans ?_
    refine (harg8.readAt_unread (Val := Elt Ideal) _ _ _).trans ?_
    rw [idx_A]; exact b.At u h i c
  S i c := by
    refine (castS (F := Ideal) (View.readAt (Elt Ideal) arg9.view (Rect.unit (s := S4x4x128x128) ![u.val, h.val, 0, 0] S1x1x128x128.size
      (inb_S u h)).toLoadRect (harg9.unread x8)) i c).trans ?_
    refine (harg9.readAt_unread (Val := Elt Ideal) _ _ _).trans ?_
    rw [idx_S]; exact b.S u h i c

end Reads

/-! ## The state gradient through a point -/

theorem cast_down {F : FTy → Type} [FloatOps F] (x : FVec F S1x128x128 .f32) (a c : Fin 128) :
    shapeCast S128x128 x shapeCasts_S1x128x128_S128x128 (ix2 a c) = x (ix3 0 a c) := by
  pointwise []

variable {d : Data} {j : ℕ} {L : Loads Ideal}

/-- From the gradient after `j` chunks, `m` chunks further: the gradient after `j + m`. -/
theorem dSat_holds (r : ∀ m, m < 4 → ∀ h, (L.tile (Loads.back m) h).Reads (d.head (Data.nth (j + m)) h))
    (h0 : ∀ h a c, L.dS h (ix3 0 a c) = ((d.dS j h a c : ℝ) : EReal)) :
    ∀ m, m ≤ 4 → ∀ h, Holds (L.dSat m h) (d.dS (j + m) h)
  | 0, _, h => fun a c => (cast_down (L.dS h) a c).trans (h0 h a c)
  | m + 1, hm, h => fun a c => Tile.dSn_at (r m (by omega) h) (dSat_holds r h0 m (by omega) h) a c

/-- The zeros that the first point stores and reads back. -/
theorem zeroed_at (arg15 : Memref sig .tc .vmem S4x128x128 .f32) (h : Fin 4) (a c : Fin 128) :
    zeroed (F := Ideal) arg15 h (ix3 0 a c) = 0 := by
  unfold zeroed
  rw [View.readCov_eq_canon', View.canon_unit_zero (funext fun t => by fin_cases t <;> rfl)]
  unfold k0_pay3
  pointwise []

/-- The state gradients that the point before left. -/
theorem carried_at {arg15 : Memref sig .tc .vmem S4x128x128 .f32} (harg15 : arg15.IsWhole)
    (xs0 : Vec Ideal S4x128x128 .f32) (h : Fin 4) (a c : Fin 128) :
    carried harg15 xs0 h (ix3 0 a c) = xs0 (ix3 h a c) := by
  unfold carried
  refine (harg15.readAt_unread (Val := Elt Ideal) _ _ _).trans ?_
  rw [idx_C]

end Cert.KPoint

end
-- ==== Proof.KHost.lean ====
/-
  What the kernel's host code makes: the log-decay accumulated in each chunk, its transpose, and the transpose of the
  saved inverse, at an index.
-/
module

public import proofs.«01_k».proof.Proof.Data
public import proofs.«01_k».proof.Proof.Gen.KernelIdeal.Frame
public import Idealize.ShloMosaic.Lib.Pointwise
public import Idealize.ShloMosaic.Lib.StableHlo.RunRead

@[expose] public section

set_option synthInstance.maxSize 4096

noncomputable section

namespace Cert.KHost

open Idealize.ShloMosaic Idealize.ShloMosaic.TcCoe Idealize.ShloMosaic.StableHlo Cert.KernelIdeal Cert.KernelIdeal.Gen DeltaRule

/-! ## The running sum along a chunk's rows -/

/-- A left fold of additions from zero is a sum. -/
theorem fold_add {n : ℕ} (g : Fin n → EReal) :
    (List.finRange n).foldl (fun r k => r + g k) 0 = ∑ k, g k := by
  rw [← List.foldl_map (f := g) (g := fun r x => r + x), ← List.sum_eq_foldl, ← List.ofFn_eq_map, List.sum_ofFn]

/-- Moving a window of 64 rows up to row `i`: the rows up to `i`. -/
theorem window_sum (i : Fin 64) (f : Fin 64 → EReal) :
    (∑ k : Fin 64, if h : 63 ≤ i.val + k.val then f ⟨i.val + k.val - 63, by omega⟩ else 0)
      = ∑ j : Fin 64, if j ≤ i then f j else 0 := by
  have hL : ∀ k : Fin 64, (if h : 63 ≤ i.val + k.val then f ⟨i.val + k.val - 63, by omega⟩ else 0)
      = if 63 ≤ i.val + k.val then f ⟨(i.val + k.val - 63) % 64, Nat.mod_lt _ (by decide)⟩ else 0 := by
    intro k
    by_cases h : 63 ≤ i.val + k.val
    · rw [dif_pos h, if_pos h]
      congr 1
      exact Fin.ext (Nat.mod_eq_of_lt (by omega)).symm
    · rw [dif_neg h, if_neg h]
  rw [Finset.sum_congr rfl fun k _ => hL k, ← Finset.sum_filter, ← Finset.sum_filter]
  refine Finset.sum_bij' (fun k _ => (⟨(i.val + k.val - 63) % 64, Nat.mod_lt _ (by decide)⟩ : Fin 64))
    (fun j _ => (⟨(j.val + 63 - i.val) % 64, Nat.mod_lt _ (by decide)⟩ : Fin 64)) ?_ ?_ ?_ ?_ (fun _ _ => rfl)
  · intro k hk
    have h := (Finset.mem_filter.mp hk).2
    refine Finset.mem_filter.mpr ⟨Finset.mem_univ _, Fin.le_def.mpr ?_⟩
    show (i.val + k.val - 63) % 64 ≤ i.val
    omega
  · intro j hj
    have h : j.val ≤ i.val := (Finset.mem_filter.mp hj).2
    refine Finset.mem_filter.mpr ⟨Finset.mem_univ _, ?_⟩
    show 63 ≤ i.val + (j.val + 63 - i.val) % 64
    omega
  · intro k hk
    have h := (Finset.mem_filter.mp hk).2
    refine Fin.ext ?_
    show ((i.val + k.val - 63) % 64 + 63 - i.val) % 64 = k.val
    omega
  · intro j hj
    have h : j.val ≤ i.val := (Finset.mem_filter.mp hj).2
    refine Fin.ext ?_
    show (i.val + (j.val + 63 - i.val) % 64 - 63) % 64 = j.val
    omega

/-- The running sum along the second axis, at an index. -/
theorem cumsum_at (x : S64x64x128.Idx → EReal) (init : S_.Idx → EReal) (h0 : ∀ i, init i = 0)
    (hw : S64x64x128.ReduceWindows (![1, 64, 1] : Fin 3 → Nat) ![1, 1, 1] ![0, 63, 0] ![0, 0, 0] S64x64x128)
    (hu : 0 < S_.numel) (n i : Fin 64) (l : Fin 128) :
    Host.reduceWindow (· + ·) ![1, 64, 1] ![1, 1, 1] ![0, 63, 0] ![0, 0, 0] x init hw hu (ix3 n i l)
      = ∑ j : Fin 64, if j ≤ i then x (ix3 n j l) else 0 := by
  unfold Host.reduceWindow
  dsimp only
  rw [h0, fold_add, ← Equiv.sum_comp (⟨3, ![1, 64, 1]⟩ : Shape).rowMajor, sum_idx3]
  rw [Fin.sum_univ_one]
  simp only [Fin.sum_univ_one, Equiv.symm_apply_apply]
  rw [← window_sum i fun j => x (ix3 n j l)]
  refine Finset.sum_congr rfl fun k _ => ?_
  by_cases h : 63 ≤ i.val + k.val
  · rw [dif_pos h, dif_pos]
    · congr 1
      funext a
      fin_cases a
      · exact Fin.ext (by show n.val * 1 + 0 - 0 = n.val; omega)
      · exact Fin.ext (by show i.val * 1 + k.val - 63 = i.val + k.val - 63; omega)
      · exact Fin.ext (by show l.val * 1 + 0 - 0 = l.val; omega)
    · intro a
      fin_cases a
      · exact ⟨Nat.zero_le _, by show n.val * 1 + 0 - 0 < 64; omega⟩
      · exact ⟨by show 63 ≤ i.val * 1 + k.val; omega, by show i.val * 1 + k.val - 63 < 64; omega⟩
      · exact ⟨Nat.zero_le _, by show l.val * 1 + 0 - 0 < 128; omega⟩
  · rw [dif_neg h, dif_neg]
    intro hin
    have := (hin 1).1
    exact h (by have e : 63 ≤ i.val * 1 + k.val := this; omega)

/-! ## The arrays that the region finds -/

variable (m : (ℓ : Loc nD τ sig) → Buf (Elt Ideal) ℓ) (c : Dev nD)

/-- The rows of a chunk, accumulated. -/
def acc (x : FVec Ideal S4096x128 .f32) : FVec Ideal S64x64x128 .f32 :=
  Host.reduceWindowAdd ![1, 64, 1] ![1, 1, 1] ![0, 63, 0] ![0, 0, 0]
    (shapeCast S64x64x128 x shapeCasts_S4096x128_S64x64x128)
    (broadcastInDim S_ ![] bcast_S_S_ (constant (F := Ideal) S_ .f32 0x00000000#32))
    reduceWindows_S64x64x128_S64x64x128_w1s1p0_0_w64s1p63_0_w1s1p0_0 h_S_

theorem acc_at (x : FVec Ideal S4096x128 .f32) (n i : Fin 64) (l : Fin 128) :
    acc x (ix3 n i l) = ∑ j : Fin 64, if j ≤ i then x (ix2 (crow n j) l) else 0 := by
  refine (cumsum_at _ _ (fun _ => ?_)
    reduceWindows_S64x64x128_S64x64x128_w1s1p0_0_w64s1p63_0_w1s1p0_0 h_S_ n i l).trans ?_
  · pointwise []
  · refine Finset.sum_congr rfl fun j _ => ?_
    have e : shapeCast S64x64x128 x shapeCasts_S4096x128_S64x64x128 (ix3 n j l) = x (ix2 (crow n j) l) := by
      pointwise []
      rfl
    rw [e]

theorem V_v5 : V m c main_v5
    = shapeCast S4096x128 (acc (m ((c : Thread nD τ).loc main_arg3))) shapeCasts_S64x64x128_S4096x128 := by
  simp only [V, hostOps0, hostOps0_1, hostOps0_2, List.flatten_cons, List.flatten_nil, List.append_nil, List.cons_append,
    List.nil_append]
  after_reads_simp
  rfl

theorem V_v3 : V m c main_v3
    = extractStridedSlice S64x8x64 ![0, 0, 0] (transpose S64x128x64 [0, 2, 1] (acc (m ((c : Thread nD τ).loc main_arg3)))
        transposes_S64x64x128_S64x128x64_0_2_1) slices_S64x128x64_S64x8x64_0_0_0 := by
  simp only [V, hostOps0, hostOps0_1, hostOps0_2, List.flatten_cons, List.flatten_nil, List.append_nil, List.cons_append,
    List.nil_append]
  after_reads_simp
  rfl

theorem V_v4 : V m c main_v4
    = transpose S64x4x64x64 [0, 1, 3, 2] (m ((c : Thread nD τ).loc main_arg4)) transposes_S64x4x64x64_S64x4x64x64_0_1_3_2 := by
  simp only [V, hostOps0, hostOps0_1, hostOps0_2, List.flatten_cons, List.flatten_nil, List.append_nil, List.cons_append,
    List.nil_append]
  after_reads_simp

/-- The gate array. -/
abbrev bgOf : FVec Ideal S4096x128 .f32 := m ((c : Thread nD τ).loc main_arg3)

/-- The accumulated log-decay, by row and column; -/
theorem v5_at (n i : Fin 64) (l : Fin 128) : @Eq EReal (V m c main_v5 (ix2 (crow n i) l))
    (∑ j : Fin 64, if j ≤ i then bgOf m c (ix2 (crow n j) l) else 0) := by
  rw [V_v5]
  refine Eq.trans ?_ (acc_at _ n i l)
  have e : ∀ z : FVec Ideal S64x64x128 .f32,
      shapeCast S4096x128 z shapeCasts_S64x64x128_S4096x128 (ix2 (crow n i) l) = z (ix3 n i l) := by
    intro z
    pointwise []
    rw [crow_chunk, crow_row]
  exact e _

/-- its transpose, by chunk, column and row; -/
theorem v3_at (n i : Fin 64) (l : Fin 8) : @Eq EReal (V m c main_v3 (ix3 n l i))
    (∑ j : Fin 64, if j ≤ i then bgOf m c (ix2 (crow n j) ⟨l.val, by omega⟩) else 0) := by
  rw [V_v3]
  refine Eq.trans ?_ (acc_at _ n i _)
  have e : ∀ z : FVec Ideal S64x64x128 .f32,
      extractStridedSlice S64x8x64 ![0, 0, 0] (transpose S64x128x64 [0, 2, 1] z
        transposes_S64x64x128_S64x128x64_0_2_1) slices_S64x128x64_S64x8x64_0_0_0 (ix3 n l i)
        = z (ix3 n i ⟨l.val, by omega⟩) := by
    intro z
    pointwise []
  exact e _

/-- the transpose of the saved inverse. -/
theorem v4_at (n : Fin 64) (h : Fin 4) (i k : Fin 64) : V m c main_v4 (ix4 n h i k)
    = m ((c : Thread nD τ).loc main_arg4) (ix4 n h k i) := by
  rw [V_v4]
  have e : ∀ z : FVec Ideal S64x4x64x64 .f32,
      transpose S64x4x64x64 [0, 1, 3, 2] z transposes_S64x4x64x64_S64x4x64x64_0_1_3_2 (ix4 n h i k) = z (ix4 n h k i) := by
    intro z
    pointwise []
  exact e _

end Cert.KHost

end
-- ==== Proof.RefFwd.lean ====
/-
  What one trip of the reference's loop computes, head by head: every value that the vector-Jacobian product of one
  chunk forms, read at an index, is the real number that `Chunk.lean` defines.
-/
module

public import proofs.«01_k».proof.Proof.Tools
public import proofs.«01_k».proof.Proof.Gen.ReferenceIdeal.Step

@[expose] public section

noncomputable section

namespace Cert.RefHead

open Idealize.ShloMosaic Cert.ReferenceIdeal Cert.ReferenceIdeal.Step DeltaRule Matrix

/-- What trip `j` reads, heads first: real numbers. -/
structure Reads (j : ℕ) (s : State Ideal) (x : Fin 4 → Head) (dS : Fin 4 → Matrix (Fin 128) (Fin 128) ℝ) : Prop where
  q : ∀ h i c, b35 j s (ix3 h i c) = (((x h).q i c : ℝ) : EReal)
  k : ∀ h i c, b37 j s (ix3 h i c) = (((x h).k i c : ℝ) : EReal)
  v : ∀ h i c, b39 j s (ix3 h i c) = (((x h).v i c : ℝ) : EReal)
  beta : ∀ h i, b41 j s (ix2 h i) = (((x h).beta i : ℝ) : EReal)
  g : ∀ h i, b43 j s (ix2 h i) = (((x h).g i : ℝ) : EReal)
  A : ∀ h i c, b24 j s (ix3 h i c) = (((x h).A i c : ℝ) : EReal)
  S : ∀ h i c, b29 j s (ix3 h i c) = (((x h).S i c : ℝ) : EReal)
  dO : ∀ h i c, b144 j s (ix3 h i c) = (((x h).dO i c : ℝ) : EReal)
  dS : ∀ h i c, s.main_v10_8 (ix3 h i c) = ((dS h i c : ℝ) : EReal)

variable {j : ℕ} {s : State Ideal} {x : Fin 4 → Head} {dS : Fin 4 → Matrix (Fin 128) (Fin 128) ℝ}

/-! ## The masks -/

theorem incl (h : Fin 4) (i c : Fin 64) : b69 j s (ix3 h i c) = if c ≤ i then 1#1 else 0#1 := by
  pointwise [b69, b54, b51, b49, b46, b48, b47, b50, b45, b44, b53, b52]
  rw [ge_word_add, sel_ite]

theorem incl' (h : Fin 4) (i c : Fin 64) : b84 j s (ix3 h i c) = if c ≤ i then 1#1 else 0#1 := by
  pointwise [b84, b54, b51, b49, b46, b48, b47, b50, b45, b44, b53, b52]
  rw [ge_word_add, sel_ite]

theorem strict (h : Fin 4) (i c : Fin 64) : b100 j s (ix3 h i c) = if c < i then 1#1 else 0#1 := by
  pointwise [b100, b65, b62, b60, b57, b59, b58, b61, b56, b55, b64, b63]
  rw [gt_word_add, sel_ite]

/-! ## The forward quantities -/

variable (r : Reads j s x dS)
include r

theorem Gc (h : Fin 4) (i : Fin 64) : b76 j s (ix2 h i) = (((x h).G i : ℝ) : EReal) := by
  pointwise [b76, b72, b70, b66, b71, b68, b67, b75]
  simp only [incl, r.g, sel_ite, ite_coe, sum_coe, Head.G]

theorem gam (h : Fin 4) (i c : Fin 64) : b89 j s (ix3 h i c) = (((x h).gam i c : ℝ) : EReal) := by
  pointwise [b89, b86, b81, b79, b77, b80, b78, b85, b83, b82]
  simp only [incl', Gc r, sel_ite, ofBits_bot, ← EReal.coe_sub, exp_mask, Head.gam]

theorem kb (h : Fin 4) (i : Fin 64) (c : Fin 128) : b92 j s (ix3 h i c) = (((x h).kb i c : ℝ) : EReal) := by
  pointwise [b92, b91, b90]
  simp only [r.k, r.beta, Head.kb, EReal.coe_mul]

theorem vb (h : Fin 4) (i : Fin 64) (c : Fin 128) : b95 j s (ix3 h i c) = (((x h).vb i c : ℝ) : EReal) := by
  pointwise [b95, b94, b93]
  simp only [r.v, r.beta, Head.vb, EReal.coe_mul]

theorem KK (h : Fin 4) (i c : Fin 64) : b96 j s (ix3 h i c) = (((x h).KK i c : ℝ) : EReal) := by
  pointwise [b96]
  simp only [kb r, r.k, Head.KK, Matrix.mul_apply, Matrix.transpose_apply, ← EReal.coe_mul, sum_coe]

theorem E (h : Fin 4) (i : Fin 64) : b105 j s (ix2 h i) = (((x h).E i : ℝ) : EReal) := by
  pointwise [b105]
  simp only [Gc r, Ideal.exp_coe, Head.E]

theorem E' (h : Fin 4) (i : Fin 64) : b117 j s (ix2 h i) = (((x h).E i : ℝ) : EReal) := by
  pointwise [b117]
  simp only [Gc r, Ideal.exp_coe, Head.E]

theorem W (h : Fin 4) (i : Fin 64) (c : Fin 128) : b108 j s (ix3 h i c) = (((x h).W i c : ℝ) : EReal) := by
  pointwise [b108, b107, b106]
  simp only [kb r, E r, Head.W, EReal.coe_mul]

/-- The right-hand side's left half. -/
theorem rhs_l (h : Fin 4) (i : Fin 64) (c : Fin 128) :
    b109 j s (ix3 h i ⟨c.val, by omega⟩) = (((x h).vb i c : ℝ) : EReal) := by
  have hc := c.isLt
  pointwise [b109]
  simp [vb r]

/-- The right-hand side's right half. -/
theorem rhs_r (h : Fin 4) (i : Fin 64) (c : Fin 128) :
    b109 j s (ix3 h i ⟨128 + c.val, by omega⟩) = (((x h).W i c : ℝ) : EReal) := by
  have hc := c.isLt
  pointwise [b109]
  simp [W r]

/-- The solved values. -/
theorem sol_l (h : Fin 4) (i : Fin 64) (c : Fin 128) :
    b110 j s (ix3 h i ⟨c.val, by omega⟩) = ((((x h).A * (x h).vb) i c : ℝ) : EReal) := by
  pointwise [b110]
  simp only [rhs_l r, r.A, Matrix.mul_apply, ← EReal.coe_mul, sum_coe]

/-- The solved keys. -/
theorem sol_r (h : Fin 4) (i : Fin 64) (c : Fin 128) :
    b110 j s (ix3 h i ⟨128 + c.val, by omega⟩) = ((((x h).A * (x h).W) i c : ℝ) : EReal) := by
  pointwise [b110]
  simp only [rhs_r r, r.A, Matrix.mul_apply, ← EReal.coe_mul, sum_coe]

theorem AW (h : Fin 4) (i : Fin 64) (c : Fin 128) :
    b114 j s (ix3 h i c) = ((((x h).A * (x h).W) i c : ℝ) : EReal) := by
  pointwise [b114]
  exact sol_r r h i c

theorem QK (h : Fin 4) (i c : Fin 64) : b115 j s (ix3 h i c) = (((x h).QK i c : ℝ) : EReal) := by
  pointwise [b115]
  simp only [r.q, r.k, Head.QK, Matrix.mul_apply, Matrix.transpose_apply, ← EReal.coe_mul, sum_coe]

theorem P (h : Fin 4) (i c : Fin 64) : b116 j s (ix3 h i c) = (((x h).P i c : ℝ) : EReal) := by
  pointwise [b116]
  simp only [QK r, gam r, Head.P, EReal.coe_mul]

theorem qE (h : Fin 4) (i : Fin 64) (c : Fin 128) : b120 j s (ix3 h i c) = (((x h).qE i c : ℝ) : EReal) := by
  pointwise [b120, b119, b118]
  simp only [r.q, E' r, Head.qE, EReal.coe_mul]

theorem Fd (h : Fin 4) (i : Fin 64) : b124 j s (ix2 h i) = (((x h).Fd i : ℝ) : EReal) := by
  pointwise [b124, b123, b122, b121]
  erw [Gc r h 63]
  simp only [Gc r, ← EReal.coe_sub, Ideal.exp_coe, Head.Fd]

theorem kt (h : Fin 4) (i : Fin 64) (c : Fin 128) : b127 j s (ix3 h i c) = (((x h).kt i c : ℝ) : EReal) := by
  pointwise [b127, b126, b125]
  simp only [r.k, Fd r, Head.kt, EReal.coe_mul]

theorem cd (h : Fin 4) : b130 j s (ix1 h) = (((x h).cd : ℝ) : EReal) := by
  pointwise [b130, b129, b128]
  erw [Gc r h 63]
  simp only [Ideal.exp_coe, Head.cd]

theorem vn (h : Fin 4) (i : Fin 64) (c : Fin 128) : b132 j s (ix3 h i c) = (((x h).vn i c : ℝ) : EReal) := by
  pointwise [b132, b113, b131]
  erw [sol_l r h i c]
  simp only [AW r, r.S, ← EReal.coe_mul, sum_coe, ← EReal.coe_sub]
  rw [← Head.vn_split, Matrix.sub_apply, Matrix.mul_apply (M := (x h).A * (x h).W)]

end Cert.RefHead
-- ==== Proof.RefGrad.lean ====
/-
  What one trip of the reference's loop computes, head by head: the inner gradients of the vector-Jacobian
  product of one chunk, read at an index.
-/
module

public import proofs.«01_k».proof.Proof.RefFwd

@[expose] public section

noncomputable section

namespace Cert.RefHead

open Idealize.ShloMosaic Cert.ReferenceIdeal Cert.ReferenceIdeal.Step DeltaRule Matrix

variable {j : ℕ} {s : State Ideal} {x : Fin 4 → Head} {dS : Fin 4 → Matrix (Fin 128) (Fin 128) ℝ}
variable (r : Reads j s x dS)
include r

/-! ## The gradients -/

theorem dvn (h : Fin 4) (i : Fin 64) (c : Fin 128) :
    b159 j s (ix3 h i c) = (((x h).dvn (dS h) i c : ℝ) : EReal) := by
  pointwise [b159, b146, b145, b158, b157]
  simp only [r.dS, r.dO, P r, kt r, ← EReal.coe_mul, sum_coe, ← EReal.coe_add]
  rw [Head.dvn, Matrix.add_apply, Matrix.mul_apply, Matrix.mul_apply, add_comm]
  simp only [Matrix.transpose_apply, mul_comm]

theorem dkt (h : Fin 4) (i : Fin 64) (c : Fin 128) :
    b148 j s (ix3 h i c) = (((x h).dkt (dS h) i c : ℝ) : EReal) := by
  pointwise [b148, b147]
  simp only [r.dS, vn r, ← EReal.coe_mul, sum_coe]
  simp only [Head.dkt, Matrix.mul_apply, Matrix.transpose_apply, mul_comm]

theorem dcd (h : Fin 4) : b156 j s (ix1 h) = (((x h).dcd (dS h) : ℝ) : EReal) := by
  pointwise [b156, b155, b152, b151, b150, b149]
  simp only [r.S, r.dS, ← EReal.coe_mul, sum_coe, Fin.sum_univ_one, Head.dcd]

theorem dP (h : Fin 4) (i c : Fin 64) : b160 j s (ix3 h i c) = (((x h).dP i c : ℝ) : EReal) := by
  pointwise [b160]
  simp only [r.dO, vn r, ← EReal.coe_mul, sum_coe, Head.dP, Matrix.mul_apply, Matrix.transpose_apply]

theorem dqE (h : Fin 4) (i : Fin 64) (c : Fin 128) : b164 j s (ix3 h i c) = (((x h).dqE i c : ℝ) : EReal) := by
  pointwise [b164]
  simp only [r.dO, r.S, ← EReal.coe_mul, sum_coe, Head.dqE, Matrix.mul_apply, Matrix.transpose_apply]

theorem neg_dvn (h : Fin 4) (i : Fin 64) (c : Fin 128) :
    b165 j s (ix3 h i c) = (((-(x h).dvn (dS h)) i c : ℝ) : EReal) := by
  pointwise [b165]
  simp only [dvn r, ← EReal.coe_neg, Matrix.neg_apply]

theorem dSn (h : Fin 4) (a c : Fin 128) : b168 j s (ix3 h a c) = (((x h).dSn (dS h) a c : ℝ) : EReal) := by
  pointwise [b168, b163, b154, b153, b136, b162, b161, b167, b166]
  simp only [r.dS, r.dO, cd r, qE r, AW r, neg_dvn r, ← EReal.coe_mul, sum_coe, ← EReal.coe_add]
  rw [Head.dS_split_apply, Head.dSn_apply, sub_eq_add_neg, mul_comm (dS h a c)]
  simp only [mul_comm]

theorem dWpre (h : Fin 4) (i : Fin 64) (c : Fin 128) :
    b169 j s (ix3 h i c) = (((-(x h).dvn (dS h) * (x h).Sᵀ) i c : ℝ) : EReal) := by
  pointwise [b169]
  simp only [neg_dvn r, r.S, ← EReal.coe_mul, sum_coe, Matrix.mul_apply, Matrix.transpose_apply]

/-- The solution's gradient, left half. -/
theorem dsol_l (h : Fin 4) (i : Fin 64) (c : Fin 128) :
    b211 j s (ix3 h i ⟨c.val, by omega⟩) = (((x h).dvn (dS h) i c : ℝ) : EReal) := by
  have hc := c.isLt
  pointwise [b211, b208, b210, b207, b209]
  simp [dvn r]

/-- The solution's gradient, right half. -/
theorem dsol_r (h : Fin 4) (i : Fin 64) (c : Fin 128) :
    b211 j s (ix3 h i ⟨128 + c.val, by omega⟩) = (((-(x h).dvn (dS h) * (x h).Sᵀ) i c : ℝ) : EReal) := by
  have hc := c.isLt
  pointwise [b211, b208, b210, b207, b209]
  simp [dWpre r]

theorem dUW_l (h : Fin 4) (i : Fin 64) (c : Fin 128) :
    b212 j s (ix3 h i ⟨c.val, by omega⟩) = (((x h).dU (dS h) i c : ℝ) : EReal) := by
  pointwise [b212]
  simp only [dsol_l r, r.A, ← EReal.coe_mul, sum_coe, Head.dU, Matrix.mul_apply, Matrix.transpose_apply]

theorem dUW_r (h : Fin 4) (i : Fin 64) (c : Fin 128) :
    b212 j s (ix3 h i ⟨128 + c.val, by omega⟩) = (((x h).dW (dS h) i c : ℝ) : EReal) := by
  pointwise [b212]
  simp only [dsol_r r, r.A, ← EReal.coe_mul, sum_coe]
  rw [← Head.dW_split, Matrix.mul_apply]
  simp only [Matrix.transpose_apply]

theorem dU (h : Fin 4) (i : Fin 64) (c : Fin 128) :
    b215 j s (ix3 h i c) = (((x h).dU (dS h) i c : ℝ) : EReal) := by
  pointwise [b215]
  exact dUW_l r h i c

theorem dW (h : Fin 4) (i : Fin 64) (c : Fin 128) :
    b216 j s (ix3 h i c) = (((x h).dW (dS h) i c : ℝ) : EReal) := by
  pointwise [b216]
  exact dUW_r r h i c

theorem dL (h : Fin 4) (i c : Fin 64) : b229 j s (ix3 h i c) = (((x h).dL (dS h) i c : ℝ) : EReal) := by
  have h1 : b214 j s (ix3 h i c) = ((0 - ((x h).dU (dS h) * (x h).vnᵀ) i c : ℝ) : EReal) := by
    pointwise [b214, b213]
    rw [show (∑ k : Fin 256, -b212 j s (ix3 h i k) * b110 j s (ix3 h c k))
        = ∑ k : Fin (128 + 128), -b212 j s (ix3 h i k) * b110 j s (ix3 h c k) from rfl, Fin.sum_univ_add]
    have hl : ∀ k : Fin 128, -b212 j s (ix3 h i (Fin.castAdd 128 k)) * b110 j s (ix3 h c (Fin.castAdd 128 k))
        = (((-(x h).dU (dS h)) i k * ((x h).A * (x h).vb)ᵀ k c : ℝ) : EReal) := fun k => by
      rw [EReal.coe_mul, Matrix.neg_apply, EReal.coe_neg, Matrix.transpose_apply, ← dUW_l r h i k, ← sol_l r h c k]; rfl
    have hr : ∀ k : Fin 128, -b212 j s (ix3 h i (Fin.natAdd 128 k)) * b110 j s (ix3 h c (Fin.natAdd 128 k))
        = (((-(x h).dW (dS h)) i k * ((x h).A * (x h).W)ᵀ k c : ℝ) : EReal) := fun k => by
      rw [EReal.coe_mul, Matrix.neg_apply, EReal.coe_neg, Matrix.transpose_apply, ← dUW_r r h i k, ← sol_r r h c k]; rfl
    rw [Finset.sum_congr rfl fun k _ => hl k, Finset.sum_congr rfl fun k _ => hr k, sum_coe, sum_coe, ← EReal.coe_add,
      ← Matrix.mul_apply, ← Matrix.mul_apply, ← Matrix.add_apply, Head.dUvn_split, Matrix.neg_apply, zero_sub]
  pointwise [b229, b228, b227]
  simp only [strict, h1, sel_ite, ite_coe, Head.dL]

theorem dQK (h : Fin 4) (i c : Fin 64) : b202 j s (ix3 h i c) = (((x h).dQK i c : ℝ) : EReal) := by
  pointwise [b202]
  simp only [dP r, gam r, Head.dQK, EReal.coe_mul]

omit r in
/-- A product of arrays at an index. -/
theorem mulf_at {t : Shape} (a b : FVec Ideal t .f32) (n : t.Idx) : mulf a b n = a n * b n := rfl

theorem dKK (h : Fin 4) (i c : Fin 64) : b232 j s (ix3 h i c) = (((x h).dKK (dS h) i c : ℝ) : EReal) := by
  unfold b232
  rw [mulf_at, dL r, gam r, ← EReal.coe_mul, Head.dKK]

end Cert.RefHead
-- ==== Proof.RefHead.lean ====
/-
  What one trip of the reference's loop computes, head by head: the results of the vector-Jacobian
  product of one chunk, read at an index.
-/
module

public import proofs.«01_k».proof.Proof.RefGrad

@[expose] public section

noncomputable section

namespace Cert.RefHead

open Idealize.ShloMosaic Cert.ReferenceIdeal Cert.ReferenceIdeal.Step DeltaRule Matrix

variable {j : ℕ} {s : State Ideal} {x : Fin 4 → Head} {dS : Fin 4 → Matrix (Fin 128) (Fin 128) ℝ}
variable (r : Reads j s x dS)
include r

omit r in
/-- A sum of arrays at an index. -/
theorem addf_at {t : Shape} (a b : FVec Ideal t .f32) (n : t.Idx) : addf a b n = a n + b n := rfl

/-- The queries' gradient. -/
theorem dq (h : Fin 4) (i : Fin 64) (c : Fin 128) : b206 j s (ix3 h i c) = (((x h).dq i c : ℝ) : EReal) := by
  pointwise [b206, b196, b195, b118, b205]
  simp only [dqE r, E' r, dQK r, r.k, ← EReal.coe_mul, sum_coe, ← EReal.coe_add]
  rw [Head.dq_apply, add_comm]

theorem dkb (h : Fin 4) (i : Fin 64) (c : Fin 128) :
    b236 j s (ix3 h i c) = (((x h).dkb (dS h) i c : ℝ) : EReal) := by
  pointwise [b236, b222, b221, b106, b235]
  simp only [dW r, E r, dKK r, r.k, ← EReal.coe_mul, sum_coe, ← EReal.coe_add]
  rw [Head.dkb_apply, add_comm]

/-- The keys' gradient. -/
theorem dk (h : Fin 4) (i : Fin 64) (c : Fin 128) :
    b251 j s (ix3 h i c) = (((x h).dk (dS h) i c : ℝ) : EReal) := by
  pointwise [b251, b234, b204, b179, b178, b125, b203, b233, b250, b249, b90]
  simp only [dkt r, Fd r, dQK r, r.q, dKK r, kb r, dkb r, r.beta, ← EReal.coe_mul, sum_coe, ← EReal.coe_add]
  rw [Head.dk_apply]
  congr 1; ring

/-- The values' gradient. -/
theorem dv (h : Fin 4) (i : Fin 64) (c : Fin 128) :
    b242 j s (ix3 h i c) = (((x h).dv (dS h) i c : ℝ) : EReal) := by
  pointwise [b242, b241, b93]
  simp only [dU r, r.beta, Head.dv, EReal.coe_mul]

/-- The write strength's gradient. -/
theorem dbeta (h : Fin 4) (i : Fin 64) : b254 j s (ix2 h i) = (((x h).dbeta (dS h) i : ℝ) : EReal) := by
  pointwise [b254, b244, b243, b240, b239, b238, b237, b253, b252, b248, b247, b246, b245]
  simp only [r.v, dU r, r.k, dkb r, ← EReal.coe_mul, sum_coe, ← EReal.coe_add, Fin.sum_univ_one, Head.dbeta_split]

/-- The terms of the decay matrix's gradient times the decay matrix. -/
theorem Z (h : Fin 4) (i c : Fin 64) : b258 j s (ix3 h i c) = (((x h).Z (dS h) i c : ℝ) : EReal) := by
  have e : b255 j s (ix3 h i c) = (b115 j s (ix3 h i c) * b160 j s (ix3 h i c) + b96 j s (ix3 h i c) * b229 j s (ix3 h i c)) * b89 j s (ix3 h i c) := by
    unfold b255 b231 b201 b230
    rw [mulf_at, addf_at, mulf_at, mulf_at]
  pointwise [b258, b257, b256]
  simp only [incl', e, QK r, dP r, KK r, dL r, gam r, sel_ite, ← EReal.coe_mul, ← EReal.coe_add, ite_coe, Head.Z_split]

/-- The gradient through the decays to the chunk's end: the terms `(∑ k · dkt) F`. -/
theorem tF (h : Fin 4) (i : Fin 64) :
    b182 j s (ix2 h i) = (((∑ c, (x h).k i c * (x h).dkt (dS h) i c) * (x h).Fd i : ℝ) : EReal) := by
  pointwise [b182, b181, b180, b177, b176, b175, b174]
  simp only [r.k, dkt r, Fd r, ← EReal.coe_mul, sum_coe, Fin.sum_univ_one]

omit r in
/-- The chunk's last row. -/
theorem last_row (i : Fin 64) : (63 ≤ i.val ∧ i.val - 63 < 1) ↔ i = 63 := by
  revert i; decide +kernel

theorem pad_cd (h : Fin 4) (i : Fin 64) :
    b173 j s (ix2 h i) = ((if i = 63 then (x h).dcd (dS h) * (x h).cd else 0 : ℝ) : EReal) := by
  pointwise [b173, b172, b171, b170]
  simp only [last_row, dite_eq_ite, dcd r, cd r, ← EReal.coe_mul, ite_coe]

theorem pad_F (h : Fin 4) (i : Fin 64) :
    b189 j s (ix2 h i)
      = ((if i = 63 then ∑ a, (∑ c, (x h).k a c * (x h).dkt (dS h) a c) * (x h).Fd a else 0 : ℝ) : EReal) := by
  pointwise [b189, b188, b185, b184, b183]
  simp only [last_row, dite_eq_ite, tF r, sum_coe, ite_coe]

/-- The accumulated log-decay's gradient. -/
theorem dG (h : Fin 4) (i : Fin 64) : b271 j s (ix2 h i) = (((x h).dG (dS h) i : ℝ) : EReal) := by
  pointwise [b271, b268, b226, b200, b190, b187, b186, b199, b198, b197, b194, b193, b192, b191, b225, b224, b223, b220, b219, b218, b217, b267, b266, b265, b264, b263, b262, b270, b269, b261, b260, b259]
  simp only [pad_cd r, pad_F r, tF r, r.q, dqE r, E' r, kb r, dW r, E r, Z r, ← EReal.coe_mul, ← EReal.coe_neg, sum_coe,
    ← EReal.coe_add, Fin.sum_univ_one, Head.dG_split]

/-- The log-decay's gradient. -/
theorem dg (h : Fin 4) (i : Fin 64) : b280 j s (ix2 h i) = (((x h).dg (dS h) i : ℝ) : EReal) := by
  pointwise [b280, b279, b278, b277, b276, b275, b272, b274, b273]
  simp only [incl, dG r, sel_ite, ite_coe, sum_coe, Head.dg_split, Fin.sum_univ_one]

end Cert.RefHead
-- ==== Proof.RefLoop.lean ====
/-
  The reference's loop: before trip `j` its state holds the gradient of the state that leaves chunk `63 - j`, and the
  results of the chunks after that one.
-/
module

public import proofs.«01_k».proof.Proof.Data
public import proofs.«01_k».proof.Proof.RefHead
public import Idealize.ShloMosaic.Lib.DynamicIndex
public import Idealize.ShloMosaic.Lib.Pipeline.Value

@[expose] public section

noncomputable section

namespace Cert.RefLoop

open Idealize.ShloMosaic Cert.ReferenceIdeal Cert.ReferenceIdeal.Step DeltaRule Matrix

variable {j : ℕ} {s : State Ideal} {d : Data}

/-- What the state holds before trip `j`. -/
structure Inv (d : Data) (j : ℕ) (s : State Ideal) : Prop where
  q : ∀ n i l, s.main_v10_0 (ix3 n i l) = ((d.q (crow n i) l : ℝ) : EReal)
  k : ∀ n i l, s.main_v10_1 (ix3 n i l) = ((d.k (crow n i) l : ℝ) : EReal)
  v : ∀ n i l, s.main_v10_2 (ix3 n i l) = ((d.v (crow n i) l : ℝ) : EReal)
  bg : ∀ n i l, s.main_v10_3 (ix3 n i l) = ((d.bg (crow n i) l : ℝ) : EReal)
  A : ∀ n h i c, s.main_v10_4 (ix4 n h i c) = ((d.A n h i c : ℝ) : EReal)
  S : ∀ n h i c, s.main_v10_5 (ix4 n h i c) = ((d.S n h i c : ℝ) : EReal)
  dO : ∀ n i l, s.main_v10_6 (ix3 n i l) = ((d.dO (crow n i) l : ℝ) : EReal)
  dS : ∀ h a c, s.main_v10_8 (ix3 h a c) = ((d.dS j h a c : ℝ) : EReal)
  dq : ∀ n i h c, 63 < n.val + j → s.main_v10_9 (ix3 n i (hcol h c)) = ((d.dq n i h c : ℝ) : EReal)
  dk : ∀ n i h c, 63 < n.val + j → s.main_v10_10 (ix3 n i (hcol h c)) = ((d.dk n i h c : ℝ) : EReal)
  dv : ∀ n i h c, 63 < n.val + j → s.main_v10_11 (ix3 n i (hcol h c)) = ((d.dv n i h c : ℝ) : EReal)
  dbg : ∀ n i l, 63 < n.val + j → s.main_v10_12 (ix3 n i l) = ((d.dbg n i l : ℝ) : EReal)

/-! ## Trip `j` reads and writes chunk `63 - j` -/

theorem start (hj : j < 64) : (b3 j s (Shape.Idx.first Gen.h_S_)).toInt = ((63 - j : ℕ) : ℤ) := by
  show (IntOp.subi (IntOp.subi 64#32 (BitVec.ofNat 32 j)) 1#32).toInt = _
  have h : ∀ a : Fin 64, (IntOp.subi (IntOp.subi 64#32 (BitVec.ofNat 32 a.val)) 1#32).toInt = ((63 - a.val : ℕ) : ℤ) := by
    decide +kernel
  exact h ⟨j, hj⟩

theorem fits3 (j l : ℕ) : (⟨3, ![64, 64, l]⟩ : Shape).Slices ![63 - j, 0, 0] ⟨3, ![1, 64, l]⟩ :=
  ⟨rfl, fun a => by
    fin_cases a
    · show 63 - j + 1 ≤ 64; omega
    · exact Nat.le_of_eq (Nat.zero_add 64)
    · exact Nat.le_of_eq (Nat.zero_add l)⟩

theorem fits4 (j l : ℕ) : (⟨4, ![64, 4, l, l]⟩ : Shape).Slices ![63 - j, 0, 0, 0] ⟨4, ![1, 4, l, l]⟩ :=
  ⟨rfl, fun a => by
    fin_cases a
    · show 63 - j + 1 ≤ 64; omega
    · exact Nat.le_of_eq (Nat.zero_add 4)
    · exact Nat.le_of_eq (Nat.zero_add l)
    · exact Nat.le_of_eq (Nat.zero_add l)⟩

/-- A chunk cut out of an array of chunks. -/
theorem cut3 {l : ℕ} (hj : j < 64) (x : (⟨3, ![64, 64, l]⟩ : Shape).Idx → EReal) (st : Fin 3 → ℤ)
    (h : (⟨3, ![64, 64, l]⟩ : Shape).Slices (fun _ => 0) ⟨3, ![1, 64, l]⟩)
    (h0 : st 0 = ((63 - j : ℕ) : ℤ)) (h1 : st 1 = 0) (h2 : st 2 = 0) (i : Fin 64) (c : Fin l) :
    Host.dynamicSlice ⟨3, ![1, 64, l]⟩ x st h (ix3 0 i c) = x (ix3 (Data.nth j) i c) := by
  rw [Host.dynamicSlice_eq_extractStridedSlice _ x st ![63 - j, 0, 0] h (fits3 j l) (fun a => by
    fin_cases a
    · exact h0
    · exact h1
    · exact h2)]
  pointwise
  congr 1
  funext b
  refine Fin.ext ?_
  fin_cases b
  · rfl
  · exact Nat.zero_add _
  · exact Nat.zero_add _

theorem cut4 {l : ℕ} (hj : j < 64) (x : (⟨4, ![64, 4, l, l]⟩ : Shape).Idx → EReal) (st : Fin 4 → ℤ)
    (h : (⟨4, ![64, 4, l, l]⟩ : Shape).Slices (fun _ => 0) ⟨4, ![1, 4, l, l]⟩)
    (h0 : st 0 = ((63 - j : ℕ) : ℤ)) (h1 : st 1 = 0) (h2 : st 2 = 0) (h3 : st 3 = 0) (a : Fin 4) (i c : Fin l) :
    Host.dynamicSlice ⟨4, ![1, 4, l, l]⟩ x st h (ix4 0 a i c) = x (ix4 (Data.nth j) a i c) := by
  rw [Host.dynamicSlice_eq_extractStridedSlice _ x st ![63 - j, 0, 0, 0] h (fits4 j l) (fun a => by
    fin_cases a
    · exact h0
    · exact h1
    · exact h2
    · exact h3)]
  pointwise
  congr 1
  funext b
  refine Fin.ext ?_
  fin_cases b
  · rfl
  · exact Nat.zero_add _
  · exact Nat.zero_add _
  · exact Nat.zero_add _

/-- A chunk put into an array of chunks. -/
theorem put3 {l : ℕ} (hj : j < 64) (x : (⟨3, ![64, 64, l]⟩ : Shape).Idx → EReal)
    (u : (⟨3, ![1, 64, l]⟩ : Shape).Idx → EReal) (st : Fin 3 → ℤ)
    (h : (⟨3, ![64, 64, l]⟩ : Shape).Slices (fun _ => 0) ⟨3, ![1, 64, l]⟩)
    (h0 : st 0 = ((63 - j : ℕ) : ℤ)) (h1 : st 1 = 0) (h2 : st 2 = 0) (n i : Fin 64) (c : Fin l) :
    Host.dynamicUpdateSlice x u st h (ix3 n i c) = if n = Data.nth j then u (ix3 0 i c) else x (ix3 n i c) := by
  rw [Host.dynamicUpdateSlice_eq_updateSlice x u st h ![63 - j, 0, 0] (fun a => by
    fin_cases a
    · show (min (max (st 0) 0) ((64 - 1 : ℕ) : ℤ)).toNat = 63 - j
      rw [h0]; omega
    · show (min (max (st 1) 0) ((64 - 64 : ℕ) : ℤ)).toNat = 0
      rw [h1]; rfl
    · show (min (max (st 2) 0) ((l - l : ℕ) : ℤ)).toNat = 0
      rw [h2]; omega) (fits3 j l)]
  have hc := c.isLt
  have hi := i.isLt
  pointwise
  have e : (63 - j ≤ n.val ∧ n.val < 63 - j + 1) ↔ n = Data.nth j := by
    constructor
    · intro hh
      exact Fin.ext (show n.val = 63 - j by omega)
    · intro hh
      have : n.val = 63 - j := congrArg Fin.val hh
      omega
  by_cases hn : n = Data.nth j
  · rw [dif_pos (e.mpr hn), if_pos hn]
    have hv : n.val = 63 - j := congrArg Fin.val hn
    congr 1
    funext b
    refine Fin.ext ?_
    fin_cases b
    · show n.val - (63 - j) = 0
      omega
    · rfl
    · rfl
  · rw [dif_neg (fun hh => hn (e.mp hh)), if_neg hn]

theorem b6_at (hj : j < 64) (i : Fin 64) (c : Fin 512) :
    b6 j s (ix3 0 i c) = s.main_v10_0 (ix3 (Data.nth j) i c) := by
  unfold b6
  exact cut3 hj _ _ _ (start hj) (by rfl) (by rfl) i c

theorem b10_at (hj : j < 64) (i : Fin 64) (c : Fin 512) :
    b10 j s (ix3 0 i c) = s.main_v10_1 (ix3 (Data.nth j) i c) := by
  unfold b10
  exact cut3 hj _ _ _ (start hj) (by rfl) (by rfl) i c

theorem b14_at (hj : j < 64) (i : Fin 64) (c : Fin 512) :
    b14 j s (ix3 0 i c) = s.main_v10_2 (ix3 (Data.nth j) i c) := by
  unfold b14
  exact cut3 hj _ _ _ (start hj) (by rfl) (by rfl) i c

theorem b18_at (hj : j < 64) (i : Fin 64) (c : Fin 128) :
    b18 j s (ix3 0 i c) = s.main_v10_3 (ix3 (Data.nth j) i c) := by
  unfold b18
  exact cut3 hj _ _ _ (start hj) (by rfl) (by rfl) i c

theorem b32_at (hj : j < 64) (i : Fin 64) (c : Fin 512) :
    b32 j s (ix3 0 i c) = s.main_v10_6 (ix3 (Data.nth j) i c) := by
  unfold b32
  exact cut3 hj _ _ _ (start hj) (by rfl) (by rfl) i c

theorem b23_at (hj : j < 64) (h : Fin 4) (i c : Fin 64) :
    b23 j s (ix4 0 h i c) = s.main_v10_4 (ix4 (Data.nth j) h i c) := by
  unfold b23
  exact cut4 hj _ _ _ (start hj) (by rfl) (by rfl) (by rfl) h i c

theorem b28_at (hj : j < 64) (h : Fin 4) (i c : Fin 128) :
    b28 j s (ix4 0 h i c) = s.main_v10_5 (ix4 (Data.nth j) h i c) := by
  unfold b28
  exact cut4 hj _ _ _ (start hj) (by rfl) (by rfl) (by rfl) h i c

theorem b297_at (hj : j < 64) (n i : Fin 64) (c : Fin 512) :
    b297 j s (ix3 n i c) = if n = Data.nth j then b294 j s (ix3 0 i c) else s.main_v10_9 (ix3 n i c) := by
  unfold b297
  exact put3 hj _ _ _ _ (start hj) (by rfl) (by rfl) n i c

theorem b301_at (hj : j < 64) (n i : Fin 64) (c : Fin 512) :
    b301 j s (ix3 n i c) = if n = Data.nth j then b298 j s (ix3 0 i c) else s.main_v10_10 (ix3 n i c) := by
  unfold b301
  exact put3 hj _ _ _ _ (start hj) (by rfl) (by rfl) n i c

theorem b305_at (hj : j < 64) (n i : Fin 64) (c : Fin 512) :
    b305 j s (ix3 n i c) = if n = Data.nth j then b302 j s (ix3 0 i c) else s.main_v10_11 (ix3 n i c) := by
  unfold b305
  exact put3 hj _ _ _ _ (start hj) (by rfl) (by rfl) n i c

theorem b309_at (hj : j < 64) (n i : Fin 64) (c : Fin 128) :
    b309 j s (ix3 n i c) = if n = Data.nth j then b306 j s (ix3 0 i c) else s.main_v10_12 (ix3 n i c) := by
  unfold b309
  exact put3 hj _ _ _ _ (start hj) (by rfl) (by rfl) n i c

theorem reads (v : Inv d j s) (hj : j < 64) : RefHead.Reads j s (d.head (Data.nth j)) (d.dS j) where
  q h i c := by
    pointwise [b35, b34, b7]
    exact (b6_at hj i (hcol h c)).trans (v.q _ _ _)
  k h i c := by
    pointwise [b37, b36, b11]
    exact (b10_at hj i (hcol h c)).trans (v.k _ _ _)
  v h i c := by
    pointwise [b39, b38, b15]
    exact (b14_at hj i (hcol h c)).trans (v.v _ _ _)
  beta h i := by
    pointwise [b41, b40, b19]
    exact (b18_at hj i (bcolOf h)).trans (v.bg _ _ _)
  g h i := by
    pointwise [b43, b42, b19]
    exact (b18_at hj i (gcolOf h)).trans (v.bg _ _ _)
  A h i c := by
    pointwise [b24]
    exact (b23_at hj h i c).trans (v.A _ _ _ _)
  S h i c := by
    pointwise [b29]
    exact (b28_at hj h i c).trans (v.S _ _ _ _)
  dO h i c := by
    pointwise [b144, b143, b33]
    exact (b32_at hj i (hcol h c)).trans (v.dO _ _ _)
  dS := v.dS

/-- The write strengths' columns beside the log-decays'. -/
theorem pad_sum (l : ℕ) (f g : Fin 4 → ℝ) :
    (if h : 4 ≤ l ∧ l - 4 < 4 then ((g ⟨l - 4, h.2⟩ : ℝ) : EReal) else 0)
      + (if h : l < 4 then ((f ⟨l, h⟩ : ℝ) : EReal) else 0)
      = ((∑ h : Fin 4, ((if l = h.val then f h else 0) + if l = 4 + h.val then g h else 0) : ℝ) : EReal) := by
  rw [Fin.sum_univ_four]
  by_cases h4 : l < 4
  · interval_cases l <;> simp
  · by_cases h8 : l < 8
    · interval_cases l <;> simp
    · have h1 : ¬(4 ≤ l ∧ l - 4 < 4) := by omega
      obtain ⟨k, rfl⟩ : ∃ k, l = k + 8 := ⟨l - 8, by omega⟩
      simp

theorem after (n : Fin 64) (hn : 63 < n.val + (j + 1)) (hne : n ≠ Data.nth j) : 63 < n.val + j := by
  have : n.val ≠ 63 - j := fun e => hne (Fin.ext e)
  omega

theorem step_inv (v : Inv d j s) (hj : j < 64) : Inv d (j + 1) (step j s) where
  q := (show (step j s).main_v10_0 = s.main_v10_0 from rfl) ▸ v.q
  k := (show (step j s).main_v10_1 = s.main_v10_1 from rfl) ▸ v.k
  v := (show (step j s).main_v10_2 = s.main_v10_2 from rfl) ▸ v.v
  bg := (show (step j s).main_v10_3 = s.main_v10_3 from rfl) ▸ v.bg
  A := (show (step j s).main_v10_4 = s.main_v10_4 from rfl) ▸ v.A
  S := (show (step j s).main_v10_5 = s.main_v10_5 from rfl) ▸ v.S
  dO := (show (step j s).main_v10_6 = s.main_v10_6 from rfl) ▸ v.dO
  dS h a c := by
    show b168 j s _ = _
    exact RefHead.dSn (reads v hj) h a c
  dq n i h c hn := by
    refine (b297_at hj n i (hcol h c)).trans ?_
    by_cases e : n = Data.nth j
    · subst e
      rw [if_pos rfl]
      pointwise [b294, b293, b292]
      rw [hcol_head, hcol_lane]
      exact RefHead.dq (reads v hj) h i c
    · rw [if_neg e]
      exact v.dq n i h c (after n hn e)
  dk n i h c hn := by
    refine (b301_at hj n i (hcol h c)).trans ?_
    by_cases e : n = Data.nth j
    · subst e
      rw [if_pos rfl]
      pointwise [b298, b291, b290]
      rw [hcol_head, hcol_lane]
      rw [Data.dk, d.dSout_nth hj]
      exact RefHead.dk (reads v hj) h i c
    · rw [if_neg e]
      exact v.dk n i h c (after n hn e)
  dv n i h c hn := by
    refine (b305_at hj n i (hcol h c)).trans ?_
    by_cases e : n = Data.nth j
    · subst e
      rw [if_pos rfl]
      pointwise [b302, b289, b288]
      rw [hcol_head, hcol_lane]
      rw [Data.dv, d.dSout_nth hj]
      exact RefHead.dv (reads v hj) h i c
    · rw [if_neg e]
      exact v.dv n i h c (after n hn e)
  dbg n i l hn := by
    refine (b309_at hj n i l).trans ?_
    by_cases e : n = Data.nth j
    · subst e
      rw [if_pos rfl, Data.dbg, d.dSout_nth hj]
      have hl := l.isLt
      pointwise [b306, b287, b286, b285, b284, b283, b282, b281]
      simp only [RefHead.dg (reads v hj), RefHead.dbeta (reads v hj)]
      exact pad_sum l.val (fun h => (d.head (Data.nth j) h).dbeta (d.dS j h) i)
        (fun h => (d.head (Data.nth j) h).dg (d.dS j h) i)
    · rw [if_neg e]
      exact v.dbg n i l (after n hn e)

/-! ## From the first trip to the results -/

/-- The arguments hold the data. -/
structure Args (d : Data) (a0 a1 a2 a6 : FVec Ideal S4096x512 .f32) (a3 : FVec Ideal S4096x128 .f32)
    (a4 : FVec Ideal S64x4x64x64 .f32) (a5 : FVec Ideal S64x4x128x128 .f32) : Prop where
  q : ∀ r l, a0 (ix2 r l) = ((d.q r l : ℝ) : EReal)
  k : ∀ r l, a1 (ix2 r l) = ((d.k r l : ℝ) : EReal)
  v : ∀ r l, a2 (ix2 r l) = ((d.v r l : ℝ) : EReal)
  bg : ∀ r l, a3 (ix2 r l) = ((d.bg r l : ℝ) : EReal)
  A : ∀ n h i c, a4 (ix4 n h i c) = ((d.A n h i c : ℝ) : EReal)
  S : ∀ n h i c, a5 (ix4 n h i c) = ((d.S n h i c : ℝ) : EReal)
  dO : ∀ r l, a6 (ix2 r l) = ((d.dO r l : ℝ) : EReal)

variable {a0 a1 a2 a6 : FVec Ideal S4096x512 .f32} {a3 : FVec Ideal S4096x128 .f32}
  {a4 : FVec Ideal S64x4x64x64 .f32} {a5 : FVec Ideal S64x4x128x128 .f32}

/-- The state before the first trip. -/
theorem init_inv (a : Args d a0 a1 a2 a6 a3 a4 a5) : Inv d 0 (init a4 a5 a0 a1 a2 a3 a6) where
  q n i l := by
    show A_main_v1 (F := Idealize.ShloMosaic.Ideal) a0 a1 a2 a3 a6 _ = _
    pointwise [A_main_v1]
    exact a.q _ _
  k n i l := by
    show A_main_v2 (F := Idealize.ShloMosaic.Ideal) a0 a1 a2 a3 a6 _ = _
    pointwise [A_main_v2]
    exact a.k _ _
  v n i l := by
    show A_main_v3 (F := Idealize.ShloMosaic.Ideal) a0 a1 a2 a3 a6 _ = _
    pointwise [A_main_v3]
    exact a.v _ _
  bg n i l := by
    show A_main_v4 (F := Idealize.ShloMosaic.Ideal) a0 a1 a2 a3 a6 _ = _
    pointwise [A_main_v4]
    exact a.bg _ _
  A := a.A
  S := a.S
  dO n i l := by
    show A_main_v5 (F := Idealize.ShloMosaic.Ideal) a0 a1 a2 a3 a6 _ = _
    pointwise [A_main_v5]
    exact a.dO _ _
  dS h i c := by
    show K_main_v0 (F := Idealize.ShloMosaic.Ideal) (ix3 h i c) = _
    pointwise [K_main_v0, K_main_cst]
    rfl
  dq n i h c hn := absurd hn (by have := n.isLt; omega)
  dk n i h c hn := absurd hn (by have := n.isLt; omega)
  dv n i h c hn := absurd hn (by have := n.isLt; omega)
  dbg n i l hn := absurd hn (by have := n.isLt; omega)

theorem iter_inv (it : ℕ → State Ideal) (h0 : Inv d 0 (it 0)) (hs : ∀ n, it (n + 1) = step n (it n)) :
    ∀ n, n ≤ 64 → Inv d n (it n)
  | 0, _ => h0
  | n + 1, h => hs n ▸ step_inv (iter_inv it h0 hs n (by omega)) (by omega)

variable (v : Inv d 64 s) (n i : Fin 64)
include v

/-- The results at an index. -/
theorem out_dq (h : Fin 4) (c : Fin 128) : R_main_v11 s (ix2 (crow n i) (hcol h c)) = ((d.dq n i h c : ℝ) : EReal) := by
  pointwise [R_main_v11]
  rw [crow_chunk, crow_row]
  exact v.dq n i h c (by omega)
theorem out_dk (h : Fin 4) (c : Fin 128) : R_main_v12 s (ix2 (crow n i) (hcol h c)) = ((d.dk n i h c : ℝ) : EReal) := by
  pointwise [R_main_v12]
  rw [crow_chunk, crow_row]
  exact v.dk n i h c (by omega)
theorem out_dv (h : Fin 4) (c : Fin 128) : R_main_v13 s (ix2 (crow n i) (hcol h c)) = ((d.dv n i h c : ℝ) : EReal) := by
  pointwise [R_main_v13]
  rw [crow_chunk, crow_row]
  exact v.dv n i h c (by omega)
theorem out_dbg (l : Fin 128) : R_main_v14 s (ix2 (crow n i) l) = ((d.dbg n i l : ℝ) : EReal) := by
  pointwise [R_main_v14]
  rw [crow_chunk, crow_row]
  exact v.dbg n i l (by omega)

end Cert.RefLoop
-- ==== Proof.KBlock.lean ====
/-
  The blocks that a grid point is given, as rows of the argument arrays: point `t` handles chunks `63 - 4t` down to
  `60 - 4t`.
-/
module

public import proofs.«01_k».proof.Proof.KLoads
public import proofs.«01_k».proof.Proof.KHost
public import proofs.«01_k».proof.Proof.RefLoop

@[expose] public section

set_option synthInstance.maxSize 4096

noncomputable section

namespace Cert.KPoint

open Idealize.ShloMosaic Idealize.ShloMosaic.TcCoe Cert.KernelIdeal Cert.KernelIdeal.Gen Cert.KTile DeltaRule

/-- The chunk of the sequence that is chunk `u` of a point which comes after `j` chunks. -/
abbrev chunkOf (j : ℕ) (u : Fin cb) : Fin 64 := Data.nth (j + before u)

theorem point_lt (t : Fin cfg0.N) : t.val < 16 := lt_of_lt_of_eq t.isLt N_0

theorem chunkOf_val (t : Fin cfg0.N) (u : Fin cb) : (chunkOf (4 * t.val) u).val = (15 - t.val) * 4 + u.val := by
  have := point_lt t
  have hu : u.val < 4 := u.isLt
  show 63 - (4 * t.val + (3 - u.val)) = _
  omega

/-! ## Where the windows' blocks lie -/

theorem idx0 : ∀ t : Fin cfg0.N, win0_0.index t (0 : Fin 2) = 15 - t.val ∧ win0_0.index t (1 : Fin 2) = 0 :=
  (by decide +kernel : ∀ t : Fin grid0.N, _)
theorem idx1 : ∀ t : Fin cfg0.N, win0_1.index t (0 : Fin 2) = 15 - t.val ∧ win0_1.index t (1 : Fin 2) = 0 :=
  (by decide +kernel : ∀ t : Fin grid0.N, _)
theorem idx2 : ∀ t : Fin cfg0.N, win0_2.index t (0 : Fin 2) = 15 - t.val ∧ win0_2.index t (1 : Fin 2) = 0 :=
  (by decide +kernel : ∀ t : Fin grid0.N, _)
theorem idx3 : ∀ t : Fin cfg0.N, win0_3.index t (0 : Fin 2) = 15 - t.val ∧ win0_3.index t (1 : Fin 2) = 0 :=
  (by decide +kernel : ∀ t : Fin grid0.N, _)
theorem idx4 : ∀ t : Fin cfg0.N, win0_4.index t (0 : Fin 2) = 15 - t.val ∧ win0_4.index t (1 : Fin 2) = 0 :=
  (by decide +kernel : ∀ t : Fin grid0.N, _)
theorem idx5 : ∀ t : Fin cfg0.N, win0_5.index t (0 : Fin 3) = 15 - t.val ∧ win0_5.index t (1 : Fin 3) = 0
    ∧ win0_5.index t (2 : Fin 3) = 0 := (by decide +kernel : ∀ t : Fin grid0.N, _)
theorem idx6 : ∀ t : Fin cfg0.N, win0_6.index t (0 : Fin 4) = 15 - t.val ∧ win0_6.index t (1 : Fin 4) = 0
    ∧ win0_6.index t (2 : Fin 4) = 0 ∧ win0_6.index t (3 : Fin 4) = 0 := (by decide +kernel : ∀ t : Fin grid0.N, _)
theorem idx7 : ∀ t : Fin cfg0.N, win0_7.index t (0 : Fin 4) = 15 - t.val ∧ win0_7.index t (1 : Fin 4) = 0
    ∧ win0_7.index t (2 : Fin 4) = 0 ∧ win0_7.index t (3 : Fin 4) = 0 := (by decide +kernel : ∀ t : Fin grid0.N, _)
theorem idx8 : ∀ t : Fin cfg0.N, win0_8.index t (0 : Fin 4) = 15 - t.val ∧ win0_8.index t (1 : Fin 4) = 0
    ∧ win0_8.index t (2 : Fin 4) = 0 ∧ win0_8.index t (3 : Fin 4) = 0 := (by decide +kernel : ∀ t : Fin grid0.N, _)
theorem idx9 : ∀ t : Fin cfg0.N, win0_9.index t (0 : Fin 2) = 15 - t.val ∧ win0_9.index t (1 : Fin 2) = 0 :=
  (by decide +kernel : ∀ t : Fin grid0.N, _)
theorem idx10 : ∀ t : Fin cfg0.N, win0_10.index t (0 : Fin 2) = 15 - t.val ∧ win0_10.index t (1 : Fin 2) = 0 :=
  (by decide +kernel : ∀ t : Fin grid0.N, _)
theorem idx11 : ∀ t : Fin cfg0.N, win0_11.index t (0 : Fin 2) = 15 - t.val ∧ win0_11.index t (1 : Fin 2) = 0 :=
  (by decide +kernel : ∀ t : Fin grid0.N, _)
theorem idx12 : ∀ t : Fin cfg0.N, win0_12.index t (0 : Fin 2) = 15 - t.val ∧ win0_12.index t (1 : Fin 2) = 0 :=
  (by decide +kernel : ∀ t : Fin grid0.N, _)
theorem idx13 : ∀ t : Fin cfg0.N, win0_13.index t (0 : Fin 2) = 15 - t.val ∧ win0_13.index t (1 : Fin 2) = 0 :=
  (by decide +kernel : ∀ t : Fin grid0.N, _)

section Emb

variable (t : Fin cfg0.N) (u : Fin cb) (i : Fin 64)

/-- Row `i` of the point's chunk `u` in the sequence, from the block's number. -/
theorem row_eq {p : ℕ} (hp : p = 15 - t.val) : p * 256 + 1 * (u.val * 64 + i.val) = (crow (chunkOf (4 * t.val) u) i).val := by
  have := chunkOf_val t u
  show _ = (chunkOf (4 * t.val) u).val * 64 + i.val
  omega
theorem slab_eq {p : ℕ} (hp : p = 15 - t.val) : p * 4 + 1 * u.val = (chunkOf (4 * t.val) u).val := by
  have := chunkOf_val t u
  omega
theorem full_eq {p s x : ℕ} (hp : p = 0) : p * s + 1 * x = x := by subst hp; omega

theorem emb0 (l : Fin 512) : ((cfg0.win 0).blk t).view.emb (ix2 (prow u i) l) = ix2 (crow (chunkOf (4 * t.val) u) i) l :=
  eq_ix2 _ _ _ (row_eq t u i (idx0 t).1) (full_eq (idx0 t).2)
theorem emb1 (l : Fin 512) : ((cfg0.win 1).blk t).view.emb (ix2 (prow u i) l) = ix2 (crow (chunkOf (4 * t.val) u) i) l :=
  eq_ix2 _ _ _ (row_eq t u i (idx1 t).1) (full_eq (idx1 t).2)
theorem emb2 (l : Fin 512) : ((cfg0.win 2).blk t).view.emb (ix2 (prow u i) l) = ix2 (crow (chunkOf (4 * t.val) u) i) l :=
  eq_ix2 _ _ _ (row_eq t u i (idx2 t).1) (full_eq (idx2 t).2)
theorem emb3 (l : Fin 128) : ((cfg0.win 3).blk t).view.emb (ix2 (prow u i) l) = ix2 (crow (chunkOf (4 * t.val) u) i) l :=
  eq_ix2 _ _ _ (row_eq t u i (idx3 t).1) (full_eq (idx3 t).2)
theorem emb4 (l : Fin 128) : ((cfg0.win 4).blk t).view.emb (ix2 (prow u i) l) = ix2 (crow (chunkOf (4 * t.val) u) i) l :=
  eq_ix2 _ _ _ (row_eq t u i (idx4 t).1) (full_eq (idx4 t).2)
theorem emb5 (l : Fin 8) : ((cfg0.win 5).blk t).view.emb (ix3 u l i) = ix3 (chunkOf (4 * t.val) u) l i :=
  eq_ix3 _ _ _ _ (slab_eq t u (idx5 t).1) (full_eq (idx5 t).2.1) (full_eq (idx5 t).2.2)
theorem emb6 (h : Fin 4) (k : Fin 64) : ((cfg0.win 6).blk t).view.emb (ix4 u h i k) = ix4 (chunkOf (4 * t.val) u) h i k :=
  eq_ix4 _ _ _ _ _ (slab_eq t u (idx6 t).1) (full_eq (idx6 t).2.1) (full_eq (idx6 t).2.2.1) (full_eq (idx6 t).2.2.2)
theorem emb7 (h : Fin 4) (k : Fin 64) : ((cfg0.win 7).blk t).view.emb (ix4 u h i k) = ix4 (chunkOf (4 * t.val) u) h i k :=
  eq_ix4 _ _ _ _ _ (slab_eq t u (idx7 t).1) (full_eq (idx7 t).2.1) (full_eq (idx7 t).2.2.1) (full_eq (idx7 t).2.2.2)
theorem emb8 (h : Fin 4) (a k : Fin 128) : ((cfg0.win 8).blk t).view.emb (ix4 u h a k) = ix4 (chunkOf (4 * t.val) u) h a k :=
  eq_ix4 _ _ _ _ _ (slab_eq t u (idx8 t).1) (full_eq (idx8 t).2.1) (full_eq (idx8 t).2.2.1) (full_eq (idx8 t).2.2.2)
theorem emb9 (l : Fin 512) : ((cfg0.win 9).blk t).view.emb (ix2 (prow u i) l) = ix2 (crow (chunkOf (4 * t.val) u) i) l :=
  eq_ix2 _ _ _ (row_eq t u i (idx9 t).1) (full_eq (idx9 t).2)
theorem emb10 (l : Fin 512) : ((cfg0.win 10).blk t).view.emb (ix2 (prow u i) l) = ix2 (crow (chunkOf (4 * t.val) u) i) l :=
  eq_ix2 _ _ _ (row_eq t u i (idx10 t).1) (full_eq (idx10 t).2)
theorem emb11 (l : Fin 512) : ((cfg0.win 11).blk t).view.emb (ix2 (prow u i) l) = ix2 (crow (chunkOf (4 * t.val) u) i) l :=
  eq_ix2 _ _ _ (row_eq t u i (idx11 t).1) (full_eq (idx11 t).2)
theorem emb12 (l : Fin 512) : ((cfg0.win 12).blk t).view.emb (ix2 (prow u i) l) = ix2 (crow (chunkOf (4 * t.val) u) i) l :=
  eq_ix2 _ _ _ (row_eq t u i (idx12 t).1) (full_eq (idx12 t).2)
theorem emb13 (l : Fin 128) : ((cfg0.win 13).blk t).view.emb (ix2 (prow u i) l) = ix2 (crow (chunkOf (4 * t.val) u) i) l :=
  eq_ix2 _ _ _ (row_eq t u i (idx13 t).1) (full_eq (idx13 t).2)

end Emb

/-! ## The blocks -/

variable {m : (ℓ : Loc nD τ sig) → Buf (Elt Ideal) ℓ} {c : Dev nD} {d : Data}

/-- The arguments on a device are the sequence's real numbers. -/
abbrev ArgsAt (m : (ℓ : Loc nD τ sig) → Buf (Elt Ideal) ℓ) (c : Dev nD) (d : Data) : Prop :=
  RefLoop.Args d (m ((c : Thread nD τ).loc main_arg0)) (m ((c : Thread nD τ).loc main_arg1))
    (m ((c : Thread nD τ).loc main_arg2)) (m ((c : Thread nD τ).loc main_arg6)) (m ((c : Thread nD τ).loc main_arg3))
    (m ((c : Thread nD τ).loc main_arg4)) (m ((c : Thread nD τ).loc main_arg5))

/-- The accumulated log-decay of a chunk's rows, summed over the gate array. -/
theorem acc_real (a : ArgsAt m c d) (n i : Fin 64) (h : Fin 4) (l : Fin 128) (hl : l = gcolOf h) :
    (∑ j : Fin 64, if j ≤ i then KHost.bgOf m c (ix2 (crow n j) l) else 0) = (((d.head n h).G i : ℝ) : EReal) := by
  subst hl
  rw [Head.G, ← sum_coe]
  refine Finset.sum_congr rfl fun j _ => ?_
  rw [← ite_coe]
  congr 1
  exact a.bg _ _

theorem block (a : ArgsAt m c d) (t : Fin cfg0.N) :
    Block d (chunkOf (4 * t.val)) (iblk m c 0 t) (iblk m c 1 t) (iblk m c 2 t) (iblk m c 3 t) (iblk m c 4 t) (iblk m c 5 t)
      (iblk m c 6 t) (iblk m c 7 t) (iblk m c 8 t) (iblk m c 9 t) where
  q u i l := by
    show V m c main_arg0 (((cfg0.win 0).blk t).view.emb (ix2 (prow u i) l)) = _
    rw [emb0, V_main_arg0]; exact a.q _ _
  k u i l := by
    show V m c main_arg1 (((cfg0.win 1).blk t).view.emb (ix2 (prow u i) l)) = _
    rw [emb1, V_main_arg1]; exact a.k _ _
  v u i l := by
    show V m c main_arg2 (((cfg0.win 2).blk t).view.emb (ix2 (prow u i) l)) = _
    rw [emb2, V_main_arg2]; exact a.v _ _
  bg u i l := by
    show V m c main_arg3 (((cfg0.win 3).blk t).view.emb (ix2 (prow u i) l)) = _
    rw [emb3, V_main_arg3]; exact a.bg _ _
  gc u i h := by
    show V m c main_v5 (((cfg0.win 4).blk t).view.emb (ix2 (prow u i) (gcolOf h))) = _
    rw [emb4]
    exact (KHost.v5_at m c _ i _).trans (acc_real a _ i h _ rfl)
  gct u h i := by
    show V m c main_v3 (((cfg0.win 5).blk t).view.emb (ix3 u ⟨4 + h.val, _⟩ i)) = _
    rw [emb5]
    exact (KHost.v3_at m c _ i _).trans (acc_real a _ i h _ rfl)
  A u h i k := by
    show V m c main_arg4 (((cfg0.win 6).blk t).view.emb (ix4 u h i k)) = _
    rw [emb6, V_main_arg4]; exact a.A _ _ _ _
  At u h i k := by
    show V m c main_v4 (((cfg0.win 7).blk t).view.emb (ix4 u h i k)) = _
    rw [emb7]
    exact (KHost.v4_at m c _ h i k).trans (a.A _ _ _ _)
  S u h i k := by
    show V m c main_arg5 (((cfg0.win 8).blk t).view.emb (ix4 u h i k)) = _
    rw [emb8, V_main_arg5]; exact a.S _ _ _ _
  dO u i l := by
    show V m c main_arg6 (((cfg0.win 9).blk t).view.emb (ix2 (prow u i) l)) = _
    rw [emb9, V_main_arg6]; exact a.dO _ _

end Cert.KPoint

end
-- ==== Proof.KOuts.lean ====
/-
  What the grid points leave in their output blocks and in the scratch: the gradients of the point's four chunks, and the
  gradient of the state that enters the first of them.
-/
module

public import proofs.«01_k».proof.Proof.KBlock

@[expose] public section

set_option synthInstance.maxSize 4096

noncomputable section

namespace Cert.KPoint

open Idealize.ShloMosaic Idealize.ShloMosaic.TcCoe Cert.KernelIdeal Cert.KernelIdeal.Gen Cert.KTile DeltaRule

/-- Contents of a point's four output blocks and of its scratch, after `j` chunks came before it. -/
structure Out (d : Data) (j : ℕ)
    (o : Vec Ideal S256x512 .f32 × Vec Ideal S256x512 .f32 × Vec Ideal S256x512 .f32 × Vec Ideal S256x128 .f32
      × Vec Ideal S4x128x128 .f32) : Prop where
  dq : ∀ u i h c, o.1 (ix2 (prow u i) (hcol h c)) = ((d.dq (chunkOf j u) i h c : ℝ) : EReal)
  dk : ∀ u i h c, o.2.1 (ix2 (prow u i) (hcol h c)) = ((d.dk (chunkOf j u) i h c : ℝ) : EReal)
  dv : ∀ u i h c, o.2.2.1 (ix2 (prow u i) (hcol h c)) = ((d.dv (chunkOf j u) i h c : ℝ) : EReal)
  dbg : ∀ u i l, o.2.2.2.1 (ix2 (prow u i) l) = ((d.dbg (chunkOf j u) i l : ℝ) : EReal)
  dS : ∀ h a c, o.2.2.2.2 (ix3 h a c) = ((d.dS (j + 4) h a c : ℝ) : EReal)

theorem before_lt (u : Fin cb) : before u < 4 := by
  show 3 - u.val < 4
  omega

section Stores

variable {d : Data} {j : ℕ} (hj : j + 4 ≤ 64) {L : Loads Ideal}
  (r : ∀ u h, (L.tile u h).Reads (d.head (chunkOf j u) h))
  (h0 : ∀ h a c, L.dS h (ix3 0 a c) = ((d.dS j h a c : ℝ) : EReal))

include r

/-- The chunk handled `m`-th by a point is read as chunk `j + m` from the end. -/
theorem reads_back (m : ℕ) (hm : m < 4) (h : Fin 4) : (L.tile (Loads.back m) h).Reads (d.head (Data.nth (j + m)) h) := by
  have e : before (Loads.back m) = m := by
    show 3 - (4 - 1 - m) = m
    omega
  have := r (Loads.back m) h
  unfold chunkOf at this
  rwa [e] at this

theorem stored_dq (u : Fin cb) (i : Fin 64) (h : Fin 4) (c : Fin 128) :
    View.canon (Val := Elt Ideal) L.dqs (ix2 (prow u i) (hcol h c)) = ((d.dq (chunkOf j u) i h c : ℝ) : EReal) := by
  unfold Loads.dqs
  rw [canon_wide]
  exact Tile.dq_at (reads_back r _ (before_lt u) h) i c

include h0

/-- The state gradient that leaves chunk `u`, in the tile's own reading. -/
theorem held (u : Fin cb) (h : Fin 4) : Holds (L.dSat (before u) h) (d.dS (j + before u) h) :=
  dSat_holds (reads_back r) h0 _ (Nat.le_of_lt (before_lt u)) h

theorem stored_dS (L' : List (View.Piece (Elt Ideal) S4x128x128 .f32)) (h : Fin 4) (a c : Fin 128) :
    View.canon (Val := Elt Ideal) (L.dSs ++ L') (ix3 h a c) = ((d.dS (j + 4) h a c : ℝ) : EReal) := by
  unfold Loads.dSs
  rw [canon_carry]
  exact dSat_holds (reads_back r) h0 4 (Nat.le_refl _) h a c

include hj

theorem stored_dk (u : Fin cb) (i : Fin 64) (h : Fin 4) (c : Fin 128) :
    View.canon (Val := Elt Ideal) L.dks (ix2 (prow u i) (hcol h c)) = ((d.dk (chunkOf j u) i h c : ℝ) : EReal) := by
  have := before_lt u
  unfold Loads.dks
  rw [canon_wide, Data.dk, Data.dSout_nth d (by omega)]
  exact Tile.dk_at (reads_back r _ (before_lt u) h) (held r h0 u h) i c

theorem stored_dv (u : Fin cb) (i : Fin 64) (h : Fin 4) (c : Fin 128) :
    View.canon (Val := Elt Ideal) L.dvs (ix2 (prow u i) (hcol h c)) = ((d.dv (chunkOf j u) i h c : ℝ) : EReal) := by
  have := before_lt u
  unfold Loads.dvs
  rw [canon_wide, Data.dv, Data.dSout_nth d (by omega)]
  exact Tile.dv_at (reads_back r _ (before_lt u) h) (held r h0 u h) i c

theorem stored_dbg (u : Fin cb) (i : Fin 64) (l : Fin 128) :
    View.canon (Val := Elt Ideal) L.dbgs (ix2 (prow u i) l) = ((d.dbg (chunkOf j u) i l : ℝ) : EReal) := by
  have := before_lt u
  unfold Loads.dbgs
  rw [canon_narrow, Data.dbg, Data.dSout_nth d (by omega)]
  exact dbg_at (fun h => reads_back r _ (before_lt u) h) (fun h => held r h0 u h) i l

end Stores

/-! ## Along the grid -/

variable {m : (ℓ : Loc nD τ sig) → Buf (Elt Ideal) ℓ} {c : Dev nD} {d : Data}

/-- The first point, which starts from zeros. -/
theorem out_first (a : ArgsAt m c d) (t : Fin cfg0.N) (h0 : t.val % 16 = 0) :
    Out d (4 * t.val) (outsAt0 m c t.val t.isLt) := by
  have hN := point_lt t
  have ht : t.val = 0 := by omega
  have r := fun u h => loads_reads (hs0_0 t) (hs0_1 t) (hs0_2 t) (hs0_3 t) (hs0_4 t) (hs0_5 t) (hs0_6 t) (hs0_7 t) (hs0_8 t)
    (hs0_9 t) (block a t) (zeroed scM0_0) u h
  have z : ∀ h a' c', zeroed (F := Ideal) scM0_0 h (ix3 0 a' c') = ((d.dS (4 * t.val) h a' c' : ℝ) : EReal) := by
    intro h a' c'
    rw [zeroed_at, ht]
    exact coe_zero'.symm
  rw [outsAt0_A m c t h0]
  refine ⟨fun u i h x => ?_, fun u i h x => ?_, fun u i h x => ?_, fun u i l => ?_, fun h x y => ?_⟩
  · dsimp only
    unfold out0_A_10
    rw [View.read_writes_junk_eq_canon, A_dqs]
    exact stored_dq r u i h x
  · dsimp only
    unfold out0_A_11
    rw [View.read_writes_junk_eq_canon, A_dks]
    exact stored_dk (by omega) r z u i h x
  · dsimp only
    unfold out0_A_12
    rw [View.read_writes_junk_eq_canon, A_dvs]
    exact stored_dv (by omega) r z u i h x
  · dsimp only
    unfold out0_A_13
    rw [View.read_writes_junk_eq_canon, A_dbgs]
    exact stored_dbg (by omega) r z u i l
  · dsimp only
    unfold sout0_A_0
    rw [View.read_writes_junk_eq_canon, A_dSs]
    exact stored_dS r z _ h x y

/-- A later point, which goes on from the state gradient that the point before it left. -/
theorem out_next (a : ArgsAt m c d) (t : Fin cfg0.N) (h0 : ¬ t.val % 16 = 0)
    (before : ∀ (hb : t.val - 1 < cfg0.N) (h : Fin 4) (x y : Fin 128),
      (outsAt0 m c (t.val - 1) hb).2.2.2.2 (ix3 h x y) = ((d.dS (4 * t.val) h x y : ℝ) : EReal)) :
    Out d (4 * t.val) (outsAt0 m c t.val t.isLt) := by
  have hN := point_lt t
  have r := fun xs0 u h => loads_reads (hs0_0 t) (hs0_1 t) (hs0_2 t) (hs0_3 t) (hs0_4 t) (hs0_5 t) (hs0_6 t) (hs0_7 t)
    (hs0_8 t) (hs0_9 t) (block a t) (carried (arg15 := scM0_0) (Memref.isWhole_whole _) xs0) u h
  have hb : t.val - 1 < cfg0.N := by have := N_0; omega
  have z := fun h x y => (carried_at (arg15 := scM0_0) (Memref.isWhole_whole _) (outsAt0 m c (t.val - 1) hb).2.2.2.2 h x y).trans
    (before hb h x y)
  rw [outsAt0_B m c t h0]
  refine ⟨fun u i h x => ?_, fun u i h x => ?_, fun u i h x => ?_, fun u i l => ?_, fun h x y => ?_⟩
  · dsimp only
    unfold out0_B_10
    rw [View.read_writes_junk_eq_canon, B_dqs]
    exact stored_dq (r _) u i h x
  · dsimp only
    unfold out0_B_11
    rw [View.read_writes_junk_eq_canon, B_dks]
    exact stored_dk (by omega) (r _) z u i h x
  · dsimp only
    unfold out0_B_12
    rw [View.read_writes_junk_eq_canon, B_dvs]
    exact stored_dv (by omega) (r _) z u i h x
  · dsimp only
    unfold out0_B_13
    rw [View.read_writes_junk_eq_canon, B_dbgs]
    exact stored_dbg (by omega) (r _) z u i l
  · dsimp only
    unfold sout0_B_0
    rw [View.read_writes_junk_eq_canon, B_dSs, ← List.append_nil (Loads.dSs _)]
    exact stored_dS (r _) z _ h x y

/-- Every point leaves the gradients of its chunks. -/
theorem outs (a : ArgsAt m c d) : ∀ (n : ℕ) (hn : n < cfg0.N), Out d (4 * n) (outsAt0 m c n hn)
  | 0, hn => out_first a ⟨0, hn⟩ rfl
  | n + 1, hn => by
    have hN : n + 1 < 16 := lt_of_lt_of_eq hn N_0
    refine out_next a ⟨n + 1, hn⟩ (by show ¬ (n + 1) % 16 = 0; omega) fun hb h x y => ?_
    exact (outs a n _).dS h x y

end Cert.KPoint

end
-- ==== Proof.KArray.lean ====
/-
  The kernel's four result arrays after the last grid point: the gradients of the whole sequence.
-/
module

public import proofs.«01_k».proof.Proof.KOuts
public import proofs.«01_k».proof.Proof.Gen.KernelIdeal.Value

@[expose] public section

set_option synthInstance.maxSize 4096

noncomputable section

namespace Cert.KPoint

open Idealize.ShloMosaic Idealize.ShloMosaic.TcCoe Cert.KernelIdeal Cert.KernelIdeal.Gen Cert.KTile DeltaRule

variable {m : (ℓ : Loc nD τ sig) → Buf (Elt Ideal) ℓ} {c : Dev nD} {d : Data}

/-- Every chunk is one of a point's four. -/
theorem exists_chunk (n : Fin 64) : ∃ (t : Fin cfg0.N) (u : Fin cb), chunkOf (4 * t.val) u = n := by
  refine ⟨⟨(63 - n.val) / 4, lt_of_lt_of_eq (show (63 - n.val) / 4 < 16 by omega) N_0.symm⟩, ⟨n.val % 4, Nat.mod_lt _ (by decide)⟩, Fin.ext ?_⟩
  show 63 - (4 * ((63 - n.val) / 4) + (3 - n.val % 4)) = n.val
  omega

theorem arr_dq (a : ArgsAt m c d) (n i : Fin 64) (h : Fin 4) (x : Fin 128) :
    (dats m 0 c).arrAt 10 cfg0.N (ix2 (crow n i) (hcol h x)) = ((d.dq n i h x : ℝ) : EReal) := by
  obtain ⟨t, u, rfl⟩ := exists_chunk n
  have e := congrFun ((Value.blocks10 m c t (flush0_10 t)).trans (Value.flushed10 m c t)) (ix2 (prow u i) (hcol h x))
  refine Eq.trans ?_ (e.trans ((outs a t.val t.isLt).dq u i h x))
  show _ = (dats m 0 c).arrAt 10 cfg0.N (((cfg0.win 10).blk t).view.emb (ix2 (prow u i) (hcol h x)))
  rw [emb10]

theorem arr_dk (a : ArgsAt m c d) (n i : Fin 64) (h : Fin 4) (x : Fin 128) :
    (dats m 0 c).arrAt 11 cfg0.N (ix2 (crow n i) (hcol h x)) = ((d.dk n i h x : ℝ) : EReal) := by
  obtain ⟨t, u, rfl⟩ := exists_chunk n
  have e := congrFun ((Value.blocks11 m c t (flush0_11 t)).trans (Value.flushed11 m c t)) (ix2 (prow u i) (hcol h x))
  refine Eq.trans ?_ (e.trans ((outs a t.val t.isLt).dk u i h x))
  show _ = (dats m 0 c).arrAt 11 cfg0.N (((cfg0.win 11).blk t).view.emb (ix2 (prow u i) (hcol h x)))
  rw [emb11]

theorem arr_dv (a : ArgsAt m c d) (n i : Fin 64) (h : Fin 4) (x : Fin 128) :
    (dats m 0 c).arrAt 12 cfg0.N (ix2 (crow n i) (hcol h x)) = ((d.dv n i h x : ℝ) : EReal) := by
  obtain ⟨t, u, rfl⟩ := exists_chunk n
  have e := congrFun ((Value.blocks12 m c t (flush0_12 t)).trans (Value.flushed12 m c t)) (ix2 (prow u i) (hcol h x))
  refine Eq.trans ?_ (e.trans ((outs a t.val t.isLt).dv u i h x))
  show _ = (dats m 0 c).arrAt 12 cfg0.N (((cfg0.win 12).blk t).view.emb (ix2 (prow u i) (hcol h x)))
  rw [emb12]

theorem arr_dbg (a : ArgsAt m c d) (n i : Fin 64) (l : Fin 128) :
    (dats m 0 c).arrAt 13 cfg0.N (ix2 (crow n i) l) = ((d.dbg n i l : ℝ) : EReal) := by
  obtain ⟨t, u, rfl⟩ := exists_chunk n
  have e := congrFun ((Value.blocks13 m c t (flush0_13 t)).trans (Value.flushed13 m c t)) (ix2 (prow u i) l)
  refine Eq.trans ?_ (e.trans ((outs a t.val t.isLt).dbg u i l))
  show _ = (dats m 0 c).arrAt 13 cfg0.N (((cfg0.win 13).blk t).view.emb (ix2 (prow u i) l))
  rw [emb13]

end Cert.KPoint

end
-- ==== Proof.Finite.lean ====
/-
  The precondition: arguments that `finite` accepts are arrays of real numbers.
-/
module

public import proofs.«01_k».proof.Proof.Gen.Pre_finite
public import proofs.«01_k».proof.Proof.RefLoop
public import Idealize.ShloMosaic.Lib.ReduceAll
public import Idealize.ShloMosaic.Lib.KernelVsHost

@[expose] public section

noncomputable section

namespace Cert.Finite

open Idealize.ShloMosaic Cert.Pre_finite DeltaRule

/-- A value below infinity in absolute value is a real number. -/
theorem real_of_olt (x : Ideal .f32)
    (h : FloatOps.cmpf .olt (FloatOps.hostAbsf x) (FloatOps.ofBits (F := Ideal) .f32 0x7F800000#32) = 1#1) :
    @Eq EReal x ((EReal.toReal x : ℝ) : EReal) := by
  rw [← Ideal.xori_weird_eq_hostAbsf_olt_inf] at h
  have hw : ¬ ((x : EReal) = ⊤ ∨ (x : EReal) = ⊥) := fun hx => by
    have : FloatOps.weird x = 1#1 := by
      show BitVec.ofBool (decide ((x : EReal) = ⊤ ∨ (x : EReal) = ⊥)) = 1#1
      rw [decide_eq_true hx]; rfl
    rw [this] at h
    exact absurd h (by decide)
  rw [not_or] at hw
  exact (EReal.coe_toReal hw.1 hw.2).symm

instance : Subsingleton S_.Idx := ⟨fun _ _ => funext fun k => k.elim0⟩

/-- One argument's part of the precondition: an array whose every element is below infinity. -/
theorem reals {s : Shape} {axes : List (Fin s.rank)} (x : FVec Ideal s .f32) (hb : S_.BroadcastsInDim s (![] : Fin 0 → Fin s.rank))
    (hr : s.ReducesTo axes S_) (h0 : 0 < S_.numel) (i : S_.Idx)
    (h : Host.reduce IntOp.andi (cmpf .olt (Host.absf x) (broadcastInDim s ![] hb (constant S_ .f32 0x7F800000#32)))
      (constantI S_ 1 1#1) hr h0 i = 1#1) (k : s.Idx) : @Eq EReal (x k) ((EReal.toReal (x k) : ℝ) : EReal) :=
  real_of_olt _ (Host.reduce_andi_all _ _ hr h0 i h k)

theorem and_one {x y : IVec S_ 1} {i : S_.Idx} (h : andi x y i = 1#1) : x i = 1#1 ∧ y i = 1#1 := by
  have h' : x i &&& y i = 1#1 := h
  revert h'
  generalize x i = a
  generalize y i = b
  revert a b
  decide

/-- Arguments that the precondition accepts are the real numbers of some sequence. -/
theorem exists_data {a0 a1 a2 a6 : FVec Ideal S4096x512 .f32} {a3 : FVec Ideal S4096x128 .f32}
    {a4 : FVec Ideal S64x4x64x64 .f32} {a5 : FVec Ideal S64x4x128x128 .f32}
    (h : Cert.Pre_finite.fn (F := Ideal) a0 a1 a2 a3 a4 a5 a6 = fun _ => 1#1) :
    ∃ d : Data, RefLoop.Args d a0 a1 a2 a6 a3 a4 a5 := by
  have h' := congrFun h (Shape.Idx.first Facts.h_S_)
  unfold Cert.Pre_finite.fn Cert.Pre_finite.fn_part1 at h'
  dsimp only at h'
  obtain ⟨h', f6⟩ := and_one h'
  obtain ⟨h', f5⟩ := and_one h'
  obtain ⟨h', f4⟩ := and_one h'
  obtain ⟨h', f3⟩ := and_one h'
  obtain ⟨h', f2⟩ := and_one h'
  obtain ⟨f0, f1⟩ := and_one h'
  exact ⟨{ q := fun r l => EReal.toReal (a0 (ix2 r l)), k := fun r l => EReal.toReal (a1 (ix2 r l)),
           v := fun r l => EReal.toReal (a2 (ix2 r l)), bg := fun r l => EReal.toReal (a3 (ix2 r l)),
           A := fun n h i c => EReal.toReal (a4 (ix4 n h i c)), S := fun n h i c => EReal.toReal (a5 (ix4 n h i c)),
           dO := fun r l => EReal.toReal (a6 (ix2 r l)) },
    { q := fun r l => reals _ _ _ _ _ f0 _, k := fun r l => reals _ _ _ _ _ f1 _, v := fun r l => reals _ _ _ _ _ f2 _,
      bg := fun r l => reals _ _ _ _ _ f3 _, A := fun n h i c => reals _ _ _ _ _ f4 _,
      S := fun n h i c => reals _ _ _ _ _ f5 _, dO := fun r l => reals _ _ _ _ _ f6 _ }⟩

end Cert.Finite

end
-- ==== Proof.RefTripA.lean ====
/-
  One trip of the reference's loop, value by value: at a valuation that HOLDS a state, every value that the trip
  computes is the one of the step function of Gen/ReferenceIdeal/Step.lean (the first two hundred values).
-/
module

public import proofs.«01_k».proof.Proof.Gen.ReferenceIdeal.Run
public import proofs.«01_k».proof.Proof.Gen.ReferenceIdeal.Step

@[expose] public section

noncomputable section

namespace Cert.RefTrip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v10_8) = s.main_v10_8
  f_9 : V0 (Proc.devRef .tc main_v10_9) = s.main_v10_9
  f_10 : V0 (Proc.devRef .tc main_v10_10) = s.main_v10_10
  f_11 : V0 (Proc.devRef .tc main_v10_11) = s.main_v10_11
  f_12 : V0 (Proc.devRef .tc main_v10_12) = s.main_v10_12
  f_0 : V0 (Proc.devRef .tc main_v10_0) = s.main_v10_0
  f_1 : V0 (Proc.devRef .tc main_v10_1) = s.main_v10_1
  f_2 : V0 (Proc.devRef .tc main_v10_2) = s.main_v10_2
  f_3 : V0 (Proc.devRef .tc main_v10_3) = s.main_v10_3
  f_4 : V0 (Proc.devRef .tc main_v10_4) = s.main_v10_4
  f_5 : V0 (Proc.devRef .tc main_v10_5) = s.main_v10_5
  f_6 : V0 (Proc.devRef .tc main_v10_6) = s.main_v10_6
  n_7 : V0 (Proc.devRef .tc main_v10_7) = constantI S_ 32 (BitVec.ofNat 32 j)

variable {V0 s j}

set_option maxRecDepth 8192 in
theorem al_0 (h : Holds V0 s j) : (constantI S_ 32 64#32 : (Proc.devRef .tc main_while0b_c_16 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 64#32) (V0 (Proc.devRef .tc main_v10_7)) : (Proc.devRef .tc main_while0b_v15 : DevRef τ sig).ty.Contents (Elt F)) = Cert.ReferenceIdeal.Step.b1 j s := by
  unfold Cert.ReferenceIdeal.Step.b1
  rw [← al_0 h, h.n_7]
  try rfl
set_option maxRecDepth 8192 in
theorem al_2 (h : Holds V0 s j) : (constantI S_ 32 1#32 : (Proc.devRef .tc main_while0b_c_17 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v16 V0 : (Proc.devRef .tc main_while0b_v16 : DevRef τ sig).ty.Contents (Elt F)) = Cert.ReferenceIdeal.Step.b3 j s := by
  unfold res_main_while0b_v16 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x64x512 (V0 (Proc.devRef .tc main_v10_0)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512 : (Proc.devRef .tc main_while0b_call0_v0 : DevRef τ sig).ty.Contents (Elt F)) = Cert.ReferenceIdeal.Step.b6 j s := by
  unfold Cert.ReferenceIdeal.Step.b6
  rw [← al_3 h, ← al_4 h, ← al_5 h, h.f_0]
  try rfl
set_option maxRecDepth 8192 in
theorem al_7 (h : Holds V0 s j) : (shapeCast S64x512 (Host.dynamicSlice S1x64x512 (V0 (Proc.devRef .tc main_v10_0)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512) shapeCasts_S1x64x512_S64x512 : (Proc.devRef .tc main_while0b_v17 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (constantI S_ 32 0#32 : (Proc.devRef .tc main_while0b_call1_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_0 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x64x512 (V0 (Proc.devRef .tc main_v10_1)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512 : (Proc.devRef .tc main_while0b_call1_v0 : DevRef τ sig).ty.Contents (Elt F)) = Cert.ReferenceIdeal.Step.b10 j s := by
  unfold Cert.ReferenceIdeal.Step.b10
  rw [← al_3 h, ← al_8 h, ← al_9 h, h.f_1]
  try rfl
set_option maxRecDepth 8192 in
theorem al_11 (h : Holds V0 s j) : (shapeCast S64x512 (Host.dynamicSlice S1x64x512 (V0 (Proc.devRef .tc main_v10_1)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512) shapeCasts_S1x64x512_S64x512 : (Proc.devRef .tc main_while0b_v18 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x64x512 (V0 (Proc.devRef .tc main_v10_2)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512 : (Proc.devRef .tc main_while0b_call2_v0 : DevRef τ sig).ty.Contents (Elt F)) = Cert.ReferenceIdeal.Step.b14 j s := by
  unfold Cert.ReferenceIdeal.Step.b14
  rw [← al_3 h, ← al_12 h, ← al_13 h, h.f_2]
  try rfl
set_option maxRecDepth 8192 in
theorem al_15 (h : Holds V0 s j) : (shapeCast S64x512 (Host.dynamicSlice S1x64x512 (V0 (Proc.devRef .tc main_v10_2)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512) shapeCasts_S1x64x512_S64x512 : (Proc.devRef .tc main_while0b_v19 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (constantI S_ 32 0#32 : (Proc.devRef .tc main_while0b_call3_c : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_0 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x64x128 (V0 (Proc.devRef .tc main_v10_3)) (fun k => (((![res_main_while0b_v16 V0, constantI S_ 32 0#32, constantI S_ 32 0#32] : Fin 3 → (⟨S_, .i32⟩ : BufTy).Contents (Elt F))) k (Shape.Idx.first h_S_)).toInt) sliceFits_S64x64x128_S1x64x128 : (Proc.devRef .tc main_while0b_call3_v0 : DevRef τ sig).ty.Contents (Elt F)) = Cert.ReferenceIdeal.Step.b18 j s := by
  unfold Cert.ReferenceIdeal.Step.b18
  rw [← al_3 h, ← al_16 h, ← al_17 h, h.f_3]
  try rfl
set_option maxRecDepth 8192 in
theorem al_19 (h : Holds V0 s j) : (res_main_while0b_v20 V0 : (Proc.devRef .tc main_while0b_v20 : DevRef τ sig).ty.Contents (Elt F)) = Cert.ReferenceIdeal.Step.b19 j s := by
  unfold res_main_while0b_v20 Cert.ReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_0 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call4_c_1 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x4x64x64 (V0 (Proc.devRef .tc main_v10_4)) (fun k => (((![res_main_while0b_v16 V0, constantI S_ 32 0#32, constantI S_ 32 0#32, constantI S_ 32 0#32] : Fin 4 → (⟨S_, .i32⟩ : BufTy).Contents (Elt F))) k (Shape.Idx.first h_S_)).toInt) sliceFits_S64x4x64x64_S1x4x64x64 : (Proc.devRef .tc main_while0b_call4_v0 : DevRef τ sig).ty.Contents (Elt F)) = Cert.ReferenceIdeal.Step.b23 j s := by
  unfold Cert.ReferenceIdeal.Step.b23
  rw [← al_3 h, ← al_20 h, ← al_21 h, ← al_22 h, h.f_4]
  try rfl
set_option maxRecDepth 8192 in
theorem al_24 (h : Holds V0 s j) : (res_main_while0b_v21 V0 : (Proc.devRef .tc main_while0b_v21 : DevRef τ sig).ty.Contents (Elt F)) = Cert.ReferenceIdeal.Step.b24 j s := by
  unfold res_main_while0b_v21 Cert.ReferenceIdeal.Step.b24
  rw [← al_23 h]
  try rfl
set_option maxRecDepth 8192 in
theorem al_25 (h : Holds V0 s j) : (constantI S_ 32 0#32 : (Proc.devRef .tc main_while0b_call5_c : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call5_c_0 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call5_c_1 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x4x128x128 (V0 (Proc.devRef .tc main_v10_5)) (fun k => (((![res_main_while0b_v16 V0, constantI S_ 32 0#32, constantI S_ 32 0#32, constantI S_ 32 0#32] : Fin 4 → (⟨S_, .i32⟩ : BufTy).Contents (Elt F))) k (Shape.Idx.first h_S_)).toInt) sliceFits_S64x4x128x128_S1x4x128x128 : (Proc.devRef .tc main_while0b_call5_v0 : DevRef τ sig).ty.Contents (Elt F)) = Cert.ReferenceIdeal.Step.b28 j s := by
  unfold Cert.ReferenceIdeal.Step.b28
  rw [← al_3 h, ← al_25 h, ← al_26 h, ← al_27 h, h.f_5]
  try rfl
set_option maxRecDepth 8192 in
theorem al_29 (h : Holds V0 s j) : (res_main_while0b_v22 V0 : (Proc.devRef .tc main_while0b_v22 : DevRef τ sig).ty.Contents (Elt F)) = Cert.ReferenceIdeal.Step.b29 j s := by
  unfold res_main_while0b_v22 Cert.ReferenceIdeal.Step.b29
  rw [← al_28 h]
  try rfl
set_option maxRecDepth 8192 in
theorem al_30 (h : Holds V0 s j) : (constantI S_ 32 0#32 : (Proc.devRef .tc main_while0b_call6_c : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call6_c_0 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x64x512 (V0 (Proc.devRef .tc main_v10_6)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512 : (Proc.devRef .tc main_while0b_call6_v0 : DevRef τ sig).ty.Contents (Elt F)) = Cert.ReferenceIdeal.Step.b32 j s := by
  unfold Cert.ReferenceIdeal.Step.b32
  rw [← al_3 h, ← al_30 h, ← al_31 h, h.f_6]
  try rfl
set_option maxRecDepth 8192 in
theorem al_33 (h : Holds V0 s j) : (shapeCast S64x512 (Host.dynamicSlice S1x64x512 (V0 (Proc.devRef .tc main_v10_6)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512) shapeCasts_S1x64x512_S64x512 : (Proc.devRef .tc main_while0b_v23 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (shapeCast S64x4x128 (shapeCast S64x512 (Host.dynamicSlice S1x64x512 (V0 (Proc.devRef .tc main_v10_0)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512) shapeCasts_S1x64x512_S64x512) shapeCasts_S64x512_S64x4x128 : (Proc.devRef .tc main_while0b_v24 : DevRef τ sig).ty.Contents (Elt F)) = Cert.ReferenceIdeal.Step.b34 j s := by
  unfold Cert.ReferenceIdeal.Step.b34
  rw [← al_7 h]
  try rfl
set_option maxRecDepth 8192 in
theorem al_35 (h : Holds V0 s j) : (res_main_while0b_v25 V0 : (Proc.devRef .tc main_while0b_v25 : DevRef τ sig).ty.Contents (Elt F)) = Cert.ReferenceIdeal.Step.b35 j s := by
  unfold res_main_while0b_v25 Cert.ReferenceIdeal.Step.b35
  rw [← al_34 h]
  try rfl
set_option maxRecDepth 8192 in
theorem al_36 (h : Holds V0 s j) : (shapeCast S64x4x128 (shapeCast S64x512 (Host.dynamicSlice S1x64x512 (V0 (Proc.devRef .tc main_v10_1)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512) shapeCasts_S1x64x512_S64x512) shapeCasts_S64x512_S64x4x128 : (Proc.devRef .tc main_while0b_v26 : DevRef τ sig).ty.Contents (Elt F)) = Cert.ReferenceIdeal.Step.b36 j s := by
  unfold Cert.ReferenceIdeal.Step.b36
  rw [← al_11 h]
  try rfl
set_option maxRecDepth 8192 in
theorem al_37 (h : Holds V0 s j) : (res_main_while0b_v27 V0 : (Proc.devRef .tc main_while0b_v27 : DevRef τ sig).ty.Contents (Elt F)) = Cert.ReferenceIdeal.Step.b37 j s := by
  unfold res_main_while0b_v27 Cert.ReferenceIdeal.Step.b37
  rw [← al_36 h]
  try rfl
set_option maxRecDepth 8192 in
theorem al_38 (h : Holds V0 s j) : (shapeCast S64x4x128 (shapeCast S64x512 (Host.dynamicSlice S1x64x512 (V0 (Proc.devRef .tc main_v10_2)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512) shapeCasts_S1x64x512_S64x512) shapeCasts_S64x512_S64x4x128 : (Proc.devRef .tc main_while0b_v28 : DevRef τ sig).ty.Contents (Elt F)) = Cert.ReferenceIdeal.Step.b38 j s := by
  unfold Cert.ReferenceIdeal.Step.b38
  rw [← al_15 h]
  try rfl
set_option maxRecDepth 8192 in
theorem al_39 (h : Holds V0 s j) : (res_main_while0b_v29 V0 : (Proc.devRef .tc main_while0b_v29 : DevRef τ sig).ty.Contents (Elt F)) = Cert.ReferenceIdeal.Step.b39 j s := by
  unfold res_main_while0b_v29 Cert.ReferenceIdeal.Step.b39
  rw [← al_38 h]
  try rfl
set_option maxRecDepth 8192 in
theorem al_40 (h : Holds V0 s j) : (extractStridedSlice S64x4 ![0, 0] (res_main_while0b_v20 V0) slices_S64x128_S64x4_0_0 : (Proc.devRef .tc main_while0b_v30 : DevRef τ sig).ty.Contents (Elt F)) = Cert.ReferenceIdeal.Step.b40 j s := by
  unfold Cert.ReferenceIdeal.Step.b40
  rw [← al_19 h]
  try rfl
set_option maxRecDepth 8192 in
theorem al_41 (h : Holds V0 s j) : (res_main_while0b_v31 V0 : (Proc.devRef .tc main_while0b_v31 : DevRef τ sig).ty.Contents (Elt F)) = Cert.ReferenceIdeal.Step.b41 j s := by
  unfold res_main_while0b_v31 Cert.ReferenceIdeal.Step.b41
  rw [← al_40 h]
  try rfl
set_option maxRecDepth 8192 in
theorem al_42 (h : Holds V0 s j) : (extractStridedSlice S64x4 ![0, 4] (res_main_while0b_v20 V0) slices_S64x128_S64x4_0_4 : (Proc.devRef .tc main_while0b_v32 : DevRef τ sig).ty.Contents (Elt F)) = Cert.ReferenceIdeal.Step.b42 j s := by
  unfold Cert.ReferenceIdeal.Step.b42
  rw [← al_19 h]
  try rfl
set_option maxRecDepth 8192 in
theorem al_43 (h : Holds V0 s j) : (transpose S4x64 [1, 0] (extractStridedSlice S64x4 ![0, 4] (res_main_while0b_v20 V0) slices_S64x128_S64x4_0_4) transposes_S64x4_S4x64_1_0 : (Proc.devRef .tc main_while0b_v33 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (constantI S_ 1 1#1 : (Proc.devRef .tc main_while0b_c_18 : DevRef τ sig).ty.Contents (Elt F)) = Cert.ReferenceIdeal.Step.b44 j s := by
  unfold Cert.ReferenceIdeal.Step.b44
  rfl
set_option maxRecDepth 8192 in
theorem al_45 (h : Holds V0 s j) : (broadcastInDim S64x64 ![] bcast_S_S64x64 (constantI S_ 1 1#1) : (Proc.devRef .tc main_while0b_v34 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (iotaInDim S64x64 32 0 : (Proc.devRef .tc main_while0b_call7_v0 : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call7_c : DevRef τ sig).ty.Contents (Elt F)) = Cert.ReferenceIdeal.Step.b47 j s := by
  unfold Cert.ReferenceIdeal.Step.b47
  rfl
set_option maxRecDepth 8192 in
theorem al_48 (h : Holds V0 s j) : (broadcastInDim S64x64 ![] bcast_S_S64x64 (constantI S_ 32 0#32) : (Proc.devRef .tc main_while0b_call7_v1 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (addi (iotaInDim S64x64 32 0) (broadcastInDim S64x64 ![] bcast_S_S64x64 (constantI S_ 32 0#32)) : (Proc.devRef .tc main_while0b_call7_v2 : DevRef τ sig).ty.Contents (Elt F)) = Cert.ReferenceIdeal.Step.b49 j s := by
  unfold Cert.ReferenceIdeal.Step.b49
  rw [← al_46 h, ← al_48 h]
  try rfl
set_option maxRecDepth 8192 in
theorem al_50 (h : Holds V0 s j) : (iotaInDim S64x64 32 1 : (Proc.devRef .tc main_while0b_call7_v3 : DevRef τ sig).ty.Contents (Elt F)) = Cert.ReferenceIdeal.Step.b50 j s := by
  unfold Cert.ReferenceIdeal.Step.b50
  rfl
set_option maxRecDepth 8192 in
theorem al_51 (h : Holds V0 s j) : (cmpi .sge (addi (iotaInDim S64x64 32 0) (broadcastInDim S64x64 ![] bcast_S_S64x64 (constantI S_ 32 0#32))) (iotaInDim S64x64 32 1) : (Proc.devRef .tc main_while0b_call7_v4 : DevRef τ sig).ty.Contents (Elt F)) = Cert.ReferenceIdeal.Step.b51 j s := by
  unfold Cert.ReferenceIdeal.Step.b51
  rw [← al_49 h, ← al_50 h]
  try rfl
set_option maxRecDepth 8192 in
theorem al_52 (h : Holds V0 s j) : (constantI S_ 1 0#1 : (Proc.devRef .tc main_while0b_call7_c_0 : DevRef τ sig).ty.Contents (Elt F)) = Cert.ReferenceIdeal.Step.b52 j s := by
  unfold Cert.ReferenceIdeal.Step.b52
  rfl
set_option maxRecDepth 8192 in
theorem al_53 (h : Holds V0 s j) : (broadcastInDim S64x64 ![] bcast_S_S64x64 (constantI S_ 1 0#1) : (Proc.devRef .tc main_while0b_call7_v5 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (res_main_while0b_v35 V0 : (Proc.devRef .tc main_while0b_v35 : DevRef τ sig).ty.Contents (Elt F)) = Cert.ReferenceIdeal.Step.b54 j s := by
  unfold res_main_while0b_v35 Cert.ReferenceIdeal.Step.b54
  rw [← al_51 h, ← al_45 h, ← al_53 h]
  try rfl
set_option maxRecDepth 8192 in
theorem al_55 (h : Holds V0 s j) : (constantI S_ 1 1#1 : (Proc.devRef .tc main_while0b_c_19 : DevRef τ sig).ty.Contents (Elt F)) = Cert.ReferenceIdeal.Step.b55 j s := by
  unfold Cert.ReferenceIdeal.Step.b55
  rfl
set_option maxRecDepth 8192 in
theorem al_56 (h : Holds V0 s j) : (broadcastInDim S64x64 ![] bcast_S_S64x64 (constantI S_ 1 1#1) : (Proc.devRef .tc main_while0b_v36 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (iotaInDim S64x64 32 0 : (Proc.devRef .tc main_while0b_call8_v0 : DevRef τ sig).ty.Contents (Elt F)) = Cert.ReferenceIdeal.Step.b57 j s := by
  unfold Cert.ReferenceIdeal.Step.b57
  rfl
set_option maxRecDepth 8192 in
theorem al_58 (h : Holds V0 s j) : (constantI S_ 32 4294967295#32 : (Proc.devRef .tc main_while0b_call8_c : DevRef τ sig).ty.Contents (Elt F)) = Cert.ReferenceIdeal.Step.b58 j s := by
  unfold Cert.ReferenceIdeal.Step.b58
  rfl
set_option maxRecDepth 8192 in
theorem al_59 (h : Holds V0 s j) : (broadcastInDim S64x64 ![] bcast_S_S64x64 (constantI S_ 32 4294967295#32) : (Proc.devRef .tc main_while0b_call8_v1 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (addi (iotaInDim S64x64 32 0) (broadcastInDim S64x64 ![] bcast_S_S64x64 (constantI S_ 32 4294967295#32)) : (Proc.devRef .tc main_while0b_call8_v2 : DevRef τ sig).ty.Contents (Elt F)) = Cert.ReferenceIdeal.Step.b60 j s := by
  unfold Cert.ReferenceIdeal.Step.b60
  rw [← al_57 h, ← al_59 h]
  try rfl
set_option maxRecDepth 8192 in
theorem al_61 (h : Holds V0 s j) : (iotaInDim S64x64 32 1 : (Proc.devRef .tc main_while0b_call8_v3 : DevRef τ sig).ty.Contents (Elt F)) = Cert.ReferenceIdeal.Step.b61 j s := by
  unfold Cert.ReferenceIdeal.Step.b61
  rfl
set_option maxRecDepth 8192 in
theorem al_62 (h : Holds V0 s j) : (cmpi .sge (addi (iotaInDim S64x64 32 0) (broadcastInDim S64x64 ![] bcast_S_S64x64 (constantI S_ 32 4294967295#32))) (iotaInDim S64x64 32 1) : (Proc.devRef .tc main_while0b_call8_v4 : DevRef τ sig).ty.Contents (Elt F)) = Cert.ReferenceIdeal.Step.b62 j s := by
  unfold Cert.ReferenceIdeal.Step.b62
  rw [← al_60 h, ← al_61 h]
  try rfl
set_option maxRecDepth 8192 in
theorem al_63 (h : Holds V0 s j) : (constantI S_ 1 0#1 : (Proc.devRef .tc main_while0b_call8_c_0 : DevRef τ sig).ty.Contents (Elt F)) = Cert.ReferenceIdeal.Step.b63 j s := by
  unfold Cert.ReferenceIdeal.Step.b63
  rfl
set_option maxRecDepth 8192 in
theorem al_64 (h : Holds V0 s j) : (broadcastInDim S64x64 ![] bcast_S_S64x64 (constantI S_ 1 0#1) : (Proc.devRef .tc main_while0b_call8_v5 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (select (cmpi .sge (addi (iotaInDim S64x64 32 0) (broadcastInDim S64x64 ![] bcast_S_S64x64 (constantI S_ 32 4294967295#32))) (iotaInDim S64x64 32 1)) (broadcastInDim S64x64 ![] bcast_S_S64x64 (constantI S_ 1 1#1)) (broadcastInDim S64x64 ![] bcast_S_S64x64 (constantI S_ 1 0#1)) : (Proc.devRef .tc main_while0b_v37 : DevRef τ sig).ty.Contents (Elt F)) = Cert.ReferenceIdeal.Step.b65 j s := by
  unfold Cert.ReferenceIdeal.Step.b65
  rw [← al_62 h, ← al_56 h, ← al_64 h]
  try rfl
set_option maxRecDepth 8192 in
theorem al_66 (h : Holds V0 s j) : (broadcastInDim S4x1x64 ![0, 2] bcast_S4x64_S4x1x64_0_2 (transpose S4x64 [1, 0] (extractStridedSlice S64x4 ![0, 4] (res_main_while0b_v20 V0) slices_S64x128_S64x4_0_4) transposes_S64x4_S4x64_1_0) : (Proc.devRef .tc main_while0b_v38 : DevRef τ sig).ty.Contents (Elt F)) = Cert.ReferenceIdeal.Step.b66 j s := by
  unfold Cert.ReferenceIdeal.Step.b66
  rw [← al_43 h]
  try rfl
set_option maxRecDepth 8192 in
theorem al_67 (h : Holds V0 s j) : (constant S_ .f32 0x00000000#32 : (Proc.devRef .tc main_while0b_cst_20 : DevRef τ sig).ty.Contents (Elt F)) = Cert.ReferenceIdeal.Step.b67 j s := by
  unfold Cert.ReferenceIdeal.Step.b67
  rfl
set_option maxRecDepth 8192 in
theorem al_68 (h : Holds V0 s j) : (id (constant S_ .f32 0x00000000#32) : (Proc.devRef .tc main_while0b_call9_v0 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (res_main_while0b_v39_1 V0 : (Proc.devRef .tc main_while0b_v39_1 : DevRef τ sig).ty.Contents (Elt F)) = Cert.ReferenceIdeal.Step.b69 j s := by
  unfold res_main_while0b_v39_1 Cert.ReferenceIdeal.Step.b69
  rw [← al_54 h]
  try rfl
set_option maxRecDepth 8192 in
theorem al_70 (h : Holds V0 s j) : (broadcastInDim S4x64x64 ![0, 1, 2] bcast_S4x1x64_S4x64x64_0_1_2 (broadcastInDim S4x1x64 ![0, 2] bcast_S4x64_S4x1x64_0_2 (transpose S4x64 [1, 0] (extractStridedSlice S64x4 ![0, 4] (res_main_while0b_v20 V0) slices_S64x128_S64x4_0_4) transposes_S64x4_S4x64_1_0)) : (Proc.devRef .tc main_while0b_call9_v2 : DevRef τ sig).ty.Contents (Elt F)) = Cert.ReferenceIdeal.Step.b70 j s := by
  unfold Cert.ReferenceIdeal.Step.b70
  rw [← al_66 h]
  try rfl
set_option maxRecDepth 8192 in
theorem al_71 (h : Holds V0 s j) : (broadcastInDim S4x64x64 ![] bcast_S_S4x64x64 (id (constant S_ .f32 0x00000000#32)) : (Proc.devRef .tc main_while0b_call9_v3 : DevRef τ sig).ty.Contents (Elt F)) = Cert.ReferenceIdeal.Step.b71 j s := by
  unfold Cert.ReferenceIdeal.Step.b71
  rw [← al_68 h]
  try rfl
set_option maxRecDepth 8192 in
theorem al_72 (h : Holds V0 s j) : (select (res_main_while0b_v39_1 V0) (broadcastInDim S4x64x64 ![0, 1, 2] bcast_S4x1x64_S4x64x64_0_1_2 (broadcastInDim S4x1x64 ![0, 2] bcast_S4x64_S4x1x64_0_2 (transpose S4x64 [1, 0] (extractStridedSlice S64x4 ![0, 4] (res_main_while0b_v20 V0) slices_S64x128_S64x4_0_4) transposes_S64x4_S4x64_1_0))) (broadcastInDim S4x64x64 ![] bcast_S_S4x64x64 (id (constant S_ .f32 0x00000000#32))) : (Proc.devRef .tc main_while0b_v39_0 : DevRef τ sig).ty.Contents (Elt F)) = Cert.ReferenceIdeal.Step.b72 j s := by
  unfold Cert.ReferenceIdeal.Step.b72
  rw [← al_69 h, ← al_70 h, ← al_71 h]
  try rfl
set_option maxRecDepth 8192 in
theorem al_73 (h : Holds V0 s j) : (constant S_ .f32 0x00000000#32 : (Proc.devRef .tc main_while0b_call9_cst : DevRef τ sig).ty.Contents (Elt F)) = Cert.ReferenceIdeal.Step.b73 j s := by
  unfold Cert.ReferenceIdeal.Step.b73
  rfl
set_option maxRecDepth 8192 in
theorem al_74 (h : Holds V0 s j) : (broadcastInDim S4x64x64 ![] bcast_S_S4x64x64 (constant S_ .f32 0x00000000#32) : (Proc.devRef .tc main_while0b_v39_2 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (constant S_ .f32 0x00000000#32 : (Proc.devRef .tc main_while0b_cst_21 : DevRef τ sig).ty.Contents (Elt F)) = Cert.ReferenceIdeal.Step.b75 j s := by
  unfold Cert.ReferenceIdeal.Step.b75
  rfl
set_option maxRecDepth 8192 in
theorem al_76 (h : Holds V0 s j) : (res_main_while0b_v40 V0 : (Proc.devRef .tc main_while0b_v40 : DevRef τ sig).ty.Contents (Elt F)) = Cert.ReferenceIdeal.Step.b76 j s := by
  unfold res_main_while0b_v40 Cert.ReferenceIdeal.Step.b76
  rw [← al_72 h, ← al_75 h]
  try rfl
set_option maxRecDepth 8192 in
theorem al_77 (h : Holds V0 s j) : (broadcastInDim S4x64x1 ![0, 1] bcast_S4x64_S4x64x1_0_1 (res_main_while0b_v40 V0) : (Proc.devRef .tc main_while0b_v41 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (broadcastInDim S4x1x64 ![0, 2] bcast_S4x64_S4x1x64_0_2 (res_main_while0b_v40 V0) : (Proc.devRef .tc main_while0b_v42 : DevRef τ sig).ty.Contents (Elt F)) = Cert.ReferenceIdeal.Step.b78 j s := by
  unfold Cert.ReferenceIdeal.Step.b78
  rw [← al_76 h]
  try rfl
set_option maxRecDepth 8192 in
theorem al_79 (h : Holds V0 s j) : (broadcastInDim S4x64x64 ![0, 1, 2] bcast_S4x64x1_S4x64x64_0_1_2 (broadcastInDim S4x64x1 ![0, 1] bcast_S4x64_S4x64x1_0_1 (res_main_while0b_v40 V0)) : (Proc.devRef .tc main_while0b_v43 : DevRef τ sig).ty.Contents (Elt F)) = Cert.ReferenceIdeal.Step.b79 j s := by
  unfold Cert.ReferenceIdeal.Step.b79
  rw [← al_77 h]
  try rfl
set_option maxRecDepth 8192 in
theorem al_80 (h : Holds V0 s j) : (broadcastInDim S4x64x64 ![0, 1, 2] bcast_S4x1x64_S4x64x64_0_1_2 (broadcastInDim S4x1x64 ![0, 2] bcast_S4x64_S4x1x64_0_2 (res_main_while0b_v40 V0)) : (Proc.devRef .tc main_while0b_v44 : DevRef τ sig).ty.Contents (Elt F)) = Cert.ReferenceIdeal.Step.b80 j s := by
  unfold Cert.ReferenceIdeal.Step.b80
  rw [← al_78 h]
  try rfl
set_option maxRecDepth 8192 in
theorem al_81 (h : Holds V0 s j) : (subf (broadcastInDim S4x64x64 ![0, 1, 2] bcast_S4x64x1_S4x64x64_0_1_2 (broadcastInDim S4x64x1 ![0, 1] bcast_S4x64_S4x64x1_0_1 (res_main_while0b_v40 V0))) (broadcastInDim S4x64x64 ![0, 1, 2] bcast_S4x1x64_S4x64x64_0_1_2 (broadcastInDim S4x1x64 ![0, 2] bcast_S4x64_S4x1x64_0_2 (res_main_while0b_v40 V0))) : (Proc.devRef .tc main_while0b_v45 : DevRef τ sig).ty.Contents (Elt F)) = Cert.ReferenceIdeal.Step.b81 j s := by
  unfold Cert.ReferenceIdeal.Step.b81
  rw [← al_79 h, ← al_80 h]
  try rfl
set_option maxRecDepth 8192 in
theorem al_82 (h : Holds V0 s j) : (constant S_ .f32 0xFF800000#32 : (Proc.devRef .tc main_while0b_cst_22 : DevRef τ sig).ty.Contents (Elt F)) = Cert.ReferenceIdeal.Step.b82 j s := by
  unfold Cert.ReferenceIdeal.Step.b82
  rfl
set_option maxRecDepth 8192 in
theorem al_83 (h : Holds V0 s j) : (id (constant S_ .f32 0xFF800000#32) : (Proc.devRef .tc main_while0b_call10_v0 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (res_main_while0b_v46_1 V0 : (Proc.devRef .tc main_while0b_v46_1 : DevRef τ sig).ty.Contents (Elt F)) = Cert.ReferenceIdeal.Step.b84 j s := by
  unfold res_main_while0b_v46_1 Cert.ReferenceIdeal.Step.b84
  rw [← al_54 h]
  try rfl
set_option maxRecDepth 8192 in
theorem al_85 (h : Holds V0 s j) : (broadcastInDim S4x64x64 ![] bcast_S_S4x64x64 (id (constant S_ .f32 0xFF800000#32)) : (Proc.devRef .tc main_while0b_call10_v2 : DevRef τ sig).ty.Contents (Elt F)) = Cert.ReferenceIdeal.Step.b85 j s := by
  unfold Cert.ReferenceIdeal.Step.b85
  rw [← al_83 h]
  try rfl
set_option maxRecDepth 8192 in
theorem al_86 (h : Holds V0 s j) : (select (res_main_while0b_v46_1 V0) (subf (broadcastInDim S4x64x64 ![0, 1, 2] bcast_S4x64x1_S4x64x64_0_1_2 (broadcastInDim S4x64x1 ![0, 1] bcast_S4x64_S4x64x1_0_1 (res_main_while0b_v40 V0))) (broadcastInDim S4x64x64 ![0, 1, 2] bcast_S4x1x64_S4x64x64_0_1_2 (broadcastInDim S4x1x64 ![0, 2] bcast_S4x64_S4x1x64_0_2 (res_main_while0b_v40 V0)))) (broadcastInDim S4x64x64 ![] bcast_S_S4x64x64 (id (constant S_ .f32 0xFF800000#32))) : (Proc.devRef .tc main_while0b_v46_0 : DevRef τ sig).ty.Contents (Elt F)) = Cert.ReferenceIdeal.Step.b86 j s := by
  unfold Cert.ReferenceIdeal.Step.b86
  rw [← al_84 h, ← al_81 h, ← al_85 h]
  try rfl
set_option maxRecDepth 8192 in
theorem al_87 (h : Holds V0 s j) : (constant S_ .f32 0x00000000#32 : (Proc.devRef .tc main_while0b_call10_cst : DevRef τ sig).ty.Contents (Elt F)) = Cert.ReferenceIdeal.Step.b87 j s := by
  unfold Cert.ReferenceIdeal.Step.b87
  rfl
set_option maxRecDepth 8192 in
theorem al_88 (h : Holds V0 s j) : (broadcastInDim S4x64x64 ![] bcast_S_S4x64x64 (constant S_ .f32 0x00000000#32) : (Proc.devRef .tc main_while0b_v46_2 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (res_main_while0b_v47 V0 : (Proc.devRef .tc main_while0b_v47 : DevRef τ sig).ty.Contents (Elt F)) = Cert.ReferenceIdeal.Step.b89 j s := by
  unfold res_main_while0b_v47 Cert.ReferenceIdeal.Step.b89
  rw [← al_86 h]
  try rfl
set_option maxRecDepth 8192 in
theorem al_90 (h : Holds V0 s j) : (res_main_while0b_v48 V0 : (Proc.devRef .tc main_while0b_v48 : DevRef τ sig).ty.Contents (Elt F)) = Cert.ReferenceIdeal.Step.b90 j s := by
  unfold res_main_while0b_v48 Cert.ReferenceIdeal.Step.b90
  rw [← al_41 h]
  try rfl
set_option maxRecDepth 8192 in
theorem al_91 (h : Holds V0 s j) : (broadcastInDim S4x64x128 ![0, 1, 2] bcast_S4x64x1_S4x64x128_0_1_2 (res_main_while0b_v48 V0) : (Proc.devRef .tc main_while0b_v49 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (res_main_while0b_v50 V0 : (Proc.devRef .tc main_while0b_v50 : DevRef τ sig).ty.Contents (Elt F)) = Cert.ReferenceIdeal.Step.b92 j s := by
  unfold res_main_while0b_v50 Cert.ReferenceIdeal.Step.b92
  rw [← al_37 h, ← al_91 h]
  try rfl
set_option maxRecDepth 8192 in
theorem al_93 (h : Holds V0 s j) : (res_main_while0b_v51 V0 : (Proc.devRef .tc main_while0b_v51 : DevRef τ sig).ty.Contents (Elt F)) = Cert.ReferenceIdeal.Step.b93 j s := by
  unfold res_main_while0b_v51 Cert.ReferenceIdeal.Step.b93
  rw [← al_41 h]
  try rfl
set_option maxRecDepth 8192 in
theorem al_94 (h : Holds V0 s j) : (broadcastInDim S4x64x128 ![0, 1, 2] bcast_S4x64x1_S4x64x128_0_1_2 (res_main_while0b_v51 V0) : (Proc.devRef .tc main_while0b_v52 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (mulf (res_main_while0b_v29 V0) (broadcastInDim S4x64x128 ![0, 1, 2] bcast_S4x64x1_S4x64x128_0_1_2 (res_main_while0b_v51 V0)) : (Proc.devRef .tc main_while0b_v53 : DevRef τ sig).ty.Contents (Elt F)) = Cert.ReferenceIdeal.Step.b95 j s := by
  unfold Cert.ReferenceIdeal.Step.b95
  rw [← al_39 h, ← al_94 h]
  try rfl
set_option maxRecDepth 8192 in
theorem al_96 (h : Holds V0 s j) : (res_main_while0b_v54 V0 : (Proc.devRef .tc main_while0b_v54 : DevRef τ sig).ty.Contents (Elt F)) = Cert.ReferenceIdeal.Step.b96 j s := by
  unfold res_main_while0b_v54 Cert.ReferenceIdeal.Step.b96
  rw [← al_92 h, ← al_37 h]
  try rfl
set_option maxRecDepth 8192 in
theorem al_97 (h : Holds V0 s j) : (mulf (res_main_while0b_v54 V0) (res_main_while0b_v47 V0) : (Proc.devRef .tc main_while0b_v55 : DevRef τ sig).ty.Contents (Elt F)) = Cert.ReferenceIdeal.Step.b97 j s := by
  unfold Cert.ReferenceIdeal.Step.b97
  rw [← al_96 h, ← al_89 h]
  try rfl
set_option maxRecDepth 8192 in
theorem al_98 (h : Holds V0 s j) : (constant S_ .f32 0x00000000#32 : (Proc.devRef .tc main_while0b_cst_23 : DevRef τ sig).ty.Contents (Elt F)) = Cert.ReferenceIdeal.Step.b98 j s := by
  unfold Cert.ReferenceIdeal.Step.b98
  rfl
set_option maxRecDepth 8192 in
theorem al_99 (h : Holds V0 s j) : (id (constant S_ .f32 0x00000000#32) : (Proc.devRef .tc main_while0b_call11_v0 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (res_main_while0b_v56_1 V0 : (Proc.devRef .tc main_while0b_v56_1 : DevRef τ sig).ty.Contents (Elt F)) = Cert.ReferenceIdeal.Step.b100 j s := by
  unfold res_main_while0b_v56_1 Cert.ReferenceIdeal.Step.b100
  rw [← al_65 h]
  try rfl
set_option maxRecDepth 8192 in
theorem al_101 (h : Holds V0 s j) : (broadcastInDim S4x64x64 ![] bcast_S_S4x64x64 (id (constant S_ .f32 0x00000000#32)) : (Proc.devRef .tc main_while0b_call11_v2 : DevRef τ sig).ty.Contents (Elt F)) = Cert.ReferenceIdeal.Step.b101 j s := by
  unfold Cert.ReferenceIdeal.Step.b101
  rw [← al_99 h]
  try rfl
set_option maxRecDepth 8192 in
theorem al_102 (h : Holds V0 s j) : (select (res_main_while0b_v56_1 V0) (mulf (res_main_while0b_v54 V0) (res_main_while0b_v47 V0)) (broadcastInDim S4x64x64 ![] bcast_S_S4x64x64 (id (constant S_ .f32 0x00000000#32))) : (Proc.devRef .tc main_while0b_v56_0 : DevRef τ sig).ty.Contents (Elt F)) = Cert.ReferenceIdeal.Step.b102 j s := by
  unfold Cert.ReferenceIdeal.Step.b102
  rw [← al_100 h, ← al_97 h, ← al_101 h]
  try rfl
set_option maxRecDepth 8192 in
theorem al_103 (h : Holds V0 s j) : (constant S_ .f32 0x00000000#32 : (Proc.devRef .tc main_while0b_call11_cst : DevRef τ sig).ty.Contents (Elt F)) = Cert.ReferenceIdeal.Step.b103 j s := by
  unfold Cert.ReferenceIdeal.Step.b103
  rfl
set_option maxRecDepth 8192 in
theorem al_104 (h : Holds V0 s j) : (broadcastInDim S4x64x64 ![] bcast_S_S4x64x64 (constant S_ .f32 0x00000000#32) : (Proc.devRef .tc main_while0b_v56_2 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (res_main_while0b_v57 V0 : (Proc.devRef .tc main_while0b_v57 : DevRef τ sig).ty.Contents (Elt F)) = Cert.ReferenceIdeal.Step.b105 j s := by
  unfold res_main_while0b_v57 Cert.ReferenceIdeal.Step.b105
  rw [← al_76 h]
  try rfl
set_option maxRecDepth 8192 in
theorem al_106 (h : Holds V0 s j) : (res_main_while0b_v58 V0 : (Proc.devRef .tc main_while0b_v58 : DevRef τ sig).ty.Contents (Elt F)) = Cert.ReferenceIdeal.Step.b106 j s := by
  unfold res_main_while0b_v58 Cert.ReferenceIdeal.Step.b106
  rw [← al_105 h]
  try rfl
set_option maxRecDepth 8192 in
theorem al_107 (h : Holds V0 s j) : (broadcastInDim S4x64x128 ![0, 1, 2] bcast_S4x64x1_S4x64x128_0_1_2 (res_main_while0b_v58 V0) : (Proc.devRef .tc main_while0b_v59 : DevRef τ sig).ty.Contents (Elt F)) = Cert.ReferenceIdeal.Step.b107 j s := by
  unfold Cert.ReferenceIdeal.Step.b107
  rw [← al_106 h]
  try rfl
set_option maxRecDepth 8192 in
theorem al_108 (h : Holds V0 s j) : (mulf (res_main_while0b_v50 V0) (broadcastInDim S4x64x128 ![0, 1, 2] bcast_S4x64x1_S4x64x128_0_1_2 (res_main_while0b_v58 V0)) : (Proc.devRef .tc main_while0b_v60 : DevRef τ sig).ty.Contents (Elt F)) = Cert.ReferenceIdeal.Step.b108 j s := by
  unfold Cert.ReferenceIdeal.Step.b108
  rw [← al_92 h, ← al_107 h]
  try rfl
set_option maxRecDepth 8192 in
theorem al_109 (h : Holds V0 s j) : (concatenate S4x64x256 2 [⟨S4x64x128, (mulf (res_main_while0b_v29 V0) (broadcastInDim S4x64x128 ![0, 1, 2] bcast_S4x64x1_S4x64x128_0_1_2 (res_main_while0b_v51 V0)))⟩, ⟨S4x64x128, (mulf (res_main_while0b_v50 V0) (broadcastInDim S4x64x128 ![0, 1, 2] bcast_S4x64x1_S4x64x128_0_1_2 (res_main_while0b_v58 V0)))⟩] concatenates_S4x64x128_S4x64x128_S4x64x256_d2 : (Proc.devRef .tc main_while0b_v61 : DevRef τ sig).ty.Contents (Elt F)) = Cert.ReferenceIdeal.Step.b109 j s := by
  unfold Cert.ReferenceIdeal.Step.b109
  rw [← al_95 h, ← al_108 h]
  try rfl
set_option maxRecDepth 8192 in
theorem al_110 (h : Holds V0 s j) : (res_main_while0b_v62 V0 : (Proc.devRef .tc main_while0b_v62 : DevRef τ sig).ty.Contents (Elt F)) = Cert.ReferenceIdeal.Step.b110 j s := by
  unfold res_main_while0b_v62 Cert.ReferenceIdeal.Step.b110
  rw [← al_24 h, ← al_109 h]
  try rfl
set_option maxRecDepth 8192 in
theorem al_111 (h : Holds V0 s j) : (Host.dotGeneral dot_S4x64x64_S4x64x256_S4x64x256_2_1_1_2_0_0 none (select (res_main_while0b_v56_1 V0) (mulf (res_main_while0b_v54 V0) (res_main_while0b_v47 V0)) (broadcastInDim S4x64x64 ![] bcast_S_S4x64x64 (id (constant S_ .f32 0x00000000#32)))) (res_main_while0b_v62 V0) : (Proc.devRef .tc main_while0b_v63 : DevRef τ sig).ty.Contents (Elt F)) = Cert.ReferenceIdeal.Step.b111 j s := by
  unfold Cert.ReferenceIdeal.Step.b111
  rw [← al_102 h, ← al_110 h]
  try rfl
set_option maxRecDepth 8192 in
theorem al_112 (h : Holds V0 s j) : (addf (res_main_while0b_v62 V0) (Host.dotGeneral dot_S4x64x64_S4x64x256_S4x64x256_2_1_1_2_0_0 none (select (res_main_while0b_v56_1 V0) (mulf (res_main_while0b_v54 V0) (res_main_while0b_v47 V0)) (broadcastInDim S4x64x64 ![] bcast_S_S4x64x64 (id (constant S_ .f32 0x00000000#32)))) (res_main_while0b_v62 V0)) : (Proc.devRef .tc main_while0b_v64 : DevRef τ sig).ty.Contents (Elt F)) = Cert.ReferenceIdeal.Step.b112 j s := by
  unfold Cert.ReferenceIdeal.Step.b112
  rw [← al_110 h, ← al_111 h]
  try rfl
set_option maxRecDepth 8192 in
theorem al_113 (h : Holds V0 s j) : (extractStridedSlice S4x64x128 ![0, 0, 0] (res_main_while0b_v62 V0) slices_S4x64x256_S4x64x128_0_0_0 : (Proc.devRef .tc main_while0b_v65 : DevRef τ sig).ty.Contents (Elt F)) = Cert.ReferenceIdeal.Step.b113 j s := by
  unfold Cert.ReferenceIdeal.Step.b113
  rw [← al_110 h]
  try rfl
set_option maxRecDepth 8192 in
theorem al_114 (h : Holds V0 s j) : (res_main_while0b_v66 V0 : (Proc.devRef .tc main_while0b_v66 : DevRef τ sig).ty.Contents (Elt F)) = Cert.ReferenceIdeal.Step.b114 j s := by
  unfold res_main_while0b_v66 Cert.ReferenceIdeal.Step.b114
  rw [← al_110 h]
  try rfl
set_option maxRecDepth 8192 in
theorem al_115 (h : Holds V0 s j) : (res_main_while0b_v67 V0 : (Proc.devRef .tc main_while0b_v67 : DevRef τ sig).ty.Contents (Elt F)) = Cert.ReferenceIdeal.Step.b115 j s := by
  unfold res_main_while0b_v67 Cert.ReferenceIdeal.Step.b115
  rw [← al_35 h, ← al_37 h]
  try rfl
set_option maxRecDepth 8192 in
theorem al_116 (h : Holds V0 s j) : (res_main_while0b_v68 V0 : (Proc.devRef .tc main_while0b_v68 : DevRef τ sig).ty.Contents (Elt F)) = Cert.ReferenceIdeal.Step.b116 j s := by
  unfold res_main_while0b_v68 Cert.ReferenceIdeal.Step.b116
  rw [← al_115 h, ← al_89 h]
  try rfl
set_option maxRecDepth 8192 in
theorem al_117 (h : Holds V0 s j) : (res_main_while0b_v69 V0 : (Proc.devRef .tc main_while0b_v69 : DevRef τ sig).ty.Contents (Elt F)) = Cert.ReferenceIdeal.Step.b117 j s := by
  unfold res_main_while0b_v69 Cert.ReferenceIdeal.Step.b117
  rw [← al_76 h]
  try rfl
set_option maxRecDepth 8192 in
theorem al_118 (h : Holds V0 s j) : (res_main_while0b_v70 V0 : (Proc.devRef .tc main_while0b_v70 : DevRef τ sig).ty.Contents (Elt F)) = Cert.ReferenceIdeal.Step.b118 j s := by
  unfold res_main_while0b_v70 Cert.ReferenceIdeal.Step.b118
  rw [← al_117 h]
  try rfl
set_option maxRecDepth 8192 in
theorem al_119 (h : Holds V0 s j) : (broadcastInDim S4x64x128 ![0, 1, 2] bcast_S4x64x1_S4x64x128_0_1_2 (res_main_while0b_v70 V0) : (Proc.devRef .tc main_while0b_v71 : DevRef τ sig).ty.Contents (Elt F)) = Cert.ReferenceIdeal.Step.b119 j s := by
  unfold Cert.ReferenceIdeal.Step.b119
  rw [← al_118 h]
  try rfl
set_option maxRecDepth 8192 in
theorem al_120 (h : Holds V0 s j) : (res_main_while0b_v72 V0 : (Proc.devRef .tc main_while0b_v72 : DevRef τ sig).ty.Contents (Elt F)) = Cert.ReferenceIdeal.Step.b120 j s := by
  unfold res_main_while0b_v72 Cert.ReferenceIdeal.Step.b120
  rw [← al_35 h, ← al_119 h]
  try rfl
set_option maxRecDepth 8192 in
theorem al_121 (h : Holds V0 s j) : (extractStridedSlice S4x1 ![0, 63] (res_main_while0b_v40 V0) slices_S4x64_S4x1_0_63 : (Proc.devRef .tc main_while0b_v73 : DevRef τ sig).ty.Contents (Elt F)) = Cert.ReferenceIdeal.Step.b121 j s := by
  unfold Cert.ReferenceIdeal.Step.b121
  rw [← al_76 h]
  try rfl
set_option maxRecDepth 8192 in
theorem al_122 (h : Holds V0 s j) : (broadcastInDim S4x64 ![0, 1] bcast_S4x1_S4x64_0_1 (extractStridedSlice S4x1 ![0, 63] (res_main_while0b_v40 V0) slices_S4x64_S4x1_0_63) : (Proc.devRef .tc main_while0b_v74 : DevRef τ sig).ty.Contents (Elt F)) = Cert.ReferenceIdeal.Step.b122 j s := by
  unfold Cert.ReferenceIdeal.Step.b122
  rw [← al_121 h]
  try rfl
set_option maxRecDepth 8192 in
theorem al_123 (h : Holds V0 s j) : (subf (broadcastInDim S4x64 ![0, 1] bcast_S4x1_S4x64_0_1 (extractStridedSlice S4x1 ![0, 63] (res_main_while0b_v40 V0) slices_S4x64_S4x1_0_63)) (res_main_while0b_v40 V0) : (Proc.devRef .tc main_while0b_v75 : DevRef τ sig).ty.Contents (Elt F)) = Cert.ReferenceIdeal.Step.b123 j s := by
  unfold Cert.ReferenceIdeal.Step.b123
  rw [← al_122 h, ← al_76 h]
  try rfl
set_option maxRecDepth 8192 in
theorem al_124 (h : Holds V0 s j) : (res_main_while0b_v76 V0 : (Proc.devRef .tc main_while0b_v76 : DevRef τ sig).ty.Contents (Elt F)) = Cert.ReferenceIdeal.Step.b124 j s := by
  unfold res_main_while0b_v76 Cert.ReferenceIdeal.Step.b124
  rw [← al_123 h]
  try rfl
set_option maxRecDepth 8192 in
theorem al_125 (h : Holds V0 s j) : (res_main_while0b_v77 V0 : (Proc.devRef .tc main_while0b_v77 : DevRef τ sig).ty.Contents (Elt F)) = Cert.ReferenceIdeal.Step.b125 j s := by
  unfold res_main_while0b_v77 Cert.ReferenceIdeal.Step.b125
  rw [← al_124 h]
  try rfl
set_option maxRecDepth 8192 in
theorem al_126 (h : Holds V0 s j) : (broadcastInDim S4x64x128 ![0, 1, 2] bcast_S4x64x1_S4x64x128_0_1_2 (res_main_while0b_v77 V0) : (Proc.devRef .tc main_while0b_v78 : DevRef τ sig).ty.Contents (Elt F)) = Cert.ReferenceIdeal.Step.b126 j s := by
  unfold Cert.ReferenceIdeal.Step.b126
  rw [← al_125 h]
  try rfl
set_option maxRecDepth 8192 in
theorem al_127 (h : Holds V0 s j) : (res_main_while0b_v79 V0 : (Proc.devRef .tc main_while0b_v79 : DevRef τ sig).ty.Contents (Elt F)) = Cert.ReferenceIdeal.Step.b127 j s := by
  unfold res_main_while0b_v79 Cert.ReferenceIdeal.Step.b127
  rw [← al_37 h, ← al_126 h]
  try rfl
set_option maxRecDepth 8192 in
theorem al_128 (h : Holds V0 s j) : (extractStridedSlice S4x1 ![0, 63] (res_main_while0b_v40 V0) slices_S4x64_S4x1_0_63 : (Proc.devRef .tc main_while0b_v80 : DevRef τ sig).ty.Contents (Elt F)) = Cert.ReferenceIdeal.Step.b128 j s := by
  unfold Cert.ReferenceIdeal.Step.b128
  rw [← al_76 h]
  try rfl
set_option maxRecDepth 8192 in
theorem al_129 (h : Holds V0 s j) : (shapeCast S4 (extractStridedSlice S4x1 ![0, 63] (res_main_while0b_v40 V0) slices_S4x64_S4x1_0_63) shapeCasts_S4x1_S4 : (Proc.devRef .tc main_while0b_v81 : DevRef τ sig).ty.Contents (Elt F)) = Cert.ReferenceIdeal.Step.b129 j s := by
  unfold Cert.ReferenceIdeal.Step.b129
  rw [← al_128 h]
  try rfl
set_option maxRecDepth 8192 in
theorem al_130 (h : Holds V0 s j) : (res_main_while0b_v82 V0 : (Proc.devRef .tc main_while0b_v82 : DevRef τ sig).ty.Contents (Elt F)) = Cert.ReferenceIdeal.Step.b130 j s := by
  unfold res_main_while0b_v82 Cert.ReferenceIdeal.Step.b130
  rw [← al_129 h]
  try rfl
set_option maxRecDepth 8192 in
theorem al_131 (h : Holds V0 s j) : (Host.dotGeneral dot_S4x64x128_S4x128x128_S4x64x128_2_1_1_2_0_0 none (res_main_while0b_v66 V0) (res_main_while0b_v22 V0) : (Proc.devRef .tc main_while0b_v83 : DevRef τ sig).ty.Contents (Elt F)) = Cert.ReferenceIdeal.Step.b131 j s := by
  unfold Cert.ReferenceIdeal.Step.b131
  rw [← al_114 h, ← al_29 h]
  try rfl
set_option maxRecDepth 8192 in
theorem al_132 (h : Holds V0 s j) : (res_main_while0b_v84 V0 : (Proc.devRef .tc main_while0b_v84 : DevRef τ sig).ty.Contents (Elt F)) = Cert.ReferenceIdeal.Step.b132 j s := by
  unfold res_main_while0b_v84 Cert.ReferenceIdeal.Step.b132
  rw [← al_113 h, ← al_131 h]
  try rfl
set_option maxRecDepth 8192 in
theorem al_133 (h : Holds V0 s j) : (Host.dotGeneral dot_S4x64x128_S4x128x128_S4x64x128_2_1_1_2_0_0 none (res_main_while0b_v72 V0) (res_main_while0b_v22 V0) : (Proc.devRef .tc main_while0b_v85 : DevRef τ sig).ty.Contents (Elt F)) = Cert.ReferenceIdeal.Step.b133 j s := by
  unfold Cert.ReferenceIdeal.Step.b133
  rw [← al_120 h, ← al_29 h]
  try rfl
set_option maxRecDepth 8192 in
theorem al_134 (h : Holds V0 s j) : (Host.dotGeneral dot_S4x64x64_S4x64x128_S4x64x128_2_1_1_2_0_0 none (res_main_while0b_v68 V0) (res_main_while0b_v84 V0) : (Proc.devRef .tc main_while0b_v86 : DevRef τ sig).ty.Contents (Elt F)) = Cert.ReferenceIdeal.Step.b134 j s := by
  unfold Cert.ReferenceIdeal.Step.b134
  rw [← al_116 h, ← al_132 h]
  try rfl
set_option maxRecDepth 8192 in
theorem al_135 (h : Holds V0 s j) : (addf (Host.dotGeneral dot_S4x64x128_S4x128x128_S4x64x128_2_1_1_2_0_0 none (res_main_while0b_v72 V0) (res_main_while0b_v22 V0)) (Host.dotGeneral dot_S4x64x64_S4x64x128_S4x64x128_2_1_1_2_0_0 none (res_main_while0b_v68 V0) (res_main_while0b_v84 V0)) : (Proc.devRef .tc main_while0b_v87 : DevRef τ sig).ty.Contents (Elt F)) = Cert.ReferenceIdeal.Step.b135 j s := by
  unfold Cert.ReferenceIdeal.Step.b135
  rw [← al_133 h, ← al_134 h]
  try rfl
set_option maxRecDepth 8192 in
theorem al_136 (h : Holds V0 s j) : (res_main_while0b_v88 V0 : (Proc.devRef .tc main_while0b_v88 : DevRef τ sig).ty.Contents (Elt F)) = Cert.ReferenceIdeal.Step.b136 j s := by
  unfold res_main_while0b_v88 Cert.ReferenceIdeal.Step.b136
  rw [← al_130 h]
  try rfl
set_option maxRecDepth 8192 in
theorem al_137 (h : Holds V0 s j) : (broadcastInDim S4x128x128 ![0, 1, 2] bcast_S4x1x1_S4x128x128_0_1_2 (res_main_while0b_v88 V0) : (Proc.devRef .tc main_while0b_v89 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (mulf (res_main_while0b_v22 V0) (broadcastInDim S4x128x128 ![0, 1, 2] bcast_S4x1x1_S4x128x128_0_1_2 (res_main_while0b_v88 V0)) : (Proc.devRef .tc main_while0b_v90 : DevRef τ sig).ty.Contents (Elt F)) = Cert.ReferenceIdeal.Step.b138 j s := by
  unfold Cert.ReferenceIdeal.Step.b138
  rw [← al_29 h, ← al_137 h]
  try rfl
set_option maxRecDepth 8192 in
theorem al_139 (h : Holds V0 s j) : (Host.dotGeneral dot_S4x64x128_S4x64x128_S4x128x128_1_1_2_2_0_0 none (res_main_while0b_v79 V0) (res_main_while0b_v84 V0) : (Proc.devRef .tc main_while0b_v91 : DevRef τ sig).ty.Contents (Elt F)) = Cert.ReferenceIdeal.Step.b139 j s := by
  unfold Cert.ReferenceIdeal.Step.b139
  rw [← al_127 h, ← al_132 h]
  try rfl
set_option maxRecDepth 8192 in
theorem al_140 (h : Holds V0 s j) : (addf (mulf (res_main_while0b_v22 V0) (broadcastInDim S4x128x128 ![0, 1, 2] bcast_S4x1x1_S4x128x128_0_1_2 (res_main_while0b_v88 V0))) (Host.dotGeneral dot_S4x64x128_S4x64x128_S4x128x128_1_1_2_2_0_0 none (res_main_while0b_v79 V0) (res_main_while0b_v84 V0)) : (Proc.devRef .tc main_while0b_v92 : DevRef τ sig).ty.Contents (Elt F)) = Cert.ReferenceIdeal.Step.b140 j s := by
  unfold Cert.ReferenceIdeal.Step.b140
  rw [← al_138 h, ← al_139 h]
  try rfl
set_option maxRecDepth 8192 in
theorem al_141 (h : Holds V0 s j) : (transpose S64x4x128 [1, 0, 2] (addf (Host.dotGeneral dot_S4x64x128_S4x128x128_S4x64x128_2_1_1_2_0_0 none (res_main_while0b_v72 V0) (res_main_while0b_v22 V0)) (Host.dotGeneral dot_S4x64x64_S4x64x128_S4x64x128_2_1_1_2_0_0 none (res_main_while0b_v68 V0) (res_main_while0b_v84 V0))) transposes_S4x64x128_S64x4x128_1_0_2 : (Proc.devRef .tc main_while0b_v93 : DevRef τ sig).ty.Contents (Elt F)) = Cert.ReferenceIdeal.Step.b141 j s := by
  unfold Cert.ReferenceIdeal.Step.b141
  rw [← al_135 h]
  try rfl
set_option maxRecDepth 8192 in
theorem al_142 (h : Holds V0 s j) : (shapeCast S64x512 (transpose S64x4x128 [1, 0, 2] (addf (Host.dotGeneral dot_S4x64x128_S4x128x128_S4x64x128_2_1_1_2_0_0 none (res_main_while0b_v72 V0) (res_main_while0b_v22 V0)) (Host.dotGeneral dot_S4x64x64_S4x64x128_S4x64x128_2_1_1_2_0_0 none (res_main_while0b_v68 V0) (res_main_while0b_v84 V0))) transposes_S4x64x128_S64x4x128_1_0_2) shapeCasts_S64x4x128_S64x512 : (Proc.devRef .tc main_while0b_v94 : DevRef τ sig).ty.Contents (Elt F)) = Cert.ReferenceIdeal.Step.b142 j s := by
  unfold Cert.ReferenceIdeal.Step.b142
  rw [← al_141 h]
  try rfl
set_option maxRecDepth 8192 in
theorem al_143 (h : Holds V0 s j) : (shapeCast S64x4x128 (shapeCast S64x512 (Host.dynamicSlice S1x64x512 (V0 (Proc.devRef .tc main_v10_6)) (fun k => (((![res_main_while0b_v16 V0, constantI S_ 32 0#32, constantI S_ 32 0#32] : Fin 3 → (⟨S_, .i32⟩ : BufTy).Contents (Elt F))) k (Shape.Idx.first h_S_)).toInt) sliceFits_S64x64x512_S1x64x512) shapeCasts_S1x64x512_S64x512) shapeCasts_S64x512_S64x4x128 : (Proc.devRef .tc main_while0b_v95 : DevRef τ sig).ty.Contents (Elt F)) = Cert.ReferenceIdeal.Step.b143 j s := by
  unfold Cert.ReferenceIdeal.Step.b143
  rw [← al_33 h]
  try rfl
set_option maxRecDepth 8192 in
theorem al_144 (h : Holds V0 s j) : (res_main_while0b_v96 V0 : (Proc.devRef .tc main_while0b_v96 : DevRef τ sig).ty.Contents (Elt F)) = Cert.ReferenceIdeal.Step.b144 j s := by
  unfold res_main_while0b_v96 Cert.ReferenceIdeal.Step.b144
  rw [← al_143 h]
  try rfl
set_option maxRecDepth 8192 in
theorem al_145 (h : Holds V0 s j) : (Host.dotGeneral dot_S4x128x128_S4x64x128_S4x128x64_1_2_2_1_0_0 none (V0 (Proc.devRef .tc main_v10_8)) (res_main_while0b_v79 V0) : (Proc.devRef .tc main_while0b_v97 : DevRef τ sig).ty.Contents (Elt F)) = Cert.ReferenceIdeal.Step.b145 j s := by
  unfold Cert.ReferenceIdeal.Step.b145
  rw [← al_127 h, h.f_8]
  try rfl
set_option maxRecDepth 8192 in
theorem al_146 (h : Holds V0 s j) : (transpose S4x64x128 [0, 2, 1] (Host.dotGeneral dot_S4x128x128_S4x64x128_S4x128x64_1_2_2_1_0_0 none (V0 (Proc.devRef .tc main_v10_8)) (res_main_while0b_v79 V0)) transposes_S4x128x64_S4x64x128_0_2_1 : (Proc.devRef .tc main_while0b_v98 : DevRef τ sig).ty.Contents (Elt F)) = Cert.ReferenceIdeal.Step.b146 j s := by
  unfold Cert.ReferenceIdeal.Step.b146
  rw [← al_145 h]
  try rfl
set_option maxRecDepth 8192 in
theorem al_147 (h : Holds V0 s j) : (Host.dotGeneral dot_S4x128x128_S4x64x128_S4x128x64_2_2_1_1_0_0 none (V0 (Proc.devRef .tc main_v10_8)) (res_main_while0b_v84 V0) : (Proc.devRef .tc main_while0b_v99 : DevRef τ sig).ty.Contents (Elt F)) = Cert.ReferenceIdeal.Step.b147 j s := by
  unfold Cert.ReferenceIdeal.Step.b147
  rw [← al_132 h, h.f_8]
  try rfl
set_option maxRecDepth 8192 in
theorem al_148 (h : Holds V0 s j) : (res_main_while0b_v100 V0 : (Proc.devRef .tc main_while0b_v100 : DevRef τ sig).ty.Contents (Elt F)) = Cert.ReferenceIdeal.Step.b148 j s := by
  unfold res_main_while0b_v100 Cert.ReferenceIdeal.Step.b148
  rw [← al_147 h]
  try rfl
set_option maxRecDepth 8192 in
theorem al_149 (h : Holds V0 s j) : (mulf (res_main_while0b_v22 V0) (V0 (Proc.devRef .tc main_v10_8)) : (Proc.devRef .tc main_while0b_v101 : DevRef τ sig).ty.Contents (Elt F)) = Cert.ReferenceIdeal.Step.b149 j s := by
  unfold Cert.ReferenceIdeal.Step.b149
  rw [← al_29 h, h.f_8]
  try rfl
set_option maxRecDepth 8192 in
theorem al_150 (h : Holds V0 s j) : (constant S_ .f32 0x00000000#32 : (Proc.devRef .tc main_while0b_cst_24 : DevRef τ sig).ty.Contents (Elt F)) = Cert.ReferenceIdeal.Step.b150 j s := by
  unfold Cert.ReferenceIdeal.Step.b150
  rfl
set_option maxRecDepth 8192 in
theorem al_151 (h : Holds V0 s j) : (Host.reduceAdd (mulf (res_main_while0b_v22 V0) (V0 (Proc.devRef .tc main_v10_8))) (constant S_ .f32 0x00000000#32) reducesTo_S4x128x128_S4_d1_2 h_S_ : (Proc.devRef .tc main_while0b_v102 : DevRef τ sig).ty.Contents (Elt F)) = Cert.ReferenceIdeal.Step.b151 j s := by
  unfold Cert.ReferenceIdeal.Step.b151
  rw [← al_149 h, ← al_150 h]
  try rfl
set_option maxRecDepth 8192 in
theorem al_152 (h : Holds V0 s j) : (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1 : (Proc.devRef .tc main_while0b_v103 : DevRef τ sig).ty.Contents (Elt F)) = Cert.ReferenceIdeal.Step.b152 j s := by
  unfold Cert.ReferenceIdeal.Step.b152
  rw [← al_151 h]
  try rfl
set_option maxRecDepth 8192 in
theorem al_153 (h : Holds V0 s j) : (broadcastInDim S4x128x128 ![0, 1, 2] bcast_S4x1x1_S4x128x128_0_1_2 (res_main_while0b_v88 V0) : (Proc.devRef .tc main_while0b_v104 : DevRef τ sig).ty.Contents (Elt F)) = Cert.ReferenceIdeal.Step.b153 j s := by
  unfold Cert.ReferenceIdeal.Step.b153
  rw [← al_136 h]
  try rfl
set_option maxRecDepth 8192 in
theorem al_154 (h : Holds V0 s j) : (mulf (V0 (Proc.devRef .tc main_v10_8)) (broadcastInDim S4x128x128 ![0, 1, 2] bcast_S4x1x1_S4x128x128_0_1_2 (res_main_while0b_v88 V0)) : (Proc.devRef .tc main_while0b_v105 : DevRef τ sig).ty.Contents (Elt F)) = Cert.ReferenceIdeal.Step.b154 j s := by
  unfold Cert.ReferenceIdeal.Step.b154
  rw [← al_153 h, h.f_8]
  try rfl
set_option maxRecDepth 8192 in
theorem al_155 (h : Holds V0 s j) : (constant S_ .f32 0x00000000#32 : (Proc.devRef .tc main_while0b_cst_25 : DevRef τ sig).ty.Contents (Elt F)) = Cert.ReferenceIdeal.Step.b155 j s := by
  unfold Cert.ReferenceIdeal.Step.b155
  rfl
set_option maxRecDepth 8192 in
theorem al_156 (h : Holds V0 s j) : (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_ : (Proc.devRef .tc main_while0b_v106 : DevRef τ sig).ty.Contents (Elt F)) = Cert.ReferenceIdeal.Step.b156 j s := by
  unfold Cert.ReferenceIdeal.Step.b156
  rw [← al_152 h, ← al_155 h]
  try rfl
set_option maxRecDepth 8192 in
theorem al_157 (h : Holds V0 s j) : (Host.dotGeneral dot_S4x64x128_S4x64x64_S4x128x64_1_1_2_2_0_0 none (res_main_while0b_v96 V0) (res_main_while0b_v68 V0) : (Proc.devRef .tc main_while0b_v107 : DevRef τ sig).ty.Contents (Elt F)) = Cert.ReferenceIdeal.Step.b157 j s := by
  unfold Cert.ReferenceIdeal.Step.b157
  rw [← al_144 h, ← al_116 h]
  try rfl
set_option maxRecDepth 8192 in
theorem al_158 (h : Holds V0 s j) : (transpose S4x64x128 [0, 2, 1] (Host.dotGeneral dot_S4x64x128_S4x64x64_S4x128x64_1_1_2_2_0_0 none (res_main_while0b_v96 V0) (res_main_while0b_v68 V0)) transposes_S4x128x64_S4x64x128_0_2_1 : (Proc.devRef .tc main_while0b_v108 : DevRef τ sig).ty.Contents (Elt F)) = Cert.ReferenceIdeal.Step.b158 j s := by
  unfold Cert.ReferenceIdeal.Step.b158
  rw [← al_157 h]
  try rfl
set_option maxRecDepth 8192 in
theorem al_159 (h : Holds V0 s j) : (res_main_while0b_v109 V0 : (Proc.devRef .tc main_while0b_v109 : DevRef τ sig).ty.Contents (Elt F)) = Cert.ReferenceIdeal.Step.b159 j s := by
  unfold res_main_while0b_v109 Cert.ReferenceIdeal.Step.b159
  rw [← al_146 h, ← al_158 h]
  try rfl
set_option maxRecDepth 8192 in
theorem al_160 (h : Holds V0 s j) : (res_main_while0b_v110 V0 : (Proc.devRef .tc main_while0b_v110 : DevRef τ sig).ty.Contents (Elt F)) = Cert.ReferenceIdeal.Step.b160 j s := by
  unfold res_main_while0b_v110 Cert.ReferenceIdeal.Step.b160
  rw [← al_144 h, ← al_132 h]
  try rfl
set_option maxRecDepth 8192 in
theorem al_161 (h : Holds V0 s j) : (Host.dotGeneral dot_S4x64x128_S4x64x128_S4x128x128_1_1_2_2_0_0 none (res_main_while0b_v96 V0) (res_main_while0b_v72 V0) : (Proc.devRef .tc main_while0b_v111 : DevRef τ sig).ty.Contents (Elt F)) = Cert.ReferenceIdeal.Step.b161 j s := by
  unfold Cert.ReferenceIdeal.Step.b161
  rw [← al_144 h, ← al_120 h]
  try rfl
set_option maxRecDepth 8192 in
theorem al_162 (h : Holds V0 s j) : (transpose S4x128x128 [0, 2, 1] (Host.dotGeneral dot_S4x64x128_S4x64x128_S4x128x128_1_1_2_2_0_0 none (res_main_while0b_v96 V0) (res_main_while0b_v72 V0)) transposes_S4x128x128_S4x128x128_0_2_1 : (Proc.devRef .tc main_while0b_v112 : DevRef τ sig).ty.Contents (Elt F)) = Cert.ReferenceIdeal.Step.b162 j s := by
  unfold Cert.ReferenceIdeal.Step.b162
  rw [← al_161 h]
  try rfl
set_option maxRecDepth 8192 in
theorem al_163 (h : Holds V0 s j) : (addf (mulf (V0 (Proc.devRef .tc main_v10_8)) (broadcastInDim S4x128x128 ![0, 1, 2] bcast_S4x1x1_S4x128x128_0_1_2 (res_main_while0b_v88 V0))) (transpose S4x128x128 [0, 2, 1] (Host.dotGeneral dot_S4x64x128_S4x64x128_S4x128x128_1_1_2_2_0_0 none (res_main_while0b_v96 V0) (res_main_while0b_v72 V0)) transposes_S4x128x128_S4x128x128_0_2_1) : (Proc.devRef .tc main_while0b_v113 : DevRef τ sig).ty.Contents (Elt F)) = Cert.ReferenceIdeal.Step.b163 j s := by
  unfold Cert.ReferenceIdeal.Step.b163
  rw [← al_154 h, ← al_162 h]
  try rfl
set_option maxRecDepth 8192 in
theorem al_164 (h : Holds V0 s j) : (res_main_while0b_v114 V0 : (Proc.devRef .tc main_while0b_v114 : DevRef τ sig).ty.Contents (Elt F)) = Cert.ReferenceIdeal.Step.b164 j s := by
  unfold res_main_while0b_v114 Cert.ReferenceIdeal.Step.b164
  rw [← al_144 h, ← al_29 h]
  try rfl
set_option maxRecDepth 8192 in
theorem al_165 (h : Holds V0 s j) : (res_main_while0b_v115 V0 : (Proc.devRef .tc main_while0b_v115 : DevRef τ sig).ty.Contents (Elt F)) = Cert.ReferenceIdeal.Step.b165 j s := by
  unfold res_main_while0b_v115 Cert.ReferenceIdeal.Step.b165
  rw [← al_159 h]
  try rfl
set_option maxRecDepth 8192 in
theorem al_166 (h : Holds V0 s j) : (Host.dotGeneral dot_S4x64x128_S4x64x128_S4x128x128_1_1_2_2_0_0 none (res_main_while0b_v115 V0) (res_main_while0b_v66 V0) : (Proc.devRef .tc main_while0b_v116 : DevRef τ sig).ty.Contents (Elt F)) = Cert.ReferenceIdeal.Step.b166 j s := by
  unfold Cert.ReferenceIdeal.Step.b166
  rw [← al_165 h, ← al_114 h]
  try rfl
set_option maxRecDepth 8192 in
theorem al_167 (h : Holds V0 s j) : (transpose S4x128x128 [0, 2, 1] (Host.dotGeneral dot_S4x64x128_S4x64x128_S4x128x128_1_1_2_2_0_0 none (res_main_while0b_v115 V0) (res_main_while0b_v66 V0)) transposes_S4x128x128_S4x128x128_0_2_1 : (Proc.devRef .tc main_while0b_v117 : DevRef τ sig).ty.Contents (Elt F)) = Cert.ReferenceIdeal.Step.b167 j s := by
  unfold Cert.ReferenceIdeal.Step.b167
  rw [← al_166 h]
  try rfl
set_option maxRecDepth 8192 in
theorem al_168 (h : Holds V0 s j) : (addf (addf (mulf (V0 (Proc.devRef .tc main_v10_8)) (broadcastInDim S4x128x128 ![0, 1, 2] bcast_S4x1x1_S4x128x128_0_1_2 (res_main_while0b_v88 V0))) (transpose S4x128x128 [0, 2, 1] (Host.dotGeneral dot_S4x64x128_S4x64x128_S4x128x128_1_1_2_2_0_0 none (res_main_while0b_v96 V0) (res_main_while0b_v72 V0)) transposes_S4x128x128_S4x128x128_0_2_1)) (transpose S4x128x128 [0, 2, 1] (Host.dotGeneral dot_S4x64x128_S4x64x128_S4x128x128_1_1_2_2_0_0 none (res_main_while0b_v115 V0) (res_main_while0b_v66 V0)) transposes_S4x128x128_S4x128x128_0_2_1) : (Proc.devRef .tc main_while0b_v118 : DevRef τ sig).ty.Contents (Elt F)) = Cert.ReferenceIdeal.Step.b168 j s := by
  unfold Cert.ReferenceIdeal.Step.b168
  rw [← al_163 h, ← al_167 h]
  try rfl
set_option maxRecDepth 8192 in
theorem al_169 (h : Holds V0 s j) : (Host.dotGeneral dot_S4x64x128_S4x128x128_S4x64x128_2_2_1_1_0_0 none (res_main_while0b_v115 V0) (res_main_while0b_v22 V0) : (Proc.devRef .tc main_while0b_v119 : DevRef τ sig).ty.Contents (Elt F)) = Cert.ReferenceIdeal.Step.b169 j s := by
  unfold Cert.ReferenceIdeal.Step.b169
  rw [← al_165 h, ← al_29 h]
  try rfl
set_option maxRecDepth 8192 in
theorem al_170 (h : Holds V0 s j) : (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0) : (Proc.devRef .tc main_while0b_v120 : DevRef τ sig).ty.Contents (Elt F)) = Cert.ReferenceIdeal.Step.b170 j s := by
  unfold Cert.ReferenceIdeal.Step.b170
  rw [← al_156 h, ← al_130 h]
  try rfl
set_option maxRecDepth 8192 in
theorem al_171 (h : Holds V0 s j) : (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0)) : (Proc.devRef .tc main_while0b_v121 : DevRef τ sig).ty.Contents (Elt F)) = Cert.ReferenceIdeal.Step.b171 j s := by
  unfold Cert.ReferenceIdeal.Step.b171
  rw [← al_170 h]
  try rfl
set_option maxRecDepth 8192 in
theorem al_172 (h : Holds V0 s j) : (constant S_ .f32 0x00000000#32 : (Proc.devRef .tc main_while0b_cst_26 : DevRef τ sig).ty.Contents (Elt F)) = Cert.ReferenceIdeal.Step.b172 j s := by
  unfold Cert.ReferenceIdeal.Step.b172
  rfl
set_option maxRecDepth 8192 in
theorem al_173 (h : Holds V0 s j) : (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_ : (Proc.devRef .tc main_while0b_v122 : DevRef τ sig).ty.Contents (Elt F)) = Cert.ReferenceIdeal.Step.b173 j s := by
  unfold Cert.ReferenceIdeal.Step.b173
  rw [← al_171 h, ← al_172 h]
  try rfl
set_option maxRecDepth 8192 in
theorem al_174 (h : Holds V0 s j) : (mulf (res_main_while0b_v27 V0) (res_main_while0b_v100 V0) : (Proc.devRef .tc main_while0b_v123 : DevRef τ sig).ty.Contents (Elt F)) = Cert.ReferenceIdeal.Step.b174 j s := by
  unfold Cert.ReferenceIdeal.Step.b174
  rw [← al_37 h, ← al_148 h]
  try rfl
set_option maxRecDepth 8192 in
theorem al_175 (h : Holds V0 s j) : (constant S_ .f32 0x00000000#32 : (Proc.devRef .tc main_while0b_cst_27 : DevRef τ sig).ty.Contents (Elt F)) = Cert.ReferenceIdeal.Step.b175 j s := by
  unfold Cert.ReferenceIdeal.Step.b175
  rfl
set_option maxRecDepth 8192 in
theorem al_176 (h : Holds V0 s j) : (Host.reduceAdd (mulf (res_main_while0b_v27 V0) (res_main_while0b_v100 V0)) (constant S_ .f32 0x00000000#32) reducesTo_S4x64x128_S4x64_d2 h_S_ : (Proc.devRef .tc main_while0b_v124 : DevRef τ sig).ty.Contents (Elt F)) = Cert.ReferenceIdeal.Step.b176 j s := by
  unfold Cert.ReferenceIdeal.Step.b176
  rw [← al_174 h, ← al_175 h]
  try rfl
set_option maxRecDepth 8192 in
theorem al_177 (h : Holds V0 s j) : (shapeCast S4x64x1 (Host.reduceAdd (mulf (res_main_while0b_v27 V0) (res_main_while0b_v100 V0)) (constant S_ .f32 0x00000000#32) reducesTo_S4x64x128_S4x64_d2 h_S_) shapeCasts_S4x64_S4x64x1 : (Proc.devRef .tc main_while0b_v125 : DevRef τ sig).ty.Contents (Elt F)) = Cert.ReferenceIdeal.Step.b177 j s := by
  unfold Cert.ReferenceIdeal.Step.b177
  rw [← al_176 h]
  try rfl
set_option maxRecDepth 8192 in
theorem al_178 (h : Holds V0 s j) : (broadcastInDim S4x64x128 ![0, 1, 2] bcast_S4x64x1_S4x64x128_0_1_2 (res_main_while0b_v77 V0) : (Proc.devRef .tc main_while0b_v126 : DevRef τ sig).ty.Contents (Elt F)) = Cert.ReferenceIdeal.Step.b178 j s := by
  unfold Cert.ReferenceIdeal.Step.b178
  rw [← al_125 h]
  try rfl
set_option maxRecDepth 8192 in
theorem al_179 (h : Holds V0 s j) : (mulf (res_main_while0b_v100 V0) (broadcastInDim S4x64x128 ![0, 1, 2] bcast_S4x64x1_S4x64x128_0_1_2 (res_main_while0b_v77 V0)) : (Proc.devRef .tc main_while0b_v127 : DevRef τ sig).ty.Contents (Elt F)) = Cert.ReferenceIdeal.Step.b179 j s := by
  unfold Cert.ReferenceIdeal.Step.b179
  rw [← al_148 h, ← al_178 h]
  try rfl
set_option maxRecDepth 8192 in
theorem al_180 (h : Holds V0 s j) : (constant S_ .f32 0x00000000#32 : (Proc.devRef .tc main_while0b_cst_28 : DevRef τ sig).ty.Contents (Elt F)) = Cert.ReferenceIdeal.Step.b180 j s := by
  unfold Cert.ReferenceIdeal.Step.b180
  rfl
set_option maxRecDepth 8192 in
theorem al_181 (h : Holds V0 s j) : (Host.reduceAdd (shapeCast S4x64x1 (Host.reduceAdd (mulf (res_main_while0b_v27 V0) (res_main_while0b_v100 V0)) (constant S_ .f32 0x00000000#32) reducesTo_S4x64x128_S4x64_d2 h_S_) shapeCasts_S4x64_S4x64x1) (constant S_ .f32 0x00000000#32) reducesTo_S4x64x1_S4x64_d2 h_S_ : (Proc.devRef .tc main_while0b_v128 : DevRef τ sig).ty.Contents (Elt F)) = Cert.ReferenceIdeal.Step.b181 j s := by
  unfold Cert.ReferenceIdeal.Step.b181
  rw [← al_177 h, ← al_180 h]
  try rfl
set_option maxRecDepth 8192 in
theorem al_182 (h : Holds V0 s j) : (res_main_while0b_v129 V0 : (Proc.devRef .tc main_while0b_v129 : DevRef τ sig).ty.Contents (Elt F)) = Cert.ReferenceIdeal.Step.b182 j s := by
  unfold res_main_while0b_v129 Cert.ReferenceIdeal.Step.b182
  rw [← al_181 h, ← al_124 h]
  try rfl
set_option maxRecDepth 8192 in
theorem al_183 (h : Holds V0 s j) : (constant S_ .f32 0x00000000#32 : (Proc.devRef .tc main_while0b_cst_29 : DevRef τ sig).ty.Contents (Elt F)) = Cert.ReferenceIdeal.Step.b183 j s := by
  unfold Cert.ReferenceIdeal.Step.b183
  rfl
set_option maxRecDepth 8192 in
theorem al_184 (h : Holds V0 s j) : (Host.reduceAdd (res_main_while0b_v129 V0) (constant S_ .f32 0x00000000#32) reducesTo_S4x64_S4_d1 h_S_ : (Proc.devRef .tc main_while0b_v130 : DevRef τ sig).ty.Contents (Elt F)) = Cert.ReferenceIdeal.Step.b184 j s := by
  unfold Cert.ReferenceIdeal.Step.b184
  rw [← al_182 h, ← al_183 h]
  try rfl
set_option maxRecDepth 8192 in
theorem al_185 (h : Holds V0 s j) : (shapeCast S4x1 (Host.reduceAdd (res_main_while0b_v129 V0) (constant S_ .f32 0x00000000#32) reducesTo_S4x64_S4_d1 h_S_) shapeCasts_S4_S4x1 : (Proc.devRef .tc main_while0b_v131 : DevRef τ sig).ty.Contents (Elt F)) = Cert.ReferenceIdeal.Step.b185 j s := by
  unfold Cert.ReferenceIdeal.Step.b185
  rw [← al_184 h]
  try rfl
set_option maxRecDepth 8192 in
theorem al_186 (h : Holds V0 s j) : (Host.negf (res_main_while0b_v129 V0) : (Proc.devRef .tc main_while0b_v132 : DevRef τ sig).ty.Contents (Elt F)) = Cert.ReferenceIdeal.Step.b186 j s := by
  unfold Cert.ReferenceIdeal.Step.b186
  rw [← al_182 h]
  try rfl
set_option maxRecDepth 8192 in
theorem al_187 (h : Holds V0 s j) : (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0)) : (Proc.devRef .tc main_while0b_v133 : DevRef τ sig).ty.Contents (Elt F)) = Cert.ReferenceIdeal.Step.b187 j s := by
  unfold Cert.ReferenceIdeal.Step.b187
  rw [← al_173 h, ← al_186 h]
  try rfl
set_option maxRecDepth 8192 in
theorem al_188 (h : Holds V0 s j) : (constant S_ .f32 0x00000000#32 : (Proc.devRef .tc main_while0b_cst_30 : DevRef τ sig).ty.Contents (Elt F)) = Cert.ReferenceIdeal.Step.b188 j s := by
  unfold Cert.ReferenceIdeal.Step.b188
  rfl
set_option maxRecDepth 8192 in
theorem al_189 (h : Holds V0 s j) : (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_ : (Proc.devRef .tc main_while0b_v134 : DevRef τ sig).ty.Contents (Elt F)) = Cert.ReferenceIdeal.Step.b189 j s := by
  unfold Cert.ReferenceIdeal.Step.b189
  rw [← al_185 h, ← al_188 h]
  try rfl
set_option maxRecDepth 8192 in
theorem al_190 (h : Holds V0 s j) : (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_) : (Proc.devRef .tc main_while0b_v135 : DevRef τ sig).ty.Contents (Elt F)) = Cert.ReferenceIdeal.Step.b190 j s := by
  unfold Cert.ReferenceIdeal.Step.b190
  rw [← al_187 h, ← al_189 h]
  try rfl
set_option maxRecDepth 8192 in
theorem al_191 (h : Holds V0 s j) : (mulf (res_main_while0b_v25 V0) (res_main_while0b_v114 V0) : (Proc.devRef .tc main_while0b_v136 : DevRef τ sig).ty.Contents (Elt F)) = Cert.ReferenceIdeal.Step.b191 j s := by
  unfold Cert.ReferenceIdeal.Step.b191
  rw [← al_35 h, ← al_164 h]
  try rfl
set_option maxRecDepth 8192 in
theorem al_192 (h : Holds V0 s j) : (constant S_ .f32 0x00000000#32 : (Proc.devRef .tc main_while0b_cst_31 : DevRef τ sig).ty.Contents (Elt F)) = Cert.ReferenceIdeal.Step.b192 j s := by
  unfold Cert.ReferenceIdeal.Step.b192
  rfl
set_option maxRecDepth 8192 in
theorem al_193 (h : Holds V0 s j) : (Host.reduceAdd (mulf (res_main_while0b_v25 V0) (res_main_while0b_v114 V0)) (constant S_ .f32 0x00000000#32) reducesTo_S4x64x128_S4x64_d2 h_S_ : (Proc.devRef .tc main_while0b_v137 : DevRef τ sig).ty.Contents (Elt F)) = Cert.ReferenceIdeal.Step.b193 j s := by
  unfold Cert.ReferenceIdeal.Step.b193
  rw [← al_191 h, ← al_192 h]
  try rfl
set_option maxRecDepth 8192 in
theorem al_194 (h : Holds V0 s j) : (shapeCast S4x64x1 (Host.reduceAdd (mulf (res_main_while0b_v25 V0) (res_main_while0b_v114 V0)) (constant S_ .f32 0x00000000#32) reducesTo_S4x64x128_S4x64_d2 h_S_) shapeCasts_S4x64_S4x64x1 : (Proc.devRef .tc main_while0b_v138 : DevRef τ sig).ty.Contents (Elt F)) = Cert.ReferenceIdeal.Step.b194 j s := by
  unfold Cert.ReferenceIdeal.Step.b194
  rw [← al_193 h]
  try rfl
set_option maxRecDepth 8192 in
theorem al_195 (h : Holds V0 s j) : (broadcastInDim S4x64x128 ![0, 1, 2] bcast_S4x64x1_S4x64x128_0_1_2 (res_main_while0b_v70 V0) : (Proc.devRef .tc main_while0b_v139 : DevRef τ sig).ty.Contents (Elt F)) = Cert.ReferenceIdeal.Step.b195 j s := by
  unfold Cert.ReferenceIdeal.Step.b195
  rw [← al_118 h]
  try rfl
set_option maxRecDepth 8192 in
theorem al_196 (h : Holds V0 s j) : (mulf (res_main_while0b_v114 V0) (broadcastInDim S4x64x128 ![0, 1, 2] bcast_S4x64x1_S4x64x128_0_1_2 (res_main_while0b_v70 V0)) : (Proc.devRef .tc main_while0b_v140 : DevRef τ sig).ty.Contents (Elt F)) = Cert.ReferenceIdeal.Step.b196 j s := by
  unfold Cert.ReferenceIdeal.Step.b196
  rw [← al_164 h, ← al_195 h]
  try rfl
set_option maxRecDepth 8192 in
theorem al_197 (h : Holds V0 s j) : (constant S_ .f32 0x00000000#32 : (Proc.devRef .tc main_while0b_cst_32 : DevRef τ sig).ty.Contents (Elt F)) = Cert.ReferenceIdeal.Step.b197 j s := by
  unfold Cert.ReferenceIdeal.Step.b197
  rfl
set_option maxRecDepth 8192 in
theorem al_198 (h : Holds V0 s j) : (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_ : (Proc.devRef .tc main_while0b_v141 : DevRef τ sig).ty.Contents (Elt F)) = Cert.ReferenceIdeal.Step.b198 j s := by
  unfold Cert.ReferenceIdeal.Step.b198
  rw [← al_194 h, ← al_197 h]
  try rfl
set_option maxRecDepth 8192 in
theorem al_199 (h : Holds V0 s j) : (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0) : (Proc.devRef .tc main_while0b_v142 : DevRef τ sig).ty.Contents (Elt F)) = Cert.ReferenceIdeal.Step.b199 j s := by
  unfold Cert.ReferenceIdeal.Step.b199
  rw [← al_198 h, ← al_117 h]
  try rfl

end Cert.RefTrip

end
-- ==== Proof.RefTripB.lean ====
/-
  One trip of the reference's loop, value by value: at a valuation that HOLDS a state, every value that the trip
  computes is the one of the step function of Gen/ReferenceIdeal/Step.lean (the other values), and so the run of the whole loop is the step function iterated.
-/
module

public import proofs.«01_k».proof.Proof.RefTripA

@[expose] public section

noncomputable section

namespace Cert.RefTrip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable {V0 : Valuation τ sig (Elt F)} {s : State F} {j : ℕ}

set_option maxRecDepth 8192 in
theorem al_200 (h : Holds V0 s j) : (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0)) : (Proc.devRef .tc main_while0b_v143 : DevRef τ sig).ty.Contents (Elt F)) = Cert.ReferenceIdeal.Step.b200 j s := by
  unfold Cert.ReferenceIdeal.Step.b200
  rw [← al_190 h, ← al_199 h]
  try rfl
set_option maxRecDepth 8192 in
theorem al_201 (h : Holds V0 s j) : (mulf (res_main_while0b_v67 V0) (res_main_while0b_v110 V0) : (Proc.devRef .tc main_while0b_v144 : DevRef τ sig).ty.Contents (Elt F)) = Cert.ReferenceIdeal.Step.b201 j s := by
  unfold Cert.ReferenceIdeal.Step.b201
  rw [← al_115 h, ← al_160 h]
  try rfl
set_option maxRecDepth 8192 in
theorem al_202 (h : Holds V0 s j) : (res_main_while0b_v145 V0 : (Proc.devRef .tc main_while0b_v145 : DevRef τ sig).ty.Contents (Elt F)) = Cert.ReferenceIdeal.Step.b202 j s := by
  unfold res_main_while0b_v145 Cert.ReferenceIdeal.Step.b202
  rw [← al_160 h, ← al_89 h]
  try rfl
set_option maxRecDepth 8192 in
theorem al_203 (h : Holds V0 s j) : (Host.dotGeneral dot_S4x64x64_S4x64x128_S4x64x128_1_1_2_2_0_0 none (res_main_while0b_v145 V0) (res_main_while0b_v25 V0) : (Proc.devRef .tc main_while0b_v146 : DevRef τ sig).ty.Contents (Elt F)) = Cert.ReferenceIdeal.Step.b203 j s := by
  unfold Cert.ReferenceIdeal.Step.b203
  rw [← al_202 h, ← al_35 h]
  try rfl
set_option maxRecDepth 8192 in
theorem al_204 (h : Holds V0 s j) : (addf (mulf (res_main_while0b_v100 V0) (broadcastInDim S4x64x128 ![0, 1, 2] bcast_S4x64x1_S4x64x128_0_1_2 (res_main_while0b_v77 V0))) (Host.dotGeneral dot_S4x64x64_S4x64x128_S4x64x128_1_1_2_2_0_0 none (res_main_while0b_v145 V0) (res_main_while0b_v25 V0)) : (Proc.devRef .tc main_while0b_v147 : DevRef τ sig).ty.Contents (Elt F)) = Cert.ReferenceIdeal.Step.b204 j s := by
  unfold Cert.ReferenceIdeal.Step.b204
  rw [← al_179 h, ← al_203 h]
  try rfl
set_option maxRecDepth 8192 in
theorem al_205 (h : Holds V0 s j) : (Host.dotGeneral dot_S4x64x64_S4x64x128_S4x64x128_2_1_1_2_0_0 none (res_main_while0b_v145 V0) (res_main_while0b_v27 V0) : (Proc.devRef .tc main_while0b_v148 : DevRef τ sig).ty.Contents (Elt F)) = Cert.ReferenceIdeal.Step.b205 j s := by
  unfold Cert.ReferenceIdeal.Step.b205
  rw [← al_202 h, ← al_37 h]
  try rfl
set_option maxRecDepth 8192 in
theorem al_206 (h : Holds V0 s j) : (addf (mulf (res_main_while0b_v114 V0) (broadcastInDim S4x64x128 ![0, 1, 2] bcast_S4x64x1_S4x64x128_0_1_2 (res_main_while0b_v70 V0))) (Host.dotGeneral dot_S4x64x64_S4x64x128_S4x64x128_2_1_1_2_0_0 none (res_main_while0b_v145 V0) (res_main_while0b_v27 V0)) : (Proc.devRef .tc main_while0b_v149 : DevRef τ sig).ty.Contents (Elt F)) = Cert.ReferenceIdeal.Step.b206 j s := by
  unfold Cert.ReferenceIdeal.Step.b206
  rw [← al_196 h, ← al_205 h]
  try rfl
set_option maxRecDepth 8192 in
theorem al_207 (h : Holds V0 s j) : (constant S_ .f32 0x00000000#32 : (Proc.devRef .tc main_while0b_cst_33 : DevRef τ sig).ty.Contents (Elt F)) = Cert.ReferenceIdeal.Step.b207 j s := by
  unfold Cert.ReferenceIdeal.Step.b207
  rfl
set_option maxRecDepth 8192 in
theorem al_208 (h : Holds V0 s j) : (pad S4x64x256 ![0, 0, 128] ![0, 0, 0] ![0, 0, 0] (Host.dotGeneral dot_S4x64x128_S4x128x128_S4x64x128_2_2_1_1_0_0 none (res_main_while0b_v115 V0) (res_main_while0b_v22 V0)) (constant S_ .f32 0x00000000#32) pads_S4x64x128_S4x64x256_000_000_12800 h_S_ : (Proc.devRef .tc main_while0b_v150 : DevRef τ sig).ty.Contents (Elt F)) = Cert.ReferenceIdeal.Step.b208 j s := by
  unfold Cert.ReferenceIdeal.Step.b208
  rw [← al_169 h, ← al_207 h]
  try rfl
set_option maxRecDepth 8192 in
theorem al_209 (h : Holds V0 s j) : (constant S_ .f32 0x00000000#32 : (Proc.devRef .tc main_while0b_cst_34 : DevRef τ sig).ty.Contents (Elt F)) = Cert.ReferenceIdeal.Step.b209 j s := by
  unfold Cert.ReferenceIdeal.Step.b209
  rfl
set_option maxRecDepth 8192 in
theorem al_210 (h : Holds V0 s j) : (pad S4x64x256 ![0, 0, 0] ![0, 0, 128] ![0, 0, 0] (res_main_while0b_v109 V0) (constant S_ .f32 0x00000000#32) pads_S4x64x128_S4x64x256_000_000_01280 h_S_ : (Proc.devRef .tc main_while0b_v151 : DevRef τ sig).ty.Contents (Elt F)) = Cert.ReferenceIdeal.Step.b210 j s := by
  unfold Cert.ReferenceIdeal.Step.b210
  rw [← al_159 h, ← al_209 h]
  try rfl
set_option maxRecDepth 8192 in
theorem al_211 (h : Holds V0 s j) : (addf (pad S4x64x256 ![0, 0, 128] ![0, 0, 0] ![0, 0, 0] (Host.dotGeneral dot_S4x64x128_S4x128x128_S4x64x128_2_2_1_1_0_0 none (res_main_while0b_v115 V0) (res_main_while0b_v22 V0)) (constant S_ .f32 0x00000000#32) pads_S4x64x128_S4x64x256_000_000_12800 h_S_) (pad S4x64x256 ![0, 0, 0] ![0, 0, 128] ![0, 0, 0] (res_main_while0b_v109 V0) (constant S_ .f32 0x00000000#32) pads_S4x64x128_S4x64x256_000_000_01280 h_S_) : (Proc.devRef .tc main_while0b_v152 : DevRef τ sig).ty.Contents (Elt F)) = Cert.ReferenceIdeal.Step.b211 j s := by
  unfold Cert.ReferenceIdeal.Step.b211
  rw [← al_208 h, ← al_210 h]
  try rfl
set_option maxRecDepth 8192 in
theorem al_212 (h : Holds V0 s j) : (res_main_while0b_v153 V0 : (Proc.devRef .tc main_while0b_v153 : DevRef τ sig).ty.Contents (Elt F)) = Cert.ReferenceIdeal.Step.b212 j s := by
  unfold res_main_while0b_v153 Cert.ReferenceIdeal.Step.b212
  rw [← al_24 h, ← al_211 h]
  try rfl
set_option maxRecDepth 8192 in
theorem al_213 (h : Holds V0 s j) : (Host.negf (res_main_while0b_v153 V0) : (Proc.devRef .tc main_while0b_v154 : DevRef τ sig).ty.Contents (Elt F)) = Cert.ReferenceIdeal.Step.b213 j s := by
  unfold Cert.ReferenceIdeal.Step.b213
  rw [← al_212 h]
  try rfl
set_option maxRecDepth 8192 in
theorem al_214 (h : Holds V0 s j) : (Host.dotGeneral dot_S4x64x256_S4x64x256_S4x64x64_2_2_1_1_0_0 none (Host.negf (res_main_while0b_v153 V0)) (res_main_while0b_v62 V0) : (Proc.devRef .tc main_while0b_v155 : DevRef τ sig).ty.Contents (Elt F)) = Cert.ReferenceIdeal.Step.b214 j s := by
  unfold Cert.ReferenceIdeal.Step.b214
  rw [← al_213 h, ← al_110 h]
  try rfl
set_option maxRecDepth 8192 in
theorem al_215 (h : Holds V0 s j) : (res_main_while0b_v156 V0 : (Proc.devRef .tc main_while0b_v156 : DevRef τ sig).ty.Contents (Elt F)) = Cert.ReferenceIdeal.Step.b215 j s := by
  unfold res_main_while0b_v156 Cert.ReferenceIdeal.Step.b215
  rw [← al_212 h]
  try rfl
set_option maxRecDepth 8192 in
theorem al_216 (h : Holds V0 s j) : (res_main_while0b_v157 V0 : (Proc.devRef .tc main_while0b_v157 : DevRef τ sig).ty.Contents (Elt F)) = Cert.ReferenceIdeal.Step.b216 j s := by
  unfold res_main_while0b_v157 Cert.ReferenceIdeal.Step.b216
  rw [← al_212 h]
  try rfl
set_option maxRecDepth 8192 in
theorem al_217 (h : Holds V0 s j) : (mulf (res_main_while0b_v50 V0) (res_main_while0b_v157 V0) : (Proc.devRef .tc main_while0b_v158 : DevRef τ sig).ty.Contents (Elt F)) = Cert.ReferenceIdeal.Step.b217 j s := by
  unfold Cert.ReferenceIdeal.Step.b217
  rw [← al_92 h, ← al_216 h]
  try rfl
set_option maxRecDepth 8192 in
theorem al_218 (h : Holds V0 s j) : (constant S_ .f32 0x00000000#32 : (Proc.devRef .tc main_while0b_cst_35 : DevRef τ sig).ty.Contents (Elt F)) = Cert.ReferenceIdeal.Step.b218 j s := by
  unfold Cert.ReferenceIdeal.Step.b218
  rfl
set_option maxRecDepth 8192 in
theorem al_219 (h : Holds V0 s j) : (Host.reduceAdd (mulf (res_main_while0b_v50 V0) (res_main_while0b_v157 V0)) (constant S_ .f32 0x00000000#32) reducesTo_S4x64x128_S4x64_d2 h_S_ : (Proc.devRef .tc main_while0b_v159 : DevRef τ sig).ty.Contents (Elt F)) = Cert.ReferenceIdeal.Step.b219 j s := by
  unfold Cert.ReferenceIdeal.Step.b219
  rw [← al_217 h, ← al_218 h]
  try rfl
set_option maxRecDepth 8192 in
theorem al_220 (h : Holds V0 s j) : (shapeCast S4x64x1 (Host.reduceAdd (mulf (res_main_while0b_v50 V0) (res_main_while0b_v157 V0)) (constant S_ .f32 0x00000000#32) reducesTo_S4x64x128_S4x64_d2 h_S_) shapeCasts_S4x64_S4x64x1 : (Proc.devRef .tc main_while0b_v160 : DevRef τ sig).ty.Contents (Elt F)) = Cert.ReferenceIdeal.Step.b220 j s := by
  unfold Cert.ReferenceIdeal.Step.b220
  rw [← al_219 h]
  try rfl
set_option maxRecDepth 8192 in
theorem al_221 (h : Holds V0 s j) : (broadcastInDim S4x64x128 ![0, 1, 2] bcast_S4x64x1_S4x64x128_0_1_2 (res_main_while0b_v58 V0) : (Proc.devRef .tc main_while0b_v161 : DevRef τ sig).ty.Contents (Elt F)) = Cert.ReferenceIdeal.Step.b221 j s := by
  unfold Cert.ReferenceIdeal.Step.b221
  rw [← al_106 h]
  try rfl
set_option maxRecDepth 8192 in
theorem al_222 (h : Holds V0 s j) : (mulf (res_main_while0b_v157 V0) (broadcastInDim S4x64x128 ![0, 1, 2] bcast_S4x64x1_S4x64x128_0_1_2 (res_main_while0b_v58 V0)) : (Proc.devRef .tc main_while0b_v162 : DevRef τ sig).ty.Contents (Elt F)) = Cert.ReferenceIdeal.Step.b222 j s := by
  unfold Cert.ReferenceIdeal.Step.b222
  rw [← al_216 h, ← al_221 h]
  try rfl
set_option maxRecDepth 8192 in
theorem al_223 (h : Holds V0 s j) : (constant S_ .f32 0x00000000#32 : (Proc.devRef .tc main_while0b_cst_36 : DevRef τ sig).ty.Contents (Elt F)) = Cert.ReferenceIdeal.Step.b223 j s := by
  unfold Cert.ReferenceIdeal.Step.b223
  rfl
set_option maxRecDepth 8192 in
theorem al_224 (h : Holds V0 s j) : (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_ : (Proc.devRef .tc main_while0b_v163 : DevRef τ sig).ty.Contents (Elt F)) = Cert.ReferenceIdeal.Step.b224 j s := by
  unfold Cert.ReferenceIdeal.Step.b224
  rw [← al_220 h, ← al_223 h]
  try rfl
set_option maxRecDepth 8192 in
theorem al_225 (h : Holds V0 s j) : (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0) : (Proc.devRef .tc main_while0b_v164 : DevRef τ sig).ty.Contents (Elt F)) = Cert.ReferenceIdeal.Step.b225 j s := by
  unfold Cert.ReferenceIdeal.Step.b225
  rw [← al_224 h, ← al_105 h]
  try rfl
set_option maxRecDepth 8192 in
theorem al_226 (h : Holds V0 s j) : (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0)) : (Proc.devRef .tc main_while0b_v165 : DevRef τ sig).ty.Contents (Elt F)) = Cert.ReferenceIdeal.Step.b226 j s := by
  unfold Cert.ReferenceIdeal.Step.b226
  rw [← al_200 h, ← al_225 h]
  try rfl
set_option maxRecDepth 8192 in
theorem al_227 (h : Holds V0 s j) : (constant S_ .f32 0x00000000#32 : (Proc.devRef .tc main_while0b_call12_cst : DevRef τ sig).ty.Contents (Elt F)) = Cert.ReferenceIdeal.Step.b227 j s := by
  unfold Cert.ReferenceIdeal.Step.b227
  rfl
set_option maxRecDepth 8192 in
theorem al_228 (h : Holds V0 s j) : (broadcastInDim S4x64x64 ![] bcast_S_S4x64x64 (constant S_ .f32 0x00000000#32) : (Proc.devRef .tc main_while0b_call12_v0 : DevRef τ sig).ty.Contents (Elt F)) = Cert.ReferenceIdeal.Step.b228 j s := by
  unfold Cert.ReferenceIdeal.Step.b228
  rw [← al_227 h]
  try rfl
set_option maxRecDepth 8192 in
theorem al_229 (h : Holds V0 s j) : (res_main_while0b_v166 V0 : (Proc.devRef .tc main_while0b_v166 : DevRef τ sig).ty.Contents (Elt F)) = Cert.ReferenceIdeal.Step.b229 j s := by
  unfold res_main_while0b_v166 Cert.ReferenceIdeal.Step.b229
  rw [← al_100 h, ← al_214 h, ← al_228 h]
  try rfl
set_option maxRecDepth 8192 in
theorem al_230 (h : Holds V0 s j) : (mulf (res_main_while0b_v54 V0) (res_main_while0b_v166 V0) : (Proc.devRef .tc main_while0b_v167 : DevRef τ sig).ty.Contents (Elt F)) = Cert.ReferenceIdeal.Step.b230 j s := by
  unfold Cert.ReferenceIdeal.Step.b230
  rw [← al_96 h, ← al_229 h]
  try rfl
set_option maxRecDepth 8192 in
theorem al_231 (h : Holds V0 s j) : (addf (mulf (res_main_while0b_v67 V0) (res_main_while0b_v110 V0)) (mulf (res_main_while0b_v54 V0) (res_main_while0b_v166 V0)) : (Proc.devRef .tc main_while0b_v168 : DevRef τ sig).ty.Contents (Elt F)) = Cert.ReferenceIdeal.Step.b231 j s := by
  unfold Cert.ReferenceIdeal.Step.b231
  rw [← al_201 h, ← al_230 h]
  try rfl
set_option maxRecDepth 8192 in
theorem al_232 (h : Holds V0 s j) : (res_main_while0b_v169 V0 : (Proc.devRef .tc main_while0b_v169 : DevRef τ sig).ty.Contents (Elt F)) = Cert.ReferenceIdeal.Step.b232 j s := by
  unfold res_main_while0b_v169 Cert.ReferenceIdeal.Step.b232
  rw [← al_229 h, ← al_89 h]
  try rfl
set_option maxRecDepth 8192 in
theorem al_233 (h : Holds V0 s j) : (Host.dotGeneral dot_S4x64x64_S4x64x128_S4x64x128_1_1_2_2_0_0 none (res_main_while0b_v169 V0) (res_main_while0b_v50 V0) : (Proc.devRef .tc main_while0b_v170 : DevRef τ sig).ty.Contents (Elt F)) = Cert.ReferenceIdeal.Step.b233 j s := by
  unfold Cert.ReferenceIdeal.Step.b233
  rw [← al_232 h, ← al_92 h]
  try rfl
set_option maxRecDepth 8192 in
theorem al_234 (h : Holds V0 s j) : (addf (addf (mulf (res_main_while0b_v100 V0) (broadcastInDim S4x64x128 ![0, 1, 2] bcast_S4x64x1_S4x64x128_0_1_2 (res_main_while0b_v77 V0))) (Host.dotGeneral dot_S4x64x64_S4x64x128_S4x64x128_1_1_2_2_0_0 none (res_main_while0b_v145 V0) (res_main_while0b_v25 V0))) (Host.dotGeneral dot_S4x64x64_S4x64x128_S4x64x128_1_1_2_2_0_0 none (res_main_while0b_v169 V0) (res_main_while0b_v50 V0)) : (Proc.devRef .tc main_while0b_v171 : DevRef τ sig).ty.Contents (Elt F)) = Cert.ReferenceIdeal.Step.b234 j s := by
  unfold Cert.ReferenceIdeal.Step.b234
  rw [← al_204 h, ← al_233 h]
  try rfl
set_option maxRecDepth 8192 in
theorem al_235 (h : Holds V0 s j) : (Host.dotGeneral dot_S4x64x64_S4x64x128_S4x64x128_2_1_1_2_0_0 none (res_main_while0b_v169 V0) (res_main_while0b_v27 V0) : (Proc.devRef .tc main_while0b_v172 : DevRef τ sig).ty.Contents (Elt F)) = Cert.ReferenceIdeal.Step.b235 j s := by
  unfold Cert.ReferenceIdeal.Step.b235
  rw [← al_232 h, ← al_37 h]
  try rfl
set_option maxRecDepth 8192 in
theorem al_236 (h : Holds V0 s j) : (res_main_while0b_v173 V0 : (Proc.devRef .tc main_while0b_v173 : DevRef τ sig).ty.Contents (Elt F)) = Cert.ReferenceIdeal.Step.b236 j s := by
  unfold res_main_while0b_v173 Cert.ReferenceIdeal.Step.b236
  rw [← al_222 h, ← al_235 h]
  try rfl
set_option maxRecDepth 8192 in
theorem al_237 (h : Holds V0 s j) : (mulf (res_main_while0b_v29 V0) (res_main_while0b_v156 V0) : (Proc.devRef .tc main_while0b_v174 : DevRef τ sig).ty.Contents (Elt F)) = Cert.ReferenceIdeal.Step.b237 j s := by
  unfold Cert.ReferenceIdeal.Step.b237
  rw [← al_39 h, ← al_215 h]
  try rfl
set_option maxRecDepth 8192 in
theorem al_238 (h : Holds V0 s j) : (constant S_ .f32 0x00000000#32 : (Proc.devRef .tc main_while0b_cst_37 : DevRef τ sig).ty.Contents (Elt F)) = Cert.ReferenceIdeal.Step.b238 j s := by
  unfold Cert.ReferenceIdeal.Step.b238
  rfl
set_option maxRecDepth 8192 in
theorem al_239 (h : Holds V0 s j) : (Host.reduceAdd (mulf (res_main_while0b_v29 V0) (res_main_while0b_v156 V0)) (constant S_ .f32 0x00000000#32) reducesTo_S4x64x128_S4x64_d2 h_S_ : (Proc.devRef .tc main_while0b_v175 : DevRef τ sig).ty.Contents (Elt F)) = Cert.ReferenceIdeal.Step.b239 j s := by
  unfold Cert.ReferenceIdeal.Step.b239
  rw [← al_237 h, ← al_238 h]
  try rfl
set_option maxRecDepth 8192 in
theorem al_240 (h : Holds V0 s j) : (shapeCast S4x64x1 (Host.reduceAdd (mulf (res_main_while0b_v29 V0) (res_main_while0b_v156 V0)) (constant S_ .f32 0x00000000#32) reducesTo_S4x64x128_S4x64_d2 h_S_) shapeCasts_S4x64_S4x64x1 : (Proc.devRef .tc main_while0b_v176 : DevRef τ sig).ty.Contents (Elt F)) = Cert.ReferenceIdeal.Step.b240 j s := by
  unfold Cert.ReferenceIdeal.Step.b240
  rw [← al_239 h]
  try rfl
set_option maxRecDepth 8192 in
theorem al_241 (h : Holds V0 s j) : (broadcastInDim S4x64x128 ![0, 1, 2] bcast_S4x64x1_S4x64x128_0_1_2 (res_main_while0b_v51 V0) : (Proc.devRef .tc main_while0b_v177 : DevRef τ sig).ty.Contents (Elt F)) = Cert.ReferenceIdeal.Step.b241 j s := by
  unfold Cert.ReferenceIdeal.Step.b241
  rw [← al_93 h]
  try rfl
set_option maxRecDepth 8192 in
theorem al_242 (h : Holds V0 s j) : (mulf (res_main_while0b_v156 V0) (broadcastInDim S4x64x128 ![0, 1, 2] bcast_S4x64x1_S4x64x128_0_1_2 (res_main_while0b_v51 V0)) : (Proc.devRef .tc main_while0b_v178 : DevRef τ sig).ty.Contents (Elt F)) = Cert.ReferenceIdeal.Step.b242 j s := by
  unfold Cert.ReferenceIdeal.Step.b242
  rw [← al_215 h, ← al_241 h]
  try rfl
set_option maxRecDepth 8192 in
theorem al_243 (h : Holds V0 s j) : (constant S_ .f32 0x00000000#32 : (Proc.devRef .tc main_while0b_cst_38 : DevRef τ sig).ty.Contents (Elt F)) = Cert.ReferenceIdeal.Step.b243 j s := by
  unfold Cert.ReferenceIdeal.Step.b243
  rfl
set_option maxRecDepth 8192 in
theorem al_244 (h : Holds V0 s j) : (Host.reduceAdd (shapeCast S4x64x1 (Host.reduceAdd (mulf (res_main_while0b_v29 V0) (res_main_while0b_v156 V0)) (constant S_ .f32 0x00000000#32) reducesTo_S4x64x128_S4x64_d2 h_S_) shapeCasts_S4x64_S4x64x1) (constant S_ .f32 0x00000000#32) reducesTo_S4x64x1_S4x64_d2 h_S_ : (Proc.devRef .tc main_while0b_v179 : DevRef τ sig).ty.Contents (Elt F)) = Cert.ReferenceIdeal.Step.b244 j s := by
  unfold Cert.ReferenceIdeal.Step.b244
  rw [← al_240 h, ← al_243 h]
  try rfl
set_option maxRecDepth 8192 in
theorem al_245 (h : Holds V0 s j) : (mulf (res_main_while0b_v27 V0) (res_main_while0b_v173 V0) : (Proc.devRef .tc main_while0b_v180 : DevRef τ sig).ty.Contents (Elt F)) = Cert.ReferenceIdeal.Step.b245 j s := by
  unfold Cert.ReferenceIdeal.Step.b245
  rw [← al_37 h, ← al_236 h]
  try rfl
set_option maxRecDepth 8192 in
theorem al_246 (h : Holds V0 s j) : (constant S_ .f32 0x00000000#32 : (Proc.devRef .tc main_while0b_cst_39 : DevRef τ sig).ty.Contents (Elt F)) = Cert.ReferenceIdeal.Step.b246 j s := by
  unfold Cert.ReferenceIdeal.Step.b246
  rfl
set_option maxRecDepth 8192 in
theorem al_247 (h : Holds V0 s j) : (Host.reduceAdd (mulf (res_main_while0b_v27 V0) (res_main_while0b_v173 V0)) (constant S_ .f32 0x00000000#32) reducesTo_S4x64x128_S4x64_d2 h_S_ : (Proc.devRef .tc main_while0b_v181 : DevRef τ sig).ty.Contents (Elt F)) = Cert.ReferenceIdeal.Step.b247 j s := by
  unfold Cert.ReferenceIdeal.Step.b247
  rw [← al_245 h, ← al_246 h]
  try rfl
set_option maxRecDepth 8192 in
theorem al_248 (h : Holds V0 s j) : (shapeCast S4x64x1 (Host.reduceAdd (mulf (res_main_while0b_v27 V0) (res_main_while0b_v173 V0)) (constant S_ .f32 0x00000000#32) reducesTo_S4x64x128_S4x64_d2 h_S_) shapeCasts_S4x64_S4x64x1 : (Proc.devRef .tc main_while0b_v182 : DevRef τ sig).ty.Contents (Elt F)) = Cert.ReferenceIdeal.Step.b248 j s := by
  unfold Cert.ReferenceIdeal.Step.b248
  rw [← al_247 h]
  try rfl
set_option maxRecDepth 8192 in
theorem al_249 (h : Holds V0 s j) : (broadcastInDim S4x64x128 ![0, 1, 2] bcast_S4x64x1_S4x64x128_0_1_2 (res_main_while0b_v48 V0) : (Proc.devRef .tc main_while0b_v183 : DevRef τ sig).ty.Contents (Elt F)) = Cert.ReferenceIdeal.Step.b249 j s := by
  unfold Cert.ReferenceIdeal.Step.b249
  rw [← al_90 h]
  try rfl
set_option maxRecDepth 8192 in
theorem al_250 (h : Holds V0 s j) : (mulf (res_main_while0b_v173 V0) (broadcastInDim S4x64x128 ![0, 1, 2] bcast_S4x64x1_S4x64x128_0_1_2 (res_main_while0b_v48 V0)) : (Proc.devRef .tc main_while0b_v184 : DevRef τ sig).ty.Contents (Elt F)) = Cert.ReferenceIdeal.Step.b250 j s := by
  unfold Cert.ReferenceIdeal.Step.b250
  rw [← al_236 h, ← al_249 h]
  try rfl
set_option maxRecDepth 8192 in
theorem al_251 (h : Holds V0 s j) : (addf (addf (addf (mulf (res_main_while0b_v100 V0) (broadcastInDim S4x64x128 ![0, 1, 2] bcast_S4x64x1_S4x64x128_0_1_2 (res_main_while0b_v77 V0))) (Host.dotGeneral dot_S4x64x64_S4x64x128_S4x64x128_1_1_2_2_0_0 none (res_main_while0b_v145 V0) (res_main_while0b_v25 V0))) (Host.dotGeneral dot_S4x64x64_S4x64x128_S4x64x128_1_1_2_2_0_0 none (res_main_while0b_v169 V0) (res_main_while0b_v50 V0))) (mulf (res_main_while0b_v173 V0) (broadcastInDim S4x64x128 ![0, 1, 2] bcast_S4x64x1_S4x64x128_0_1_2 (res_main_while0b_v48 V0))) : (Proc.devRef .tc main_while0b_v185 : DevRef τ sig).ty.Contents (Elt F)) = Cert.ReferenceIdeal.Step.b251 j s := by
  unfold Cert.ReferenceIdeal.Step.b251
  rw [← al_234 h, ← al_250 h]
  try rfl
set_option maxRecDepth 8192 in
theorem al_252 (h : Holds V0 s j) : (constant S_ .f32 0x00000000#32 : (Proc.devRef .tc main_while0b_cst_40 : DevRef τ sig).ty.Contents (Elt F)) = Cert.ReferenceIdeal.Step.b252 j s := by
  unfold Cert.ReferenceIdeal.Step.b252
  rfl
set_option maxRecDepth 8192 in
theorem al_253 (h : Holds V0 s j) : (Host.reduceAdd (shapeCast S4x64x1 (Host.reduceAdd (mulf (res_main_while0b_v27 V0) (res_main_while0b_v173 V0)) (constant S_ .f32 0x00000000#32) reducesTo_S4x64x128_S4x64_d2 h_S_) shapeCasts_S4x64_S4x64x1) (constant S_ .f32 0x00000000#32) reducesTo_S4x64x1_S4x64_d2 h_S_ : (Proc.devRef .tc main_while0b_v186 : DevRef τ sig).ty.Contents (Elt F)) = Cert.ReferenceIdeal.Step.b253 j s := by
  unfold Cert.ReferenceIdeal.Step.b253
  rw [← al_248 h, ← al_252 h]
  try rfl
set_option maxRecDepth 8192 in
theorem al_254 (h : Holds V0 s j) : (addf (Host.reduceAdd (shapeCast S4x64x1 (Host.reduceAdd (mulf (res_main_while0b_v29 V0) (res_main_while0b_v156 V0)) (constant S_ .f32 0x00000000#32) reducesTo_S4x64x128_S4x64_d2 h_S_) shapeCasts_S4x64_S4x64x1) (constant S_ .f32 0x00000000#32) reducesTo_S4x64x1_S4x64_d2 h_S_) (Host.reduceAdd (shapeCast S4x64x1 (Host.reduceAdd (mulf (res_main_while0b_v27 V0) (res_main_while0b_v173 V0)) (constant S_ .f32 0x00000000#32) reducesTo_S4x64x128_S4x64_d2 h_S_) shapeCasts_S4x64_S4x64x1) (constant S_ .f32 0x00000000#32) reducesTo_S4x64x1_S4x64_d2 h_S_) : (Proc.devRef .tc main_while0b_v187 : DevRef τ sig).ty.Contents (Elt F)) = Cert.ReferenceIdeal.Step.b254 j s := by
  unfold Cert.ReferenceIdeal.Step.b254
  rw [← al_244 h, ← al_253 h]
  try rfl
set_option maxRecDepth 8192 in
theorem al_255 (h : Holds V0 s j) : (mulf (addf (mulf (res_main_while0b_v67 V0) (res_main_while0b_v110 V0)) (mulf (res_main_while0b_v54 V0) (res_main_while0b_v166 V0))) (res_main_while0b_v47 V0) : (Proc.devRef .tc main_while0b_v188 : DevRef τ sig).ty.Contents (Elt F)) = Cert.ReferenceIdeal.Step.b255 j s := by
  unfold Cert.ReferenceIdeal.Step.b255
  rw [← al_231 h, ← al_89 h]
  try rfl
set_option maxRecDepth 8192 in
theorem al_256 (h : Holds V0 s j) : (constant S_ .f32 0x00000000#32 : (Proc.devRef .tc main_while0b_call13_cst : DevRef τ sig).ty.Contents (Elt F)) = Cert.ReferenceIdeal.Step.b256 j s := by
  unfold Cert.ReferenceIdeal.Step.b256
  rfl
set_option maxRecDepth 8192 in
theorem al_257 (h : Holds V0 s j) : (broadcastInDim S4x64x64 ![] bcast_S_S4x64x64 (constant S_ .f32 0x00000000#32) : (Proc.devRef .tc main_while0b_call13_v0 : DevRef τ sig).ty.Contents (Elt F)) = Cert.ReferenceIdeal.Step.b257 j s := by
  unfold Cert.ReferenceIdeal.Step.b257
  rw [← al_256 h]
  try rfl
set_option maxRecDepth 8192 in
theorem al_258 (h : Holds V0 s j) : (res_main_while0b_v189 V0 : (Proc.devRef .tc main_while0b_v189 : DevRef τ sig).ty.Contents (Elt F)) = Cert.ReferenceIdeal.Step.b258 j s := by
  unfold res_main_while0b_v189 Cert.ReferenceIdeal.Step.b258
  rw [← al_84 h, ← al_255 h, ← al_257 h]
  try rfl
set_option maxRecDepth 8192 in
theorem al_259 (h : Holds V0 s j) : (constant S_ .f32 0x00000000#32 : (Proc.devRef .tc main_while0b_cst_41 : DevRef τ sig).ty.Contents (Elt F)) = Cert.ReferenceIdeal.Step.b259 j s := by
  unfold Cert.ReferenceIdeal.Step.b259
  rfl
set_option maxRecDepth 8192 in
theorem al_260 (h : Holds V0 s j) : (Host.reduceAdd (res_main_while0b_v189 V0) (constant S_ .f32 0x00000000#32) reducesTo_S4x64x64_S4x64_d2 h_S_ : (Proc.devRef .tc main_while0b_v190 : DevRef τ sig).ty.Contents (Elt F)) = Cert.ReferenceIdeal.Step.b260 j s := by
  unfold Cert.ReferenceIdeal.Step.b260
  rw [← al_258 h, ← al_259 h]
  try rfl
set_option maxRecDepth 8192 in
theorem al_261 (h : Holds V0 s j) : (shapeCast S4x64x1 (Host.reduceAdd (res_main_while0b_v189 V0) (constant S_ .f32 0x00000000#32) reducesTo_S4x64x64_S4x64_d2 h_S_) shapeCasts_S4x64_S4x64x1 : (Proc.devRef .tc main_while0b_v191 : DevRef τ sig).ty.Contents (Elt F)) = Cert.ReferenceIdeal.Step.b261 j s := by
  unfold Cert.ReferenceIdeal.Step.b261
  rw [← al_260 h]
  try rfl
set_option maxRecDepth 8192 in
theorem al_262 (h : Holds V0 s j) : (Host.negf (res_main_while0b_v189 V0) : (Proc.devRef .tc main_while0b_v192 : DevRef τ sig).ty.Contents (Elt F)) = Cert.ReferenceIdeal.Step.b262 j s := by
  unfold Cert.ReferenceIdeal.Step.b262
  rw [← al_258 h]
  try rfl
set_option maxRecDepth 8192 in
theorem al_263 (h : Holds V0 s j) : (constant S_ .f32 0x00000000#32 : (Proc.devRef .tc main_while0b_cst_42 : DevRef τ sig).ty.Contents (Elt F)) = Cert.ReferenceIdeal.Step.b263 j s := by
  unfold Cert.ReferenceIdeal.Step.b263
  rfl
set_option maxRecDepth 8192 in
theorem al_264 (h : Holds V0 s j) : (Host.reduceAdd (Host.negf (res_main_while0b_v189 V0)) (constant S_ .f32 0x00000000#32) reducesTo_S4x64x64_S4x64_d1 h_S_ : (Proc.devRef .tc main_while0b_v193 : DevRef τ sig).ty.Contents (Elt F)) = Cert.ReferenceIdeal.Step.b264 j s := by
  unfold Cert.ReferenceIdeal.Step.b264
  rw [← al_262 h, ← al_263 h]
  try rfl
set_option maxRecDepth 8192 in
theorem al_265 (h : Holds V0 s j) : (shapeCast S4x1x64 (Host.reduceAdd (Host.negf (res_main_while0b_v189 V0)) (constant S_ .f32 0x00000000#32) reducesTo_S4x64x64_S4x64_d1 h_S_) shapeCasts_S4x64_S4x1x64 : (Proc.devRef .tc main_while0b_v194 : DevRef τ sig).ty.Contents (Elt F)) = Cert.ReferenceIdeal.Step.b265 j s := by
  unfold Cert.ReferenceIdeal.Step.b265
  rw [← al_264 h]
  try rfl
set_option maxRecDepth 8192 in
theorem al_266 (h : Holds V0 s j) : (constant S_ .f32 0x00000000#32 : (Proc.devRef .tc main_while0b_cst_43 : DevRef τ sig).ty.Contents (Elt F)) = Cert.ReferenceIdeal.Step.b266 j s := by
  unfold Cert.ReferenceIdeal.Step.b266
  rfl
set_option maxRecDepth 8192 in
theorem al_267 (h : Holds V0 s j) : (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_ : (Proc.devRef .tc main_while0b_v195 : DevRef τ sig).ty.Contents (Elt F)) = Cert.ReferenceIdeal.Step.b267 j s := by
  unfold Cert.ReferenceIdeal.Step.b267
  rw [← al_265 h, ← al_266 h]
  try rfl
set_option maxRecDepth 8192 in
theorem al_268 (h : Holds V0 s j) : (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_) : (Proc.devRef .tc main_while0b_v196 : DevRef τ sig).ty.Contents (Elt F)) = Cert.ReferenceIdeal.Step.b268 j s := by
  unfold Cert.ReferenceIdeal.Step.b268
  rw [← al_226 h, ← al_267 h]
  try rfl
set_option maxRecDepth 8192 in
theorem al_269 (h : Holds V0 s j) : (constant S_ .f32 0x00000000#32 : (Proc.devRef .tc main_while0b_cst_44 : DevRef τ sig).ty.Contents (Elt F)) = Cert.ReferenceIdeal.Step.b269 j s := by
  unfold Cert.ReferenceIdeal.Step.b269
  rfl
set_option maxRecDepth 8192 in
theorem al_270 (h : Holds V0 s j) : (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_ : (Proc.devRef .tc main_while0b_v197 : DevRef τ sig).ty.Contents (Elt F)) = Cert.ReferenceIdeal.Step.b270 j s := by
  unfold Cert.ReferenceIdeal.Step.b270
  rw [← al_261 h, ← al_269 h]
  try rfl
set_option maxRecDepth 8192 in
theorem al_271 (h : Holds V0 s j) : (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_) : (Proc.devRef .tc main_while0b_v198 : DevRef τ sig).ty.Contents (Elt F)) = Cert.ReferenceIdeal.Step.b271 j s := by
  unfold Cert.ReferenceIdeal.Step.b271
  rw [← al_268 h, ← al_270 h]
  try rfl
set_option maxRecDepth 8192 in
theorem al_272 (h : Holds V0 s j) : (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_)) : (Proc.devRef .tc main_while0b_v199 : DevRef τ sig).ty.Contents (Elt F)) = Cert.ReferenceIdeal.Step.b272 j s := by
  unfold Cert.ReferenceIdeal.Step.b272
  rw [← al_271 h]
  try rfl
set_option maxRecDepth 8192 in
theorem al_273 (h : Holds V0 s j) : (constant S_ .f32 0x00000000#32 : (Proc.devRef .tc main_while0b_call14_cst : DevRef τ sig).ty.Contents (Elt F)) = Cert.ReferenceIdeal.Step.b273 j s := by
  unfold Cert.ReferenceIdeal.Step.b273
  rfl
set_option maxRecDepth 8192 in
theorem al_274 (h : Holds V0 s j) : (broadcastInDim S4x64x64 ![] bcast_S_S4x64x64 (constant S_ .f32 0x00000000#32) : (Proc.devRef .tc main_while0b_call14_v0 : DevRef τ sig).ty.Contents (Elt F)) = Cert.ReferenceIdeal.Step.b274 j s := by
  unfold Cert.ReferenceIdeal.Step.b274
  rw [← al_273 h]
  try rfl
set_option maxRecDepth 8192 in
theorem al_275 (h : Holds V0 s j) : (select (res_main_while0b_v39_1 V0) (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_))) (broadcastInDim S4x64x64 ![] bcast_S_S4x64x64 (constant S_ .f32 0x00000000#32)) : (Proc.devRef .tc main_while0b_call14_v1 : DevRef τ sig).ty.Contents (Elt F)) = Cert.ReferenceIdeal.Step.b275 j s := by
  unfold Cert.ReferenceIdeal.Step.b275
  rw [← al_69 h, ← al_272 h, ← al_274 h]
  try rfl
set_option maxRecDepth 8192 in
theorem al_276 (h : Holds V0 s j) : (constant S_ .f32 0x00000000#32 : (Proc.devRef .tc main_while0b_call14_cst_0 : DevRef τ sig).ty.Contents (Elt F)) = Cert.ReferenceIdeal.Step.b276 j s := by
  unfold Cert.ReferenceIdeal.Step.b276
  rfl
set_option maxRecDepth 8192 in
theorem al_277 (h : Holds V0 s j) : (Host.reduceAdd (select (res_main_while0b_v39_1 V0) (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_))) (broadcastInDim S4x64x64 ![] bcast_S_S4x64x64 (constant S_ .f32 0x00000000#32))) (constant S_ .f32 0x00000000#32) reducesTo_S4x64x64_S4x64_d1 h_S_ : (Proc.devRef .tc main_while0b_call14_v2 : DevRef τ sig).ty.Contents (Elt F)) = Cert.ReferenceIdeal.Step.b277 j s := by
  unfold Cert.ReferenceIdeal.Step.b277
  rw [← al_275 h, ← al_276 h]
  try rfl
set_option maxRecDepth 8192 in
theorem al_278 (h : Holds V0 s j) : (broadcastInDim S4x1x64 ![0, 2] bcast_S4x64_S4x1x64_0_2 (Host.reduceAdd (select (res_main_while0b_v39_1 V0) (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_))) (broadcastInDim S4x64x64 ![] bcast_S_S4x64x64 (constant S_ .f32 0x00000000#32))) (constant S_ .f32 0x00000000#32) reducesTo_S4x64x64_S4x64_d1 h_S_) : (Proc.devRef .tc main_while0b_v200 : DevRef τ sig).ty.Contents (Elt F)) = Cert.ReferenceIdeal.Step.b278 j s := by
  unfold Cert.ReferenceIdeal.Step.b278
  rw [← al_277 h]
  try rfl
set_option maxRecDepth 8192 in
theorem al_279 (h : Holds V0 s j) : (constant S_ .f32 0x00000000#32 : (Proc.devRef .tc main_while0b_cst_45 : DevRef τ sig).ty.Contents (Elt F)) = Cert.ReferenceIdeal.Step.b279 j s := by
  unfold Cert.ReferenceIdeal.Step.b279
  rfl
set_option maxRecDepth 8192 in
theorem al_280 (h : Holds V0 s j) : (Host.reduceAdd (broadcastInDim S4x1x64 ![0, 2] bcast_S4x64_S4x1x64_0_2 (Host.reduceAdd (select (res_main_while0b_v39_1 V0) (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_))) (broadcastInDim S4x64x64 ![] bcast_S_S4x64x64 (constant S_ .f32 0x00000000#32))) (constant S_ .f32 0x00000000#32) reducesTo_S4x64x64_S4x64_d1 h_S_)) (constant S_ .f32 0x00000000#32) reducesTo_S4x1x64_S4x64_d1 h_S_ : (Proc.devRef .tc main_while0b_v201 : DevRef τ sig).ty.Contents (Elt F)) = Cert.ReferenceIdeal.Step.b280 j s := by
  unfold Cert.ReferenceIdeal.Step.b280
  rw [← al_278 h, ← al_279 h]
  try rfl
set_option maxRecDepth 8192 in
theorem al_281 (h : Holds V0 s j) : (transpose S64x4 [1, 0] (Host.reduceAdd (broadcastInDim S4x1x64 ![0, 2] bcast_S4x64_S4x1x64_0_2 (Host.reduceAdd (select (res_main_while0b_v39_1 V0) (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_))) (broadcastInDim S4x64x64 ![] bcast_S_S4x64x64 (constant S_ .f32 0x00000000#32))) (constant S_ .f32 0x00000000#32) reducesTo_S4x64x64_S4x64_d1 h_S_)) (constant S_ .f32 0x00000000#32) reducesTo_S4x1x64_S4x64_d1 h_S_) transposes_S4x64_S64x4_1_0 : (Proc.devRef .tc main_while0b_v202 : DevRef τ sig).ty.Contents (Elt F)) = Cert.ReferenceIdeal.Step.b281 j s := by
  unfold Cert.ReferenceIdeal.Step.b281
  rw [← al_280 h]
  try rfl
set_option maxRecDepth 8192 in
theorem al_282 (h : Holds V0 s j) : (constant S_ .f32 0x00000000#32 : (Proc.devRef .tc main_while0b_cst_46 : DevRef τ sig).ty.Contents (Elt F)) = Cert.ReferenceIdeal.Step.b282 j s := by
  unfold Cert.ReferenceIdeal.Step.b282
  rfl
set_option maxRecDepth 8192 in
theorem al_283 (h : Holds V0 s j) : (pad S64x128 ![0, 4] ![0, 120] ![0, 0] (transpose S64x4 [1, 0] (Host.reduceAdd (broadcastInDim S4x1x64 ![0, 2] bcast_S4x64_S4x1x64_0_2 (Host.reduceAdd (select (res_main_while0b_v39_1 V0) (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_))) (broadcastInDim S4x64x64 ![] bcast_S_S4x64x64 (constant S_ .f32 0x00000000#32))) (constant S_ .f32 0x00000000#32) reducesTo_S4x64x64_S4x64_d1 h_S_)) (constant S_ .f32 0x00000000#32) reducesTo_S4x1x64_S4x64_d1 h_S_) transposes_S4x64_S64x4_1_0) (constant S_ .f32 0x00000000#32) pads_S64x4_S64x128_000_41200 h_S_ : (Proc.devRef .tc main_while0b_v203 : DevRef τ sig).ty.Contents (Elt F)) = Cert.ReferenceIdeal.Step.b283 j s := by
  unfold Cert.ReferenceIdeal.Step.b283
  rw [← al_281 h, ← al_282 h]
  try rfl
set_option maxRecDepth 8192 in
theorem al_284 (h : Holds V0 s j) : (transpose S64x4 [1, 0] (addf (Host.reduceAdd (shapeCast S4x64x1 (Host.reduceAdd (mulf (res_main_while0b_v29 V0) (res_main_while0b_v156 V0)) (constant S_ .f32 0x00000000#32) reducesTo_S4x64x128_S4x64_d2 h_S_) shapeCasts_S4x64_S4x64x1) (constant S_ .f32 0x00000000#32) reducesTo_S4x64x1_S4x64_d2 h_S_) (Host.reduceAdd (shapeCast S4x64x1 (Host.reduceAdd (mulf (res_main_while0b_v27 V0) (res_main_while0b_v173 V0)) (constant S_ .f32 0x00000000#32) reducesTo_S4x64x128_S4x64_d2 h_S_) shapeCasts_S4x64_S4x64x1) (constant S_ .f32 0x00000000#32) reducesTo_S4x64x1_S4x64_d2 h_S_)) transposes_S4x64_S64x4_1_0 : (Proc.devRef .tc main_while0b_v204 : DevRef τ sig).ty.Contents (Elt F)) = Cert.ReferenceIdeal.Step.b284 j s := by
  unfold Cert.ReferenceIdeal.Step.b284
  rw [← al_254 h]
  try rfl
set_option maxRecDepth 8192 in
theorem al_285 (h : Holds V0 s j) : (constant S_ .f32 0x00000000#32 : (Proc.devRef .tc main_while0b_cst_47 : DevRef τ sig).ty.Contents (Elt F)) = Cert.ReferenceIdeal.Step.b285 j s := by
  unfold Cert.ReferenceIdeal.Step.b285
  rfl
set_option maxRecDepth 8192 in
theorem al_286 (h : Holds V0 s j) : (pad S64x128 ![0, 0] ![0, 124] ![0, 0] (transpose S64x4 [1, 0] (addf (Host.reduceAdd (shapeCast S4x64x1 (Host.reduceAdd (mulf (res_main_while0b_v29 V0) (res_main_while0b_v156 V0)) (constant S_ .f32 0x00000000#32) reducesTo_S4x64x128_S4x64_d2 h_S_) shapeCasts_S4x64_S4x64x1) (constant S_ .f32 0x00000000#32) reducesTo_S4x64x1_S4x64_d2 h_S_) (Host.reduceAdd (shapeCast S4x64x1 (Host.reduceAdd (mulf (res_main_while0b_v27 V0) (res_main_while0b_v173 V0)) (constant S_ .f32 0x00000000#32) reducesTo_S4x64x128_S4x64_d2 h_S_) shapeCasts_S4x64_S4x64x1) (constant S_ .f32 0x00000000#32) reducesTo_S4x64x1_S4x64_d2 h_S_)) transposes_S4x64_S64x4_1_0) (constant S_ .f32 0x00000000#32) pads_S64x4_S64x128_000_01240 h_S_ : (Proc.devRef .tc main_while0b_v205 : DevRef τ sig).ty.Contents (Elt F)) = Cert.ReferenceIdeal.Step.b286 j s := by
  unfold Cert.ReferenceIdeal.Step.b286
  rw [← al_284 h, ← al_285 h]
  try rfl
set_option maxRecDepth 8192 in
theorem al_287 (h : Holds V0 s j) : (addf (pad S64x128 ![0, 4] ![0, 120] ![0, 0] (transpose S64x4 [1, 0] (Host.reduceAdd (broadcastInDim S4x1x64 ![0, 2] bcast_S4x64_S4x1x64_0_2 (Host.reduceAdd (select (res_main_while0b_v39_1 V0) (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_))) (broadcastInDim S4x64x64 ![] bcast_S_S4x64x64 (constant S_ .f32 0x00000000#32))) (constant S_ .f32 0x00000000#32) reducesTo_S4x64x64_S4x64_d1 h_S_)) (constant S_ .f32 0x00000000#32) reducesTo_S4x1x64_S4x64_d1 h_S_) transposes_S4x64_S64x4_1_0) (constant S_ .f32 0x00000000#32) pads_S64x4_S64x128_000_41200 h_S_) (pad S64x128 ![0, 0] ![0, 124] ![0, 0] (transpose S64x4 [1, 0] (addf (Host.reduceAdd (shapeCast S4x64x1 (Host.reduceAdd (mulf (res_main_while0b_v29 V0) (res_main_while0b_v156 V0)) (constant S_ .f32 0x00000000#32) reducesTo_S4x64x128_S4x64_d2 h_S_) shapeCasts_S4x64_S4x64x1) (constant S_ .f32 0x00000000#32) reducesTo_S4x64x1_S4x64_d2 h_S_) (Host.reduceAdd (shapeCast S4x64x1 (Host.reduceAdd (mulf (res_main_while0b_v27 V0) (res_main_while0b_v173 V0)) (constant S_ .f32 0x00000000#32) reducesTo_S4x64x128_S4x64_d2 h_S_) shapeCasts_S4x64_S4x64x1) (constant S_ .f32 0x00000000#32) reducesTo_S4x64x1_S4x64_d2 h_S_)) transposes_S4x64_S64x4_1_0) (constant S_ .f32 0x00000000#32) pads_S64x4_S64x128_000_01240 h_S_) : (Proc.devRef .tc main_while0b_v206 : DevRef τ sig).ty.Contents (Elt F)) = Cert.ReferenceIdeal.Step.b287 j s := by
  unfold Cert.ReferenceIdeal.Step.b287
  rw [← al_283 h, ← al_286 h]
  try rfl
set_option maxRecDepth 8192 in
theorem al_288 (h : Holds V0 s j) : (transpose S64x4x128 [1, 0, 2] (mulf (res_main_while0b_v156 V0) (broadcastInDim S4x64x128 ![0, 1, 2] bcast_S4x64x1_S4x64x128_0_1_2 (res_main_while0b_v51 V0))) transposes_S4x64x128_S64x4x128_1_0_2 : (Proc.devRef .tc main_while0b_v207 : DevRef τ sig).ty.Contents (Elt F)) = Cert.ReferenceIdeal.Step.b288 j s := by
  unfold Cert.ReferenceIdeal.Step.b288
  rw [← al_242 h]
  try rfl
set_option maxRecDepth 8192 in
theorem al_289 (h : Holds V0 s j) : (shapeCast S64x512 (transpose S64x4x128 [1, 0, 2] (mulf (res_main_while0b_v156 V0) (broadcastInDim S4x64x128 ![0, 1, 2] bcast_S4x64x1_S4x64x128_0_1_2 (res_main_while0b_v51 V0))) transposes_S4x64x128_S64x4x128_1_0_2) shapeCasts_S64x4x128_S64x512 : (Proc.devRef .tc main_while0b_v208 : DevRef τ sig).ty.Contents (Elt F)) = Cert.ReferenceIdeal.Step.b289 j s := by
  unfold Cert.ReferenceIdeal.Step.b289
  rw [← al_288 h]
  try rfl
set_option maxRecDepth 8192 in
theorem al_290 (h : Holds V0 s j) : (transpose S64x4x128 [1, 0, 2] (addf (addf (addf (mulf (res_main_while0b_v100 V0) (broadcastInDim S4x64x128 ![0, 1, 2] bcast_S4x64x1_S4x64x128_0_1_2 (res_main_while0b_v77 V0))) (Host.dotGeneral dot_S4x64x64_S4x64x128_S4x64x128_1_1_2_2_0_0 none (res_main_while0b_v145 V0) (res_main_while0b_v25 V0))) (Host.dotGeneral dot_S4x64x64_S4x64x128_S4x64x128_1_1_2_2_0_0 none (res_main_while0b_v169 V0) (res_main_while0b_v50 V0))) (mulf (res_main_while0b_v173 V0) (broadcastInDim S4x64x128 ![0, 1, 2] bcast_S4x64x1_S4x64x128_0_1_2 (res_main_while0b_v48 V0)))) transposes_S4x64x128_S64x4x128_1_0_2 : (Proc.devRef .tc main_while0b_v209 : DevRef τ sig).ty.Contents (Elt F)) = Cert.ReferenceIdeal.Step.b290 j s := by
  unfold Cert.ReferenceIdeal.Step.b290
  rw [← al_251 h]
  try rfl
set_option maxRecDepth 8192 in
theorem al_291 (h : Holds V0 s j) : (shapeCast S64x512 (transpose S64x4x128 [1, 0, 2] (addf (addf (addf (mulf (res_main_while0b_v100 V0) (broadcastInDim S4x64x128 ![0, 1, 2] bcast_S4x64x1_S4x64x128_0_1_2 (res_main_while0b_v77 V0))) (Host.dotGeneral dot_S4x64x64_S4x64x128_S4x64x128_1_1_2_2_0_0 none (res_main_while0b_v145 V0) (res_main_while0b_v25 V0))) (Host.dotGeneral dot_S4x64x64_S4x64x128_S4x64x128_1_1_2_2_0_0 none (res_main_while0b_v169 V0) (res_main_while0b_v50 V0))) (mulf (res_main_while0b_v173 V0) (broadcastInDim S4x64x128 ![0, 1, 2] bcast_S4x64x1_S4x64x128_0_1_2 (res_main_while0b_v48 V0)))) transposes_S4x64x128_S64x4x128_1_0_2) shapeCasts_S64x4x128_S64x512 : (Proc.devRef .tc main_while0b_v210 : DevRef τ sig).ty.Contents (Elt F)) = Cert.ReferenceIdeal.Step.b291 j s := by
  unfold Cert.ReferenceIdeal.Step.b291
  rw [← al_290 h]
  try rfl
set_option maxRecDepth 8192 in
theorem al_292 (h : Holds V0 s j) : (transpose S64x4x128 [1, 0, 2] (addf (mulf (res_main_while0b_v114 V0) (broadcastInDim S4x64x128 ![0, 1, 2] bcast_S4x64x1_S4x64x128_0_1_2 (res_main_while0b_v70 V0))) (Host.dotGeneral dot_S4x64x64_S4x64x128_S4x64x128_2_1_1_2_0_0 none (res_main_while0b_v145 V0) (res_main_while0b_v27 V0))) transposes_S4x64x128_S64x4x128_1_0_2 : (Proc.devRef .tc main_while0b_v211 : DevRef τ sig).ty.Contents (Elt F)) = Cert.ReferenceIdeal.Step.b292 j s := by
  unfold Cert.ReferenceIdeal.Step.b292
  rw [← al_206 h]
  try rfl
set_option maxRecDepth 8192 in
theorem al_293 (h : Holds V0 s j) : (shapeCast S64x512 (transpose S64x4x128 [1, 0, 2] (addf (mulf (res_main_while0b_v114 V0) (broadcastInDim S4x64x128 ![0, 1, 2] bcast_S4x64x1_S4x64x128_0_1_2 (res_main_while0b_v70 V0))) (Host.dotGeneral dot_S4x64x64_S4x64x128_S4x64x128_2_1_1_2_0_0 none (res_main_while0b_v145 V0) (res_main_while0b_v27 V0))) transposes_S4x64x128_S64x4x128_1_0_2) shapeCasts_S64x4x128_S64x512 : (Proc.devRef .tc main_while0b_v212 : DevRef τ sig).ty.Contents (Elt F)) = Cert.ReferenceIdeal.Step.b293 j s := by
  unfold Cert.ReferenceIdeal.Step.b293
  rw [← al_292 h]
  try rfl
set_option maxRecDepth 8192 in
theorem al_294 (h : Holds V0 s j) : (broadcastInDim S1x64x512 ![1, 2] bcast_S64x512_S1x64x512_1_2 (shapeCast S64x512 (transpose S64x4x128 [1, 0, 2] (addf (mulf (res_main_while0b_v114 V0) (broadcastInDim S4x64x128 ![0, 1, 2] bcast_S4x64x1_S4x64x128_0_1_2 (res_main_while0b_v70 V0))) (Host.dotGeneral dot_S4x64x64_S4x64x128_S4x64x128_2_1_1_2_0_0 none (res_main_while0b_v145 V0) (res_main_while0b_v27 V0))) transposes_S4x64x128_S64x4x128_1_0_2) shapeCasts_S64x4x128_S64x512) : (Proc.devRef .tc main_while0b_call15_v0 : DevRef τ sig).ty.Contents (Elt F)) = Cert.ReferenceIdeal.Step.b294 j s := by
  unfold Cert.ReferenceIdeal.Step.b294
  rw [← al_293 h]
  try rfl
set_option maxRecDepth 8192 in
theorem al_295 (h : Holds V0 s j) : (constantI S_ 32 0#32 : (Proc.devRef .tc main_while0b_call15_c : DevRef τ sig).ty.Contents (Elt F)) = Cert.ReferenceIdeal.Step.b295 j s := by
  unfold Cert.ReferenceIdeal.Step.b295
  rfl
set_option maxRecDepth 8192 in
theorem al_296 (h : Holds V0 s j) : (constantI S_ 32 0#32 : (Proc.devRef .tc main_while0b_call15_c_0 : DevRef τ sig).ty.Contents (Elt F)) = Cert.ReferenceIdeal.Step.b296 j s := by
  unfold Cert.ReferenceIdeal.Step.b296
  rfl
set_option maxRecDepth 8192 in
theorem al_297 (h : Holds V0 s j) : (Host.dynamicUpdateSlice (V0 (Proc.devRef .tc main_v10_9)) (broadcastInDim S1x64x512 ![1, 2] bcast_S64x512_S1x64x512_1_2 (shapeCast S64x512 (transpose S64x4x128 [1, 0, 2] (addf (mulf (res_main_while0b_v114 V0) (broadcastInDim S4x64x128 ![0, 1, 2] bcast_S4x64x1_S4x64x128_0_1_2 (res_main_while0b_v70 V0))) (Host.dotGeneral dot_S4x64x64_S4x64x128_S4x64x128_2_1_1_2_0_0 none (res_main_while0b_v145 V0) (res_main_while0b_v27 V0))) transposes_S4x64x128_S64x4x128_1_0_2) shapeCasts_S64x4x128_S64x512)) (fun k => (((![res_main_while0b_v16 V0, constantI S_ 32 0#32, constantI S_ 32 0#32] : Fin 3 → (⟨S_, .i32⟩ : BufTy).Contents (Elt F))) k (Shape.Idx.first h_S_)).toInt) updateFits_S64x64x512_S1x64x512 : (Proc.devRef .tc main_while0b_v213 : DevRef τ sig).ty.Contents (Elt F)) = Cert.ReferenceIdeal.Step.b297 j s := by
  unfold Cert.ReferenceIdeal.Step.b297
  rw [← al_294 h, ← al_3 h, ← al_295 h, ← al_296 h, h.f_9]
  try rfl
set_option maxRecDepth 8192 in
theorem al_298 (h : Holds V0 s j) : (broadcastInDim S1x64x512 ![1, 2] bcast_S64x512_S1x64x512_1_2 (shapeCast S64x512 (transpose S64x4x128 [1, 0, 2] (addf (addf (addf (mulf (res_main_while0b_v100 V0) (broadcastInDim S4x64x128 ![0, 1, 2] bcast_S4x64x1_S4x64x128_0_1_2 (res_main_while0b_v77 V0))) (Host.dotGeneral dot_S4x64x64_S4x64x128_S4x64x128_1_1_2_2_0_0 none (res_main_while0b_v145 V0) (res_main_while0b_v25 V0))) (Host.dotGeneral dot_S4x64x64_S4x64x128_S4x64x128_1_1_2_2_0_0 none (res_main_while0b_v169 V0) (res_main_while0b_v50 V0))) (mulf (res_main_while0b_v173 V0) (broadcastInDim S4x64x128 ![0, 1, 2] bcast_S4x64x1_S4x64x128_0_1_2 (res_main_while0b_v48 V0)))) transposes_S4x64x128_S64x4x128_1_0_2) shapeCasts_S64x4x128_S64x512) : (Proc.devRef .tc main_while0b_call16_v0 : DevRef τ sig).ty.Contents (Elt F)) = Cert.ReferenceIdeal.Step.b298 j s := by
  unfold Cert.ReferenceIdeal.Step.b298
  rw [← al_291 h]
  try rfl
set_option maxRecDepth 8192 in
theorem al_299 (h : Holds V0 s j) : (constantI S_ 32 0#32 : (Proc.devRef .tc main_while0b_call16_c : DevRef τ sig).ty.Contents (Elt F)) = Cert.ReferenceIdeal.Step.b299 j s := by
  unfold Cert.ReferenceIdeal.Step.b299
  rfl
set_option maxRecDepth 8192 in
theorem al_300 (h : Holds V0 s j) : (constantI S_ 32 0#32 : (Proc.devRef .tc main_while0b_call16_c_0 : DevRef τ sig).ty.Contents (Elt F)) = Cert.ReferenceIdeal.Step.b300 j s := by
  unfold Cert.ReferenceIdeal.Step.b300
  rfl
set_option maxRecDepth 8192 in
theorem al_301 (h : Holds V0 s j) : (Host.dynamicUpdateSlice (V0 (Proc.devRef .tc main_v10_10)) (broadcastInDim S1x64x512 ![1, 2] bcast_S64x512_S1x64x512_1_2 (shapeCast S64x512 (transpose S64x4x128 [1, 0, 2] (addf (addf (addf (mulf (res_main_while0b_v100 V0) (broadcastInDim S4x64x128 ![0, 1, 2] bcast_S4x64x1_S4x64x128_0_1_2 (res_main_while0b_v77 V0))) (Host.dotGeneral dot_S4x64x64_S4x64x128_S4x64x128_1_1_2_2_0_0 none (res_main_while0b_v145 V0) (res_main_while0b_v25 V0))) (Host.dotGeneral dot_S4x64x64_S4x64x128_S4x64x128_1_1_2_2_0_0 none (res_main_while0b_v169 V0) (res_main_while0b_v50 V0))) (mulf (res_main_while0b_v173 V0) (broadcastInDim S4x64x128 ![0, 1, 2] bcast_S4x64x1_S4x64x128_0_1_2 (res_main_while0b_v48 V0)))) transposes_S4x64x128_S64x4x128_1_0_2) shapeCasts_S64x4x128_S64x512)) (fun k => (((![res_main_while0b_v16 V0, constantI S_ 32 0#32, constantI S_ 32 0#32] : Fin 3 → (⟨S_, .i32⟩ : BufTy).Contents (Elt F))) k (Shape.Idx.first h_S_)).toInt) updateFits_S64x64x512_S1x64x512 : (Proc.devRef .tc main_while0b_v214 : DevRef τ sig).ty.Contents (Elt F)) = Cert.ReferenceIdeal.Step.b301 j s := by
  unfold Cert.ReferenceIdeal.Step.b301
  rw [← al_298 h, ← al_3 h, ← al_299 h, ← al_300 h, h.f_10]
  try rfl
set_option maxRecDepth 8192 in
theorem al_302 (h : Holds V0 s j) : (broadcastInDim S1x64x512 ![1, 2] bcast_S64x512_S1x64x512_1_2 (shapeCast S64x512 (transpose S64x4x128 [1, 0, 2] (mulf (res_main_while0b_v156 V0) (broadcastInDim S4x64x128 ![0, 1, 2] bcast_S4x64x1_S4x64x128_0_1_2 (res_main_while0b_v51 V0))) transposes_S4x64x128_S64x4x128_1_0_2) shapeCasts_S64x4x128_S64x512) : (Proc.devRef .tc main_while0b_call17_v0 : DevRef τ sig).ty.Contents (Elt F)) = Cert.ReferenceIdeal.Step.b302 j s := by
  unfold Cert.ReferenceIdeal.Step.b302
  rw [← al_289 h]
  try rfl
set_option maxRecDepth 8192 in
theorem al_303 (h : Holds V0 s j) : (constantI S_ 32 0#32 : (Proc.devRef .tc main_while0b_call17_c : DevRef τ sig).ty.Contents (Elt F)) = Cert.ReferenceIdeal.Step.b303 j s := by
  unfold Cert.ReferenceIdeal.Step.b303
  rfl
set_option maxRecDepth 8192 in
theorem al_304 (h : Holds V0 s j) : (constantI S_ 32 0#32 : (Proc.devRef .tc main_while0b_call17_c_0 : DevRef τ sig).ty.Contents (Elt F)) = Cert.ReferenceIdeal.Step.b304 j s := by
  unfold Cert.ReferenceIdeal.Step.b304
  rfl
set_option maxRecDepth 8192 in
theorem al_305 (h : Holds V0 s j) : (Host.dynamicUpdateSlice (V0 (Proc.devRef .tc main_v10_11)) (broadcastInDim S1x64x512 ![1, 2] bcast_S64x512_S1x64x512_1_2 (shapeCast S64x512 (transpose S64x4x128 [1, 0, 2] (mulf (res_main_while0b_v156 V0) (broadcastInDim S4x64x128 ![0, 1, 2] bcast_S4x64x1_S4x64x128_0_1_2 (res_main_while0b_v51 V0))) transposes_S4x64x128_S64x4x128_1_0_2) shapeCasts_S64x4x128_S64x512)) (fun k => (((![res_main_while0b_v16 V0, constantI S_ 32 0#32, constantI S_ 32 0#32] : Fin 3 → (⟨S_, .i32⟩ : BufTy).Contents (Elt F))) k (Shape.Idx.first h_S_)).toInt) updateFits_S64x64x512_S1x64x512 : (Proc.devRef .tc main_while0b_v215 : DevRef τ sig).ty.Contents (Elt F)) = Cert.ReferenceIdeal.Step.b305 j s := by
  unfold Cert.ReferenceIdeal.Step.b305
  rw [← al_302 h, ← al_3 h, ← al_303 h, ← al_304 h, h.f_11]
  try rfl
set_option maxRecDepth 8192 in
theorem al_306 (h : Holds V0 s j) : (broadcastInDim S1x64x128 ![1, 2] bcast_S64x128_S1x64x128_1_2 (addf (pad S64x128 ![0, 4] ![0, 120] ![0, 0] (transpose S64x4 [1, 0] (Host.reduceAdd (broadcastInDim S4x1x64 ![0, 2] bcast_S4x64_S4x1x64_0_2 (Host.reduceAdd (select (res_main_while0b_v39_1 V0) (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_))) (broadcastInDim S4x64x64 ![] bcast_S_S4x64x64 (constant S_ .f32 0x00000000#32))) (constant S_ .f32 0x00000000#32) reducesTo_S4x64x64_S4x64_d1 h_S_)) (constant S_ .f32 0x00000000#32) reducesTo_S4x1x64_S4x64_d1 h_S_) transposes_S4x64_S64x4_1_0) (constant S_ .f32 0x00000000#32) pads_S64x4_S64x128_000_41200 h_S_) (pad S64x128 ![0, 0] ![0, 124] ![0, 0] (transpose S64x4 [1, 0] (addf (Host.reduceAdd (shapeCast S4x64x1 (Host.reduceAdd (mulf (res_main_while0b_v29 V0) (res_main_while0b_v156 V0)) (constant S_ .f32 0x00000000#32) reducesTo_S4x64x128_S4x64_d2 h_S_) shapeCasts_S4x64_S4x64x1) (constant S_ .f32 0x00000000#32) reducesTo_S4x64x1_S4x64_d2 h_S_) (Host.reduceAdd (shapeCast S4x64x1 (Host.reduceAdd (mulf (res_main_while0b_v27 V0) (res_main_while0b_v173 V0)) (constant S_ .f32 0x00000000#32) reducesTo_S4x64x128_S4x64_d2 h_S_) shapeCasts_S4x64_S4x64x1) (constant S_ .f32 0x00000000#32) reducesTo_S4x64x1_S4x64_d2 h_S_)) transposes_S4x64_S64x4_1_0) (constant S_ .f32 0x00000000#32) pads_S64x4_S64x128_000_01240 h_S_)) : (Proc.devRef .tc main_while0b_call18_v0 : DevRef τ sig).ty.Contents (Elt F)) = Cert.ReferenceIdeal.Step.b306 j s := by
  unfold Cert.ReferenceIdeal.Step.b306
  rw [← al_287 h]
  try rfl
set_option maxRecDepth 8192 in
theorem al_307 (h : Holds V0 s j) : (constantI S_ 32 0#32 : (Proc.devRef .tc main_while0b_call18_c : DevRef τ sig).ty.Contents (Elt F)) = Cert.ReferenceIdeal.Step.b307 j s := by
  unfold Cert.ReferenceIdeal.Step.b307
  rfl
set_option maxRecDepth 8192 in
theorem al_308 (h : Holds V0 s j) : (constantI S_ 32 0#32 : (Proc.devRef .tc main_while0b_call18_c_0 : DevRef τ sig).ty.Contents (Elt F)) = Cert.ReferenceIdeal.Step.b308 j s := by
  unfold Cert.ReferenceIdeal.Step.b308
  rfl
set_option maxRecDepth 8192 in
theorem al_309 (h : Holds V0 s j) : (Host.dynamicUpdateSlice (V0 (Proc.devRef .tc main_v10_12)) (broadcastInDim S1x64x128 ![1, 2] bcast_S64x128_S1x64x128_1_2 (addf (pad S64x128 ![0, 4] ![0, 120] ![0, 0] (transpose S64x4 [1, 0] (Host.reduceAdd (broadcastInDim S4x1x64 ![0, 2] bcast_S4x64_S4x1x64_0_2 (Host.reduceAdd (select (res_main_while0b_v39_1 V0) (broadcastInDim S4x64x64 ![0, 1] bcast_S4x64_S4x64x64_0_1 (addf (addf (addf (addf (addf (addf (pad S4x64 ![0, 63] ![0, 0] ![0, 0] (broadcastInDim S4x1 ![0] bcast_S4_S4x1_0 (mulf (Host.reduceAdd (shapeCast S4x1x1 (Host.reduceAdd (mulf (res_main_while0b_v22 V0) (V0 (Proc.devRef .tc main_v10_8))) (constant S_ .f32 0x00000000#32) reducesTo_S4x128x128_S4_d1_2 h_S_) shapeCasts_S4_S4x1x1) (constant S_ .f32 0x00000000#32) reducesTo_S4x1x1_S4_d1_2 h_S_) (res_main_while0b_v82 V0))) (constant S_ .f32 0x00000000#32) pads_S4x1_S4x64_000_6300 h_S_) (Host.negf (res_main_while0b_v129 V0))) (pad S4x64 ![0, 63] ![0, 0] ![0, 0] (shapeCast S4x1 (Host.reduceAdd (res_main_while0b_v129 V0) (constant S_ .f32 0x00000000#32) reducesTo_S4x64_S4_d1 h_S_) shapeCasts_S4_S4x1) (constant S_ .f32 0x00000000#32) pads_S4x1_S4x64_000_6300 h_S_)) (mulf (Host.reduceAdd (shapeCast S4x64x1 (Host.reduceAdd (mulf (res_main_while0b_v25 V0) (res_main_while0b_v114 V0)) (constant S_ .f32 0x00000000#32) reducesTo_S4x64x128_S4x64_d2 h_S_) shapeCasts_S4x64_S4x64x1) (constant S_ .f32 0x00000000#32) reducesTo_S4x64x1_S4x64_d2 h_S_) (res_main_while0b_v69 V0))) (mulf (Host.reduceAdd (shapeCast S4x64x1 (Host.reduceAdd (mulf (res_main_while0b_v50 V0) (res_main_while0b_v157 V0)) (constant S_ .f32 0x00000000#32) reducesTo_S4x64x128_S4x64_d2 h_S_) shapeCasts_S4x64_S4x64x1) (constant S_ .f32 0x00000000#32) reducesTo_S4x64x1_S4x64_d2 h_S_) (res_main_while0b_v57 V0))) (Host.reduceAdd (shapeCast S4x1x64 (Host.reduceAdd (Host.negf (res_main_while0b_v189 V0)) (constant S_ .f32 0x00000000#32) reducesTo_S4x64x64_S4x64_d1 h_S_) shapeCasts_S4x64_S4x1x64) (constant S_ .f32 0x00000000#32) reducesTo_S4x1x64_S4x64_d1 h_S_)) (Host.reduceAdd (shapeCast S4x64x1 (Host.reduceAdd (res_main_while0b_v189 V0) (constant S_ .f32 0x00000000#32) reducesTo_S4x64x64_S4x64_d2 h_S_) shapeCasts_S4x64_S4x64x1) (constant S_ .f32 0x00000000#32) reducesTo_S4x64x1_S4x64_d2 h_S_))) (broadcastInDim S4x64x64 ![] bcast_S_S4x64x64 (constant S_ .f32 0x00000000#32))) (constant S_ .f32 0x00000000#32) reducesTo_S4x64x64_S4x64_d1 h_S_)) (constant S_ .f32 0x00000000#32) reducesTo_S4x1x64_S4x64_d1 h_S_) transposes_S4x64_S64x4_1_0) (constant S_ .f32 0x00000000#32) pads_S64x4_S64x128_000_41200 h_S_) (pad S64x128 ![0, 0] ![0, 124] ![0, 0] (transpose S64x4 [1, 0] (addf (Host.reduceAdd (shapeCast S4x64x1 (Host.reduceAdd (mulf (res_main_while0b_v29 V0) (res_main_while0b_v156 V0)) (constant S_ .f32 0x00000000#32) reducesTo_S4x64x128_S4x64_d2 h_S_) shapeCasts_S4x64_S4x64x1) (constant S_ .f32 0x00000000#32) reducesTo_S4x64x1_S4x64_d2 h_S_) (Host.reduceAdd (shapeCast S4x64x1 (Host.reduceAdd (mulf (res_main_while0b_v27 V0) (res_main_while0b_v173 V0)) (constant S_ .f32 0x00000000#32) reducesTo_S4x64x128_S4x64_d2 h_S_) shapeCasts_S4x64_S4x64x1) (constant S_ .f32 0x00000000#32) reducesTo_S4x64x1_S4x64_d2 h_S_)) transposes_S4x64_S64x4_1_0) (constant S_ .f32 0x00000000#32) pads_S64x4_S64x128_000_01240 h_S_))) (fun k => (((![res_main_while0b_v16 V0, constantI S_ 32 0#32, constantI S_ 32 0#32] : Fin 3 → (⟨S_, .i32⟩ : BufTy).Contents (Elt F))) k (Shape.Idx.first h_S_)).toInt) updateFits_S64x64x128_S1x64x128 : (Proc.devRef .tc main_while0b_v216 : DevRef τ sig).ty.Contents (Elt F)) = Cert.ReferenceIdeal.Step.b309 j s := by
  unfold Cert.ReferenceIdeal.Step.b309
  rw [← al_306 h, ← al_3 h, ← al_307 h, ← al_308 h, h.f_12]
  try rfl

/-! One trip's step of the carried values is `step`, field by field; a counter steps to the next number. -/

theorem step_8 (h : Holds V0 s j) : step_main_v10_8 V0 = (step j s).main_v10_8 := by
  unfold step_main_v10_8 Cert.ReferenceIdeal.Step.step
  show id (addf (addf (mulf (V0 (Proc.devRef .tc main_v10_8)) (broadcastInDim S4x128x128 ![0, 1, 2] bcast_S4x1x1_S4x128x128_0_1_2 (res_main_while0b_v88 V0))) (transpose S4x128x128 [0, 2, 1] (Host.dotGeneral dot_S4x64x128_S4x64x128_S4x128x128_1_1_2_2_0_0 none (res_main_while0b_v96 V0) (res_main_while0b_v72 V0)) transposes_S4x128x128_S4x128x128_0_2_1)) (transpose S4x128x128 [0, 2, 1] (Host.dotGeneral dot_S4x64x128_S4x64x128_S4x128x128_1_1_2_2_0_0 none (res_main_while0b_v115 V0) (res_main_while0b_v66 V0)) transposes_S4x128x128_S4x128x128_0_2_1)) = _
  rw [al_168 h]
  try rfl
theorem step_9 (h : Holds V0 s j) : step_main_v10_9 V0 = (step j s).main_v10_9 := by
  unfold step_main_v10_9 Cert.ReferenceIdeal.Step.step
  exact al_297 h
theorem step_10 (h : Holds V0 s j) : step_main_v10_10 V0 = (step j s).main_v10_10 := by
  unfold step_main_v10_10 Cert.ReferenceIdeal.Step.step
  exact al_301 h
theorem step_11 (h : Holds V0 s j) : step_main_v10_11 V0 = (step j s).main_v10_11 := by
  unfold step_main_v10_11 Cert.ReferenceIdeal.Step.step
  exact al_305 h
theorem step_12 (h : Holds V0 s j) : step_main_v10_12 V0 = (step j s).main_v10_12 := by
  unfold step_main_v10_12 Cert.ReferenceIdeal.Step.step
  exact al_309 h
theorem step_7 (h : Holds V0 s j) : step_main_v10_7 V0 = constantI S_ 32 (BitVec.ofNat 32 (j + 1)) := by
  unfold step_main_v10_7
  rw [h.n_7]
  funext i
  show BitVec.ofNat 32 j + 1#32 = BitVec.ofNat 32 (j + 1)
  simp only [BitVec.ofNat_add]

set_option maxRecDepth 8192 in
theorem out_main_v11_holds (h : Holds V0 s j) : out_main_v11 V0 = Cert.ReferenceIdeal.Step.R_main_v11 s := by
  unfold out_main_v11 Cert.ReferenceIdeal.Step.R_main_v11
  rw [h.f_9]
  try rfl

set_option maxRecDepth 8192 in
theorem out_main_v12_holds (h : Holds V0 s j) : out_main_v12 V0 = Cert.ReferenceIdeal.Step.R_main_v12 s := by
  unfold out_main_v12 Cert.ReferenceIdeal.Step.R_main_v12
  rw [h.f_10]
  try rfl

set_option maxRecDepth 8192 in
theorem out_main_v13_holds (h : Holds V0 s j) : out_main_v13 V0 = Cert.ReferenceIdeal.Step.R_main_v13 s := by
  unfold out_main_v13 Cert.ReferenceIdeal.Step.R_main_v13
  rw [h.f_11]
  try rfl

set_option maxRecDepth 8192 in
theorem out_main_v14_holds (h : Holds V0 s j) : out_main_v14 V0 = Cert.ReferenceIdeal.Step.R_main_v14 s := by
  unfold out_main_v14 Cert.ReferenceIdeal.Step.R_main_v14
  rw [h.f_12]
  try rfl

/-- One trip keeps the valuation holding: `step` of the state, the same set-up values, the next number. -/
theorem holds_step (h : Holds V0 s j) : Holds (STEP V0) (step j s) (j + 1) where
  f_8 := (STEP_main_v10_8 V0).trans (step_8 h)
  f_9 := (STEP_main_v10_9 V0).trans (step_9 h)
  f_10 := (STEP_main_v10_10 V0).trans (step_10 h)
  f_11 := (STEP_main_v10_11 V0).trans (step_11 h)
  f_12 := (STEP_main_v10_12 V0).trans (step_12 h)
  n_7 := (STEP_main_v10_7 V0).trans (step_7 h)
  f_0 := (STEP_main_v10_0 V0).trans h.f_0
  f_1 := (STEP_main_v10_1 V0).trans h.f_1
  f_2 := (STEP_main_v10_2 V0).trans h.f_2
  f_3 := (STEP_main_v10_3 V0).trans h.f_3
  f_4 := (STEP_main_v10_4 V0).trans h.f_4
  f_5 := (STEP_main_v10_5 V0).trans h.f_5
  f_6 := (STEP_main_v10_6 V0).trans h.f_6

/-- The state the first trip starts from, of the memory the run starts from. -/
abbrev initState (m : (ℓ : Loc nD τ sig) → Buf (Elt F) ℓ) (c : Dev nD) : State F :=
  init (m ((c.tc : Thread nD τ).loc main_arg4)) (m ((c.tc : Thread nD τ).loc main_arg5)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v11) = Cert.ReferenceIdeal.Step.R_main_v11 (it c 64)
      ∧ r.2.mem ((c.tc : Thread nD τ).loc main_v12) = Cert.ReferenceIdeal.Step.R_main_v12 (it c 64)
      ∧ r.2.mem ((c.tc : Thread nD τ).loc main_v13) = Cert.ReferenceIdeal.Step.R_main_v13 (it c 64)
      ∧ r.2.mem ((c.tc : Thread nD τ).loc main_v14) = Cert.ReferenceIdeal.Step.R_main_v14 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 64
    ⟨(h c).1.trans (out_main_v11_holds hk), (h c).2.1.trans (out_main_v12_holds hk), (h c).2.2.1.trans (out_main_v13_holds hk), (h c).2.2.2.1.trans (out_main_v14_holds hk), (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.RefTrip

end
-- ==== Proof.Equal.lean ====
/-
  The kernel's result arrays and the reference's, from the same real arguments, are the same.
-/
module

public import proofs.«01_k».proof.Proof.KArray
public import proofs.«01_k».proof.Proof.Finite
public import proofs.«01_k».proof.Proof.RefTripB

@[expose] public section

set_option synthInstance.maxSize 4096

noncomputable section

namespace Cert.Equal

open Idealize.ShloMosaic Idealize.ShloMosaic.TcCoe DeltaRule

section Arrays

open Cert.ReferenceIdeal

/-- Two arrays that agree at every row of every chunk, and at every column of every head, are the same. -/
theorem ext_wide {x y : FVec Ideal S4096x512 .f32} (h : ∀ n i h c, x (ix2 (crow n i) (hcol h c)) = y (ix2 (crow n i) (hcol h c))) :
    x = y := by
  funext k
  obtain ⟨n, i, hr⟩ := exists_crow (k 0)
  obtain ⟨hd, c, hc⟩ := exists_hcol (k 1)
  have e : k = ix2 (crow n i) (hcol hd c) := by rw [hr, hc]; exact eq_ix2 k _ _ rfl rfl
  rw [e]; exact h n i hd c

theorem ext_narrow {x y : FVec Ideal S4096x128 .f32} (h : ∀ n i l, x (ix2 (crow n i) l) = y (ix2 (crow n i) l)) : x = y := by
  funext k
  obtain ⟨n, i, hr⟩ := exists_crow (k 0)
  have e : k = ix2 (crow n i) (k 1) := by rw [hr]; exact eq_ix2 k _ _ rfl rfl
  rw [e]; exact h n i _

/-- The reference's loop states, of the memory that its run starts from. -/
def states (m : (ℓ : Loc nD τ sig) → Buf (Elt Ideal) ℓ) (c : Dev nD) : ℕ → Cert.ReferenceIdeal.Step.State Ideal
  | 0 => RefTrip.initState m c
  | n + 1 => Cert.ReferenceIdeal.Step.step n (states m c n)

end Arrays

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD} {d : Data}

open Cert.KernelIdeal.Gen in
/-- The four results. -/
theorem results (a : KPoint.ArgsAt m c d)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Step.R_main_v11 (states m' c 64) = (dats m 0 c).arrAt 10 Cert.KernelIdeal.cfg0.N
      ∧ Cert.ReferenceIdeal.Step.R_main_v12 (states m' c 64) = (dats m 0 c).arrAt 11 Cert.KernelIdeal.cfg0.N
      ∧ Cert.ReferenceIdeal.Step.R_main_v13 (states m' c 64) = (dats m 0 c).arrAt 12 Cert.KernelIdeal.cfg0.N
      ∧ Cert.ReferenceIdeal.Step.R_main_v14 (states m' c 64) = (dats m 0 c).arrAt 13 Cert.KernelIdeal.cfg0.N := by
  obtain ⟨e0, e1, e2, e3, e4, e5, e6⟩ := h
  have v0 : RefLoop.Inv d 0 (states m' c 0) := by
    show RefLoop.Inv d 0 (RefTrip.initState m' c)
    unfold RefTrip.initState
    rw [e0, e1, e2, e3, e4, e5, e6]
    exact RefLoop.init_inv a
  have v := RefLoop.iter_inv (states m' c) v0 (fun _ => rfl) 64 (Nat.le_refl _)
  exact ⟨ext_wide fun n i h x => (RefLoop.out_dq v n i h x).trans (KPoint.arr_dq a n i h x).symm,
    ext_wide fun n i h x => (RefLoop.out_dk v n i h x).trans (KPoint.arr_dk a n i h x).symm,
    ext_wide fun n i h x => (RefLoop.out_dv v n i h x).trans (KPoint.arr_dv a n i h x).symm,
    ext_narrow fun n i l => (RefLoop.out_dbg v n i l).trans (KPoint.arr_dbg a n i l).symm⟩

end Cert.Equal

end
-- ==== Proof.UpGrad.lean ====
/-
  The gradient of the first feed-forward weight, in four groups of 1408 columns: each entry of the kernel's array is the
  sum, over the 4096 rows, of the products of a column of the normalised input and a column of the output's gradient. The
  kernel forms a group in two parts of 2048 rows, added up in a scratch.
-/
module

public import proofs.«01_k».proof.Proof.Indices
public import proofs.«01_k».proof.Proof.Gen.KernelUIdeal.Value
public import proofs.«01_k».proof.Proof.Gen.ReferenceUIdeal.Run
public import Idealize.ShloMosaic.Lib.Pipeline.ValueKit.Acc

@[expose] public section

set_option synthInstance.maxSize 4096

noncomputable section

namespace Cert.UpGrad

open Idealize.ShloMosaic Idealize.ShloMosaic.TcCoe Cert.KernelUIdeal Cert.KernelUIdeal.Gen

/-- One entry of group `g`: column `i` of the input with column `1408 g + j` of the gradient. -/
def entry (a : Vec Ideal S4096x1024 .bf16) (b : Vec Ideal S4096x5632 .bf16) (g : Fin 4) (i : Fin 1024) (j : Fin 1408) : EReal :=
  ∑ k : Fin 4096, a (ix2 k i) * b (ix2 k (within g j))

/-- Its part from rows `2048 s` on. -/
def entryOf (a : Vec Ideal S4096x1024 .bf16) (b : Vec Ideal S4096x5632 .bf16) (s : Fin 2) (g : Fin 4) (i : Fin 1024)
    (j : Fin 1408) : EReal :=
  ∑ k : Fin 2048, a (ix2 (within s k) i) * b (ix2 (within s k) (within g j))

/-! ## What a point computes -/

/-- Column `i` of a point's input with column `j` of its gradient. -/
def dot (x : Vec Ideal S2048x1024 .bf16) (y : Vec Ideal S2048x1408 .bf16) (i : Fin 1024) (j : Fin 1408) : EReal :=
  ∑ k : Fin 2048, x (ix2 k i) * y (ix2 k j)

theorem zero_at (i : Fin 1024) (j : Fin 1408) : k0_pay1 (F := Ideal) (ix2 i j) = 0 := by
  pointwise [k0_pay1]

theorem add_at (v : Vec Ideal S1024x1408 .f32) (x : Vec Ideal S2048x1024 .bf16) (y : Vec Ideal S2048x1408 .bf16) (i : Fin 1024)
    (j : Fin 1408) : k0_pay2 v x y (ix2 i j) = v (ix2 i j) + dot x y i j := by
  pointwise [k0_pay2]
  rfl

theorem out_at (v : Vec Ideal S1024x1408 .f32) (i : Fin 1024) (j : Fin 1408) : k0_pay3 v (ix3 0 i j) = v (ix2 i j) := by
  pointwise [k0_pay3]

variable (m : (ℓ : Loc nD τ sig) → Buf (Elt Ideal) ℓ) (c : Dev nD)

/-- What point `t` adds to the scratch. -/
def part (t : Fin cfg0.N) (y : S1024x1408.Idx) : EReal :=
  dot (iblk m c 0 t) (iblk m c 1 t) (y 0) (y 1)

/-- The scratch after the last of a group's two points. -/
theorem scratch (t : Fin cfg0.N) (h : t.val % 2 = 2 - 1) (y : S1024x1408.Idx) :
    (outsAt0 m c t.val t.isLt).2 y
      = 0 + ∑ s : Fin 2, part m c ⟨2 * (t.val / 2) + s.val, Pipeline.run_point_lt_of_flush t h s⟩ y := by
  rw [Pipeline.eq_sum_fin_of_reset_step_apply_of_flush (fun n h => (outsAt0 m c n h).2) 2 (fun _ => (0 : EReal)) (part m c)
    (fun t h y => by
      obtain ⟨i, j, rfl⟩ : ∃ i j, y = ix2 i j := ⟨y 0, y 1, eq_ix2 y _ _ rfl rfl⟩
      rw [outsAt0_A m c t h (by omega)]
      frame_out
      rw [add_at, zero_at]
      rfl)
    (fun t h y => by
      obtain ⟨i, j, rfl⟩ : ∃ i j, y = ix2 i j := ⟨y 0, y 1, eq_ix2 y _ _ rfl rfl⟩
      rw [outsAt0_B m c t h (by omega)]
      frame_out
      rw [add_at]
      exact congrArg (· + _) (congrFun ((Memref.isWhole_whole _).read_unread _) _)) t h y]

/-- The group's last point stores the scratch. -/
theorem stored (t : Fin cfg0.N) (h : t.val % 2 = 1) (i : Fin 1024) (j : Fin 1408) :
    (outsAt0 m c t.val t.isLt).1 (ix3 0 i j) = (outsAt0 m c t.val t.isLt).2 (ix2 i j) := by
  rw [outsAt0_B m c t (by omega) h]
  frame_out
  exact out_at _ i j

/-! ## The whole array -/

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = t.val / 2 :=
  (by decide +kernel : ∀ t : Fin grid0.N, _)
theorem idx2 : ∀ t : Fin cfg0.N, win0_2.index t (0 : Fin 3) = t.val / 2 ∧ win0_2.index t (1 : Fin 3) = 0
    ∧ win0_2.index t (2 : Fin 3) = 0 := (by decide +kernel : ∀ t : Fin grid0.N, _)
theorem idx2_inj : ∀ t t' : Fin cfg0.N, t.val % 2 = 1 → t'.val % 2 = 1 → win0_2.index t = win0_2.index t' → t = t' :=
  (by decide +kernel : ∀ t t' : Fin grid0.N, t.val % 2 = 1 → t'.val % 2 = 1 → win0_2.index t = win0_2.index t' → t = t')

theorem part_eq (t : Fin cfg0.N) (s : Fin 2) (g : Fin 4) (hs : t.val % 2 = s.val) (hg : t.val / 2 = g.val) (i : Fin 1024)
    (j : Fin 1408) :
    part m c t (ix2 i j) = entryOf (m ((c : Thread nD τ).loc main_arg0)) (m ((c : Thread nD τ).loc main_arg1)) s g i j := by
  unfold part dot entryOf
  refine Finset.sum_congr rfl fun k _ => congrArg₂ (fun p q : EReal => p * q)
    (congrArg (m ((c : Thread nD τ).loc main_arg0)) (eq_ix2 (((cfg0.win 0).blk t).view.emb (ix2 k i)) (within s k) i
      (pos_eq s ((idx0 t).1.trans hs) k) (at_zero (idx0 t).2)))
    (congrArg (m ((c : Thread nD τ).loc main_arg1)) (eq_ix2 (((cfg0.win 1).blk t).view.emb (ix2 k j)) (within s k) (within g j)
      (pos_eq s ((idx1 t).1.trans hs) k) (pos_eq g ((idx1 t).2.trans hg) j)))

theorem disjoint : ∀ t t' : Fin cfg0.N, (cfg0.win 2).flush t = true → (cfg0.win 2).flush t' = true → t ≠ t' →
    Disjoint ((cfg0.win 2).blk t).view.set ((cfg0.win 2).blk t').view.set :=
  fun t t' h h' hne => (cfg0.win 2).disjoint_blk fun e => hne (idx2_inj t t' ((flush0_2 t).mp h) ((flush0_2 t').mp h') e)

theorem result (g : Fin 4) (i : Fin 1024) (j : Fin 1408) :
    (dats m 0 c).arrAt 2 cfg0.N (ix3 g i j)
      = entry (m ((c : Thread nD τ).loc main_arg0)) (m ((c : Thread nD τ).loc main_arg1)) g i j := by
  let t : Fin cfg0.N := ⟨2 * g.val + 1, lt_of_lt_of_eq (by omega) N_0.symm⟩
  have h1 : t.val % 2 = 1 := by show (2 * g.val + 1) % 2 = 1; omega
  have hg : t.val / 2 = g.val := by show (2 * g.val + 1) / 2 = g.val; omega
  have hf : (cfg0.win 2).flush t = true := (flush0_2 t).mpr h1
  have e := congrFun (((dats m 0 c).read_blk_arrAt_eq_flushed 2 disjoint cfg0.N t t.isLt hf).trans (Value.flushed2 m c t))
    (ix3 0 i j)
  have e2 : ((cfg0.win 2).blk t).view.emb (ix3 0 i j) = ix3 g i j :=
    eq_ix3 _ _ _ _ ((pos_eq (n := 1) g ((idx2 t).1.trans hg) 0).trans (by rw [within_val]; simp)) (at_zero (idx2 t).2.1)
      (at_zero (idx2 t).2.2)
  refine Eq.trans ?_ (e.trans ((stored m c t h1 i j).trans ((scratch m c t h1 (ix2 i j)).trans ?_)))
  · show _ = (dats m 0 c).arrAt 2 cfg0.N (((cfg0.win 2).blk t).view.emb (ix3 0 i j))
    rw [e2]
  · rw [zero_add, entry, sum_blocks 2 2048]
    refine Finset.sum_congr rfl fun s _ => part_eq m c _ s g ?_ ?_ i j
    · show (2 * (t.val / 2) + s.val) % 2 = s.val
      omega
    · show (2 * (t.val / 2) + s.val) / 2 = g.val
      omega

/-! ## The reference -/

/-- The reference's product, transposed, rounded, its columns in four groups. -/
abbrev product (a : Vec Ideal S4096x1024 .bf16) (b : Vec Ideal S4096x5632 .bf16) : Vec Ideal S4x1024x1408 .bf16 :=
  transpose S4x1024x1408 [1, 0, 2] (shapeCast Cert.ReferenceUIdeal.S1024x4x1408 (truncf .bf16
    (transpose Cert.ReferenceUIdeal.S1024x5632 [1, 0] (Host.dotGeneral (F := Ideal) (φ₁ := .f32) (φ₂ := .f32)
      Cert.ReferenceUIdeal.dot_S4096x5632_S4096x1024_S5632x1024_0_0_1_1_n_n none (extf .f32 b bitsLt_bf16_f32)
      (extf .f32 a bitsLt_bf16_f32)) Cert.ReferenceUIdeal.Facts₀.transposes_S5632x1024_S1024x5632_1_0) bitsLt_bf16_f32)
    Cert.ReferenceUIdeal.Facts₀.shapeCasts_S1024x5632_S1024x4x1408)
    Cert.ReferenceUIdeal.Facts₀.transposes_S1024x4x1408_S4x1024x1408_1_0_2

theorem product_at (a : Vec Ideal S4096x1024 .bf16) (b : Vec Ideal S4096x5632 .bf16) (g : Fin 4) (i : Fin 1024) (j : Fin 1408) :
    product a b (ix3 g i j) = entry a b g i j := by
  pointwise [product]
  exact Finset.sum_congr rfl fun k _ => (mul_comm _ _).trans
    (congrArg (fun q => (a (ix2 k i) : EReal) * b (ix2 k q)) (Fin.ext (within_val g j).symm))

/-- The kernel's whole array is the reference's. -/
theorem equal : ((dats m 0 c).arrAt 2 cfg0.N : Vec Ideal S4x1024x1408 .bf16)
    = product (m ((c : Thread nD τ).loc main_arg0)) (m ((c : Thread nD τ).loc main_arg1)) := by
  funext y
  obtain ⟨g, i, j, rfl⟩ : ∃ g i j, y = ix3 g i j := ⟨y 0, y 1, y 2, eq_ix3 y _ _ _ rfl rfl rfl⟩
  exact (result m c g i j).trans (product_at _ _ g i j).symm

end Cert.UpGrad

end
-- ==== Proof.ActGrad.lean ====
/-
  The gradient of the second feed-forward product's input: each entry of the kernel's array is the sum of the products
  of a row of the output's gradient and a row of the weight.
-/
module

public import proofs.«01_k».proof.Proof.Indices
public import proofs.«01_k».proof.Proof.Gen.KernelAIdeal.Value
public import proofs.«01_k».proof.Proof.Gen.ReferenceAIdeal.Run

@[expose] public section

set_option synthInstance.maxSize 4096

noncomputable section

namespace Cert.ActGrad

open Idealize.ShloMosaic Idealize.ShloMosaic.TcCoe Cert.KernelAIdeal Cert.KernelAIdeal.Gen

/-- One entry: row `r` of the gradient with row `f` of the weight. -/
def entry (dx : Vec Ideal S4096x1024 .f32) (w : Vec Ideal S2816x1024 .bf16) (r : Fin 4096) (f : Fin 2816) : EReal :=
  ∑ k : Fin 1024, dx (ix2 r k) * w (ix2 f k)

/-- What a point stores: its 512 rows with all rows of the weight. -/
theorem stored (x : Vec Ideal S512x1024 .f32) (w : Vec Ideal S2816x1024 .bf16) (i : Fin 512) (f : Fin 2816) :
    out0_2 x w (ix2 i f) = ∑ k : Fin 1024, x (ix2 i k) * w (ix2 f k) := by
  unfold out0_2
  rw [View.canon_unit_zero (by funext a; fin_cases a <;> rfl), View.ld_unit_zero (by funext a; fin_cases a <;> rfl),
    View.ld_unit_zero (by funext a; fin_cases a <;> rfl)]
  pointwise [k0_pay1]

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem result (r : Fin 4096) (f : Fin 2816) :
    (dats m 0 c).arrAt 2 cfg0.N (ix2 r f)
      = entry (m ((c : Thread nD τ).loc main_arg0)) (m ((c : Thread nD τ).loc main_arg1)) r f := by
  obtain ⟨b, i, rfl⟩ := exists_within (a := 8) (n := 512) r
  let t : Fin cfg0.N := ⟨b.val, lt_of_lt_of_eq b.isLt N_0.symm⟩
  have e := congrFun ((Value.blocks2 m c t (flush0_2 t)).trans (Value.flushed2 m c t)) (ix2 i f)
  have e2 : ((cfg0.win 2).blk t).view.emb (ix2 i f) = ix2 (within b i) f :=
    eq_ix2 _ _ _ (pos_eq b (idx2 t).1 i) (at_zero (idx2 t).2)
  have e0 (k : Fin 1024) : iblk m c 0 t (ix2 i k) = m ((c : Thread nD τ).loc main_arg0) (ix2 (within b i) k) :=
    congrArg (m ((c : Thread nD τ).loc main_arg0))
      (eq_ix2 (((cfg0.win 0).blk t).view.emb (ix2 i k)) _ _ (pos_eq b (idx0 t).1 i) (at_zero (idx0 t).2))
  have e1 (k : Fin 1024) : iblk m c 1 t (ix2 f k) = m ((c : Thread nD τ).loc main_arg1) (ix2 f k) :=
    congrArg (m ((c : Thread nD τ).loc main_arg1))
      (eq_ix2 (((cfg0.win 1).blk t).view.emb (ix2 f k)) _ _ (at_zero (idx1 t).1) (at_zero (idx1 t).2))
  refine Eq.trans ?_ (e.trans ((stored _ _ i f).trans ?_))
  · show _ = (dats m 0 c).arrAt 2 cfg0.N (((cfg0.win 2).blk t).view.emb (ix2 i f))
    rw [e2]
  · exact Finset.sum_congr rfl fun k _ => by rw [e0, e1]

/-- The reference's product. -/
abbrev product (dx : Vec Ideal S4096x1024 .f32) (w : Vec Ideal S2816x1024 .bf16) : Vec Ideal S4096x2816 .f32 :=
  Host.dotGeneral (F := Ideal) (φ₁ := .f32) Cert.ReferenceAIdeal.dot_S4096x1024_S2816x1024_S4096x2816_1_1_0_0_n_n none dx
    (extf .f32 w bitsLt_bf16_f32)

/-- The reference's product, entry by entry. -/
theorem product_at (dx : Vec Ideal S4096x1024 .f32) (w : Vec Ideal S2816x1024 .bf16) (r : Fin 4096) (f : Fin 2816) :
    product dx w (ix2 r f) = entry dx w r f := by
  pointwise [product]
  rfl

/-- The kernel's whole array is the reference's. -/
theorem equal : ((dats m 0 c).arrAt 2 cfg0.N : Vec Ideal S4096x2816 .f32)
    = product (m ((c : Thread nD τ).loc main_arg0)) (m ((c : Thread nD τ).loc main_arg1)) := by
  funext y
  obtain ⟨r, f, rfl⟩ : ∃ r f, y = ix2 r f := ⟨y 0, y 1, eq_ix2 y _ _ rfl rfl⟩
  exact (result m c r f).trans (product_at _ _ r f).symm

end Cert.ActGrad

end
-- ==== Proof.DownGrad.lean ====
/-
  The gradient of the second feed-forward weight: each entry of the kernel's array is the sum, over the 4096 rows, of the
  products of a column of the activations and a column of the output's gradient. The kernel forms it in four parts of
  1024 rows, added up in a scratch.
-/
module

public import proofs.«01_k».proof.Proof.Indices
public import proofs.«01_k».proof.Proof.Gen.KernelDIdeal.Value
public import proofs.«01_k».proof.Proof.Gen.ReferenceDIdeal.Run
public import Idealize.ShloMosaic.Lib.Pipeline.ValueKit.Acc

@[expose] public section

set_option synthInstance.maxSize 4096

noncomputable section

namespace Cert.DownGrad

open Idealize.ShloMosaic Idealize.ShloMosaic.TcCoe Cert.KernelDIdeal Cert.KernelDIdeal.Gen

/-- One entry: column `i` of the activations with column `j` of the gradient. -/
def entry (a : Vec Ideal S4096x2816 .bf16) (b : Vec Ideal S4096x1024 .f32) (i : Fin 2816) (j : Fin 1024) : EReal :=
  ∑ k : Fin 4096, a (ix2 k i) * b (ix2 k j)

/-- Its part from rows `1024 s` on. -/
def entryOf (a : Vec Ideal S4096x2816 .bf16) (b : Vec Ideal S4096x1024 .f32) (s : Fin 4) (i : Fin 2816) (j : Fin 1024) : EReal :=
  ∑ k : Fin 1024, a (ix2 (within s k) i) * b (ix2 (within s k) j)

/-! ## What a point computes -/

/-- Column `i` of a point's activations with column `j` of its gradient. -/
def dot (x : Vec Ideal S1024x2816 .bf16) (y : Vec Ideal S1024x1024 .f32) (i : Fin 2816) (j : Fin 1024) : EReal :=
  ∑ k : Fin 1024, x (ix2 k i) * y (ix2 k j)

theorem zero_at (i : Fin 2816) (j : Fin 1024) : k0_pay1 (F := Ideal) (ix2 i j) = 0 := by
  pointwise [k0_pay1]

theorem add_at (v : Vec Ideal S2816x1024 .f32) (x : Vec Ideal S1024x2816 .bf16) (y : Vec Ideal S1024x1024 .f32) (i : Fin 2816)
    (j : Fin 1024) : k0_pay2 v x y (ix2 i j) = v (ix2 i j) + dot x y i j := by
  pointwise [k0_pay2]
  rfl

theorem out_at (v : Vec Ideal S2816x1024 .f32) (i : Fin 2816) (j : Fin 1024) : k0_pay3 v (ix2 i j) = v (ix2 i j) := by
  pointwise [k0_pay3]

variable (m : (ℓ : Loc nD τ sig) → Buf (Elt Ideal) ℓ) (c : Dev nD)

/-- What point `t` adds to the scratch. -/
def part (t : Fin cfg0.N) (y : S2816x1024.Idx) : EReal :=
  dot (iblk m c 0 t) (iblk m c 1 t) (y 0) (y 1)

/-- The scratch after the last of four points. -/
theorem scratch (t : Fin cfg0.N) (h : t.val % 4 = 4 - 1) (y : S2816x1024.Idx) :
    (outsAt0 m c t.val t.isLt).2 y
      = 0 + ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by
      obtain ⟨i, j, rfl⟩ : ∃ i j, y = ix2 i j := ⟨y 0, y 1, eq_ix2 y _ _ rfl rfl⟩
      rw [outsAt0_A m c t h (by omega)]
      frame_out
      rw [add_at, zero_at]
      rfl)
    (fun t h y => by
      obtain ⟨i, j, rfl⟩ : ∃ i j, y = ix2 i j := ⟨y 0, y 1, eq_ix2 y _ _ rfl rfl⟩
      by_cases h3 : t.val % 4 = 3
      · rw [outsAt0_C m c t h h3]
        frame_out
        rw [add_at]
        exact congrArg (· + _) (congrFun ((Memref.isWhole_whole _).read_unread _) _)
      · rw [outsAt0_B m c t h h3]
        frame_out
        rw [add_at]
        exact congrArg (· + _) (congrFun ((Memref.isWhole_whole _).read_unread _) _)) t h y]

/-- The last point stores the scratch. -/
theorem stored (t : Fin cfg0.N) (h : t.val % 4 = 3) (i : Fin 2816) (j : Fin 1024) :
    (outsAt0 m c t.val t.isLt).1 (ix2 i j) = (outsAt0 m c t.val t.isLt).2 (ix2 i j) := by
  rw [outsAt0_C m c t (by omega) h]
  frame_out
  exact out_at _ i j

/-! ## The whole array -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem part_eq (t : Fin cfg0.N) (s : Fin 4) (hs : t.val = s.val) (i : Fin 2816) (j : Fin 1024) :
    part m c t (ix2 i j) = entryOf (m ((c : Thread nD τ).loc main_arg0)) (m ((c : Thread nD τ).loc main_arg1)) s i j := by
  unfold part dot entryOf
  refine Finset.sum_congr rfl fun k _ => congrArg₂ (fun p q : EReal => p * q)
    (congrArg (m ((c : Thread nD τ).loc main_arg0))
      (eq_ix2 (((cfg0.win 0).blk t).view.emb (ix2 k i)) (within s k) i (pos_eq s ((idx0 t).1.trans hs) k) (at_zero (idx0 t).2)))
    (congrArg (m ((c : Thread nD τ).loc main_arg1))
      (eq_ix2 (((cfg0.win 1).blk t).view.emb (ix2 k j)) (within s k) j (pos_eq s ((idx1 t).1.trans hs) k) (at_zero (idx1 t).2)))

theorem disjoint : ∀ t t' : Fin cfg0.N, (cfg0.win 2).flush t = true → (cfg0.win 2).flush t' = true → t ≠ t' →
    Disjoint ((cfg0.win 2).blk t).view.set ((cfg0.win 2).blk t').view.set := by
  intro t t' h h' hne
  have := (flush0_2 t).mp h
  have := (flush0_2 t').mp h'
  have := lt_of_lt_of_eq t.isLt N_0
  have := lt_of_lt_of_eq t'.isLt N_0
  exact absurd (Fin.ext (by omega)) hne

theorem result (i : Fin 2816) (j : Fin 1024) :
    (dats m 0 c).arrAt 2 cfg0.N (ix2 i j)
      = entry (m ((c : Thread nD τ).loc main_arg0)) (m ((c : Thread nD τ).loc main_arg1)) i j := by
  let t : Fin cfg0.N := ⟨3, lt_of_lt_of_eq (by decide) N_0.symm⟩
  have hf : (cfg0.win 2).flush t = true := (flush0_2 t).mpr rfl
  have e := congrFun (((dats m 0 c).read_blk_arrAt_eq_flushed 2 disjoint cfg0.N t t.isLt hf).trans (Value.flushed2 m c t))
    (ix2 i j)
  have e2 : ((cfg0.win 2).blk t).view.emb (ix2 i j) = ix2 i j := eq_ix2 _ _ _ (at_zero (idx2 t).1) (at_zero (idx2 t).2)
  refine Eq.trans ?_ (e.trans ((stored m c t rfl i j).trans ((scratch m c t rfl (ix2 i j)).trans ?_)))
  · show _ = (dats m 0 c).arrAt 2 cfg0.N (((cfg0.win 2).blk t).view.emb (ix2 i j))
    rw [e2]
  · rw [zero_add, entry, sum_blocks 4 1024]
    refine Finset.sum_congr rfl fun s _ => part_eq m c _ s ?_ i j
    show 4 * (3 / 4) + s.val = s.val
    omega

/-! ## The reference -/

/-- The reference's product, transposed and rounded. -/
abbrev product (a : Vec Ideal S4096x2816 .bf16) (b : Vec Ideal S4096x1024 .f32) : Vec Ideal S2816x1024 .bf16 :=
  truncf .bf16 (transpose S2816x1024 [1, 0] (Host.dotGeneral (F := Ideal) (φ₁ := .f32)
    Cert.ReferenceDIdeal.dot_S4096x1024_S4096x2816_S1024x2816_0_0_1_1_n_n none b (extf .f32 a bitsLt_bf16_f32))
    Cert.ReferenceDIdeal.Facts₀.transposes_S1024x2816_S2816x1024_1_0) bitsLt_bf16_f32

theorem product_at (a : Vec Ideal S4096x2816 .bf16) (b : Vec Ideal S4096x1024 .f32) (i : Fin 2816) (j : Fin 1024) :
    product a b (ix2 i j) = entry a b i j := by
  pointwise [product]
  exact Finset.sum_congr rfl fun k _ => mul_comm _ _

/-- The kernel's whole array is the reference's. -/
theorem equal : ((dats m 0 c).arrAt 2 cfg0.N : Vec Ideal S2816x1024 .bf16)
    = product (m ((c : Thread nD τ).loc main_arg0)) (m ((c : Thread nD τ).loc main_arg1)) := by
  funext y
  obtain ⟨i, j, rfl⟩ : ∃ i j, y = ix2 i j := ⟨y 0, y 1, eq_ix2 y _ _ rfl rfl⟩
  exact (result m c i j).trans (product_at _ _ i j).symm

end Cert.DownGrad

end
-- ==== Proof.InGrad.lean ====
/-
  The gradient of the mixer's input projections, in four groups of 770 columns: each entry of the kernel's array is the
  sum, over the 4096 rows, of the products of a column of the normalised input and a column of the projections' gradient,
  of which the kernel takes the first 3080. The kernel forms it in four parts of 1024 rows, added up in a scratch of 3200
  columns, and stores the scratch's columns group by group.
-/
module

public import proofs.«01_k».proof.Proof.Indices
public import proofs.«01_k».proof.Proof.Gen.KernelNIdeal.Value
public import proofs.«01_k».proof.Proof.Gen.ReferenceNIdeal.Run
public import Idealize.ShloMosaic.Lib.Pipeline.ValueKit.Acc
public import Idealize.ShloMosaic.Lib.Pipeline.ReadBack
public import Idealize.ShloMosaic.Lib.Pipeline.ValueKit.Tiles

@[expose] public section

set_option synthInstance.maxSize 4096

noncomputable section

namespace Cert.InGrad

open Idealize.ShloMosaic Idealize.ShloMosaic.TcCoe Cert.KernelNIdeal Cert.KernelNIdeal.Gen

/-- One of the 3200 columns that a block of the projections' gradient has: column `j` of group `g`. -/
def col (g : Fin 4) (j : Fin 770) : Fin 3200 := ⟨g.val * 770 + j.val, by omega⟩

/-- One entry of group `g`: column `i` of the input with column `770 g + j` of the gradient. -/
def entry (a : Vec Ideal S4096x1024 .bf16) (b : Vec Ideal S4096x3200 .bf16) (g : Fin 4) (i : Fin 1024) (j : Fin 770) : EReal :=
  ∑ k : Fin 4096, a (ix2 k i) * b (ix2 k (col g j))

/-- The part of column `i` with column `j` from rows `1024 s` on. -/
def entryOf (a : Vec Ideal S4096x1024 .bf16) (b : Vec Ideal S4096x3200 .bf16) (s : Fin 4) (i : Fin 1024) (j : Fin 3200) : EReal :=
  ∑ k : Fin 1024, a (ix2 (within s k) i) * b (ix2 (within s k) j)

/-! ## What a point computes -/

/-- Column `i` of a point's input with column `j` of its gradient. -/
def dot (x : Vec Ideal S1024x1024 .bf16) (y : Vec Ideal S1024x3200 .bf16) (i : Fin 1024) (j : Fin 3200) : EReal :=
  ∑ k : Fin 1024, x (ix2 k i) * y (ix2 k j)

theorem zero_at (i : Fin 1024) (j : Fin 3200) : k0_pay1 (F := Ideal) (ix2 i j) = 0 := by
  pointwise [k0_pay1]

theorem add_at (v : Vec Ideal S1024x3200 .f32) (x : Vec Ideal S1024x1024 .bf16) (y : Vec Ideal S1024x3200 .bf16) (i : Fin 1024)
    (j : Fin 3200) : k0_pay2 v x y (ix2 i j) = v (ix2 i j) + dot x y i j := by
  pointwise [k0_pay2]
  rfl

theorem out_at (v : Vec Ideal S1024x770 .f32) (i : Fin 1024) (j : Fin 770) : k0_pay3 v (ix3 0 i j) = v (ix2 i j) := by
  pointwise [k0_pay3]

variable (m : (ℓ : Loc nD τ sig) → Buf (Elt Ideal) ℓ) (c : Dev nD)

/-- What point `t` adds to the scratch. -/
def part (t : Fin cfg0.N) (y : S1024x3200.Idx) : EReal :=
  dot (iblk m c 0 t) (iblk m c 1 t) (y 0) (y 1)

/-- The scratch after the last of four points. -/
theorem scratch (t : Fin cfg0.N) (h : t.val % 4 = 4 - 1) (y : S1024x3200.Idx) :
    (outsAt0 m c t.val t.isLt).2 y
      = 0 + ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by
      obtain ⟨i, j, rfl⟩ : ∃ i j, y = ix2 i j := ⟨y 0, y 1, eq_ix2 y _ _ rfl rfl⟩
      rw [outsAt0_A m c t h (by omega)]
      frame_out
      rw [add_at, zero_at]
      rfl)
    (fun t h y => by
      obtain ⟨i, j, rfl⟩ : ∃ i j, y = ix2 i j := ⟨y 0, y 1, eq_ix2 y _ _ rfl rfl⟩
      by_cases h3 : t.val % 4 = 3
      · rw [outsAt0_C m c t h h3]
        frame_out
        rw [add_at]
        exact congrArg (· + _) (congrFun ((Memref.isWhole_whole _).read_unread _) _)
      · rw [outsAt0_B m c t h h3]
        frame_out
        rw [add_at]
        exact congrArg (· + _) (congrFun ((Memref.isWhole_whole _).read_unread _) _)) t h y]

/-- The block of group `k` that a store puts in its place. -/
theorem tile {v : S1024x3200.Idx → EReal} (g : Fin 4) (i : Fin 1024) (j : Fin 770) (k : Fin 4) (w : S1x1024x770.Idx → EReal)
    (h : ∀ a b, w (ix3 0 a b) = v (ix2 a (col k b))) :
    View.TileAt (Val := Elt Ideal) (S := S4x1024x770) (e := .bf16) (ix3 g i j) ![k.val, 0, 0] S1x1024x770.size w
      (v (ix2 i (col g j))) := by
  intro x hx
  have h0 : g.val = k.val + (x 0).val := hx 0
  have h1 : i.val = 0 + (x 1).val := hx 1
  have h2 : j.val = 0 + (x 2).val := hx 2
  have b0 : (x 0).val < 1 := (x 0).isLt
  obtain rfl : k = g := Fin.ext (by omega)
  obtain rfl : x = ix3 0 i j := eq_ix3 x 0 i j (by show (x 0).val = 0; omega) (by omega) (by omega)
  exact h i j

/-- A group's columns of the scratch. -/
theorem slice_at (v : Vec Ideal S1024x3200 .f32) (k : Fin 4) (o : ℕ) (ho : o = k.val * 770)
    (inb : ∀ a, (![0, o] : Fin 2 → ℕ) a + S1024x770.size a ≤ S1024x3200.size a) (i : Fin 1024) (j : Fin 770) :
    View.ld (e' := .f32) (Val := Elt Ideal) v (Rect.unit (s := S1024x3200) ![0, o] S1024x770.size inb) (ix2 i j) = v (ix2 i (col k j)) := by
  refine View.ld_unit_apply_of (Val := Elt Ideal) (e := .f32) (S := S1024x3200) v _ _ inb (ix2 i j) (ix2 i (col k j)) fun a => ?_
  fin_cases a
  · exact (Nat.zero_add i.val).symm
  · show k.val * 770 + j.val = o + j.val
    rw [ho]

/-- The last point stores the scratch's columns, group by group. -/
theorem stored (t : Fin cfg0.N) (h : t.val % 4 = 3) (g : Fin 4) (i : Fin 1024) (j : Fin 770) :
    (outsAt0 m c t.val t.isLt).1 (ix3 g i j) = (outsAt0 m c t.val t.isLt).2 (ix2 i (col g j)) := by
  rw [outsAt0_C m c t (by omega) h]
  frame_out
  generalize k0_pay2 (F := Ideal) (View.read _ _ _) _ _ = v
  have z : (![0, 0] : Fin 2 → ℕ) = fun _ => 0 := by funext a; fin_cases a <;> rfl
  have zz : ∀ a, (![0, 0] : Fin 2 → ℕ) a = 0 := congrFun z
  rw [View.readCov_fill _ _ _ _ _ zz, View.readCov_fill _ _ _ _ _ zz, View.readCov_fill _ _ _ _ _ zz,
    View.readCov_fill _ _ _ _ _ zz]
  refine View.canon_eq_of_allAt _ _ _ (View.cover_of_tiledL (s := S4x1024x770) _ S1x1024x770.size (by sl_kernel_rfl) _) ?_
  exact View.allAt_cons_unit _ _ _ _ _ (tile g i j 3 _ fun a b => (out_at _ a b).trans (slice_at v 3 _ rfl _ a b))
    (View.allAt_cons_unit _ _ _ _ _ (tile g i j 2 _ fun a b => (out_at _ a b).trans (slice_at v 2 _ rfl _ a b))
      (View.allAt_cons_unit _ _ _ _ _ (tile g i j 1 _ fun a b => (out_at _ a b).trans (slice_at v 1 _ rfl _ a b))
        (View.allAt_cons_unit _ _ _ _ _ (tile g i j 0 _ fun a b => (out_at _ a b).trans (slice_at v 0 _ rfl _ a b))
          (View.allAt_nil _ _))))

/-! ## The whole array -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0
    ∧ win0_2.index t (2 : Fin 3) = 0 := (by decide +kernel : ∀ t : Fin grid0.N, _)

theorem part_eq (t : Fin cfg0.N) (s : Fin 4) (hs : t.val = s.val) (i : Fin 1024) (j : Fin 3200) :
    part m c t (ix2 i j) = entryOf (m ((c : Thread nD τ).loc main_arg0)) (m ((c : Thread nD τ).loc main_arg1)) s i j := by
  unfold part dot entryOf
  refine Finset.sum_congr rfl fun k _ => congrArg₂ (fun p q : EReal => p * q)
    (congrArg (m ((c : Thread nD τ).loc main_arg0))
      (eq_ix2 (((cfg0.win 0).blk t).view.emb (ix2 k i)) (within s k) i (pos_eq s ((idx0 t).1.trans hs) k) (at_zero (idx0 t).2)))
    (congrArg (m ((c : Thread nD τ).loc main_arg1))
      (eq_ix2 (((cfg0.win 1).blk t).view.emb (ix2 k j)) (within s k) j (pos_eq s ((idx1 t).1.trans hs) k) (at_zero (idx1 t).2)))

theorem disjoint : ∀ t t' : Fin cfg0.N, (cfg0.win 2).flush t = true → (cfg0.win 2).flush t' = true → t ≠ t' →
    Disjoint ((cfg0.win 2).blk t).view.set ((cfg0.win 2).blk t').view.set := by
  intro t t' h h' hne
  have := (flush0_2 t).mp h
  have := (flush0_2 t').mp h'
  have := lt_of_lt_of_eq t.isLt N_0
  have := lt_of_lt_of_eq t'.isLt N_0
  exact absurd (Fin.ext (by omega)) hne

theorem result (g : Fin 4) (i : Fin 1024) (j : Fin 770) :
    (dats m 0 c).arrAt 2 cfg0.N (ix3 g i j)
      = entry (m ((c : Thread nD τ).loc main_arg0)) (m ((c : Thread nD τ).loc main_arg1)) g i j := by
  let t : Fin cfg0.N := ⟨3, lt_of_lt_of_eq (by decide) N_0.symm⟩
  have hf : (cfg0.win 2).flush t = true := (flush0_2 t).mpr rfl
  have e := congrFun (((dats m 0 c).read_blk_arrAt_eq_flushed 2 disjoint cfg0.N t t.isLt hf).trans (Value.flushed2 m c t))
    (ix3 g i j)
  have e2 : ((cfg0.win 2).blk t).view.emb (ix3 g i j) = ix3 g i j :=
    eq_ix3 _ _ _ _ (at_zero (idx2 t).1) (at_zero (idx2 t).2.1) (at_zero (idx2 t).2.2)
  refine Eq.trans ?_ (e.trans ((stored m c t rfl g i j).trans ((scratch m c t rfl (ix2 i (col g j))).trans ?_)))
  · show _ = (dats m 0 c).arrAt 2 cfg0.N (((cfg0.win 2).blk t).view.emb (ix3 g i j))
    rw [e2]
  · rw [zero_add, entry, sum_blocks 4 1024]
    refine Finset.sum_congr rfl fun s _ => part_eq m c _ s ?_ i (col g j)
    show 4 * (3 / 4) + s.val = s.val
    omega

/-! ## The reference -/

/-- The reference's product over the first 3080 columns, transposed, rounded, its columns in four groups. -/
abbrev product (a : Vec Ideal S4096x1024 .bf16) (b : Vec Ideal S4096x3200 .bf16) : Vec Ideal S4x1024x770 .bf16 :=
  transpose S4x1024x770 [1, 0, 2] (shapeCast Cert.ReferenceNIdeal.S1024x4x770 (truncf .bf16
    (transpose Cert.ReferenceNIdeal.S1024x3080 [1, 0] (Host.dotGeneral (F := Ideal) (φ₁ := .f32) (φ₂ := .f32)
      Cert.ReferenceNIdeal.dot_S4096x3080_S4096x1024_S3080x1024_0_0_1_1_n_n none
      (extf .f32 (extractStridedSlice Cert.ReferenceNIdeal.S4096x3080 ![0, 0] b
        Cert.ReferenceNIdeal.Facts₀.slices_S4096x3200_S4096x3080_0_0) bitsLt_bf16_f32)
      (extf .f32 a bitsLt_bf16_f32)) Cert.ReferenceNIdeal.Facts₀.transposes_S3080x1024_S1024x3080_1_0) bitsLt_bf16_f32)
    Cert.ReferenceNIdeal.Facts₀.shapeCasts_S1024x3080_S1024x4x770)
    Cert.ReferenceNIdeal.Facts₀.transposes_S1024x4x770_S4x1024x770_1_0_2

theorem product_at (a : Vec Ideal S4096x1024 .bf16) (b : Vec Ideal S4096x3200 .bf16) (g : Fin 4) (i : Fin 1024) (j : Fin 770) :
    product a b (ix3 g i j) = entry a b g i j := by
  pointwise [product]
  exact Finset.sum_congr rfl fun k _ => (mul_comm _ _)

/-- The kernel's whole array is the reference's. -/
theorem equal : ((dats m 0 c).arrAt 2 cfg0.N : Vec Ideal S4x1024x770 .bf16)
    = product (m ((c : Thread nD τ).loc main_arg0)) (m ((c : Thread nD τ).loc main_arg1)) := by
  funext y
  obtain ⟨g, i, j, rfl⟩ : ∃ g i j, y = ix3 g i j := ⟨y 0, y 1, y 2, eq_ix3 y _ _ _ rfl rfl rfl⟩
  exact (result m c g i j).trans (product_at _ _ g i j).symm

end Cert.InGrad

end
-- ==== Proof.Products.lean ====
/-
  The four product calls of the backward pass: each program's frame, and the kernel's array equal to the reference's over
  the extended reals, with no condition on the arguments.
-/
module

public import proofs.«01_k».proof.Defs
public import proofs.«01_k».proof.Proof.UpGrad
public import proofs.«01_k».proof.Proof.Gen.KernelU.Frame
public import proofs.«01_k».proof.Proof.ActGrad
public import proofs.«01_k».proof.Proof.Gen.KernelA.Frame
public import proofs.«01_k».proof.Proof.DownGrad
public import proofs.«01_k».proof.Proof.Gen.KernelD.Frame
public import proofs.«01_k».proof.Proof.InGrad
public import proofs.«01_k».proof.Proof.Gen.KernelN.Frame

@[expose] public section

noncomputable section

namespace Cert.Products

open Idealize.ShloMosaic Idealize.SL.Sem

/-- The reference of the gradient of the first feed-forward weight ends with its arguments unchanged. -/
theorem frameU : Cert.quiescent_ReferenceUIdeal := fun m ρ _ =>
  (θ_run Cert.ReferenceUIdeal.defs _ _).mono (fun r h => ⟨fun c => (h c).2, sem_eq_zero_of_no_sems (by decide) r.2⟩)
    (Cert.ReferenceUIdeal.Value.run (F := Ideal) m ρ)

/-- Kernel and reference of the gradient of the first feed-forward weight end with the same array. -/
theorem equalU : Cert.algebraic_KernelUIdeal_ReferenceUIdeal := by
  intro m ρ m' ρ' _ agree
  refine ⟨_, Cert.KernelUIdeal.Value.run_blocks m ρ, ?_⟩
  refine (θ_run Cert.ReferenceUIdeal.defs _ _).mono (fun r h c => ⟨(h c).1.trans ?_, (h c).2⟩)
    (Cert.ReferenceUIdeal.Value.run (F := Ideal) m' ρ')
  rw [(agree c).1, (agree c).2]
  exact (UpGrad.equal m c).symm

/-- The reference of the gradient of the activations ends with its arguments unchanged. -/
theorem frameA : Cert.quiescent_ReferenceAIdeal := fun m ρ _ =>
  (θ_run Cert.ReferenceAIdeal.defs _ _).mono (fun r h => ⟨fun c => (h c).2, sem_eq_zero_of_no_sems (by decide) r.2⟩)
    (Cert.ReferenceAIdeal.Value.run (F := Ideal) m ρ)

/-- Kernel and reference of the gradient of the activations end with the same array. -/
theorem equalA : Cert.algebraic_KernelAIdeal_ReferenceAIdeal := by
  intro m ρ m' ρ' _ agree
  refine ⟨_, Cert.KernelAIdeal.Value.run_blocks m ρ, ?_⟩
  refine (θ_run Cert.ReferenceAIdeal.defs _ _).mono (fun r h c => ⟨(h c).1.trans ?_, (h c).2⟩)
    (Cert.ReferenceAIdeal.Value.run (F := Ideal) m' ρ')
  rw [(agree c).1, (agree c).2]
  exact (ActGrad.equal m c).symm

/-- The reference of the gradient of the second feed-forward weight ends with its arguments unchanged. -/
theorem frameD : Cert.quiescent_ReferenceDIdeal := fun m ρ _ =>
  (θ_run Cert.ReferenceDIdeal.defs _ _).mono (fun r h => ⟨fun c => (h c).2, sem_eq_zero_of_no_sems (by decide) r.2⟩)
    (Cert.ReferenceDIdeal.Value.run (F := Ideal) m ρ)

/-- Kernel and reference of the gradient of the second feed-forward weight end with the same array. -/
theorem equalD : Cert.algebraic_KernelDIdeal_ReferenceDIdeal := by
  intro m ρ m' ρ' _ agree
  refine ⟨_, Cert.KernelDIdeal.Value.run_blocks m ρ, ?_⟩
  refine (θ_run Cert.ReferenceDIdeal.defs _ _).mono (fun r h c => ⟨(h c).1.trans ?_, (h c).2⟩)
    (Cert.ReferenceDIdeal.Value.run (F := Ideal) m' ρ')
  rw [(agree c).1, (agree c).2]
  exact (DownGrad.equal m c).symm

/-- The reference of the gradient of the mixer's input projections ends with its arguments unchanged. -/
theorem frameN : Cert.quiescent_ReferenceNIdeal := fun m ρ _ =>
  (θ_run Cert.ReferenceNIdeal.defs _ _).mono (fun r h => ⟨fun c => (h c).2, sem_eq_zero_of_no_sems (by decide) r.2⟩)
    (Cert.ReferenceNIdeal.Value.run (F := Ideal) m ρ)

/-- Kernel and reference of the gradient of the mixer's input projections end with the same array. -/
theorem equalN : Cert.algebraic_KernelNIdeal_ReferenceNIdeal := by
  intro m ρ m' ρ' _ agree
  refine ⟨_, Cert.KernelNIdeal.Value.run_blocks m ρ, ?_⟩
  refine (θ_run Cert.ReferenceNIdeal.defs _ _).mono (fun r h c => ⟨(h c).1.trans ?_, (h c).2⟩)
    (Cert.ReferenceNIdeal.Value.run (F := Ideal) m' ρ')
  rw [(agree c).1, (agree c).2]
  exact (InGrad.equal m c).symm

end Cert.Products

end
-- ==== Proof.NormRow.lean ====
/-
  One row of the gradient of a normalised row: what the kernel computes and what differentiation gives are the same
  extended reals, whatever the row, the gradient and the residual path's gradient are. Where the row is real its scale is a
  nonnegative real, over which products distribute; where an entry is infinite the scale is zero.
-/
module

public import proofs.«01_k».proof.Proof.Tools
public import Idealize.ShloMosaic.PureOps.Ideal

@[expose] public section

noncomputable section

namespace Cert.NormRow

open Idealize.ShloMosaic

/-- The three constants of the programs: the row's length, the shift under the root, minus one half. -/
abbrev len : EReal := Ideal.ofBits .f32 0x44800000#32
abbrev shift : EReal := Ideal.ofBits .f32 0x358637BD#32
abbrev half : EReal := Ideal.ofBits .f32 0xBF000000#32

theorem len_eq : len = ((1024 : ℝ) : EReal) := by
  simp [len, Ideal.ofBits, Ideal.ieee, -EReal.coe_mul]; norm_num
theorem half_eq : half = ((-(1 / 2) : ℝ) : EReal) := by
  simp [half, Ideal.ofBits, Ideal.ieee, -EReal.coe_mul]; norm_num
theorem exists_shift : ∃ e : ℝ, 0 < e ∧ shift = (e : EReal) := by
  refine ⟨_, ?_, rfl⟩
  simp

/-- The mean square, shifted. -/
def meanSq (x : Fin 1024 → EReal) : EReal := Ideal.div (∑ j, x j * x j) len + shift

/-- A row's scale. -/
def scale (x : Fin 1024 → EReal) : EReal := Ideal.rsqrt (meanSq x)

/-- The kernel's entry `j`: `x` the row, `d` the gradient of the product's input, `g` the gain, `e` the residual path's. -/
def kernelAt (x d g : Fin 1024 → EReal) (e : EReal) (j : Fin 1024) : EReal :=
  e + scale x * (d j * g j - x j * scale x * Ideal.div (∑ k, d k * g k * (x k * scale x)) len)

/-- What differentiation gives for the mean square's part. -/
def through (x d g : Fin 1024 → EReal) : EReal :=
  Ideal.div ((∑ k, x k * (d k * g k)) * (half * Ideal.div (scale x) (meanSq x))) len

/-- Differentiation's entry `j`. -/
def plainAt (x d g : Fin 1024 → EReal) (e : EReal) (j : Fin 1024) : EReal :=
  e + (d j * g j * scale x + x j * through x d g + through x d g * x j)

theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

/-- A nonnegative real goes into a sum. -/
theorem sum_mul_real {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem div_len (a : EReal) : Ideal.div a len = a * ((1024⁻¹ : ℝ) : EReal) := by
  rw [len_eq, Ideal.div, if_neg (by norm_num), EReal.coe_inv]

/-- A row with an infinite entry has scale zero. -/
theorem scale_of_inf {x : Fin 1024 → EReal} (h : ∃ j, x j = ⊤ ∨ x j = ⊥) : meanSq x = ⊤ ∧ scale x = 0 := by
  have hs : ∑ j, x j * x j = ⊤ := by
    obtain ⟨j, hj⟩ := h
    have ht : x j * x j = ⊤ := by rcases hj with hj | hj <;> rw [hj] <;> rfl
    refine top_unique ?_
    rw [← ht]
    exact Finset.single_le_sum (f := fun j => x j * x j) (fun k _ => mul_self_nonneg' (x k)) (Finset.mem_univ j)
  have hm : meanSq x = ⊤ := by
    obtain ⟨e, _, he⟩ := exists_shift
    rw [meanSq, hs, div_len, he, EReal.top_mul_coe_of_pos (by norm_num), EReal.top_add_coe]
  exact ⟨hm, by rw [scale, hm]; rfl⟩

/-- A row of reals has a scale that is a nonnegative real, and the scale over the mean square is its cube. -/
theorem scale_of_real {x : Fin 1024 → EReal} (h : ∀ j, x j ≠ ⊤ ∧ x j ≠ ⊥) :
    ∃ r : ℝ, 0 ≤ r ∧ scale x = (r : EReal) ∧ Ideal.div (scale x) (meanSq x) = ((r * (r * r) : ℝ) : EReal) := by
  obtain ⟨e, he, hs⟩ := exists_shift
  have hx : ∀ j, x j = (((x j).toReal : ℝ) : EReal) := fun j => (EReal.coe_toReal (h j).1 (h j).2).symm
  obtain ⟨m, hm, hm0⟩ : ∃ m : ℝ, meanSq x = (m : EReal) ∧ 0 < m := by
    refine ⟨(∑ j, (x j).toReal * (x j).toReal) * 1024⁻¹ + e, ?_, ?_⟩
    · rw [meanSq, div_len, hs, EReal.coe_add, EReal.coe_mul]
      congr 2
      rw [← DeltaRule.sum_coe]
      exact Finset.sum_congr rfl fun j _ => by rw [EReal.coe_mul, ← hx j]
    · have : 0 ≤ ∑ j, (x j).toReal * (x j).toReal := Finset.sum_nonneg fun j _ => mul_self_nonneg _
      positivity
  have hr : scale x = (((√m)⁻¹ : ℝ) : EReal) := by
    rw [scale, hm]
    show (if m < 0 then _ else if m = 0 then _ else _) = _
    rw [if_neg hm0.le.not_gt, if_neg hm0.ne']
  refine ⟨(√m)⁻¹, by positivity, hr, ?_⟩
  rw [hr, hm, Ideal.div, if_neg (by exact_mod_cast hm0.ne'), ← EReal.coe_inv, ← EReal.coe_mul, ← mul_inv]
  congr 1
  rw [← mul_inv, Real.mul_self_sqrt hm0.le, mul_inv]

/-- The two are one entry. -/
theorem kernelAt_eq_plainAt (x d g : Fin 1024 → EReal) (e : EReal) (j : Fin 1024) : kernelAt x d g e j = plainAt x d g e j := by
  unfold kernelAt plainAt through
  by_cases h : ∃ j, x j = ⊤ ∨ x j = ⊥
  · obtain ⟨hm, hs⟩ := scale_of_inf h
    rw [hs, hm, div_len, div_len]
    simp [Ideal.div]
  · push_neg at h
    obtain ⟨r, hr, hs, hd⟩ := scale_of_real h
    have hc : half * ((r * (r * r) : ℝ) : EReal) = ((-(r * (r * r) / 2) : ℝ) : EReal) := by
      rw [half_eq, ← EReal.coe_mul]
      congr 1
      ring
    have hsum : ∑ k, d k * g k * (x k * (r : EReal)) = (∑ k, x k * (d k * g k)) * (r : EReal) := by
      rw [sum_mul_real _ _ hr]
      exact Finset.sum_congr rfl fun k _ => by rw [← mul_assoc, mul_comm (d k * g k) (x k)]
    rw [hd, hc, hs, hsum, div_len, div_len]
    generalize ∑ k, x k * (d k * g k) = s
    have hq : (0 : ℝ) ≤ r * (r * r) / 2 * 1024⁻¹ := by positivity
    have hq' : (0 : EReal) ≤ ((r * (r * r) / 2 * 1024⁻¹ : ℝ) : EReal) := EReal.coe_nonneg.mpr hq
    have ht : s * ((-(r * (r * r) / 2) : ℝ) : EReal) * ((1024⁻¹ : ℝ) : EReal)
        = ((r * (r * r) / 2 * 1024⁻¹ : ℝ) : EReal) * -s := by
      rw [mul_assoc, ← EReal.coe_mul, neg_mul, EReal.coe_neg, mul_neg, mul_neg, mul_comm]
    have hk : x j * (r : EReal) * (s * (r : EReal) * ((1024⁻¹ : ℝ) : EReal)) * (r : EReal)
        = ((r * (r * r) / 2 * 1024⁻¹ + r * (r * r) / 2 * 1024⁻¹ : ℝ) : EReal) * (x j * s) := by
      have e : (r * (r * r) / 2 * 1024⁻¹ + r * (r * r) / 2 * 1024⁻¹ : ℝ) = r * r * 1024⁻¹ * r := by ring
      rw [e, EReal.coe_mul, EReal.coe_mul, EReal.coe_mul]
      ac_rfl
    rw [ht, sub_eq_add_neg, EReal.left_distrib_of_nonneg_of_ne_top (EReal.coe_nonneg.mpr hr) (EReal.coe_ne_top r), mul_neg,
      mul_comm (r : EReal) (x j * _ * _), hk, add_assoc (d j * g j * _), mul_comm (r : EReal)]
    congr 2
    rw [EReal.coe_add, EReal.right_distrib_of_nonneg hq' hq']
    generalize ((r * (r * r) / 2 * 1024⁻¹ : ℝ) : EReal) = q at hq'
    have e1 : x j * (q * -s) = -(q * (x j * s)) := by rw [mul_neg, mul_neg]; congr 1; ac_rfl
    rw [mul_comm (q * -s) (x j), e1, ← EReal.right_distrib_of_nonneg hq' hq', ← mul_neg, ← mul_neg,
      EReal.right_distrib_of_nonneg hq' hq', mul_neg, mul_neg]

end Cert.NormRow

end
-- ==== Proof.NormPoint.lean ====
/-
  What a point of the norm's gradient computes, entry by entry: 128 rows, then the four times 128 rows of a point's block.
  The two calls have the same operations here, so the facts hold of both.
-/
module

public import proofs.«01_k».proof.Proof.NormRow
public import proofs.«01_k».proof.Proof.Indices
public import proofs.«01_k».proof.Proof.Gen.KernelXIdeal.Skeleton
public import Idealize.ShloMosaic.Lib.Tactic
public import Idealize.ShloMosaic.Lib.Ring
public import Idealize.ShloMosaic.Lib.Pipeline.ValueKit.Acc
public import Idealize.ShloMosaic.Lib.Pipeline.ReadBack
public import Idealize.ShloMosaic.Lib.Pipeline.ValueKit.Tiles

@[expose] public section

set_option synthInstance.maxSize 4096

noncomputable section

namespace Cert.NormPoint

open Idealize.ShloMosaic Cert.KernelXIdeal Cert.KernelXIdeal.Gen NormRow

/-- A row of a block. -/
abbrev row {a : ℕ} (x : Vec Ideal (⟨2, ![a, 1024]⟩ : Shape) .f32) (i : Fin a) : Fin 1024 → EReal := fun j => x (ix2 i j)

theorem scale_at (x : Vec Ideal S128x1024 .f32) (i : Fin 128) : k0_pay4 x (ix2 i 0) = scale (row x i) := by
  pointwise [k0_pay4]
  rfl

theorem grad_at (x d : Vec Ideal S128x1024 .f32) (g : Vec Ideal S1x1024 .f32) (e : EReal) (i : Fin 128) (j : Fin 1024) :
    e + k0_pay7 x d g (ix2 i j) = kernelAt (row x i) (row d i) (row g 0) e j := by
  pointwise [k0_pay7, k0_pay5, k0_pay6]
  simp only [scale_at]
  rfl

theorem gain_at (x d : Vec Ideal S128x1024 .f32) (j : Fin 1024) :
    k0_pay8 x d (ix1 j) = ∑ i, d (ix2 i j) * (x (ix2 i j) * scale (row x i)) := by
  pointwise [k0_pay8, k0_pay5, k0_pay6]
  simp only [scale_at]

/-! ## The four parts of a block -/

/-- Part `s` of a block, at an entry. -/
theorem sub_at (X : Vec Ideal S512x1024 .f32) (s : Fin 4) {o : ℕ} (ho : o = s.val * 128)
    (inb : ∀ a, (![o, 0] : Fin 2 → ℕ) a + S128x1024.size a ≤ S512x1024.size a) (i : Fin 128) (j : Fin 1024) :
    View.ld (e' := .f32) (Val := Elt Ideal) X (Rect.unit (s := S512x1024) ![o, 0] S128x1024.size inb) (ix2 i j)
      = X (ix2 (within s i) j) := by
  refine View.ld_unit_apply_of (Val := Elt Ideal) (e := .f32) (S := S512x1024) X _ _ inb (ix2 i j) (ix2 (within s i) j) fun a => ?_
  fin_cases a
  · show (within s i).val = o + i.val
    rw [within_val, ho]
  · exact (Nat.zero_add j.val).symm

theorem sub_row (X : Vec Ideal S512x1024 .f32) (s : Fin 4) {o : ℕ} (ho : o = s.val * 128)
    (inb : ∀ a, (![o, 0] : Fin 2 → ℕ) a + S128x1024.size a ≤ S512x1024.size a) (i : Fin 128) :
    row (View.ld (e' := .f32) (Val := Elt Ideal) X (Rect.unit (s := S512x1024) ![o, 0] S128x1024.size inb)) i
      = row X (within s i) :=
  funext fun j => sub_at X s ho inb i j

/-- The input's gradient: `X` the norm's input, `D` the gradient of its output, `R` the residual path's, `g` the gain. -/
def dxAt (X D R : Vec Ideal S512x1024 .f32) (g : Vec Ideal S1x1024 .f32) (y : S512x1024.Idx) : EReal :=
  kernelAt (row X (y 0)) (row D (y 0)) (row g 0) (R y) (y 1)

/-- What part `s` stores. -/
theorem piece (X D R : Vec Ideal S512x1024 .f32) (g : Vec Ideal S1x1024 .f32) (s : Fin 4) {o : ℕ} (ho : o = s.val * 128)
    (inb : ∀ a, (![o, 0] : Fin 2 → ℕ) a + S128x1024.size a ≤ S512x1024.size a) (x : S128x1024.Idx) :
    k0_pay9 (k0_pay7 (View.ld (e' := .f32) (Val := Elt Ideal) X (Rect.unit (s := S512x1024) ![o, 0] S128x1024.size inb))
      (View.ld (e' := .f32) (Val := Elt Ideal) D (Rect.unit (s := S512x1024) ![o, 0] S128x1024.size inb)) g)
      (View.ld (e' := .f32) (Val := Elt Ideal) R (Rect.unit (s := S512x1024) ![o, 0] S128x1024.size inb)) x
      = dxAt X D R g ((Rect.unit (s := S512x1024) ![o, 0] S128x1024.size inb).emb x) := by
  obtain ⟨i, j, rfl⟩ : ∃ i j, x = ix2 i j := ⟨x 0, x 1, eq_ix2 x _ _ rfl rfl⟩
  have e : (Rect.unit (s := S512x1024) ![o, 0] S128x1024.size inb).emb (ix2 i j) = ix2 (within s i) j :=
    eq_ix2 _ _ _ (by show o + 1 * i.val = (within s i).val; rw [within_val, ho, one_mul])
      (by show 0 + 1 * j.val = j.val; omega)
  rw [e]
  refine (grad_at _ _ g _ i j).trans ?_
  rw [sub_row X s ho, sub_row D s ho, sub_at R s ho]
  rfl

/-- The block of a point, whatever was stored before its four parts. -/
theorem block_at (X D R : Vec Ideal S512x1024 .f32) (g : Vec Ideal S1x1024 .f32)
    (L : List (View.Piece (Elt Ideal) S512x1024 .f32)) (y : S512x1024.Idx) :
    View.canon (Val := Elt Ideal)
      ((⟨Rect.unit (s := S512x1024) ![384, 0] S128x1024.size inb_S512x1024_S128x1024_384_0,
          k0_pay29 (View.ld X (Rect.unit ![384, 0] S128x1024.size inb_S512x1024_S128x1024_384_0))
            (View.ld D (Rect.unit ![384, 0] S128x1024.size inb_S512x1024_S128x1024_384_0)) g
            (View.ld R (Rect.unit ![384, 0] S128x1024.size inb_S512x1024_S128x1024_384_0))⟩ :
          View.Piece (Elt Ideal) S512x1024 .f32)
        :: ⟨Rect.unit (s := S512x1024) ![256, 0] S128x1024.size inb_S512x1024_S128x1024_256_0,
          k0_pay23 (k0_pay21 (View.ld X (Rect.unit ![256, 0] S128x1024.size inb_S512x1024_S128x1024_256_0))
            (View.ld D (Rect.unit ![256, 0] S128x1024.size inb_S512x1024_S128x1024_256_0)) g)
            (View.ld R (Rect.unit ![256, 0] S128x1024.size inb_S512x1024_S128x1024_256_0))⟩
        :: ⟨Rect.unit (s := S512x1024) ![128, 0] S128x1024.size inb_S512x1024_S128x1024_128_0,
          k0_pay16 (k0_pay14 (View.ld X (Rect.unit ![128, 0] S128x1024.size inb_S512x1024_S128x1024_128_0))
            (View.ld D (Rect.unit ![128, 0] S128x1024.size inb_S512x1024_S128x1024_128_0)) g)
            (View.ld R (Rect.unit ![128, 0] S128x1024.size inb_S512x1024_S128x1024_128_0))⟩
        :: ⟨Rect.unit (s := S512x1024) ![0, 0] S128x1024.size inb_S512x1024_S128x1024_0_0,
          k0_pay9 (k0_pay7 (View.ld X (Rect.unit ![0, 0] S128x1024.size inb_S512x1024_S128x1024_0_0))
            (View.ld D (Rect.unit ![0, 0] S128x1024.size inb_S512x1024_S128x1024_0_0)) g)
            (View.ld R (Rect.unit ![0, 0] S128x1024.size inb_S512x1024_S128x1024_0_0))⟩ :: L) y
      = dxAt X D R g y := by
  refine View.canon_append_of_piecesOf (dxAt X D R g) L [_, _, _, _] ?_ y ?_
  · exact ⟨piece X D R g 3 (o := 384) rfl _, piece X D R g 2 (o := 256) rfl _, piece X D R g 1 (o := 128) rfl _,
      piece X D R g 0 (o := 0) rfl _, trivial⟩
  · exact View.cover_of_tiledL (s := S512x1024) _ S128x1024.size (by sl_kernel_rfl) y

/-- The gain's gradient from the rows of a block. -/
def gainOf (X D : Vec Ideal S512x1024 .f32) (j : Fin 1024) : EReal := ∑ i, D (ix2 i j) * (X (ix2 i j) * scale (row X i))

/-- What part `s` adds to it. -/
theorem part_gain (X D : Vec Ideal S512x1024 .f32) (s : Fin 4) {o : ℕ} (ho : o = s.val * 128)
    (inb : ∀ a, (![o, 0] : Fin 2 → ℕ) a + S128x1024.size a ≤ S512x1024.size a) (j : Fin 1024) :
    k0_pay8 (View.ld (e' := .f32) (Val := Elt Ideal) X (Rect.unit (s := S512x1024) ![o, 0] S128x1024.size inb))
      (View.ld (e' := .f32) (Val := Elt Ideal) D (Rect.unit (s := S512x1024) ![o, 0] S128x1024.size inb)) (ix1 j)
      = ∑ i : Fin 128, D (ix2 (within s i) j) * (X (ix2 (within s i) j) * scale (row X (within s i))) := by
  rw [gain_at]
  refine Finset.sum_congr rfl fun i _ => ?_
  rw [sub_row X s ho, sub_at X s ho, sub_at D s ho]

theorem add_at (p : FVec Ideal S1024 .f32) (v : Vec Ideal S1x1024 .f32) (j : Fin 1024) :
    k0_pay10 p v (ix2 0 j) = v (ix2 0 j) + p (ix1 j) := by
  pointwise [k0_pay10]

theorem add_at' (x d : Vec Ideal S128x1024 .f32) (v : Vec Ideal S1x1024 .f32) (j : Fin 1024) :
    k0_pay17 (k0_pay15 x d) v (ix2 0 j) = v (ix2 0 j) + k0_pay8 x d (ix1 j) :=
  add_at (k0_pay8 x d) v j

/-- A point adds the four parts to the gain's gradient. -/
theorem gains_at (X D : Vec Ideal S512x1024 .f32) (v : Vec Ideal S1x1024 .f32) (j : Fin 1024) :
    k0_pay1 (k0_pay28 (View.ld (e' := .f32) (Val := Elt Ideal) X (Rect.unit (s := S512x1024) ![384, 0] S128x1024.size inb_S512x1024_S128x1024_384_0))
        (View.ld (e' := .f32) (Val := Elt Ideal) D (Rect.unit (s := S512x1024) ![384, 0] S128x1024.size inb_S512x1024_S128x1024_384_0)))
      (k0_pay24 (k0_pay22 (View.ld (e' := .f32) (Val := Elt Ideal) X (Rect.unit (s := S512x1024) ![256, 0] S128x1024.size inb_S512x1024_S128x1024_256_0))
          (View.ld (e' := .f32) (Val := Elt Ideal) D (Rect.unit (s := S512x1024) ![256, 0] S128x1024.size inb_S512x1024_S128x1024_256_0)))
        (k0_pay17 (k0_pay15 (View.ld (e' := .f32) (Val := Elt Ideal) X (Rect.unit (s := S512x1024) ![128, 0] S128x1024.size inb_S512x1024_S128x1024_128_0))
            (View.ld (e' := .f32) (Val := Elt Ideal) D (Rect.unit (s := S512x1024) ![128, 0] S128x1024.size inb_S512x1024_S128x1024_128_0)))
          (k0_pay10 (k0_pay8 (View.ld (e' := .f32) (Val := Elt Ideal) X (Rect.unit (s := S512x1024) ![0, 0] S128x1024.size inb_S512x1024_S128x1024_0_0))
            (View.ld (e' := .f32) (Val := Elt Ideal) D (Rect.unit (s := S512x1024) ![0, 0] S128x1024.size inb_S512x1024_S128x1024_0_0))) v)))
      (ix2 0 j) = v (ix2 0 j) + gainOf X D j := by
  refine (add_at' _ _ _ j).trans ?_
  refine (congrArg (· + _) ((add_at' _ _ _ j).trans (congrArg (· + _) ((add_at' _ _ _ j).trans
    (congrArg (· + _) (add_at _ _ j)))))).trans ?_
  rw [part_gain X D 3 (o := 384) rfl, part_gain X D 2 (o := 256) rfl, part_gain X D 1 (o := 128) rfl, part_gain X D 0 (o := 0) rfl]
  unfold gainOf
  rw [sum_blocks 4 128, Fin.sum_univ_four]
  simp only [add_assoc]

theorem zero_at (j : Fin 1024) : k0_pay2 (F := Ideal) (ix2 0 j) = 0 := by
  pointwise [k0_pay2]

end Cert.NormPoint

end
-- ==== Proof.NormRef.lean ====
/-
  The reference's gradients through the norm, over the gradient `d` of the norm's output, entry by entry.
-/
module

public import proofs.«01_k».proof.Proof.NormRow
public import proofs.«01_k».proof.Proof.Indices
public import proofs.«01_k».proof.Proof.Gen.ReferenceXIdeal.Run

@[expose] public section

set_option synthInstance.maxSize 4096

noncomputable section

namespace Cert.NormRef

open Idealize.ShloMosaic Idealize.ShloMosaic.TcCoe Cert.ReferenceXIdeal Cert.ReferenceXIdeal.Facts₀ NormRow

/-- A row of a whole array. -/
abbrev row {a : ℕ} (x : Vec Ideal (⟨2, ![a, 1024]⟩ : Shape) .f32) (i : Fin a) : Fin 1024 → EReal := fun j => x (ix2 i j)

/-- The rows' mean squares, with the constant added; -/
def mean (x : FVec Ideal S4096x1024 .f32) : FVec Ideal S4096x1 .f32 :=
  addf (Host.divf (broadcastInDim S4096x1 ![0] bcast_S4096_S4096x1_0 (Host.reduceAdd (mulf x x)
    (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

/-- the gain, for every row; -/
def gain (g : FVec Ideal S1x1024 .f32) : FVec Ideal S4096x1024 .f32 :=
  broadcastInDim S4096x1024 ![0, 1] bcast_S1x1024_S4096x1024_0_1 (broadcastInDim S1x1024 ![1] bcast_S1024_S1x1024_1
    (shapeCast _ g shapeCasts_S1x1024_S1024))

/-- what comes back through the rows' scales; -/
def back (d x : FVec Ideal S4096x1024 .f32) (g : FVec Ideal S1x1024 .f32) : FVec Ideal S4096 .f32 :=
  Host.reduceAdd (Host.divf (mulf (shapeCast _ (Host.reduceAdd (mulf x (mulf d (gain g))) (constant S_ .f32 0x00000000#32)
      reducesTo_S4096x1024_S4096_d1 h_S_) shapeCasts_S4096_S4096x1)
    (mulf (broadcastInDim S4096x1 ![] bcast_S_S4096x1 (constant S_ .f32 0xBF000000#32))
      (Host.divf (Host.rsqrt (mean x)) (mean x))))
    (broadcastInDim S4096x1 ![] bcast_S_S4096x1 (constant S_ .f32 0x44800000#32)))
    (constant S_ .f32 0x00000000#32) reducesTo_S4096x1_S4096_d1 h_S_

/-- the input's gradient, added to the residual path's; -/
def inputGrad (d x : FVec Ideal S4096x1024 .f32) (g : FVec Ideal S1x1024 .f32) (e : FVec Ideal S4096x1024 .f32) :
    FVec Ideal S4096x1024 .f32 :=
  addf e (addf (addf
    (mulf (mulf d (gain g)) (broadcastInDim S4096x1024 ![0, 1] bcast_S4096x1_S4096x1024_0_1 (Host.rsqrt (mean x))))
    (mulf x (broadcastInDim S4096x1024 ![0] bcast_S4096_S4096x1024_0 (back d x g))))
    (mulf (broadcastInDim S4096x1024 ![0] bcast_S4096_S4096x1024_0 (back d x g)) x))

/-- the gain's gradient. -/
def gainGrad (d x : FVec Ideal S4096x1024 .f32) : FVec Ideal S1x1024 .f32 :=
  broadcastInDim S1x1024 ![1] bcast_S1024_S1x1024_1 (Host.reduceAdd (shapeCast _ (Host.reduceAdd
    (mulf (mulf x (broadcastInDim S4096x1024 ![0, 1] bcast_S4096x1_S4096x1024_0_1 (Host.rsqrt (mean x)))) d)
    (constant S_ .f32 0x00000000#32) reducesTo_S4096x1024_S1024_d0 h_S_) shapeCasts_S1024_S1x1024)
    (constant S_ .f32 0x00000000#32) reducesTo_S1x1024_S1024_d0 h_S_)

theorem mean_at (x : FVec Ideal S4096x1024 .f32) (i : Fin 4096) : mean x (ix2 i 0) = meanSq (row x i) := by
  pointwise [mean]
  rfl

theorem gain_at (g : FVec Ideal S1x1024 .f32) (i : Fin 4096) (j : Fin 1024) : gain g (ix2 i j) = row g 0 j := by
  pointwise [gain]

theorem back_at (d x : FVec Ideal S4096x1024 .f32) (g : FVec Ideal S1x1024 .f32) (i : Fin 4096) :
    back d x g (ix1 i) = through (row x i) (row d i) (row g 0) := by
  pointwise [back]
  rw [Fin.sum_univ_one]
  simp only [mean_at, gain_at]
  rfl

theorem inputGrad_at (d x : FVec Ideal S4096x1024 .f32) (g : FVec Ideal S1x1024 .f32) (e : FVec Ideal S4096x1024 .f32)
    (i : Fin 4096) (j : Fin 1024) :
    inputGrad d x g e (ix2 i j) = plainAt (row x i) (row d i) (row g 0) (e (ix2 i j)) j := by
  pointwise [inputGrad]
  simp only [mean_at, gain_at, back_at]
  rfl

theorem gainGrad_at (d x : FVec Ideal S4096x1024 .f32) (j : Fin 1024) :
    gainGrad d x (ix2 0 j) = ∑ i, d (ix2 i j) * (x (ix2 i j) * scale (row x i)) := by
  pointwise [gainGrad]
  rw [Fin.sum_univ_one]
  simp only [mean_at]
  exact Finset.sum_congr rfl fun i _ => mul_comm (_ : EReal) _

end Cert.NormRef

end
-- ==== Proof.NormX.lean ====
/-
  The gradient of the mixer's input through the norm and the projections: each of eight points takes 512 rows, forms the
  gradient of the norm's output as a product with the projections' weights, and from it the rows' input gradients and their
  part of the gain's gradient.
-/
module

public import proofs.«01_k».proof.Proof.NormPoint
public import proofs.«01_k».proof.Proof.NormRef
public import proofs.«01_k».proof.Proof.Gen.KernelXIdeal.Value
public import proofs.«01_k».proof.Proof.Gen.ReferenceXIdeal.Run
public import Idealize.ShloMosaic.Lib.StableHlo.RunRead

@[expose] public section

set_option synthInstance.maxSize 4096

noncomputable section

namespace Cert.NormX

open Idealize.ShloMosaic Idealize.ShloMosaic.TcCoe Cert.KernelXIdeal Cert.KernelXIdeal.Gen NormRow NormPoint

/-- An index of one row. -/
theorem eq_row (y : S1x1024.Idx) : y = ix2 0 (y 1) := by
  have h : (y 0).val < 1 := (y 0).isLt
  exact eq_ix2 y _ _ (by show (y 0).val = 0; omega) rfl

variable (m : (ℓ : Loc nD τ sig) → Buf (Elt Ideal) ℓ) (c : Dev nD)

/-! ## What a point computes -/

theorem prod_at (a : Vec Ideal S512x3200 .bf16) (b : Vec Ideal S1024x3200 .bf16) (i : Fin 512) (j : Fin 1024) :
    k0_pay3 a b (ix2 i j) = ∑ k : Fin 3200, a (ix2 i k) * b (ix2 j k) := by
  pointwise [k0_pay3]

/-- A point's gradient of the norm's output. -/
def grad (t : Fin cfg0.N) : Vec Ideal S512x1024 .f32 := k0_pay3 (iblk m c 0 t) (iblk m c 1 t)

theorem zeros : ∀ a, (![0, 0] : Fin 2 → ℕ) a = 0 := by decide

/-- What a point stores. -/
theorem stored (t : Fin cfg0.N) (y : S512x1024.Idx) :
    (outsAt0 m c t.val t.isLt).1 y = dxAt (iblk m c 2 t) (grad m c t) (iblk m c 4 t) (iblk m c 3 t) y := by
  by_cases h : t.val % 8 = 0
  · rw [outsAt0_A m c t h]
    frame_out
    simp (disch := first | decide | exact zeros) only [↓View.readCov_skip, ↓View.readCov_fill]
    exact block_at (iblk m c 2 t) (grad m c t) (iblk m c 4 t) (iblk m c 3 t) _ y
  · rw [outsAt0_B m c t h]
    frame_out
    simp (disch := first | decide | exact zeros) only [↓View.readCov_skip, ↓View.readCov_fill]
    exact block_at (iblk m c 2 t) (grad m c t) (iblk m c 4 t) (iblk m c 3 t) _ y

/-- What a point adds to the gain's gradient. -/
def part (t : Fin cfg0.N) (y : S1x1024.Idx) : EReal := gainOf (iblk m c 2 t) (grad m c t) (y 1)

/-- The gain's gradient after the last point. -/
theorem gains (t : Fin cfg0.N) (h : t.val % 8 = 8 - 1) (y : S1x1024.Idx) :
    (outsAt0 m c t.val t.isLt).2 y
      = 0 + ∑ s : Fin 8, part m c ⟨8 * (t.val / 8) + s.val, Pipeline.run_point_lt_of_flush t h s⟩ y := by
  rw [Pipeline.eq_sum_fin_of_reset_step_apply_of_flush (fun n h => (outsAt0 m c n h).2) 8 (fun _ => (0 : EReal)) (part m c)
    (fun t h y => by
      obtain ⟨j, rfl⟩ : ∃ j, y = ix2 0 j := ⟨y 1, eq_row y⟩
      rw [outsAt0_A m c t h]
      frame_out
      simp (disch := first | decide | exact zeros) only [↓View.readCov_skip, ↓View.readCov_fill]
      refine (gains_at (iblk m c 2 t) (grad m c t) _ j).trans ?_
      exact congrArg (· + _) (zero_at j))
    (fun t h y => by
      obtain ⟨j, rfl⟩ : ∃ j, y = ix2 0 j := ⟨y 1, eq_row y⟩
      rw [outsAt0_B m c t h]
      frame_out
      simp (disch := first | decide | exact zeros) only [↓View.readCov_skip, ↓View.readCov_fill]
      exact gains_at (iblk m c 2 t) (grad m c t) _ j) t h y]

/-! ## The blocks of the arguments -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-- The weights, with 120 columns of zeros appended. -/
abbrev wide (b : Vec Ideal S1024x3080 .bf16) : Vec Ideal S1024x3200 .bf16 :=
  pad S1024x3200 ![0, 0] ![0, 120] ![0, 0] b (sitofp (F := Ideal) .bf16 (constantI S_ 32 0#32))
    pads_S1024x3080_S1024x3200_000_01200 h_S_

theorem V_v0 : V m c main_v0 = wide (m ((c : Thread nD τ).loc main_arg1)) := by
  simp only [V, hostOps0, hostOps0_1, List.flatten_cons, List.flatten_nil, List.append_nil, List.cons_append, List.nil_append]
  after_reads_simp
  rfl

theorem wide_at (b : Vec Ideal S1024x3080 .bf16) (j : Fin 1024) (k : Fin 3080) :
    wide b (ix2 j (Fin.castAdd 120 k)) = b (ix2 j k) := by
  pointwise [wide]
  exact dif_pos k.isLt

theorem wide_zero (b : Vec Ideal S1024x3080 .bf16) (j : Fin 1024) (k : Fin 120) :
    wide b (ix2 j (Fin.natAdd 3080 k)) = 0 := by
  pointwise [wide]
  rw [dif_neg (by show ¬ 3080 + k.val < 3080; omega)]
  show (((0#32 : BitVec 32).toInt : ℝ) : EReal) = 0
  simp

/-! ## The gradient of the norm's output, on both sides -/

/-- The reference's: the product of the first 3080 columns. -/
abbrev plain (a : Vec Ideal S4096x3200 .bf16) (b : Vec Ideal S1024x3080 .bf16) : FVec Ideal S4096x1024 .f32 :=
  Host.dotGeneral (F := Ideal) (φ₁ := .f32) (φ₂ := .f32)
    Cert.ReferenceXIdeal.dot_S4096x3080_S1024x3080_S4096x1024_1_1_0_0_n_n none
    (extf .f32 (extractStridedSlice Cert.ReferenceXIdeal.S4096x3080 ![0, 0] a
      Cert.ReferenceXIdeal.Facts₀.slices_S4096x3200_S4096x3080_0_0) Cert.ReferenceXIdeal.Facts₀.bitsLt_bf16_f32)
    (extf .f32 b Cert.ReferenceXIdeal.Facts₀.bitsLt_bf16_f32)

theorem plain_at (a : Vec Ideal S4096x3200 .bf16) (b : Vec Ideal S1024x3080 .bf16) (i : Fin 4096) (j : Fin 1024) :
    plain a b (ix2 i j) = ∑ k : Fin 3080, a (ix2 i (Fin.castAdd 120 k)) * b (ix2 j k) := by
  pointwise [plain]
  rfl

/-- The padding adds nothing. -/
theorem sum_wide (a : Vec Ideal S4096x3200 .bf16) (b : Vec Ideal S1024x3080 .bf16) (i : Fin 4096) (j : Fin 1024) :
    ∑ k : Fin 3200, a (ix2 i k) * wide b (ix2 j k) = plain a b (ix2 i j) := by
  rw [plain_at]
  refine (Fin.sum_univ_add (a := 3080) (b := 120) fun k => (a (ix2 i k) * wide b (ix2 j k) : EReal)).trans ?_
  rw [Finset.sum_congr rfl fun (k : Fin 3080) _ => congrArg (fun q : EReal => a (ix2 i (Fin.castAdd 120 k)) * q) (wide_at b j k),
    Finset.sum_congr rfl fun (k : Fin 120) _ => congrArg (fun q : EReal => a (ix2 i (Fin.natAdd 3080 k)) * q) (wide_zero b j k)]
  simp

/-- The arguments: the projections' gradient, the weights, the norm's input, its gain, the residual path's gradient. -/
abbrev argP : Vec Ideal S4096x3200 .bf16 := m ((c : Thread nD τ).loc main_arg0)
abbrev argW : Vec Ideal S1024x3080 .bf16 := m ((c : Thread nD τ).loc main_arg1)
abbrev argX : Vec Ideal S4096x1024 .f32 := m ((c : Thread nD τ).loc main_arg2)
abbrev argG : Vec Ideal S1x1024 .f32 := m ((c : Thread nD τ).loc main_arg3)
abbrev argR : Vec Ideal S4096x1024 .f32 := m ((c : Thread nD τ).loc main_arg4)

variable (t : Fin cfg0.N) (s : Fin 8) (hs : t.val = s.val)

include hs in
theorem grad_at (i : Fin 512) (j : Fin 1024) :
    grad m c t (ix2 i j) = plain (argP m c) (argW m c) (ix2 (within s i) j) := by
  rw [← sum_wide]
  refine (prod_at _ _ i j).trans (Finset.sum_congr rfl fun k _ => congrArg₂ (fun p q : EReal => p * q) ?_ ?_)
  · exact (congrFun (V_main_arg0 m c) _).trans (congrArg (argP m c)
      (eq_ix2 (((cfg0.win 0).blk t).view.emb (ix2 i k)) (within s i) k (pos_eq s ((idx0 t).1.trans hs) i) (at_zero (idx0 t).2)))
  · exact (congrFun (V_v0 m c) _).trans (congrArg (wide (argW m c))
      (eq_ix2 (((cfg0.win 1).blk t).view.emb (ix2 j k)) j k (at_zero (idx1 t).1) (at_zero (idx1 t).2)))

include hs in
theorem x_at (i : Fin 512) (j : Fin 1024) : iblk m c 2 t (ix2 i j) = argX m c (ix2 (within s i) j) :=
  (congrFun (V_main_arg2 m c) _).trans (congrArg (argX m c)
    (eq_ix2 (((cfg0.win 2).blk t).view.emb (ix2 i j)) (within s i) j (pos_eq s ((idx2 t).1.trans hs) i) (at_zero (idx2 t).2)))

theorem g_at (j : Fin 1024) : iblk m c 3 t (ix2 0 j) = argG m c (ix2 0 j) :=
  (congrFun (V_main_arg3 m c) _).trans (congrArg (argG m c)
    (eq_ix2 (((cfg0.win 3).blk t).view.emb (ix2 0 j)) 0 j (at_zero (idx3 t).1) (at_zero (idx3 t).2)))

include hs in
theorem r_at (i : Fin 512) (j : Fin 1024) : iblk m c 4 t (ix2 i j) = argR m c (ix2 (within s i) j) :=
  (congrFun (V_main_arg4 m c) _).trans (congrArg (argR m c)
    (eq_ix2 (((cfg0.win 4).blk t).view.emb (ix2 i j)) (within s i) j (pos_eq s ((idx4 t).1.trans hs) i) (at_zero (idx4 t).2)))

/-! ## The whole arrays -/

/-- The input's gradient: the reference's. -/
theorem input_at (i : Fin 4096) (j : Fin 1024) :
    (dats m 0 c).arrAt 5 cfg0.N (ix2 i j)
      = NormRef.inputGrad (plain (argP m c) (argW m c)) (argX m c) (argG m c) (argR m c) (ix2 i j) := by
  obtain ⟨s, i, rfl⟩ := exists_within (a := 8) (n := 512) i
  let t : Fin cfg0.N := ⟨s.val, lt_of_lt_of_eq s.isLt N_0.symm⟩
  have e := congrFun ((Value.blocks5 m c t (flush0_5 t)).trans (Value.flushed5 m c t)) (ix2 i j)
  have e2 : ((cfg0.win 5).blk t).view.emb (ix2 i j) = ix2 (within s i) j :=
    eq_ix2 _ _ _ (pos_eq s (idx5 t).1 i) (at_zero (idx5 t).2)
  refine Eq.trans ?_ (e.trans ((stored m c t (ix2 i j)).trans ?_))
  · show _ = (dats m 0 c).arrAt 5 cfg0.N (((cfg0.win 5).blk t).view.emb (ix2 i j))
    rw [e2]
  · rw [NormRef.inputGrad_at, ← kernelAt_eq_plainAt]
    show kernelAt (row (iblk m c 2 t) i) (row (grad m c t) i) (row (iblk m c 3 t) 0) (iblk m c 4 t (ix2 i j)) j = _
    have hx : row (iblk m c 2 t) i = NormRef.row (argX m c) (within s i) := funext fun k => x_at m c t s rfl i k
    have hd : row (grad m c t) i = NormRef.row (plain (argP m c) (argW m c)) (within s i) := funext fun k => grad_at m c t s rfl i k
    have hg : row (iblk m c 3 t) 0 = NormRef.row (argG m c) 0 := funext fun k => g_at m c t k
    rw [hx, hd, hg, r_at m c t s rfl i j]

theorem disjoint : ∀ t t' : Fin cfg0.N, (cfg0.win 6).flush t = true → (cfg0.win 6).flush t' = true → t ≠ t' →
    Disjoint ((cfg0.win 6).blk t).view.set ((cfg0.win 6).blk t').view.set := by
  intro t t' h h' hne
  have := (flush0_6 t).mp h
  have := (flush0_6 t').mp h'
  have := lt_of_lt_of_eq t.isLt N_0
  have := lt_of_lt_of_eq t'.isLt N_0
  exact absurd (Fin.ext (by omega)) hne

include hs in
theorem part_eq (j : Fin 1024) : part m c t (ix2 0 j)
    = ∑ i : Fin 512, plain (argP m c) (argW m c) (ix2 (within s i) j)
      * (argX m c (ix2 (within s i) j) * scale (NormRef.row (argX m c) (within s i))) := by
  unfold part gainOf
  refine Finset.sum_congr rfl fun i _ => ?_
  have hx : row (iblk m c 2 t) i = NormRef.row (argX m c) (within s i) := funext fun k => x_at m c t s hs i k
  exact congrArg₂ (fun p q : EReal => p * q) (grad_at m c t s hs i j)
    (congrArg₂ (fun p q : EReal => p * q) (x_at m c t s hs i j) (congrArg scale hx))

/-- The gain's gradient: the reference's. -/
theorem gain_at (j : Fin 1024) :
    (dats m 0 c).arrAt 6 cfg0.N (ix2 0 j) = NormRef.gainGrad (plain (argP m c) (argW m c)) (argX m c) (ix2 0 j) := by
  let t : Fin cfg0.N := ⟨7, lt_of_lt_of_eq (by decide) N_0.symm⟩
  have hf : (cfg0.win 6).flush t = true := (flush0_6 t).mpr rfl
  have e := congrFun (((dats m 0 c).read_blk_arrAt_eq_flushed 6 disjoint cfg0.N t t.isLt hf).trans (Value.flushed6 m c t)) (ix2 0 j)
  have e2 : ((cfg0.win 6).blk t).view.emb (ix2 0 j) = ix2 0 j := eq_ix2 _ _ _ (at_zero (idx6 t).1) (at_zero (idx6 t).2)
  refine Eq.trans ?_ (e.trans ((gains m c t rfl (ix2 0 j)).trans ?_))
  · show _ = (dats m 0 c).arrAt 6 cfg0.N (((cfg0.win 6).blk t).view.emb (ix2 0 j))
    rw [e2]
  · rw [zero_add, NormRef.gainGrad_at, sum_blocks 8 512]
    refine Finset.sum_congr rfl fun s _ => part_eq m c _ s ?_ j
    show 8 * (7 / 8) + s.val = s.val
    omega

/-- The kernel's whole arrays are the reference's. -/
theorem input_equal : ((dats m 0 c).arrAt 5 cfg0.N : Vec Ideal S4096x1024 .f32)
    = NormRef.inputGrad (plain (argP m c) (argW m c)) (argX m c) (argG m c) (argR m c) := by
  funext y
  obtain ⟨i, j, rfl⟩ : ∃ i j, y = ix2 i j := ⟨y 0, y 1, eq_ix2 y _ _ rfl rfl⟩
  exact input_at m c i j

theorem gain_equal : ((dats m 0 c).arrAt 6 cfg0.N : Vec Ideal S1x1024 .f32)
    = NormRef.gainGrad (plain (argP m c) (argW m c)) (argX m c) := by
  funext y
  obtain ⟨j, rfl⟩ : ∃ j, y = ix2 0 j := ⟨y 1, eq_row y⟩
  exact gain_at m c j

end Cert.NormX

end
-- ==== Proof.NormH.lean ====
/-
  The gradient of the feed-forward part's input through the norm and the first product: each of eight points takes 512 rows,
  forms the gradient of the norm's output as a product with the weights, and from it the rows' input gradients and their
  part of the gain's gradient.
-/
module

public import proofs.«01_k».proof.Proof.NormPoint
public import proofs.«01_k».proof.Proof.NormRef
public import proofs.«01_k».proof.Proof.Gen.KernelHIdeal.Value
public import proofs.«01_k».proof.Proof.Gen.ReferenceHIdeal.Run

@[expose] public section

set_option synthInstance.maxSize 4096

noncomputable section

namespace Cert.NormH

open Idealize.ShloMosaic Idealize.ShloMosaic.TcCoe Cert.KernelHIdeal Cert.KernelHIdeal.Gen NormRow NormPoint

/-- An index of one row. -/
theorem eq_row (y : S1x1024.Idx) : y = ix2 0 (y 1) := by
  have h : (y 0).val < 1 := (y 0).isLt
  exact eq_ix2 y _ _ (by show (y 0).val = 0; omega) rfl

variable (m : (ℓ : Loc nD τ sig) → Buf (Elt Ideal) ℓ) (c : Dev nD)

/-! ## What a point computes -/

theorem prod_at (a : Vec Ideal S512x5632 .bf16) (b : Vec Ideal S1024x5632 .bf16) (i : Fin 512) (j : Fin 1024) :
    k0_pay3 a b (ix2 i j) = ∑ k : Fin 5632, a (ix2 i k) * b (ix2 j k) := by
  pointwise [k0_pay3]

/-- A point's gradient of the norm's output. -/
def grad (t : Fin cfg0.N) : Vec Ideal S512x1024 .f32 := k0_pay3 (iblk m c 0 t) (iblk m c 1 t)

theorem zeros : ∀ a, (![0, 0] : Fin 2 → ℕ) a = 0 := by decide

/-- What a point stores. -/
theorem stored (t : Fin cfg0.N) (y : S512x1024.Idx) :
    (outsAt0 m c t.val t.isLt).1 y = dxAt (iblk m c 2 t) (grad m c t) (iblk m c 4 t) (iblk m c 3 t) y := by
  by_cases h : t.val % 8 = 0
  · rw [outsAt0_A m c t h]
    frame_out
    simp (disch := first | decide | exact zeros) only [↓View.readCov_skip, ↓View.readCov_fill]
    exact block_at (iblk m c 2 t) (grad m c t) (iblk m c 4 t) (iblk m c 3 t) _ y
  · rw [outsAt0_B m c t h]
    frame_out
    simp (disch := first | decide | exact zeros) only [↓View.readCov_skip, ↓View.readCov_fill]
    exact block_at (iblk m c 2 t) (grad m c t) (iblk m c 4 t) (iblk m c 3 t) _ y

/-- What a point adds to the gain's gradient. -/
def part (t : Fin cfg0.N) (y : S1x1024.Idx) : EReal := gainOf (iblk m c 2 t) (grad m c t) (y 1)

/-- The gain's gradient after the last point. -/
theorem gains (t : Fin cfg0.N) (h : t.val % 8 = 8 - 1) (y : S1x1024.Idx) :
    (outsAt0 m c t.val t.isLt).2 y
      = 0 + ∑ s : Fin 8, part m c ⟨8 * (t.val / 8) + s.val, Pipeline.run_point_lt_of_flush t h s⟩ y := by
  rw [Pipeline.eq_sum_fin_of_reset_step_apply_of_flush (fun n h => (outsAt0 m c n h).2) 8 (fun _ => (0 : EReal)) (part m c)
    (fun t h y => by
      obtain ⟨j, rfl⟩ : ∃ j, y = ix2 0 j := ⟨y 1, eq_row y⟩
      rw [outsAt0_A m c t h]
      frame_out
      simp (disch := first | decide | exact zeros) only [↓View.readCov_skip, ↓View.readCov_fill]
      refine (gains_at (iblk m c 2 t) (grad m c t) _ j).trans ?_
      exact congrArg (· + _) (zero_at j))
    (fun t h y => by
      obtain ⟨j, rfl⟩ : ∃ j, y = ix2 0 j := ⟨y 1, eq_row y⟩
      rw [outsAt0_B m c t h]
      frame_out
      simp (disch := first | decide | exact zeros) only [↓View.readCov_skip, ↓View.readCov_fill]
      exact gains_at (iblk m c 2 t) (grad m c t) _ j) t h y]

/-! ## The blocks of the arguments -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! ## The gradient of the norm's output, on both sides -/

/-- The reference's product. -/
abbrev plain (a : Vec Ideal S4096x5632 .bf16) (b : Vec Ideal S1024x5632 .bf16) : FVec Ideal S4096x1024 .f32 :=
  Host.dotGeneral (F := Ideal) (φ₁ := .f32) (φ₂ := .f32)
    Cert.ReferenceHIdeal.dot_S4096x5632_S1024x5632_S4096x1024_1_1_0_0_n_n none
    (extf .f32 a Cert.ReferenceHIdeal.Facts₀.bitsLt_bf16_f32)
    (extf .f32 b Cert.ReferenceHIdeal.Facts₀.bitsLt_bf16_f32)

theorem plain_at (a : Vec Ideal S4096x5632 .bf16) (b : Vec Ideal S1024x5632 .bf16) (i : Fin 4096) (j : Fin 1024) :
    plain a b (ix2 i j) = ∑ k : Fin 5632, a (ix2 i k) * b (ix2 j k) := by
  pointwise [plain]

/-- The arguments: the products' gradient, the weights, the norm's input, its gain, the residual path's gradient. -/
abbrev argP : Vec Ideal S4096x5632 .bf16 := m ((c : Thread nD τ).loc main_arg0)
abbrev argW : Vec Ideal S1024x5632 .bf16 := m ((c : Thread nD τ).loc main_arg1)
abbrev argX : Vec Ideal S4096x1024 .f32 := m ((c : Thread nD τ).loc main_arg2)
abbrev argG : Vec Ideal S1x1024 .f32 := m ((c : Thread nD τ).loc main_arg3)
abbrev argR : Vec Ideal S4096x1024 .f32 := m ((c : Thread nD τ).loc main_arg4)

variable (t : Fin cfg0.N) (s : Fin 8) (hs : t.val = s.val)

include hs in
theorem grad_at (i : Fin 512) (j : Fin 1024) :
    grad m c t (ix2 i j) = plain (argP m c) (argW m c) (ix2 (within s i) j) := by
  rw [plain_at]
  refine (prod_at _ _ i j).trans (Finset.sum_congr rfl fun k _ => congrArg₂ (fun p q : EReal => p * q) ?_ ?_)
  · exact (congrFun (V_main_arg0 m c) _).trans (congrArg (argP m c)
      (eq_ix2 (((cfg0.win 0).blk t).view.emb (ix2 i k)) (within s i) k (pos_eq s ((idx0 t).1.trans hs) i) (at_zero (idx0 t).2)))
  · exact (congrFun (V_main_arg1 m c) _).trans (congrArg (argW m c)
      (eq_ix2 (((cfg0.win 1).blk t).view.emb (ix2 j k)) j k (at_zero (idx1 t).1) (at_zero (idx1 t).2)))

include hs in
theorem x_at (i : Fin 512) (j : Fin 1024) : iblk m c 2 t (ix2 i j) = argX m c (ix2 (within s i) j) :=
  (congrFun (V_main_arg2 m c) _).trans (congrArg (argX m c)
    (eq_ix2 (((cfg0.win 2).blk t).view.emb (ix2 i j)) (within s i) j (pos_eq s ((idx2 t).1.trans hs) i) (at_zero (idx2 t).2)))

theorem g_at (j : Fin 1024) : iblk m c 3 t (ix2 0 j) = argG m c (ix2 0 j) :=
  (congrFun (V_main_arg3 m c) _).trans (congrArg (argG m c)
    (eq_ix2 (((cfg0.win 3).blk t).view.emb (ix2 0 j)) 0 j (at_zero (idx3 t).1) (at_zero (idx3 t).2)))

include hs in
theorem r_at (i : Fin 512) (j : Fin 1024) : iblk m c 4 t (ix2 i j) = argR m c (ix2 (within s i) j) :=
  (congrFun (V_main_arg4 m c) _).trans (congrArg (argR m c)
    (eq_ix2 (((cfg0.win 4).blk t).view.emb (ix2 i j)) (within s i) j (pos_eq s ((idx4 t).1.trans hs) i) (at_zero (idx4 t).2)))

/-! ## The whole arrays -/

/-- The input's gradient: the reference's. -/
theorem input_at (i : Fin 4096) (j : Fin 1024) :
    (dats m 0 c).arrAt 5 cfg0.N (ix2 i j)
      = NormRef.inputGrad (plain (argP m c) (argW m c)) (argX m c) (argG m c) (argR m c) (ix2 i j) := by
  obtain ⟨s, i, rfl⟩ := exists_within (a := 8) (n := 512) i
  let t : Fin cfg0.N := ⟨s.val, lt_of_lt_of_eq s.isLt N_0.symm⟩
  have e := congrFun ((Value.blocks5 m c t (flush0_5 t)).trans (Value.flushed5 m c t)) (ix2 i j)
  have e2 : ((cfg0.win 5).blk t).view.emb (ix2 i j) = ix2 (within s i) j :=
    eq_ix2 _ _ _ (pos_eq s (idx5 t).1 i) (at_zero (idx5 t).2)
  refine Eq.trans ?_ (e.trans ((stored m c t (ix2 i j)).trans ?_))
  · show _ = (dats m 0 c).arrAt 5 cfg0.N (((cfg0.win 5).blk t).view.emb (ix2 i j))
    rw [e2]
  · rw [NormRef.inputGrad_at, ← kernelAt_eq_plainAt]
    show kernelAt (row (iblk m c 2 t) i) (row (grad m c t) i) (row (iblk m c 3 t) 0) (iblk m c 4 t (ix2 i j)) j = _
    have hx : row (iblk m c 2 t) i = NormRef.row (argX m c) (within s i) := funext fun k => x_at m c t s rfl i k
    have hd : row (grad m c t) i = NormRef.row (plain (argP m c) (argW m c)) (within s i) := funext fun k => grad_at m c t s rfl i k
    have hg : row (iblk m c 3 t) 0 = NormRef.row (argG m c) 0 := funext fun k => g_at m c t k
    rw [hx, hd, hg, r_at m c t s rfl i j]

theorem disjoint : ∀ t t' : Fin cfg0.N, (cfg0.win 6).flush t = true → (cfg0.win 6).flush t' = true → t ≠ t' →
    Disjoint ((cfg0.win 6).blk t).view.set ((cfg0.win 6).blk t').view.set := by
  intro t t' h h' hne
  have := (flush0_6 t).mp h
  have := (flush0_6 t').mp h'
  have := lt_of_lt_of_eq t.isLt N_0
  have := lt_of_lt_of_eq t'.isLt N_0
  exact absurd (Fin.ext (by omega)) hne

include hs in
theorem part_eq (j : Fin 1024) : part m c t (ix2 0 j)
    = ∑ i : Fin 512, plain (argP m c) (argW m c) (ix2 (within s i) j)
      * (argX m c (ix2 (within s i) j) * scale (NormRef.row (argX m c) (within s i))) := by
  unfold part gainOf
  refine Finset.sum_congr rfl fun i _ => ?_
  have hx : row (iblk m c 2 t) i = NormRef.row (argX m c) (within s i) := funext fun k => x_at m c t s hs i k
  exact congrArg₂ (fun p q : EReal => p * q) (grad_at m c t s hs i j)
    (congrArg₂ (fun p q : EReal => p * q) (x_at m c t s hs i j) (congrArg scale hx))

/-- The gain's gradient: the reference's. -/
theorem gain_at (j : Fin 1024) :
    (dats m 0 c).arrAt 6 cfg0.N (ix2 0 j) = NormRef.gainGrad (plain (argP m c) (argW m c)) (argX m c) (ix2 0 j) := by
  let t : Fin cfg0.N := ⟨7, lt_of_lt_of_eq (by decide) N_0.symm⟩
  have hf : (cfg0.win 6).flush t = true := (flush0_6 t).mpr rfl
  have e := congrFun (((dats m 0 c).read_blk_arrAt_eq_flushed 6 disjoint cfg0.N t t.isLt hf).trans (Value.flushed6 m c t)) (ix2 0 j)
  have e2 : ((cfg0.win 6).blk t).view.emb (ix2 0 j) = ix2 0 j := eq_ix2 _ _ _ (at_zero (idx6 t).1) (at_zero (idx6 t).2)
  refine Eq.trans ?_ (e.trans ((gains m c t rfl (ix2 0 j)).trans ?_))
  · show _ = (dats m 0 c).arrAt 6 cfg0.N (((cfg0.win 6).blk t).view.emb (ix2 0 j))
    rw [e2]
  · rw [zero_add, NormRef.gainGrad_at, sum_blocks 8 512]
    refine Finset.sum_congr rfl fun s _ => part_eq m c _ s ?_ j
    show 8 * (7 / 8) + s.val = s.val
    omega

/-- The kernel's whole arrays are the reference's. -/
theorem input_equal : ((dats m 0 c).arrAt 5 cfg0.N : Vec Ideal S4096x1024 .f32)
    = NormRef.inputGrad (plain (argP m c) (argW m c)) (argX m c) (argG m c) (argR m c) := by
  funext y
  obtain ⟨i, j, rfl⟩ : ∃ i j, y = ix2 i j := ⟨y 0, y 1, eq_ix2 y _ _ rfl rfl⟩
  exact input_at m c i j

theorem gain_equal : ((dats m 0 c).arrAt 6 cfg0.N : Vec Ideal S1x1024 .f32)
    = NormRef.gainGrad (plain (argP m c) (argW m c)) (argX m c) := by
  funext y
  obtain ⟨j, rfl⟩ : ∃ j, y = ix2 0 j := ⟨y 1, eq_row y⟩
  exact gain_at m c j

end Cert.NormH

end
-- ==== Proof.NormProducts.lean ====
/-
  The two calls of the backward pass that go through a norm and the product after it: each program's frame, and the kernel's
  two arrays equal to the reference's over the extended reals, with no condition on the arguments.
-/
module

public import proofs.«01_k».proof.Defs
public import proofs.«01_k».proof.Proof.NormX
public import proofs.«01_k».proof.Proof.Gen.ReferenceXIdeal.Run
public import proofs.«01_k».proof.Proof.Gen.KernelXIdeal.Value
public import proofs.«01_k».proof.Proof.Gen.KernelX.Frame
public import proofs.«01_k».proof.Proof.NormH
public import proofs.«01_k».proof.Proof.Gen.ReferenceHIdeal.Run
public import proofs.«01_k».proof.Proof.Gen.KernelHIdeal.Value
public import proofs.«01_k».proof.Proof.Gen.KernelH.Frame

@[expose] public section

noncomputable section

namespace Cert.NormProducts

open Idealize.ShloMosaic Idealize.SL.Sem

/-- The reference of the gradient of the mixer's input ends with its arguments unchanged. -/
theorem frameX : Cert.quiescent_ReferenceXIdeal := fun m ρ _ =>
  (θ_run Cert.ReferenceXIdeal.defs _ _).mono (fun r h => ⟨fun c => (h c).2.2, sem_eq_zero_of_no_sems (by decide) r.2⟩)
    (Cert.ReferenceXIdeal.Value.run (F := Ideal) m ρ)

/-- Kernel and reference of the gradients of the mixer's input and of its norm's gain end with the same arrays. -/
theorem equalX : Cert.algebraic_KernelXIdeal_ReferenceXIdeal := by
  intro m ρ m' ρ' _ agree
  refine ⟨_, _, Cert.KernelXIdeal.Value.run_blocks m ρ, ?_⟩
  refine (θ_run Cert.ReferenceXIdeal.defs _ _).mono (fun r h c => ⟨(h c).1.trans ?_, (h c).2.1.trans ?_, (h c).2.2⟩)
    (Cert.ReferenceXIdeal.Value.run (F := Ideal) m' ρ')
  · unfold Cert.ReferenceXIdeal.Value.res_main_v43
    rw [(agree c).1, (agree c).2.1, (agree c).2.2.1, (agree c).2.2.2.1, (agree c).2.2.2.2]
    exact (NormX.input_equal m c).symm
  · rw [(agree c).1, (agree c).2.1, (agree c).2.2.1]
    exact (NormX.gain_equal m c).symm

/-- The reference of the gradient of the feed-forward part's input ends with its arguments unchanged. -/
theorem frameH : Cert.quiescent_ReferenceHIdeal := fun m ρ _ =>
  (θ_run Cert.ReferenceHIdeal.defs _ _).mono (fun r h => ⟨fun c => (h c).2.2, sem_eq_zero_of_no_sems (by decide) r.2⟩)
    (Cert.ReferenceHIdeal.Value.run (F := Ideal) m ρ)

/-- Kernel and reference of the gradients of the feed-forward part's input and of its norm's gain end with the same arrays. -/
theorem equalH : Cert.algebraic_KernelHIdeal_ReferenceHIdeal := by
  intro m ρ m' ρ' _ agree
  refine ⟨_, _, Cert.KernelHIdeal.Value.run_blocks m ρ, ?_⟩
  refine (θ_run Cert.ReferenceHIdeal.defs _ _).mono (fun r h c => ⟨(h c).1.trans ?_, (h c).2.1.trans ?_, (h c).2.2⟩)
    (Cert.ReferenceHIdeal.Value.run (F := Ideal) m' ρ')
  · unfold Cert.ReferenceHIdeal.Value.res_main_v42
    rw [(agree c).1, (agree c).2.1, (agree c).2.2.1, (agree c).2.2.2.1, (agree c).2.2.2.2]
    exact (NormH.input_equal m c).symm
  · rw [(agree c).1, (agree c).2.1, (agree c).2.2.1]
    exact (NormH.gain_equal m c).symm

end Cert.NormProducts

end
-- ==== Proof.MixGrad.lean ====
/-
  The gradient of the mixer's output: each entry of the kernel's array is the sum of the products
  of a row of the output's gradient and a row of the weight.
-/
module

public import proofs.«01_k».proof.Proof.Indices
public import proofs.«01_k».proof.Proof.Gen.KernelMIdeal.Value
public import proofs.«01_k».proof.Proof.Gen.ReferenceMIdeal.Run

@[expose] public section

set_option synthInstance.maxSize 4096

noncomputable section

namespace Cert.MixGrad

open Idealize.ShloMosaic Idealize.ShloMosaic.TcCoe Cert.KernelMIdeal Cert.KernelMIdeal.Gen

/-- One entry: row `r` of the gradient with row `f` of the weight. -/
def entry (dx : Vec Ideal S4096x1024 .f32) (w : Vec Ideal S1024x1024 .bf16) (r : Fin 4096) (f : Fin 1024) : EReal :=
  ∑ k : Fin 1024, dx (ix2 r k) * w (ix2 f k)

/-- What a point stores: its 512 rows with all rows of the weight. -/
theorem stored (x : Vec Ideal S512x1024 .f32) (w : Vec Ideal S1024x1024 .bf16) (i : Fin 512) (f : Fin 1024) :
    out0_2 x w (ix2 i f) = ∑ k : Fin 1024, x (ix2 i k) * w (ix2 f k) := by
  unfold out0_2
  rw [View.canon_unit_zero (by funext a; fin_cases a <;> rfl), View.ld_unit_zero (by funext a; fin_cases a <;> rfl),
    View.ld_unit_zero (by funext a; fin_cases a <;> rfl)]
  pointwise [k0_pay1]

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem result (r : Fin 4096) (f : Fin 1024) :
    (dats m 0 c).arrAt 2 cfg0.N (ix2 r f)
      = entry (m ((c : Thread nD τ).loc main_arg0)) (m ((c : Thread nD τ).loc main_arg1)) r f := by
  obtain ⟨b, i, rfl⟩ := exists_within (a := 8) (n := 512) r
  let t : Fin cfg0.N := ⟨b.val, lt_of_lt_of_eq b.isLt N_0.symm⟩
  have e := congrFun ((Value.blocks2 m c t (flush0_2 t)).trans (Value.flushed2 m c t)) (ix2 i f)
  have e2 : ((cfg0.win 2).blk t).view.emb (ix2 i f) = ix2 (within b i) f :=
    eq_ix2 _ _ _ (pos_eq b (idx2 t).1 i) (at_zero (idx2 t).2)
  have e0 (k : Fin 1024) : iblk m c 0 t (ix2 i k) = m ((c : Thread nD τ).loc main_arg0) (ix2 (within b i) k) :=
    congrArg (m ((c : Thread nD τ).loc main_arg0))
      (eq_ix2 (((cfg0.win 0).blk t).view.emb (ix2 i k)) _ _ (pos_eq b (idx0 t).1 i) (at_zero (idx0 t).2))
  have e1 (k : Fin 1024) : iblk m c 1 t (ix2 f k) = m ((c : Thread nD τ).loc main_arg1) (ix2 f k) :=
    congrArg (m ((c : Thread nD τ).loc main_arg1))
      (eq_ix2 (((cfg0.win 1).blk t).view.emb (ix2 f k)) _ _ (at_zero (idx1 t).1) (at_zero (idx1 t).2))
  refine Eq.trans ?_ (e.trans ((stored _ _ i f).trans ?_))
  · show _ = (dats m 0 c).arrAt 2 cfg0.N (((cfg0.win 2).blk t).view.emb (ix2 i f))
    rw [e2]
  · exact Finset.sum_congr rfl fun k _ => by rw [e0, e1]

/-- The reference's product. -/
abbrev product (dx : Vec Ideal S4096x1024 .f32) (w : Vec Ideal S1024x1024 .bf16) : Vec Ideal S4096x1024 .f32 :=
  Host.dotGeneral (F := Ideal) (φ₁ := .f32) Cert.ReferenceMIdeal.dot_S4096x1024_S1024x1024_S4096x1024_1_1_0_0_n_n none dx
    (extf .f32 w bitsLt_bf16_f32)

/-- The reference's product, entry by entry. -/
theorem product_at (dx : Vec Ideal S4096x1024 .f32) (w : Vec Ideal S1024x1024 .bf16) (r : Fin 4096) (f : Fin 1024) :
    product dx w (ix2 r f) = entry dx w r f := by
  pointwise [product]
  rfl

/-- The kernel's whole array is the reference's. -/
theorem equal : ((dats m 0 c).arrAt 2 cfg0.N : Vec Ideal S4096x1024 .f32)
    = product (m ((c : Thread nD τ).loc main_arg0)) (m ((c : Thread nD τ).loc main_arg1)) := by
  funext y
  obtain ⟨r, f, rfl⟩ : ∃ r f, y = ix2 r f := ⟨y 0, y 1, eq_ix2 y _ _ rfl rfl⟩
  exact (result m c r f).trans (product_at _ _ r f).symm

end Cert.MixGrad

end
-- ==== Proof.OutGrad.lean ====
/-
  The gradient of the mixer's output weight: each entry of the kernel's array is the sum, over the 4096 rows, of the
  products of a column of the mixer's output and a column of the output's gradient. The kernel forms it in four parts of
  1024 rows, added up in a scratch.
-/
module

public import proofs.«01_k».proof.Proof.Indices
public import proofs.«01_k».proof.Proof.Gen.KernelOIdeal.Value
public import proofs.«01_k».proof.Proof.Gen.ReferenceOIdeal.Run
public import Idealize.ShloMosaic.Lib.Pipeline.ValueKit.Acc

@[expose] public section

set_option synthInstance.maxSize 4096

noncomputable section

namespace Cert.OutGrad

open Idealize.ShloMosaic Idealize.ShloMosaic.TcCoe Cert.KernelOIdeal Cert.KernelOIdeal.Gen

/-- One entry: column `i` of the mixer's output with column `j` of the gradient. -/
def entry (a : Vec Ideal S4096x1024 .bf16) (b : Vec Ideal S4096x1024 .f32) (i : Fin 1024) (j : Fin 1024) : EReal :=
  ∑ k : Fin 4096, a (ix2 k i) * b (ix2 k j)

/-- Its part from rows `1024 s` on. -/
def entryOf (a : Vec Ideal S4096x1024 .bf16) (b : Vec Ideal S4096x1024 .f32) (s : Fin 4) (i : Fin 1024) (j : Fin 1024) : EReal :=
  ∑ k : Fin 1024, a (ix2 (within s k) i) * b (ix2 (within s k) j)

/-! ## What a point computes -/

/-- Column `i` of a point's part of the mixer's output with column `j` of its gradient. -/
def dot (x : Vec Ideal S1024x1024 .bf16) (y : Vec Ideal S1024x1024 .f32) (i : Fin 1024) (j : Fin 1024) : EReal :=
  ∑ k : Fin 1024, x (ix2 k i) * y (ix2 k j)

theorem zero_at (i : Fin 1024) (j : Fin 1024) : k0_pay1 (F := Ideal) (ix2 i j) = 0 := by
  pointwise [k0_pay1]

theorem add_at (v : Vec Ideal S1024x1024 .f32) (x : Vec Ideal S1024x1024 .bf16) (y : Vec Ideal S1024x1024 .f32) (i : Fin 1024)
    (j : Fin 1024) : k0_pay2 v x y (ix2 i j) = v (ix2 i j) + dot x y i j := by
  pointwise [k0_pay2]
  rfl

theorem out_at (v : Vec Ideal S1024x1024 .f32) (i : Fin 1024) (j : Fin 1024) : k0_pay3 v (ix2 i j) = v (ix2 i j) := by
  pointwise [k0_pay3]

variable (m : (ℓ : Loc nD τ sig) → Buf (Elt Ideal) ℓ) (c : Dev nD)

/-- What point `t` adds to the scratch. -/
def part (t : Fin cfg0.N) (y : S1024x1024.Idx) : EReal :=
  dot (iblk m c 0 t) (iblk m c 1 t) (y 0) (y 1)

/-- The scratch after the last of four points. -/
theorem scratch (t : Fin cfg0.N) (h : t.val % 4 = 4 - 1) (y : S1024x1024.Idx) :
    (outsAt0 m c t.val t.isLt).2 y
      = 0 + ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by
      obtain ⟨i, j, rfl⟩ : ∃ i j, y = ix2 i j := ⟨y 0, y 1, eq_ix2 y _ _ rfl rfl⟩
      rw [outsAt0_A m c t h (by omega)]
      frame_out
      rw [add_at, zero_at]
      rfl)
    (fun t h y => by
      obtain ⟨i, j, rfl⟩ : ∃ i j, y = ix2 i j := ⟨y 0, y 1, eq_ix2 y _ _ rfl rfl⟩
      by_cases h3 : t.val % 4 = 3
      · rw [outsAt0_C m c t h h3]
        frame_out
        rw [add_at]
        exact congrArg (· + _) (congrFun ((Memref.isWhole_whole _).read_unread _) _)
      · rw [outsAt0_B m c t h h3]
        frame_out
        rw [add_at]
        exact congrArg (· + _) (congrFun ((Memref.isWhole_whole _).read_unread _) _)) t h y]

/-- The last point stores the scratch. -/
theorem stored (t : Fin cfg0.N) (h : t.val % 4 = 3) (i : Fin 1024) (j : Fin 1024) :
    (outsAt0 m c t.val t.isLt).1 (ix2 i j) = (outsAt0 m c t.val t.isLt).2 (ix2 i j) := by
  rw [outsAt0_C m c t (by omega) h]
  frame_out
  exact out_at _ i j

/-! ## The whole array -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem part_eq (t : Fin cfg0.N) (s : Fin 4) (hs : t.val = s.val) (i : Fin 1024) (j : Fin 1024) :
    part m c t (ix2 i j) = entryOf (m ((c : Thread nD τ).loc main_arg0)) (m ((c : Thread nD τ).loc main_arg1)) s i j := by
  unfold part dot entryOf
  refine Finset.sum_congr rfl fun k _ => congrArg₂ (fun p q : EReal => p * q)
    (congrArg (m ((c : Thread nD τ).loc main_arg0))
      (eq_ix2 (((cfg0.win 0).blk t).view.emb (ix2 k i)) (within s k) i (pos_eq s ((idx0 t).1.trans hs) k) (at_zero (idx0 t).2)))
    (congrArg (m ((c : Thread nD τ).loc main_arg1))
      (eq_ix2 (((cfg0.win 1).blk t).view.emb (ix2 k j)) (within s k) j (pos_eq s ((idx1 t).1.trans hs) k) (at_zero (idx1 t).2)))

theorem disjoint : ∀ t t' : Fin cfg0.N, (cfg0.win 2).flush t = true → (cfg0.win 2).flush t' = true → t ≠ t' →
    Disjoint ((cfg0.win 2).blk t).view.set ((cfg0.win 2).blk t').view.set := by
  intro t t' h h' hne
  have := (flush0_2 t).mp h
  have := (flush0_2 t').mp h'
  have := lt_of_lt_of_eq t.isLt N_0
  have := lt_of_lt_of_eq t'.isLt N_0
  exact absurd (Fin.ext (by omega)) hne

theorem result (i : Fin 1024) (j : Fin 1024) :
    (dats m 0 c).arrAt 2 cfg0.N (ix2 i j)
      = entry (m ((c : Thread nD τ).loc main_arg0)) (m ((c : Thread nD τ).loc main_arg1)) i j := by
  let t : Fin cfg0.N := ⟨3, lt_of_lt_of_eq (by decide) N_0.symm⟩
  have hf : (cfg0.win 2).flush t = true := (flush0_2 t).mpr rfl
  have e := congrFun (((dats m 0 c).read_blk_arrAt_eq_flushed 2 disjoint cfg0.N t t.isLt hf).trans (Value.flushed2 m c t))
    (ix2 i j)
  have e2 : ((cfg0.win 2).blk t).view.emb (ix2 i j) = ix2 i j := eq_ix2 _ _ _ (at_zero (idx2 t).1) (at_zero (idx2 t).2)
  refine Eq.trans ?_ (e.trans ((stored m c t rfl i j).trans ((scratch m c t rfl (ix2 i j)).trans ?_)))
  · show _ = (dats m 0 c).arrAt 2 cfg0.N (((cfg0.win 2).blk t).view.emb (ix2 i j))
    rw [e2]
  · rw [zero_add, entry, sum_blocks 4 1024]
    refine Finset.sum_congr rfl fun s _ => part_eq m c _ s ?_ i j
    show 4 * (3 / 4) + s.val = s.val
    omega

/-! ## The reference -/

/-- The reference's product, transposed and rounded. -/
abbrev product (a : Vec Ideal S4096x1024 .bf16) (b : Vec Ideal S4096x1024 .f32) : Vec Ideal S1024x1024 .bf16 :=
  truncf .bf16 (transpose S1024x1024 [1, 0] (Host.dotGeneral (F := Ideal) (φ₁ := .f32)
    Cert.ReferenceOIdeal.dot_S4096x1024_S4096x1024_S1024x1024_0_0_1_1_n_n none b (extf .f32 a bitsLt_bf16_f32))
    Cert.ReferenceOIdeal.Facts₀.transposes_S1024x1024_S1024x1024_1_0) bitsLt_bf16_f32

theorem product_at (a : Vec Ideal S4096x1024 .bf16) (b : Vec Ideal S4096x1024 .f32) (i : Fin 1024) (j : Fin 1024) :
    product a b (ix2 i j) = entry a b i j := by
  pointwise [product]
  exact Finset.sum_congr rfl fun k _ => mul_comm _ _

/-- The kernel's whole array is the reference's. -/
theorem equal : ((dats m 0 c).arrAt 2 cfg0.N : Vec Ideal S1024x1024 .bf16)
    = product (m ((c : Thread nD τ).loc main_arg0)) (m ((c : Thread nD τ).loc main_arg1)) := by
  funext y
  obtain ⟨i, j, rfl⟩ : ∃ i j, y = ix2 i j := ⟨y 0, y 1, eq_ix2 y _ _ rfl rfl⟩
  exact (result m c i j).trans (product_at _ _ i j).symm

end Cert.OutGrad

end
-- ==== Proof.OutProj.lean ====
/-
  The mixer's output projection in the forward pass: each of eight points takes 512 rows, adds the product with the weight to
  the residual path, and normalises the rows of the sum.
-/
module

public import proofs.«01_k».proof.Proof.NormPoint
public import proofs.«01_k».proof.Proof.NormRef
public import proofs.«01_k».proof.Proof.Gen.KernelYIdeal.Value
public import proofs.«01_k».proof.Proof.Gen.ReferenceYIdeal.Run

@[expose] public section

set_option synthInstance.maxSize 4096

noncomputable section

namespace Cert.OutProj

open Idealize.ShloMosaic Idealize.ShloMosaic.TcCoe Cert.KernelYIdeal Cert.KernelYIdeal.Gen NormRow NormPoint

variable (m : (ℓ : Loc nD τ sig) → Buf (Elt Ideal) ℓ) (c : Dev nD)

/-! ## What a point computes -/

theorem sum_at (a : Vec Ideal S512x1024 .bf16) (b : Vec Ideal S1024x1024 .bf16) (x : Vec Ideal S512x1024 .f32)
    (i : Fin 512) (j : Fin 1024) :
    k0_pay2 a b x (ix2 i j) = (∑ k : Fin 1024, a (ix2 i k) * b (ix2 k j)) + x (ix2 i j) := by
  pointwise [k0_pay2]

theorem rows_at (x : Vec Ideal S128x1024 .f32) (g : Vec Ideal S1x1024 .f32) (i : Fin 128) (j : Fin 1024) :
    k0_pay3 x g (ix2 i j) = x (ix2 i j) * scale (row x i) * g (ix2 0 j) := by
  pointwise [k0_pay3]
  rfl

/-- The normalised rows of a block. -/
def hatAt (X : Vec Ideal S512x1024 .f32) (g : Vec Ideal S1x1024 .f32) (y : S512x1024.Idx) : EReal :=
  X y * scale (row X (y 0)) * row g 0 (y 1)

/-- What part `s` of a block stores. -/
theorem piece (X : Vec Ideal S512x1024 .f32) (g : Vec Ideal S1x1024 .f32) (s : Fin 4) {o : ℕ} (ho : o = s.val * 128)
    (inb : ∀ a, (![o, 0] : Fin 2 → ℕ) a + S128x1024.size a ≤ S512x1024.size a) (x : S128x1024.Idx) :
    k0_pay3 (View.ld (e' := .f32) (Val := Elt Ideal) X (Rect.unit (s := S512x1024) ![o, 0] S128x1024.size inb)) g x
      = hatAt X g ((Rect.unit (s := S512x1024) ![o, 0] S128x1024.size inb).emb x) := by
  obtain ⟨i, j, rfl⟩ : ∃ i j, x = ix2 i j := ⟨x 0, x 1, eq_ix2 x _ _ rfl rfl⟩
  have e : (Rect.unit (s := S512x1024) ![o, 0] S128x1024.size inb).emb (ix2 i j) = ix2 (within s i) j :=
    eq_ix2 _ _ _ (by show o + 1 * i.val = (within s i).val; rw [within_val, ho, one_mul])
      (by show 0 + 1 * j.val = j.val; omega)
  rw [e]
  refine (rows_at _ g i j).trans ?_
  rw [sub_row X s ho, sub_at X s ho]
  rfl

/-- The block of a point. -/
theorem block_at (X : Vec Ideal S512x1024 .f32) (g : Vec Ideal S1x1024 .f32) (y : S512x1024.Idx) :
    View.canon (Val := Elt Ideal)
      ((⟨Rect.unit (s := S512x1024) ![384, 0] S128x1024.size inb_S512x1024_S128x1024_384_0,
          k0_pay1 (k0_pay8 (View.ld X (Rect.unit ![384, 0] S128x1024.size inb_S512x1024_S128x1024_384_0)) g)⟩ :
          View.Piece (Elt Ideal) S512x1024 .bf16)
        :: ⟨Rect.unit (s := S512x1024) ![256, 0] S128x1024.size inb_S512x1024_S128x1024_256_0,
          k0_pay7 (View.ld X (Rect.unit ![256, 0] S128x1024.size inb_S512x1024_S128x1024_256_0)) g⟩
        :: ⟨Rect.unit (s := S512x1024) ![128, 0] S128x1024.size inb_S512x1024_S128x1024_128_0,
          k0_pay6 (k0_pay4 (View.ld X (Rect.unit ![128, 0] S128x1024.size inb_S512x1024_S128x1024_128_0)))
            (k0_pay5 (View.ld X (Rect.unit ![128, 0] S128x1024.size inb_S512x1024_S128x1024_128_0))) g⟩
        :: ⟨Rect.unit (s := S512x1024) ![0, 0] S128x1024.size inb_S512x1024_S128x1024_0_0,
          k0_pay3 (View.ld X (Rect.unit ![0, 0] S128x1024.size inb_S512x1024_S128x1024_0_0)) g⟩ :: []) y
      = hatAt X g y := by
  refine View.canon_append_of_piecesOf (Val := Elt Ideal) (e := .bf16) (hatAt X g) [] [_, _, _, _] ?_ y ?_
  · exact ⟨piece X g 3 (o := 384) rfl _, piece X g 2 (o := 256) rfl _, piece X g 1 (o := 128) rfl _,
      piece X g 0 (o := 0) rfl _, trivial⟩
  · exact View.cover_of_tiledL (s := S512x1024) _ S128x1024.size (by sl_kernel_rfl) y

/-- A point's rows of the sum. -/
def sum (t : Fin cfg0.N) : Vec Ideal S512x1024 .f32 := k0_pay2 (iblk m c 0 t) (iblk m c 1 t) (iblk m c 2 t)

theorem zeros : ∀ a, (![0, 0] : Fin 2 → ℕ) a = 0 := by decide

/-- What a point stores. -/
theorem stored4 (t : Fin cfg0.N) (y : S512x1024.Idx) : (outsAt0 m c t).1 y = sum m c t y := by
  unfold outsAt0
  frame_out
  rfl

theorem stored5 (t : Fin cfg0.N) (y : S512x1024.Idx) :
    (outsAt0 m c t).2 y = hatAt (sum m c t) (iblk m c 3 t) y := by
  unfold outsAt0
  frame_out
  simp (disch := first | decide | exact zeros) only [↓View.readCov_skip, ↓View.readCov_fill]
  exact block_at (sum m c t) (iblk m c 3 t) y

/-! ## The blocks of the arguments -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-- The arguments: the mixer's output, the weight, the residual path, the norm's gain. -/
abbrev argM : Vec Ideal S4096x1024 .bf16 := m ((c : Thread nD τ).loc main_arg0)
abbrev argW : Vec Ideal S1024x1024 .bf16 := m ((c : Thread nD τ).loc main_arg1)
abbrev argX : Vec Ideal S4096x1024 .f32 := m ((c : Thread nD τ).loc main_arg2)
abbrev argG : Vec Ideal S1x1024 .f32 := m ((c : Thread nD τ).loc main_arg3)

/-- The reference's sum, and its normalised rows. -/
abbrev plain (a : Vec Ideal S4096x1024 .bf16) (b : Vec Ideal S1024x1024 .bf16) (x : Vec Ideal S4096x1024 .f32) :
    FVec Ideal S4096x1024 .f32 :=
  addf x (Host.dotGeneral (F := Ideal) (φ₁ := .f32) (φ₂ := .f32)
    Cert.ReferenceYIdeal.dot_S4096x1024_S1024x1024_S4096x1024_1_0_0_1_n_n none
    (extf .f32 a Cert.ReferenceXIdeal.Facts₀.bitsLt_bf16_f32) (extf .f32 b Cert.ReferenceXIdeal.Facts₀.bitsLt_bf16_f32))

abbrev hat (x : FVec Ideal S4096x1024 .f32) (g : Vec Ideal S1x1024 .f32) : FVec Ideal S4096x1024 .bf16 :=
  truncf .bf16 (mulf (mulf x (broadcastInDim S4096x1024 ![0, 1] Cert.ReferenceXIdeal.Facts₀.bcast_S4096x1_S4096x1024_0_1
    (Host.rsqrt (NormRef.mean x)))) (NormRef.gain g)) Cert.ReferenceXIdeal.Facts₀.bitsLt_bf16_f32

theorem plain_at (a : Vec Ideal S4096x1024 .bf16) (b : Vec Ideal S1024x1024 .bf16) (x : Vec Ideal S4096x1024 .f32)
    (i : Fin 4096) (j : Fin 1024) :
    plain a b x (ix2 i j) = x (ix2 i j) + ∑ k : Fin 1024, a (ix2 i k) * b (ix2 k j) := by
  pointwise [plain]

theorem hat_at (x : FVec Ideal S4096x1024 .f32) (g : Vec Ideal S1x1024 .f32) (i : Fin 4096) (j : Fin 1024) :
    hat x g (ix2 i j) = x (ix2 i j) * scale (NormRef.row x i) * NormRef.row g 0 j := by
  pointwise [hat]
  simp only [NormRef.mean_at, NormRef.gain_at]
  rfl

variable (t : Fin cfg0.N) (s : Fin 8) (hs : t.val = s.val)

include hs in
theorem sum_eq (i : Fin 512) (j : Fin 1024) :
    sum m c t (ix2 i j) = plain (argM m c) (argW m c) (argX m c) (ix2 (within s i) j) := by
  rw [plain_at]
  refine (sum_at _ _ _ i j).trans ((congrArg₂ (fun p q : EReal => p + q) (Finset.sum_congr rfl fun k _ =>
    congrArg₂ (fun p q : EReal => p * q) ?_ ?_) ?_).trans (add_comm (_ : EReal) _))
  · exact congrArg (argM m c)
      (eq_ix2 (((cfg0.win 0).blk t).view.emb (ix2 i k)) (within s i) k (pos_eq s ((idx0 t).1.trans hs) i) (at_zero (idx0 t).2))
  · exact congrArg (argW m c)
      (eq_ix2 (((cfg0.win 1).blk t).view.emb (ix2 k j)) k j (at_zero (idx1 t).1) (at_zero (idx1 t).2))
  · exact congrArg (argX m c)
      (eq_ix2 (((cfg0.win 2).blk t).view.emb (ix2 i j)) (within s i) j (pos_eq s ((idx2 t).1.trans hs) i) (at_zero (idx2 t).2))

theorem g_at (j : Fin 1024) : iblk m c 3 t (ix2 0 j) = argG m c (ix2 0 j) :=
  congrArg (argG m c) (eq_ix2 (((cfg0.win 3).blk t).view.emb (ix2 0 j)) 0 j (at_zero (idx3 t).1) (at_zero (idx3 t).2))

/-! ## The whole arrays -/

theorem result4 (i : Fin 4096) (j : Fin 1024) :
    (dats m 0 c).arrAt 4 cfg0.N (ix2 i j) = plain (argM m c) (argW m c) (argX m c) (ix2 i j) := by
  obtain ⟨s, i, rfl⟩ := exists_within (a := 8) (n := 512) i
  let t : Fin cfg0.N := ⟨s.val, lt_of_lt_of_eq s.isLt N_0.symm⟩
  have e := congrFun ((Value.blocks4 m c t (flush0_4 t)).trans (Value.flushed4 m c t)) (ix2 i j)
  have e2 : ((cfg0.win 4).blk t).view.emb (ix2 i j) = ix2 (within s i) j :=
    eq_ix2 _ _ _ (pos_eq s (idx4 t).1 i) (at_zero (idx4 t).2)
  refine Eq.trans ?_ (e.trans ((stored4 m c t (ix2 i j)).trans (sum_eq m c t s rfl i j)))
  show _ = (dats m 0 c).arrAt 4 cfg0.N (((cfg0.win 4).blk t).view.emb (ix2 i j))
  rw [e2]

theorem result5 (i : Fin 4096) (j : Fin 1024) :
    (dats m 0 c).arrAt 5 cfg0.N (ix2 i j) = hat (plain (argM m c) (argW m c) (argX m c)) (argG m c) (ix2 i j) := by
  obtain ⟨s, i, rfl⟩ := exists_within (a := 8) (n := 512) i
  let t : Fin cfg0.N := ⟨s.val, lt_of_lt_of_eq s.isLt N_0.symm⟩
  have e := congrFun ((Value.blocks5 m c t (flush0_5 t)).trans (Value.flushed5 m c t)) (ix2 i j)
  have e2 : ((cfg0.win 5).blk t).view.emb (ix2 i j) = ix2 (within s i) j :=
    eq_ix2 _ _ _ (pos_eq s (idx5 t).1 i) (at_zero (idx5 t).2)
  refine Eq.trans ?_ (e.trans ((stored5 m c t (ix2 i j)).trans ?_))
  · show _ = (dats m 0 c).arrAt 5 cfg0.N (((cfg0.win 5).blk t).view.emb (ix2 i j))
    rw [e2]
  · rw [hat_at]
    show sum m c t (ix2 i j) * scale (row (sum m c t) i) * iblk m c 3 t (ix2 0 j) = _
    have hx : row (sum m c t) i = NormRef.row (plain (argM m c) (argW m c) (argX m c)) (within s i) :=
      funext fun k => sum_eq m c t s rfl i k
    exact congrArg₂ (fun p q : EReal => p * q)
      (congrArg₂ (fun p q : EReal => p * q) (sum_eq m c t s rfl i j) (congrArg scale hx)) (g_at m c t j)

/-- The kernel's whole arrays are the reference's. -/
theorem equal4 : ((dats m 0 c).arrAt 4 cfg0.N : Vec Ideal S4096x1024 .f32) = plain (argM m c) (argW m c) (argX m c) := by
  funext y
  obtain ⟨i, j, rfl⟩ : ∃ i j, y = ix2 i j := ⟨y 0, y 1, eq_ix2 y _ _ rfl rfl⟩
  exact result4 m c i j

theorem equal5 : ((dats m 0 c).arrAt 5 cfg0.N : Vec Ideal S4096x1024 .bf16)
    = hat (plain (argM m c) (argW m c) (argX m c)) (argG m c) := by
  funext y
  obtain ⟨i, j, rfl⟩ : ∃ i j, y = ix2 i j := ⟨y 0, y 1, eq_ix2 y _ _ rfl rfl⟩
  exact result5 m c i j

end Cert.OutProj

end
-- ==== Proof.InRun.lean ====
/-
  The mixer's input projections as a run: what the host operations leave for the call, what the call's body does at its first
  point, where it also lays out the padded weight, and at a later one, where it finds the weight as the point before left it.
-/
module

public import proofs.«01_k».proof.Proof.Gen.KernelJIdeal.Launch
public import proofs.«01_k».proof.Proof.Gen.KernelJIdeal.Skeleton
public import proofs.«01_k».proof.Proof.Gen.KernelJIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InRun

open Cert.KernelJIdeal Cert.KernelJIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Up to the call -/

/-- A core's buffers when the call begins: after the host operations. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
/-- The program is its host operations and then the call. -/
theorem host_prefix (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- A buffer that is no result of the two host operations is as it was. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.reshape_writes,
      Finset.mem_singleton]
    repeat' apply And.intro
    all_goals exact StableHlo.devRef_ne_of_ne (by assumption)))

theorem V_arg0 (c : Dev nD) : V m c main_arg0 = m ((c : Thread nD τ).loc main_arg0) := V_kept m c _ (by decide) (by decide)
theorem V_arg1 (c : Dev nD) : V m c main_arg1 = m ((c : Thread nD τ).loc main_arg1) := V_kept m c _ (by decide) (by decide)
theorem V_arg2 (c : Dev nD) : V m c main_arg2 = m ((c : Thread nD τ).loc main_arg2) := V_kept m c _ (by decide) (by decide)

/-- The block of window `w` at point `t`. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## Which points are which -/

/-- The body lays out the weight. -/
abbrev IsFirst (i : grid0.Coords) : Prop := k0_cond1 i = 1#1

/-- It does at the first of the eight points only. -/
theorem isFirst_iff : ∀ t : Fin cfg0.N, IsFirst (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [IsFirst, k0_cond1, e0]
    word_cmp
   : ∀ t : Fin grid0.N, IsFirst (grid0.coords t) ↔ t.val % 8 = 0)

/-- The padded weight's buffer holds nothing of the body's at the start and after the last point. -/
def freshTab : ℕ → Bool
  | 0 => true
  | n + 1 => (0x80 : ℕ).testBit n

theorem freshTab_step : ∀ t : Fin cfg0.N,
    freshTab (t.val + 1) = ((cfg0.win 5).flush t || (cfg0.idle 5 (cfg0.grid.coords t) && freshTab t.val)) := by
  decide +kernel

/-- The first point stores the weight; -/
theorem live_first : ∀ t : Fin cfg0.N, IsFirst (grid0.coords t) → cfg0.idle 5 (grid0.coords t) = false := by decide +kernel

/-- the later ones do not, -/
theorem idle_later : ∀ t : Fin cfg0.N, ¬IsFirst (grid0.coords t) → cfg0.idle 5 (grid0.coords t) = true := by decide +kernel

/-- and find it stored. -/
theorem notFresh_later : ∀ t : Fin cfg0.N, ¬IsFirst (grid0.coords t) → cfg0.fresh 5 t.val = false := by
  intro t
  rw [Pipeline.Cfg.fresh_tab cfg0 5 freshTab rfl freshTab_step t.val (Nat.le_of_lt t.isLt)]
  revert t
  decide +kernel

/-! ## The body, on any buffers -/

section Body

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S4x1024x770 .bf16) (harg3 : arg3.IsWhole)
  (arg4 : Memref sig .tc .vmem S512x3200 .f32) (harg4 : arg4.IsWhole)
  (arg5 : Memref sig .tc .vmem S512x1024 .bf16) (harg5 : arg5.IsWhole)
  (arg6 : Memref sig .tc .vmem S1024x3200 .bf16) (harg6 : arg6.IsWhole)
  (x0 : Vec F S512x1024 .f32) (x1 : Vec F S1x1024 .f32) (x2 : Vec F S4x1024x770 .bf16)

set_option maxHeartbeats 1000000 in
/-- At the first point: from the three inputs' contents the body leaves lists of stores in the three outputs' buffers, whatever
    these held, and the inputs as they were. -/
noncomputable def runFirst (hc : IsFirst i) :
    Σ' (L3 : List (View.Piece (Elt F) S512x3200 .f32)), Σ' (L4 : List (View.Piece (Elt F) S512x1024 .bf16)),
      { L5 : List (View.Piece (Elt F) S1024x3200 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E
              (cc0_in_proj i arg1 harg1 arg2 harg2 arg3 harg3 arg4 harg4 arg5 harg5 arg6 harg6) K } := by
  refine ⟨?_, ?_, ?_, fun E K => ?run⟩
  case run =>
    simp only [cc0_in_proj_eq_skeleton]; unfold cc0_in_proj_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 1000000 in
/-- At a later point: it leaves lists of stores in the buffers of the product and of the normalised rows, and the inputs and the
    padded weight `w` as they were. -/
noncomputable def runLater (hc : ¬IsFirst i) (w : Vec F S1024x3200 .bf16) :
    Σ' (L3 : List (View.Piece (Elt F) S512x3200 .f32)), { L4 : List (View.Piece (Elt F) S512x1024 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (∃ d, owns (c : Thread nD τ) arg5 fullShare d) ∗ owns (c : Thread nD τ) arg6 fullShare w
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ owns (c : Thread nD τ) arg6 fullShare w) -∗ K ⟨⟩))
          ⊢ wp frame (wpE (defs₀ (F := F)) Variants.none c none) E
              (cc0_in_proj i arg1 harg1 arg2 harg2 arg3 harg3 arg4 harg4 arg5 harg5 arg6 harg6) K } := by
  refine ⟨?_, ?_, fun E K => ?run⟩
  case run =>
    simp only [cc0_in_proj_eq_skeleton]; unfold cc0_in_proj_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    obtain rfl := harg1.eq_unread hf0; obtain rfl := harg2.eq_unread hf1; obtain rfl := harg3.eq_unread hf2
    obtain rfl := harg6.eq_unread hf5
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; isplitr; · ipureintro; exact harg6.read_unread _
    iexact H5

end Body

end Cert.InRun

end
-- ==== Proof.InFrame.lean ====
/-
  The mixer's input projections, whole: what each of the eight points leaves in the three outputs' buffers, with the padded weight
  carried from the first point to the last; the run of the program, with its results named and its arguments unchanged.
-/
module

public import proofs.«01_k».proof.Proof.InRun
public import Idealize.ShloMosaic.Lib.Pipeline.Value
public import Idealize.ShloMosaic.Lib.Claim

@[expose] public section

set_option maxRecDepth 16384

noncomputable section

namespace Cert.InFrame

open Cert.KernelJIdeal Cert.KernelJIdeal.Gen InRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What a point leaves -/

/-- The windows' buffers at a point. -/
abbrev b0 (t : Fin cfg0.N) : Memref sig .tc .vmem S512x1024 .f32 := win0_0.stage (cfg0.slots t 0)
abbrev b1 (t : Fin cfg0.N) : Memref sig .tc .vmem S1x1024 .f32 := win0_1.stage (cfg0.slots t 1)
abbrev b2 (t : Fin cfg0.N) : Memref sig .tc .vmem S4x1024x770 .bf16 := win0_2.stage (cfg0.slots t 2)
abbrev b3 (t : Fin cfg0.N) : Memref sig .tc .vmem S512x3200 .f32 := win0_3.stage (cfg0.slots t 3)
abbrev b4 (t : Fin cfg0.N) : Memref sig .tc .vmem S512x1024 .bf16 := win0_4.stage (cfg0.slots t 4)
abbrev b5 (t : Fin cfg0.N) : Memref sig .tc .vmem S1024x3200 .bf16 := win0_5.stage (cfg0.slots t 5)

/-- One buffer of each output, through which its contents are stated. -/
abbrev view3 : View sig .tc .vmem S512x3200 .f32 := (Memref.whole cc0_stg3_0 : Memref sig .tc .vmem S512x3200 .f32).view
abbrev view4 : View sig .tc .vmem S512x1024 .bf16 := (Memref.whole cc0_stg4_0 : Memref sig .tc .vmem S512x1024 .bf16).view
abbrev view5 : View sig .tc .vmem S1024x3200 .bf16 := (Memref.whole cc0_stg5_0 : Memref sig .tc .vmem S1024x3200 .bf16).view

/-- The body's run at the first point; -/
abbrev atFirst (t : Fin cfg0.N) (h : t.val % 8 = 0) :=
  runFirst c (grid0.coords t)
    (b0 t) (hstage0_0 ((cfg0.slots t 0).cast nbuf0_0)) (b1 t) (hstage0_1 ((cfg0.slots t 1).cast nbuf0_1))
    (b2 t) (hstage0_2 ((cfg0.slots t 2).cast nbuf0_2)) (b3 t) (hstage0_3 ((cfg0.slots t 3).cast nbuf0_3))
    (b4 t) (hstage0_4 ((cfg0.slots t 4).cast nbuf0_4)) (b5 t) (hstage0_5 ((cfg0.slots t 5).cast nbuf0_5))
    (iblk m c 0 t) (iblk m c 1 t) (iblk m c 2 t) ((isFirst_iff t).mpr h)

/-- and at a later one, over the padded weight `w`. -/
abbrev atLater (t : Fin cfg0.N) (h : ¬t.val % 8 = 0) (w : Vec F S1024x3200 .bf16) :=
  runLater c (grid0.coords t)
    (b0 t) (hstage0_0 ((cfg0.slots t 0).cast nbuf0_0)) (b1 t) (hstage0_1 ((cfg0.slots t 1).cast nbuf0_1))
    (b2 t) (hstage0_2 ((cfg0.slots t 2).cast nbuf0_2)) (b3 t) (hstage0_3 ((cfg0.slots t 3).cast nbuf0_3))
    (b4 t) (hstage0_4 ((cfg0.slots t 4).cast nbuf0_4)) (b5 t) (hstage0_5 ((cfg0.slots t 5).cast nbuf0_5))
    (iblk m c 0 t) (iblk m c 1 t) (iblk m c 2 t) (fun hc => h ((isFirst_iff t).mp hc)) w

/-- The stores cover the outputs' blocks. -/
theorem cover_first3 (t : Fin cfg0.N) (h : t.val % 8 = 0) (y : S512x3200.Idx) : ∃ p ∈ (atFirst m c t h).1, y ∈ p.1.set :=
  View.cover_of_tiledL (atFirst m c t h).1 S512x3200.size (by sl_kernel_rfl) y

theorem cover_first4 (t : Fin cfg0.N) (h : t.val % 8 = 0) (y : S512x1024.Idx) : ∃ p ∈ (atFirst m c t h).2.1, y ∈ p.1.set :=
  View.cover_of_tiledL (atFirst m c t h).2.1 S128x1024.size (by sl_kernel_rfl) y

theorem cover_first5 (t : Fin cfg0.N) (h : t.val % 8 = 0) (y : S1024x3200.Idx) : ∃ p ∈ (atFirst m c t h).2.2.1, y ∈ p.1.set :=
  View.cover_of_tiledBy (atFirst m c t h).2.2.1 ![1024, 10] (by sl_kernel_rfl) y

theorem cover_later3 (t : Fin cfg0.N) (h : ¬t.val % 8 = 0) (w : Vec F S1024x3200 .bf16) (y : S512x3200.Idx) :
    ∃ p ∈ (atLater m c t h w).1, y ∈ p.1.set :=
  View.cover_of_tiledL (atLater m c t h w).1 S512x3200.size (by sl_kernel_rfl) y

theorem cover_later4 (t : Fin cfg0.N) (h : ¬t.val % 8 = 0) (w : Vec F S1024x3200 .bf16) (y : S512x1024.Idx) :
    ∃ p ∈ (atLater m c t h w).2.1, y ∈ p.1.set :=
  View.cover_of_tiledL (atLater m c t h w).2.1 S128x1024.size (by sl_kernel_rfl) y

/-- What the first point leaves: the product, the normalised rows, the padded weight. -/
def first (t : Fin cfg0.N) (h : t.val % 8 = 0) : Vec F S512x3200 .f32 × Vec F S512x1024 .bf16 × Vec F S1024x3200 .bf16 :=
  (view3.read (Elt F) (view3.writes (Elt F) view3.junk (atFirst m c t h).1),
   view4.read (Elt F) (view4.writes (Elt F) view4.junk (atFirst m c t h).2.1),
   view5.read (Elt F) (view5.writes (Elt F) view5.junk (atFirst m c t h).2.2.1))

/-- What a later point leaves over the padded weight `w`. -/
def later (t : Fin cfg0.N) (h : ¬t.val % 8 = 0) (w : Vec F S1024x3200 .bf16) :
    Vec F S512x3200 .f32 × Vec F S512x1024 .bf16 × Vec F S1024x3200 .bf16 :=
  (view3.read (Elt F) (view3.writes (Elt F) view3.junk (atLater m c t h w).1),
   view4.read (Elt F) (view4.writes (Elt F) view4.junk (atLater m c t h w).2.1), w)

theorem later_weight (t : Fin cfg0.N) (h : ¬t.val % 8 = 0) (w : Vec F S1024x3200 .bf16) : (later m c t h w).2.2 = w := rfl

/-- What the outputs' buffers hold after each point. -/
def outs : (n : ℕ) → n < cfg0.N → Vec F S512x3200 .f32 × Vec F S512x1024 .bf16 × Vec F S1024x3200 .bf16
  | 0, hn => first m c ⟨0, hn⟩ (Nat.zero_mod _)
  | n + 1, hn =>
    if h : (n + 1) % 8 = 0 then first m c ⟨n + 1, hn⟩ h
    else later m c ⟨n + 1, hn⟩ h (outs n (Nat.lt_of_succ_lt hn)).2.2

/-- The point before. -/
theorem lt_before (t : Fin cfg0.N) : t.val - 1 < cfg0.N := Nat.lt_of_le_of_lt (Nat.sub_le _ _) t.isLt

theorem outs_first (t : Fin cfg0.N) (h : t.val % 8 = 0) : outs m c t.val t.isLt = first m c t h := by
  obtain ⟨n, hn⟩ := t
  cases n with
  | zero => exact rfl
  | succ n => exact dif_pos h

theorem outs_later (t : Fin cfg0.N) (h : ¬t.val % 8 = 0) :
    outs m c t.val t.isLt = later m c t h (outs m c (t.val - 1) (lt_before t)).2.2 := by
  obtain ⟨n, hn⟩ := t
  cases n with
  | zero => exact absurd (Nat.zero_mod _) h
  | succ n => exact dif_neg h

/-! ## The body's obligation -/

/-- What the call's arrays and buffers hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outs m c t.val t.isLt).1
    | ⟨4, _⟩ => (outs m c t.val t.isLt).2.1
    | ⟨5, _⟩ => (outs m c t.val t.isLt).2.2
  Φ _ := Pipeline.ΦA spec0 c
  q _ := fullShare
  owed _ := 0

theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = (outs m c t.val t.isLt).1 := by dsimp only [dats]
theorem after4 (t : Fin cfg0.N) : (dats m 0 c).after 4 t = (outs m c t.val t.isLt).2.1 := by dsimp only [dats]
theorem after5 (t : Fin cfg0.N) : (dats m 0 c).after 5 t = (outs m c t.val t.isLt).2.2 := by dsimp only [dats]

/-- An input's buffer holds its block before every point. -/
theorem before0 (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- The weight's buffer keeps its contents through the points that do not store it, -/
theorem carry : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after5, after5]
  by_cases h : t.val % 8 = 0
  · rw [live_first t ((isFirst_iff t).mpr h)] at hi
    exact absurd hi Bool.false_ne_true
  · rw [outs_later m c t h, later_weight]

/-- so that a later point finds there what the point before left, -/
theorem before5 (t : Fin cfg0.N) (h : ¬t.val % 8 = 0) (d) :
    (dats m 0 c).before 5 t d = (outs m c (t.val - 1) (lt_before t)).2.2 := by
  rw [Dat.before_out_traj _ 5 rfl (fun _ _ => rfl) (carry m c) t.val t rfl d,
    if_neg (by rw [notFresh_later t (fun hc => h ((isFirst_iff t).mp hc))]; exact Bool.false_ne_true)]
  dsimp only [dats]

/-- and leaves it so, whether the point is the last, which writes the block back, or not. -/
theorem carried (t : Fin cfg0.N) (h : ¬t.val % 8 = 0) :
    (owns (c : Thread nD τ) (b5 t) fullShare (outs m c (t.val - 1) (lt_before t)).2.2 : sProp 𝕄)
      ⊢ (dats m 0 c).leavesExact 5 t := by
  have hi := idle_later t (fun hc => h ((isFirst_iff t).mp hc))
  cases hf : (cfg0.win 5).flush t with
  | false =>
    rw [Dat.leavesExact_idle _ 5 t hi hf]
    simp only [before5 m c t h]
    iintro H
    iexists (outs m c (t.val - 1) (lt_before t)).2.2
    iexact H
  | true =>
    rw [show (dats m 0 c).leavesExact 5 t = owns (c : Thread nD τ) (b5 t) fullShare ((dats m 0 c).after 5 t) from by
      unfold Dat.leavesExact; rw [hi, hf], after5, outs_later m c t h, later_weight]

/-- What the obligation asks of the other windows, and of the weight's at the first point. -/
theorem leaves0 (t : Fin cfg0.N) : (dats m 0 c).leavesExact 0 t = owns (c : Thread nD τ) (b0 t) fullShare (iblk m c 0 t) := by
  rw [← after0]
theorem leaves1 (t : Fin cfg0.N) : (dats m 0 c).leavesExact 1 t = owns (c : Thread nD τ) (b1 t) fullShare (iblk m c 1 t) := by
  rw [← after1]
theorem leaves2 (t : Fin cfg0.N) : (dats m 0 c).leavesExact 2 t = owns (c : Thread nD τ) (b2 t) fullShare (iblk m c 2 t) := by
  rw [← after2]
theorem leaves3 (t : Fin cfg0.N) :
    (dats m 0 c).leavesExact 3 t = owns (c : Thread nD τ) (b3 t) fullShare (outs m c t.val t.isLt).1 := by
  rw [← after3]
theorem leaves4 (t : Fin cfg0.N) :
    (dats m 0 c).leavesExact 4 t = owns (c : Thread nD τ) (b4 t) fullShare (outs m c t.val t.isLt).2.1 := by
  rw [← after4]
theorem leaves5 (t : Fin cfg0.N) (h : t.val % 8 = 0) :
    (dats m 0 c).leavesExact 5 t = owns (c : Thread nD τ) (b5 t) fullShare (outs m c t.val t.isLt).2.2 := by
  rw [← after5]
  unfold Dat.leavesExact
  rw [live_first t ((isFirst_iff t).mpr h)]

/-- What the body is called with at a point, -/
def bodyPre (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d)))

/-- and what it returns. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 800000 in
/-- The body does so at every point. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    leaves0, leaves1, leaves2, leaves3, leaves4]
  by_cases h : t.val % 8 = 0
  · rw [leaves5 m c t h, outs_first m c t h]
    unfold first; dsimp only
    iintro ⟨HΦ, Ho, ⟨%d0, H0⟩, ⟨%d1, H1⟩, ⟨%d2, H2⟩, ⟨%d3, H3⟩, ⟨%d4, H4⟩, ⟨%d5, H5⟩⟩
    iapply ((atFirst m c t h).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_first3 m c t h)
    isplitl [H4]
    · unfold owns; iexists _; isplitr
      swap; · iexact H4
      ipureintro; exact View.read_writes_of_cover _ _ _ _ _ (cover_first4 m c t h)
    unfold owns; iexists _; isplitr
    swap; · iexact H5
    ipureintro; exact View.read_writes_of_cover _ _ _ _ _ (cover_first5 m c t h)
  · rw [outs_later m c t h]
    simp only [before5 m c t h]
    unfold later; dsimp only
    iintro ⟨HΦ, Ho, ⟨%d0, H0⟩, ⟨%d1, H1⟩, ⟨%d2, H2⟩, ⟨%d3, H3⟩, ⟨%d4, H4⟩, ⟨%d5, H5⟩⟩
    iapply ((atLater m c t h (outs m c (t.val - 1) (lt_before t)).2.2).2.2 Set.univ _)
    isplitl [H0]; · iexact H0
    isplitl [H1]; · iexact H1
    isplitl [H2]; · iexact H2
    isplitl [H3]; · iexists _; iexact H3
    isplitl [H4]; · iexists _; iexact H4
    isplitl [H5]; · iexact H5
    iintro ⟨H0, H1, H2, ⟨%e3, H3⟩, ⟨%e4, H4⟩, H5⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_later3 m c t h _)
    isplitl [H4]
    · unfold owns; iexists _; isplitr
      swap; · iexact H4
      ipureintro; exact View.read_writes_of_cover _ _ _ _ _ (cover_later4 m c t h _)
    iapply (carried m c t h)
    iexact H5

theorem body_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- Every execution ends, with the arrays as the points' contents say and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := host_prefix m Variants.none) (hA := A_eq m) (hΦ := fun _ _ => rfl)

/-- The results are the arrays of the three outputs, and the arguments are unchanged. -/
theorem run_blocks : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, (h.1 c).1 5,
      ((h.1 c).1 0).trans (((dats m 0 c).arrAt_in 0 rfl _).trans ((A_eq m c 0).trans (V_arg0 m c))),
      ((h.1 c).1 1).trans (((dats m 0 c).arrAt_in 1 rfl _).trans ((A_eq m c 1).trans (V_arg1 m c))),
      ((h.1 c).2 main_arg2 (Pipeline.mem_restRefs_of main_arg2 (by decide) (by decide))).trans (V_arg2 m c)⟩)
    (run_quiescent m ρ)

/-- The frame, for any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2.2.2) (run_blocks m ρ))
    ((θ_run defs _ _).mono (fun _ h => h.2) (run_quiescent m ρ))

/-! ## The arrays from the points -/

theorem flushed3 (t : Fin cfg0.N) :
    (dats m 0 c).flushed 3 t = (cfg0.win 3).cut (grid0.coords t) ((outs m c t.val t.isLt).1) := by
  show (cfg0.win 3).cut (grid0.coords t) ((dats m 0 c).after 3 t) = _
  rw [after3]
theorem flushed4 (t : Fin cfg0.N) :
    (dats m 0 c).flushed 4 t = (cfg0.win 4).cut (grid0.coords t) ((outs m c t.val t.isLt).2.1) := by
  show (cfg0.win 4).cut (grid0.coords t) ((dats m 0 c).after 4 t) = _
  rw [after4]
theorem flushed5 (t : Fin cfg0.N) :
    (dats m 0 c).flushed 5 t = (cfg0.win 5).cut (grid0.coords t) ((outs m c t.val t.isLt).2.2) := by
  show (cfg0.win 5).cut (grid0.coords t) ((dats m 0 c).after 5 t) = _
  rw [after5]

theorem inj3 : ∀ t t' : Fin cfg0.N, win0_3.index t = win0_3.index t' → t = t' :=
  (by decide +kernel : ∀ t t' : Fin grid0.N, win0_3.index t = win0_3.index t' → t = t')
theorem inj4 : ∀ t t' : Fin cfg0.N, win0_4.index t = win0_4.index t' → t = t' :=
  (by decide +kernel : ∀ t t' : Fin grid0.N, win0_4.index t = win0_4.index t' → t = t')

/-- Each block of the first two arrays is what its point left. -/
theorem blocks3 (t : Fin cfg0.N) :
    ((cfg0.win 3).blk t).view.read (Elt F) ((dats m 0 c).arrAt 3 cfg0.N)
      = (cfg0.win 3).cut (grid0.coords t) ((outs m c t.val t.isLt).1) :=
  ((dats m 0 c).read_blk_arrAt_eq_flushed 3 (fun t t' _ _ hne => (cfg0.win 3).disjoint_blk fun h => hne (inj3 t t' h))
    cfg0.N t t.isLt (flush0_3 t)).trans (flushed3 m c t)
theorem blocks4 (t : Fin cfg0.N) :
    ((cfg0.win 4).blk t).view.read (Elt F) ((dats m 0 c).arrAt 4 cfg0.N)
      = (cfg0.win 4).cut (grid0.coords t) ((outs m c t.val t.isLt).2.1) :=
  ((dats m 0 c).read_blk_arrAt_eq_flushed 4 (fun t t' _ _ hne => (cfg0.win 4).disjoint_blk fun h => hne (inj4 t t' h))
    cfg0.N t t.isLt (flush0_4 t)).trans (flushed4 m c t)

/-- The third array is what the last point left. -/
theorem block5 (t : Fin cfg0.N) (h : t.val % 8 = 7) :
    ((cfg0.win 5).blk t).view.read (Elt F) ((dats m 0 c).arrAt 5 cfg0.N)
      = (cfg0.win 5).cut (grid0.coords t) ((outs m c t.val t.isLt).2.2) := by
  refine ((dats m 0 c).read_blk_arrAt_eq_flushed 5 (fun t t' h h' hne => ?_) cfg0.N t t.isLt ((flush0_5 t).mpr h)).trans
    (flushed5 m c t)
  have := (flush0_5 t).mp h
  have := (flush0_5 t').mp h'
  have := lt_of_lt_of_eq t.isLt N_0
  have := lt_of_lt_of_eq t'.isLt N_0
  exact absurd (Fin.ext (by omega)) hne

end Cert.InFrame

end
-- ==== Proof.InProj.lean ====
/-
  The mixer's input projections in the forward pass: each of eight points takes 512 rows, normalises them, and multiplies
  them with the projections' weight, which the first point lays out and widens with zero columns.
-/
module

public import proofs.«01_k».proof.Proof.InFrame
public import proofs.«01_k».proof.Proof.NormX
public import proofs.«01_k».proof.Proof.OutProj
public import proofs.«01_k».proof.Proof.Gen.ReferenceJIdeal.Run
public import Idealize.ShloMosaic.Lib.StableHlo.RunRead

@[expose] public section

set_option synthInstance.maxSize 4096

noncomputable section

namespace Cert.InProj

open Idealize.ShloMosaic Idealize.ShloMosaic.TcCoe Cert.KernelJIdeal Cert.KernelJIdeal.Gen NormRow InRun InFrame
open NormPoint (row sub_at sub_row)
open OutProj (hatAt hat hat_at)

variable (m : (ℓ : Loc nD τ sig) → Buf (Elt Ideal) ℓ) (c : Dev nD)

theorem zeros : ∀ a, (![0, 0] : Fin 2 → ℕ) a = 0 := by decide

/-! ## The normalised rows of a point -/

theorem rows_at (x : Vec Ideal S128x1024 .f32) (g : Vec Ideal S1x1024 .f32) (i : Fin 128) (j : Fin 1024) :
    k0_pay7 x g (ix2 i j) = x (ix2 i j) * scale (row x i) * g (ix2 0 j) := by
  pointwise [k0_pay7]
  rfl

/-- What part `s` of a block stores. -/
theorem piece (X : Vec Ideal S512x1024 .f32) (g : Vec Ideal S1x1024 .f32) (s : Fin 4) {o : ℕ} (ho : o = s.val * 128)
    (inb : ∀ a, (![o, 0] : Fin 2 → ℕ) a + S128x1024.size a ≤ S512x1024.size a) (x : S128x1024.Idx) :
    k0_pay7 (View.ld (e' := .f32) (Val := Elt Ideal) X (Rect.unit (s := S512x1024) ![o, 0] S128x1024.size inb)) g x
      = hatAt X g ((Rect.unit (s := S512x1024) ![o, 0] S128x1024.size inb).emb x) := by
  obtain ⟨i, j, rfl⟩ : ∃ i j, x = ix2 i j := ⟨x 0, x 1, eq_ix2 x _ _ rfl rfl⟩
  have e : (Rect.unit (s := S512x1024) ![o, 0] S128x1024.size inb).emb (ix2 i j) = ix2 (within s i) j :=
    eq_ix2 _ _ _ (by show o + 1 * i.val = (within s i).val; rw [within_val, ho, one_mul])
      (by show 0 + 1 * j.val = j.val; omega)
  rw [e]
  refine (rows_at _ g i j).trans ?_
  rw [sub_row X s ho, sub_at X s ho]
  rfl

/-- The pieces of a point's normalised rows. -/
abbrev rows (X : Vec Ideal S512x1024 .f32) (g : Vec Ideal S1x1024 .f32) : List (View.Piece (Elt Ideal) S512x1024 .bf16) :=
  [⟨Rect.unit (s := S512x1024) ![384, 0] S128x1024.size inb_S512x1024_S128x1024_384_0,
      k0_pay10 (View.ld X (Rect.unit ![384, 0] S128x1024.size inb_S512x1024_S128x1024_384_0)) g⟩,
    ⟨Rect.unit (s := S512x1024) ![256, 0] S128x1024.size inb_S512x1024_S128x1024_256_0,
      k0_pay9 (View.ld X (Rect.unit ![256, 0] S128x1024.size inb_S512x1024_S128x1024_256_0)) g⟩,
    ⟨Rect.unit (s := S512x1024) ![128, 0] S128x1024.size inb_S512x1024_S128x1024_128_0,
      k0_pay8 (View.ld X (Rect.unit ![128, 0] S128x1024.size inb_S512x1024_S128x1024_128_0)) g⟩,
    ⟨Rect.unit (s := S512x1024) ![0, 0] S128x1024.size inb_S512x1024_S128x1024_0_0,
      k0_pay7 (View.ld X (Rect.unit ![0, 0] S128x1024.size inb_S512x1024_S128x1024_0_0)) g⟩]

theorem rows_cover (X : Vec Ideal S512x1024 .f32) (g : Vec Ideal S1x1024 .f32) (y : S512x1024.Idx) :
    ∃ p ∈ rows X g, y ∈ p.1.set :=
  View.cover_of_tiledL (s := S512x1024) _ S128x1024.size (by sl_kernel_rfl) y

theorem rows_block (X : Vec Ideal S512x1024 .f32) (g : Vec Ideal S1x1024 .f32) (y : S512x1024.Idx) :
    View.canon (Val := Elt Ideal) (rows X g) y = hatAt X g y := by
  refine View.canon_append_of_piecesOf (Val := Elt Ideal) (e := .bf16) (hatAt X g) [] [_, _, _, _] ?_ y (rows_cover X g y)
  exact ⟨piece X g 3 (o := 384) rfl _, piece X g 2 (o := 256) rfl _, piece X g 1 (o := 128) rfl _,
    piece X g 0 (o := 0) rfl _, trivial⟩

/-! ## The widened weight -/

/-- Group `s` of the weight's columns. -/
theorem group_at (v : Vec Ideal S1x1024x770 .bf16) (k : Fin 1024) (i : Fin 770) : k0_pay3 v (ix2 k i) = v (ix3 0 k i) := by
  pointwise [k0_pay3]

/-- The weight that four groups of columns make, with 120 columns of zeros appended. -/
def widened (w : Vec Ideal S4x1024x770 .bf16) (y : S1024x3200.Idx) : EReal :=
  if h : (y 1).val < 3080 then w (ix3 ⟨(y 1).val / 770, by omega⟩ (y 0) ⟨(y 1).val % 770, Nat.mod_lt _ (by decide)⟩) else 0

theorem widened_at (w : Vec Ideal S4x1024x770 .bf16) (k : Fin 1024) (s : Fin 4) (i : Fin 770) :
    widened w (ix2 k (Fin.castAdd 120 (within s i))) = w (ix3 s k i) := by
  have hv := within_val s i
  have hl := (within s i).isLt
  have hd : (within s i).val / 770 = s.val := by omega
  have hm : (within s i).val % 770 = i.val := by omega
  refine (dif_pos (show (within s i).val < 3080 from hl)).trans (congrArg w (eq_ix3 _ _ _ _ hd rfl hm))

theorem widened_zero (w : Vec Ideal S4x1024x770 .bf16) (k : Fin 1024) (i : Fin 120) :
    widened w (ix2 k (Fin.natAdd 3080 i)) = 0 :=
  dif_neg (by show ¬ 3080 + i.val < 3080; omega)

/-- What the store of group `s` leaves. -/
theorem column (w : Vec Ideal S4x1024x770 .bf16) (s : Fin 4) {o o' : ℕ} (ho : o = s.val) (ho' : o' = s.val * 770)
    (inb : ∀ a, (![o, 0, 0] : Fin 3 → ℕ) a + S1x1024x770.size a ≤ S4x1024x770.size a)
    (inb' : ∀ a, (![0, o'] : Fin 2 → ℕ) a + S1024x770.size a ≤ S1024x3200.size a) (x : S1024x770.Idx) :
    k0_pay3 (View.ld (e' := .bf16) (Val := Elt Ideal) w (Rect.unit (s := S4x1024x770) ![o, 0, 0] S1x1024x770.size inb)) x
      = widened w ((Rect.unit (s := S1024x3200) ![0, o'] S1024x770.size inb').emb x) := by
  obtain ⟨k, i, rfl⟩ : ∃ k i, x = ix2 k i := ⟨x 0, x 1, eq_ix2 x _ _ rfl rfl⟩
  have e : (Rect.unit (s := S1024x3200) ![0, o'] S1024x770.size inb').emb (ix2 k i)
      = ix2 k (Fin.castAdd 120 (within s i)) :=
    eq_ix2 _ _ _ (by show 0 + 1 * k.val = k.val; omega)
      (by show o' + 1 * i.val = (within s i).val; rw [within_val, ho', one_mul])
  rw [e, widened_at]
  refine (group_at _ k i).trans ?_
  refine View.ld_unit_apply_of (Val := Elt Ideal) (e := .bf16) (S := S4x1024x770) w _ _ inb (ix3 0 k i) (ix3 s k i) fun a => ?_
  fin_cases a
  · show s.val = o + 0
    omega
  · exact (Nat.zero_add k.val).symm
  · exact (Nat.zero_add i.val).symm

theorem blank (w : Vec Ideal S4x1024x770 .bf16)
    (inb : ∀ a, (![0, 3080] : Fin 2 → ℕ) a + S1024x120.size a ≤ S1024x3200.size a) (x : S1024x120.Idx) :
    (k0_pay2 : FVec Ideal S1024x120 .bf16) x
      = widened w ((Rect.unit (s := S1024x3200) ![0, 3080] S1024x120.size inb).emb x) := by
  obtain ⟨k, i, rfl⟩ : ∃ k i, x = ix2 k i := ⟨x 0, x 1, eq_ix2 x _ _ rfl rfl⟩
  have e : (Rect.unit (s := S1024x3200) ![0, 3080] S1024x120.size inb).emb (ix2 k i) = ix2 k (Fin.natAdd 3080 i) :=
    eq_ix2 _ _ _ (by show 0 + 1 * k.val = k.val; omega) (by show 3080 + 1 * i.val = 3080 + i.val; omega)
  rw [e, widened_zero]
  pointwise [k0_pay2]

/-- The pieces of the weight's block. -/
abbrev columns (w : Vec Ideal S4x1024x770 .bf16) : List (View.Piece (Elt Ideal) S1024x3200 .bf16) :=
  [⟨Rect.unit (s := S1024x3200) ![0, 2310] S1024x770.size inb_S1024x3200_S1024x770_0_2310,
      k0_pay6 (View.ld w (Rect.unit (s := S4x1024x770) ![3, 0, 0] S1x1024x770.size inb_S4x1024x770_S1x1024x770_3_0_0))⟩,
    ⟨Rect.unit (s := S1024x3200) ![0, 1540] S1024x770.size inb_S1024x3200_S1024x770_0_1540,
      k0_pay5 (View.ld w (Rect.unit (s := S4x1024x770) ![2, 0, 0] S1x1024x770.size inb_S4x1024x770_S1x1024x770_2_0_0))⟩,
    ⟨Rect.unit (s := S1024x3200) ![0, 770] S1024x770.size inb_S1024x3200_S1024x770_0_770,
      k0_pay4 (View.ld w (Rect.unit (s := S4x1024x770) ![1, 0, 0] S1x1024x770.size inb_S4x1024x770_S1x1024x770_1_0_0))⟩,
    ⟨Rect.unit (s := S1024x3200) ![0, 0] S1024x770.size inb_S1024x3200_S1024x770_0_0,
      k0_pay3 (View.ld w (Rect.unit (s := S4x1024x770) ![0, 0, 0] S1x1024x770.size inb_S4x1024x770_S1x1024x770_0_0_0))⟩,
    ⟨Rect.unit (s := S1024x3200) ![0, 3080] S1024x120.size inb_S1024x3200_S1024x120_0_3080, k0_pay2 (F := Ideal)⟩]

theorem columns_cover (w : Vec Ideal S4x1024x770 .bf16) (y : S1024x3200.Idx) : ∃ p ∈ columns w, y ∈ p.1.set :=
  View.cover_of_tiledBy (columns w) ![1024, 10] (by sl_kernel_rfl) y

theorem columns_block (w : Vec Ideal S4x1024x770 .bf16) (y : S1024x3200.Idx) :
    View.canon (Val := Elt Ideal) (columns w) y = widened w y := by
  refine View.canon_append_of_piecesOf (Val := Elt Ideal) (e := .bf16) (widened w) [] [_, _, _, _, _] ?_ y (columns_cover w y)
  exact ⟨column w 3 (o := 3) (o' := 2310) rfl rfl _ inb_S1024x3200_S1024x770_0_2310,
    column w 2 (o := 2) (o' := 1540) rfl rfl _ inb_S1024x3200_S1024x770_0_1540,
    column w 1 (o := 1) (o' := 770) rfl rfl _ inb_S1024x3200_S1024x770_0_770,
    column w 0 (o := 0) (o' := 0) rfl rfl _ inb_S1024x3200_S1024x770_0_0,
    blank w inb_S1024x3200_S1024x120_0_3080, trivial⟩

/-! ## The product -/

theorem prod_at (a : Vec Ideal S512x1024 .bf16) (b : Vec Ideal S1024x3200 .bf16) (i : Fin 512) (j : Fin 3200) :
    k0_pay1 (k0_pay11 a) (k0_pay12 b) (constant S512x3200 FTy.f32 0#32) (ix2 i j) = ∑ k : Fin 1024, a (ix2 i k) * b (ix2 k j) := by
  pointwise [k0_pay1, k0_pay11, k0_pay12]

/-- Reading a covered block back whole. -/
theorem back {κ sp} {S : Shape} {e : EltTy} (v : View sig κ sp S e) (L : List (View.Piece (Elt Ideal) S e))
    {o : Fin S.rank → ℕ} (inb : ∀ a, o a + S.size a ≤ S.size a) (ho : ∀ a, o a = 0) (hL : ∀ y, ∃ p ∈ L, y ∈ p.1.set) :
    v.readCov L (Rect.unit o S.size inb).toLoadRect = View.canon L := by
  rw [View.readCov_eq_canon_ld v L _ hL]
  exact View.ld_unit_zero (funext ho) inb _

/-! ## What the points leave -/

theorem hat_first (t : Fin cfg0.N) (h : t.val % 8 = 0) (y : S512x1024.Idx) :
    (first m c t h).2.1 y = hatAt (iblk m c 0 t) (iblk m c 1 t) y := by
  unfold first atFirst
  frame_out
  exact rows_block (iblk m c 0 t) (iblk m c 1 t) y

theorem hat_later (t : Fin cfg0.N) (h : ¬t.val % 8 = 0) (w : Vec Ideal S1024x3200 .bf16) (y : S512x1024.Idx) :
    (later m c t h w).2.1 y = hatAt (iblk m c 0 t) (iblk m c 1 t) y := by
  unfold later atLater
  frame_out
  exact rows_block (iblk m c 0 t) (iblk m c 1 t) y

theorem weight_first (t : Fin cfg0.N) (h : t.val % 8 = 0) (y : S1024x3200.Idx) :
    (first m c t h).2.2 y = widened (iblk m c 2 t) y := by
  unfold first atFirst
  frame_out
  exact columns_block (iblk m c 2 t) y

/-- A point's product over the weight `w`. -/
abbrev prodOf (t : Fin cfg0.N) (w : S1024x3200.Idx → EReal) (i : Fin 512) (j : Fin 3200) : EReal :=
  ∑ k : Fin 1024, hatAt (iblk m c 0 t) (iblk m c 1 t) (ix2 i k) * w (ix2 k j)

theorem prod_first (t : Fin cfg0.N) (h : t.val % 8 = 0) (i : Fin 512) (j : Fin 3200) :
    (first m c t h).1 (ix2 i j) = prodOf m c t (widened (iblk m c 2 t)) i j := by
  unfold first atFirst
  frame_out
  refine (prod_at _ _ i j).trans (Finset.sum_congr rfl fun k _ => congrArg₂ (fun p q : EReal => p * q) ?_ ?_)
  · exact (congrFun (back (b4 t).view (rows (iblk m c 0 t) (iblk m c 1 t)) _ zeros (rows_cover _ _)) _).trans (rows_block _ _ _)
  · exact (congrFun (back (b5 t).view (columns (iblk m c 2 t)) _ zeros (columns_cover _)) _).trans (columns_block _ _)

theorem prod_later (t : Fin cfg0.N) (h : ¬t.val % 8 = 0) (w : Vec Ideal S1024x3200 .bf16) (i : Fin 512) (j : Fin 3200) :
    (later m c t h w).1 (ix2 i j) = prodOf m c t w i j := by
  unfold later atLater
  frame_out
  refine (prod_at _ _ i j).trans (Finset.sum_congr rfl fun k _ => congrArg₂ (fun p q : EReal => p * q) ?_ rfl)
  exact (congrFun (back (b4 t).view (rows (iblk m c 0 t) (iblk m c 1 t)) _ zeros (rows_cover _ _)) _).trans (rows_block _ _ _)

/-! ## The blocks of the arguments -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0
    ∧ win0_2.index t (2 : Fin 3) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The arguments: the rows, the norm's gain, the projections' weight. -/
abbrev argX : Vec Ideal S4096x1024 .f32 := m ((c : Thread nD τ).loc main_arg0)
abbrev argG : Vec Ideal S1x1024 .f32 := m ((c : Thread nD τ).loc main_arg1)
abbrev argW : Vec Ideal S1024x3080 .bf16 := m ((c : Thread nD τ).loc main_arg2)

theorem V_v1 : V m c main_v1 = transpose S4x1024x770 [1, 0, 2]
    (shapeCast S1024x4x770 (argW m c) shapeCasts_S1024x3080_S1024x4x770) transposes_S1024x4x770_S4x1024x770_1_0_2 := by
  simp only [V, hostOps0, List.flatten_cons, List.flatten_nil, List.append_nil, List.cons_append, List.nil_append]
  after_reads_simp
  rfl

/-- The host's groups of columns. -/
theorem v1_at (s : Fin 4) (k : Fin 1024) (i : Fin 770) : V m c main_v1 (ix3 s k i) = argW m c (ix2 k (within s i)) := by
  rw [V_v1]
  have e : ∀ z : FVec Ideal S1024x3080 .bf16, transpose S4x1024x770 [1, 0, 2]
      (shapeCast S1024x4x770 z shapeCasts_S1024x3080_S1024x4x770) transposes_S1024x4x770_S4x1024x770_1_0_2 (ix3 s k i)
      = z (ix2 k (within s i)) := by
    intro z
    pointwise []
    exact congrArg (fun q => z (ix2 k q)) (Fin.ext (within_val s i).symm)
  exact e _

/-- Every point sees the same groups: the widened weight is the reference's. -/
theorem widened_eq (t : Fin cfg0.N) (y : S1024x3200.Idx) : widened (iblk m c 2 t) y = NormX.wide (argW m c) y := by
  obtain ⟨k, j, rfl⟩ : ∃ k j, y = ix2 k j := ⟨y 0, y 1, eq_ix2 y _ _ rfl rfl⟩
  induction j using Fin.addCases (m := 3080) (n := 120) with
  | left j =>
    obtain ⟨s, i, rfl⟩ := exists_within (a := 4) (n := 770) j
    refine (widened_at _ k s i).trans (Eq.trans ?_ (NormX.wide_at (argW m c) k (within s i)).symm)
    refine Eq.trans ?_ (v1_at m c s k i)
    exact congrArg (V m c main_v1) (eq_ix3 (((cfg0.win 2).blk t).view.emb (ix3 s k i)) s k i
      (at_zero (idx2 t).1) (at_zero (idx2 t).2.1) (at_zero (idx2 t).2.2))
  | right i => exact (widened_zero _ k i).trans (NormX.wide_zero (argW m c) k i).symm

/-- The weight's buffer holds the widened weight after every point. -/
theorem weight_at : ∀ (n : ℕ) (hn : n < cfg0.N) (y : S1024x3200.Idx), (outs m c n hn).2.2 y = NormX.wide (argW m c) y := by
  intro n
  induction n with
  | zero =>
    intro hn y
    have e := outs_first m c ⟨0, hn⟩ (Nat.zero_mod _)
    exact (congrArg (fun o => o.2.2 y) e).trans ((weight_first m c _ _ y).trans (widened_eq m c _ y))
  | succ n ih =>
    intro hn y
    by_cases h : (n + 1) % 8 = 0
    · have e := outs_first m c ⟨n + 1, hn⟩ h
      exact (congrArg (fun o => o.2.2 y) e).trans ((weight_first m c _ _ y).trans (widened_eq m c _ y))
    · have e := outs_later m c ⟨n + 1, hn⟩ h
      exact (congrArg (fun o => o.2.2 y) e).trans ((congrFun (later_weight m c ⟨n + 1, hn⟩ h _) y).trans (ih _ y))

theorem hat_point (t : Fin cfg0.N) (y : S512x1024.Idx) :
    (outs m c t.val t.isLt).2.1 y = hatAt (iblk m c 0 t) (iblk m c 1 t) y := by
  by_cases h : t.val % 8 = 0
  · rw [outs_first m c t h]
    exact hat_first m c t h y
  · rw [outs_later m c t h]
    exact hat_later m c t h _ y

theorem prod_point (t : Fin cfg0.N) (i : Fin 512) (j : Fin 3200) :
    (outs m c t.val t.isLt).1 (ix2 i j) = prodOf m c t (NormX.wide (argW m c)) i j := by
  by_cases h : t.val % 8 = 0
  · rw [outs_first m c t h]
    refine (prod_first m c t h i j).trans (Finset.sum_congr rfl fun k _ => ?_)
    exact congrArg (fun q : EReal => _ * q) (widened_eq m c t _)
  · rw [outs_later m c t h]
    refine (prod_later m c t h _ i j).trans (Finset.sum_congr rfl fun k _ => ?_)
    exact congrArg (fun q : EReal => _ * q) (weight_at m c _ _ _)

variable (t : Fin cfg0.N) (s : Fin 8) (hs : t.val = s.val)

include hs in
theorem x_at (i : Fin 512) (j : Fin 1024) : iblk m c 0 t (ix2 i j) = argX m c (ix2 (within s i) j) :=
  (congrFun (V_arg0 m c) _).trans (congrArg (argX m c)
    (eq_ix2 (((cfg0.win 0).blk t).view.emb (ix2 i j)) (within s i) j (pos_eq s ((idx0 t).1.trans hs) i) (at_zero (idx0 t).2)))

theorem g_at (j : Fin 1024) : iblk m c 1 t (ix2 0 j) = argG m c (ix2 0 j) :=
  (congrFun (V_arg1 m c) _).trans (congrArg (argG m c)
    (eq_ix2 (((cfg0.win 1).blk t).view.emb (ix2 0 j)) 0 j (at_zero (idx1 t).1) (at_zero (idx1 t).2)))

include hs in
/-- A point's normalised rows are the reference's. -/
theorem hat_eq (i : Fin 512) (j : Fin 1024) :
    hatAt (iblk m c 0 t) (iblk m c 1 t) (ix2 i j) = hat (argX m c) (argG m c) (ix2 (within s i) j) := by
  rw [hat_at]
  have hx : row (iblk m c 0 t) i = NormRef.row (argX m c) (within s i) := funext fun k => x_at m c t s hs i k
  exact congrArg₂ (fun p q : EReal => p * q)
    (congrArg₂ (fun p q : EReal => p * q) (x_at m c t s hs i j) (congrArg scale hx)) (g_at m c t j)

/-! ## The reference's product -/

/-- The reference's projections, with 120 columns of zeros appended. -/
abbrev plain (x : FVec Ideal S4096x1024 .f32) (g : Vec Ideal S1x1024 .f32) (w : Vec Ideal S1024x3080 .bf16) :
    FVec Ideal Cert.ReferenceJIdeal.S4096x3200 .f32 :=
  pad Cert.ReferenceJIdeal.S4096x3200 ![0, 0] ![0, 120] ![0, 0]
    (Host.dotGeneral (F := Ideal) (φ₁ := .f32) (φ₂ := .f32)
      Cert.ReferenceJIdeal.dot_S4096x1024_S1024x3080_S4096x3080_1_0_0_1_n_n none
      (mulf (mulf x (broadcastInDim S4096x1024 ![0, 1] Cert.ReferenceXIdeal.Facts₀.bcast_S4096x1_S4096x1024_0_1
        (Host.rsqrt (NormRef.mean x)))) (NormRef.gain g)) (extf .f32 w Cert.ReferenceXIdeal.Facts₀.bitsLt_bf16_f32))
    (sitofp (F := Ideal) .f32 (constantI Cert.ReferenceJIdeal.S_ 32 0#32))
    Cert.ReferenceJIdeal.Facts₀.pads_S4096x3080_S4096x3200_000_01200 Cert.ReferenceJIdeal.Facts₀.h_S_

theorem plain_at (x : FVec Ideal S4096x1024 .f32) (g : Vec Ideal S1x1024 .f32) (w : Vec Ideal S1024x3080 .bf16)
    (i : Fin 4096) (j : Fin 3080) :
    plain x g w (ix2 i (Fin.castAdd 120 j)) = ∑ k : Fin 1024, hat x g (ix2 i k) * w (ix2 k j) := by
  pointwise [plain]
  refine (dif_pos j.isLt).trans ?_
  pointwise []
  rfl

theorem plain_zero (x : FVec Ideal S4096x1024 .f32) (g : Vec Ideal S1x1024 .f32) (w : Vec Ideal S1024x3080 .bf16)
    (i : Fin 4096) (j : Fin 120) : plain x g w (ix2 i (Fin.natAdd 3080 j)) = 0 := by
  pointwise [plain]
  rw [dif_neg (by show ¬ 3080 + j.val < 3080; omega)]
  show (((0#32 : BitVec 32).toInt : ℝ) : EReal) = 0
  simp

/-- The zero columns of the weight give the zero columns of the product. -/
theorem prod_wide (x : FVec Ideal S4096x1024 .f32) (g : Vec Ideal S1x1024 .f32) (w : Vec Ideal S1024x3080 .bf16)
    (i : Fin 4096) (j : Fin 3200) :
    ∑ k : Fin 1024, (hat x g (ix2 i k) * NormX.wide w (ix2 k j) : EReal) = plain x g w (ix2 i j) := by
  induction j using Fin.addCases (m := 3080) (n := 120) with
  | left j =>
    rw [plain_at]
    exact Finset.sum_congr rfl fun k _ => congrArg (fun q : EReal => _ * q) (NormX.wide_at w k j)
  | right j =>
    rw [plain_zero]
    exact Finset.sum_eq_zero fun k _ => (congrArg (fun q : EReal => _ * q) (NormX.wide_zero w k j)).trans (mul_zero _)

/-! ## The whole arrays -/

/-- The kernel's projections are the reference's; -/
theorem equal3 : ((dats m 0 c).arrAt 3 cfg0.N : Vec Ideal Cert.ReferenceJIdeal.S4096x3200 .f32)
    = plain (argX m c) (argG m c) (argW m c) := by
  funext y
  obtain ⟨i, j, rfl⟩ : ∃ i j, y = ix2 i j := ⟨y 0, y 1, eq_ix2 y _ _ rfl rfl⟩
  obtain ⟨s, i, rfl⟩ := exists_within (a := 8) (n := 512) i
  let t : Fin cfg0.N := ⟨s.val, lt_of_lt_of_eq s.isLt N_0.symm⟩
  have e := congrFun (blocks3 m c t) (ix2 i j)
  have e2 : ((cfg0.win 3).blk t).view.emb (ix2 i j) = ix2 (within s i) j :=
    eq_ix2 _ _ _ (pos_eq s (idx3 t).1 i) (at_zero (idx3 t).2)
  refine Eq.trans ?_ (e.trans ((prod_point m c t i j).trans ?_))
  · show _ = (dats m 0 c).arrAt 3 cfg0.N (((cfg0.win 3).blk t).view.emb (ix2 i j))
    rw [e2]
  · rw [← prod_wide]
    exact Finset.sum_congr rfl fun k _ => congrArg (fun q : EReal => q * _) (hat_eq m c t s rfl i k)

/-- its normalised rows too; -/
theorem equal4 : ((dats m 0 c).arrAt 4 cfg0.N : Vec Ideal S4096x1024 .bf16) = hat (argX m c) (argG m c) := by
  funext y
  obtain ⟨i, j, rfl⟩ : ∃ i j, y = ix2 i j := ⟨y 0, y 1, eq_ix2 y _ _ rfl rfl⟩
  obtain ⟨s, i, rfl⟩ := exists_within (a := 8) (n := 512) i
  let t : Fin cfg0.N := ⟨s.val, lt_of_lt_of_eq s.isLt N_0.symm⟩
  have e := congrFun (blocks4 m c t) (ix2 i j)
  have e2 : ((cfg0.win 4).blk t).view.emb (ix2 i j) = ix2 (within s i) j :=
    eq_ix2 _ _ _ (pos_eq s (idx4 t).1 i) (at_zero (idx4 t).2)
  refine Eq.trans ?_ (e.trans ((hat_point m c t (ix2 i j)).trans (hat_eq m c t s rfl i j)))
  show _ = (dats m 0 c).arrAt 4 cfg0.N (((cfg0.win 4).blk t).view.emb (ix2 i j))
  rw [e2]

/-- and the weight that it leaves is the reference's widened one. -/
theorem equal5 : ((dats m 0 c).arrAt 5 cfg0.N : Vec Ideal S1024x3200 .bf16) = NormX.wide (argW m c) := by
  funext y
  obtain ⟨k, j, rfl⟩ : ∃ k j, y = ix2 k j := ⟨y 0, y 1, eq_ix2 y _ _ rfl rfl⟩
  let t : Fin cfg0.N := ⟨7, lt_of_lt_of_eq (by decide) N_0.symm⟩
  have e := congrFun (block5 m c t rfl) (ix2 k j)
  have e2 : ((cfg0.win 5).blk t).view.emb (ix2 k j) = ix2 k j := eq_ix2 _ _ _ (at_zero (idx5 t).1) (at_zero (idx5 t).2)
  refine Eq.trans ?_ (e.trans (weight_at m c t.val t.isLt (ix2 k j)))
  show _ = (dats m 0 c).arrAt 5 cfg0.N (((cfg0.win 5).blk t).view.emb (ix2 k j))
  rw [e2]

end Cert.InProj

end
-- ==== Proof.LossRef.lean ====
/-
  The reference's loss and its gradients over the final norm's input `x`, the gain and the target, entry by entry.
-/
module

public import proofs.«01_k».proof.Proof.NormRef
public import proofs.«01_k».proof.Proof.Gen.ReferenceLIdeal.Run

@[expose] public section

set_option synthInstance.maxSize 4096

noncomputable section

namespace Cert.LossRef

open Idealize.ShloMosaic Idealize.ShloMosaic.TcCoe Cert.ReferenceLIdeal Cert.ReferenceLIdeal.Facts₀ NormRow NormRef

/-- The errors; -/
def errs (x : FVec Ideal S4096x1024 .f32) (g : FVec Ideal S1x1024 .f32) (t : FVec Ideal S4096x1024 .f32) :
    FVec Ideal S4096x1024 .f32 :=
  subf (mulf (mulf x (broadcastInDim S4096x1024 ![0, 1] bcast_S4096x1_S4096x1024_0_1 (Host.rsqrt (mean x)))) (gain g)) t

/-- the loss, 128 times; -/
def loss (x : FVec Ideal S4096x1024 .f32) (g : FVec Ideal S1x1024 .f32) (t : FVec Ideal S4096x1024 .f32) :
    FVec Ideal S1x128 .f32 :=
  broadcastInDim S1x128 ![] bcast_S_S1x128 (mulf (constant S_ .f32 0x3F000000#32) (Host.reduceAdd (Host.divf (Host.reduceAdd
    (mulf (errs x g t) (errs x g t)) (constant S_ .f32 0x00000000#32) reducesTo_S4096x1024_S4096_d1 h_S_)
    (broadcastInDim S4096 ![] bcast_S_S4096 (constant S_ .f32 0x44800000#32))) (constant S_ .f32 0x00000000#32)
    reducesTo_S4096_S_d0 h_S_))

/-- the gradient of the norm's output; -/
def grad (x : FVec Ideal S4096x1024 .f32) (g : FVec Ideal S1x1024 .f32) (t : FVec Ideal S4096x1024 .f32) :
    FVec Ideal S4096x1024 .f32 :=
  mulf (broadcastInDim S4096x1024 ![0] bcast_S4096_S4096x1024_0 (Host.divf (broadcastInDim S4096 ![] bcast_S_S4096
    (mulf (constant S_ .f32 0x3F000000#32) (constant S_ .f32 0x3F800000#32)))
    (broadcastInDim S4096 ![] bcast_S_S4096 (constant S_ .f32 0x44800000#32))))
    (mulf (broadcastInDim S4096x1024 ![] bcast_S_S4096x1024 (constant S_ .f32 0x40000000#32)) (errs x g t))

/-- the input's gradient. -/
def inputGrad (d x : FVec Ideal S4096x1024 .f32) (g : FVec Ideal S1x1024 .f32) : FVec Ideal S4096x1024 .f32 :=
  addf (addf
    (mulf (mulf d (gain g)) (broadcastInDim S4096x1024 ![0, 1] bcast_S4096x1_S4096x1024_0_1 (Host.rsqrt (mean x))))
    (mulf x (broadcastInDim S4096x1024 ![0] bcast_S4096_S4096x1024_0 (back d x g))))
    (mulf (broadcastInDim S4096x1024 ![0] bcast_S4096_S4096x1024_0 (back d x g)) x)

/-- The error of a row's entry: the normalised entry less the target. -/
def err (x t g : Fin 1024 → EReal) (j : Fin 1024) : EReal := x j * scale x * g j - t j

theorem errs_at (x : FVec Ideal S4096x1024 .f32) (g : FVec Ideal S1x1024 .f32) (t : FVec Ideal S4096x1024 .f32)
    (i : Fin 4096) (j : Fin 1024) : errs x g t (ix2 i j) = err (row x i) (row t i) (row g 0) j := by
  pointwise [errs]
  simp only [mean_at, NormRef.gain_at]
  rfl

theorem inputGrad_at (d x : FVec Ideal S4096x1024 .f32) (g : FVec Ideal S1x1024 .f32) (i : Fin 4096) (j : Fin 1024) :
    inputGrad d x g (ix2 i j) = plainAt (row x i) (row d i) (row g 0) 0 j := by
  pointwise [inputGrad]
  simp only [mean_at, NormRef.gain_at, back_at]
  exact (zero_add _).symm

/-- The constants: one half and one half of one over the length; twice that is one over the length. -/
theorem grad_at (x : FVec Ideal S4096x1024 .f32) (g : FVec Ideal S1x1024 .f32) (t : FVec Ideal S4096x1024 .f32)
    (i : Fin 4096) (j : Fin 1024) :
    grad x g t (ix2 i j) = err (row x i) (row t i) (row g 0) j * Ideal.ofBits .f32 0x3A800000#32 := by
  pointwise [grad]
  simp only [errs_at]
  generalize err _ _ _ _ = e
  have h1 : Ideal.ofBits .f32 0x3F000000#32 = ((1 / 2 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1024⁻¹ : ℝ) : EReal) := by
    simp [Ideal.ofBits, Ideal.ieee, -EReal.coe_mul]; norm_num
  rw [h1, h3, h4, NormRow.div_len, ← EReal.coe_mul, ← mul_assoc, ← EReal.coe_mul, mul_comm]
  congr 2
  norm_num

theorem loss_at (x : FVec Ideal S4096x1024 .f32) (g : FVec Ideal S1x1024 .f32) (t : FVec Ideal S4096x1024 .f32) (j : Fin 128) :
    loss x g t (ix2 0 j) = Ideal.ofBits .f32 0x3A000000#32
      * ∑ i, ∑ k, err (row x i) (row t i) (row g 0) k * err (row x i) (row t i) (row g 0) k := by
  pointwise [loss]
  simp only [errs_at]
  have h1 : Ideal.ofBits .f32 0x3F000000#32 = ((1 / 2 : ℝ) : EReal) := by
    simp [Ideal.ofBits, Ideal.ieee, -EReal.coe_mul]; norm_num
  have h2 : Ideal.ofBits .f32 0x3A000000#32 = ((1024⁻¹ * (1 / 2) : ℝ) : EReal) := by
    simp [Ideal.ofBits, Ideal.ieee, -EReal.coe_mul]; norm_num
  rw [h1, h2, EReal.coe_mul, mul_comm (_ : EReal), mul_comm (_ * _ : EReal), ← mul_assoc, sum_mul_real _ _ (by norm_num)]
  simp only [NormRow.div_len]
  rw [← sum_mul_real _ _ (by norm_num), ← sum_mul_real _ _ (by norm_num)]

end Cert.LossRef

end
-- ==== Proof.LossPoint.lean ====
/-
  What a point of the loss head computes, entry by entry: 128 rows, then the four times 128 rows of a point's block. `X` is the
  final norm's input, `T` the target, `g` the gain.
-/
module

public import proofs.«01_k».proof.Proof.NormPoint
public import proofs.«01_k».proof.Proof.LossRef
public import proofs.«01_k».proof.Proof.Gen.KernelLIdeal.Skeleton

@[expose] public section

set_option synthInstance.maxSize 4096

noncomputable section

namespace Cert.LossPoint

open Idealize.ShloMosaic Cert.KernelLIdeal Cert.KernelLIdeal.Gen NormRow NormPoint
open LossRef (err)

/-- One over a row's length, and one half of it. -/
abbrev one : EReal := Ideal.ofBits .f32 0x3A800000#32
abbrev halfOne : EReal := Ideal.ofBits .f32 0x3A000000#32

theorem halfOne_eq : halfOne = ((2048⁻¹ : ℝ) : EReal) := by
  simp [halfOne, Ideal.ofBits, Ideal.ieee, -EReal.coe_mul]; norm_num

theorem scale_at (x : Vec Ideal S128x1024 .f32) (i : Fin 128) : k0_pay5 x (ix2 i 0) = scale (row x i) := by
  pointwise [k0_pay5, k0_pay4]
  rfl

theorem err_at (x t : Vec Ideal S128x1024 .f32) (g : Vec Ideal S1x1024 .f32) (i : Fin 128) (j : Fin 1024) :
    k0_pay7 x g t (ix2 i j) = err (row x i) (row t i) (row g 0) j := by
  pointwise [k0_pay7, k0_pay6, k0_pay4]
  simp only [scale_at]
  rfl

/-- The input's gradient. -/
theorem grad_at (x t : Vec Ideal S128x1024 .f32) (g : Vec Ideal S1x1024 .f32) (i : Fin 128) (j : Fin 1024) :
    k0_pay13 (k0_pay5 x) (k0_pay6 x) (k0_pay7 x g t) g (ix2 i j)
      = kernelAt (row x i) (fun k => err (row x i) (row t i) (row g 0) k * one) (row g 0) 0 j := by
  pointwise [k0_pay13, k0_pay12, k0_pay6, k0_pay4]
  simp only [scale_at, err_at]
  exact (zero_add _).symm

/-- The gain's gradient: what 128 rows add. -/
theorem gain_at (x t : Vec Ideal S128x1024 .f32) (g v : Vec Ideal S1x1024 .f32) (j : Fin 1024) :
    k0_pay14 (k0_pay6 x) (k0_pay7 x g t) v (ix2 0 j)
      = v (ix2 0 j) + ∑ i, err (row x i) (row t i) (row g 0) j * one * (x (ix2 i j) * scale (row x i)) := by
  pointwise [k0_pay14, k0_pay12, k0_pay6, k0_pay4]
  simp only [scale_at, err_at]

/-- The loss: what 128 rows add. -/
theorem loss_at (x t : Vec Ideal S128x1024 .f32) (g : Vec Ideal S1x1024 .f32) (l : Vec Ideal S1x128 .f32) (j : Fin 128) :
    k0_pay11 (k0_pay8 l) k0_pay9 (k0_pay10 x g t) (ix2 0 j)
      = l (ix2 0 j) + halfOne * ∑ i, ∑ k, err (row x i) (row t i) (row g 0) k * err (row x i) (row t i) (row g 0) k := by
  pointwise [k0_pay11, k0_pay8, k0_pay9, k0_pay10]
  simp only [err_at]

/-! ## The four parts of a block -/

/-- The input's gradient. -/
def dxAt (X T : Vec Ideal S512x1024 .f32) (g : Vec Ideal S1x1024 .f32) (y : S512x1024.Idx) : EReal :=
  kernelAt (row X (y 0)) (fun k => err (row X (y 0)) (row T (y 0)) (row g 0) k * one) (row g 0) 0 (y 1)

/-- What part `s` stores. -/
theorem piece (X T : Vec Ideal S512x1024 .f32) (g : Vec Ideal S1x1024 .f32) (s : Fin 4) {o : ℕ} (ho : o = s.val * 128)
    (inb : ∀ a, (![o, 0] : Fin 2 → ℕ) a + S128x1024.size a ≤ S512x1024.size a) (x : S128x1024.Idx) :
    k0_pay13 (k0_pay5 (View.ld (e' := .f32) (Val := Elt Ideal) X (Rect.unit (s := S512x1024) ![o, 0] S128x1024.size inb)))
      (k0_pay6 (View.ld (e' := .f32) (Val := Elt Ideal) X (Rect.unit (s := S512x1024) ![o, 0] S128x1024.size inb)))
      (k0_pay7 (View.ld (e' := .f32) (Val := Elt Ideal) X (Rect.unit (s := S512x1024) ![o, 0] S128x1024.size inb)) g
        (View.ld (e' := .f32) (Val := Elt Ideal) T (Rect.unit (s := S512x1024) ![o, 0] S128x1024.size inb))) g x
      = dxAt X T g ((Rect.unit (s := S512x1024) ![o, 0] S128x1024.size inb).emb x) := by
  obtain ⟨i, j, rfl⟩ : ∃ i j, x = ix2 i j := ⟨x 0, x 1, eq_ix2 x _ _ rfl rfl⟩
  have e : (Rect.unit (s := S512x1024) ![o, 0] S128x1024.size inb).emb (ix2 i j) = ix2 (within s i) j :=
    eq_ix2 _ _ _ (by show o + 1 * i.val = (within s i).val; rw [within_val, ho, one_mul])
      (by show 0 + 1 * j.val = j.val; omega)
  rw [e]
  refine (grad_at _ _ g i j).trans ?_
  rw [sub_row X s ho, sub_row T s ho]
  rfl

/-- The block of a point, whatever was stored before its four parts. -/
theorem block_at (X T : Vec Ideal S512x1024 .f32) (g : Vec Ideal S1x1024 .f32)
    (L : List (View.Piece (Elt Ideal) S512x1024 .f32)) (y : S512x1024.Idx) :
    View.canon (Val := Elt Ideal)
      ((⟨Rect.unit (s := S512x1024) ![384, 0] S128x1024.size inb_S512x1024_S128x1024_384_0,
          k0_pay42 (k0_pay36 (View.ld X (Rect.unit ![384, 0] S128x1024.size inb_S512x1024_S128x1024_384_0)))
            (k0_pay37 (View.ld X (Rect.unit ![384, 0] S128x1024.size inb_S512x1024_S128x1024_384_0)))
            (k0_pay38 (View.ld X (Rect.unit ![384, 0] S128x1024.size inb_S512x1024_S128x1024_384_0)) g)
            (View.ld T (Rect.unit ![384, 0] S128x1024.size inb_S512x1024_S128x1024_384_0)) g⟩ :
          View.Piece (Elt Ideal) S512x1024 .f32)
        :: ⟨Rect.unit (s := S512x1024) ![256, 0] S128x1024.size inb_S512x1024_S128x1024_256_0,
          k0_pay33 (k0_pay27 (View.ld X (Rect.unit ![256, 0] S128x1024.size inb_S512x1024_S128x1024_256_0)))
            (k0_pay28 (View.ld X (Rect.unit ![256, 0] S128x1024.size inb_S512x1024_S128x1024_256_0)))
            (k0_pay29 (View.ld X (Rect.unit ![256, 0] S128x1024.size inb_S512x1024_S128x1024_256_0)) g
              (View.ld T (Rect.unit ![256, 0] S128x1024.size inb_S512x1024_S128x1024_256_0))) k0_pay31 g⟩
        :: ⟨Rect.unit (s := S512x1024) ![128, 0] S128x1024.size inb_S512x1024_S128x1024_128_0,
          k0_pay23 (k0_pay15 (View.ld X (Rect.unit ![128, 0] S128x1024.size inb_S512x1024_S128x1024_128_0)))
            (k0_pay16 (View.ld X (Rect.unit ![128, 0] S128x1024.size inb_S512x1024_S128x1024_128_0))) k0_pay17 g
            (View.ld T (Rect.unit ![128, 0] S128x1024.size inb_S512x1024_S128x1024_128_0)) g⟩
        :: ⟨Rect.unit (s := S512x1024) ![0, 0] S128x1024.size inb_S512x1024_S128x1024_0_0,
          k0_pay13 (k0_pay5 (View.ld X (Rect.unit ![0, 0] S128x1024.size inb_S512x1024_S128x1024_0_0)))
            (k0_pay6 (View.ld X (Rect.unit ![0, 0] S128x1024.size inb_S512x1024_S128x1024_0_0)))
            (k0_pay7 (View.ld X (Rect.unit ![0, 0] S128x1024.size inb_S512x1024_S128x1024_0_0)) g
              (View.ld T (Rect.unit ![0, 0] S128x1024.size inb_S512x1024_S128x1024_0_0))) g⟩ :: L) y
      = dxAt X T g y := by
  refine View.canon_append_of_piecesOf (dxAt X T g) L [_, _, _, _] ?_ y ?_
  · exact ⟨piece X T g 3 (o := 384) rfl _, piece X T g 2 (o := 256) rfl _, piece X T g 1 (o := 128) rfl _,
      piece X T g 0 (o := 0) rfl _, trivial⟩
  · exact View.cover_of_tiledL (s := S512x1024) _ S128x1024.size (by sl_kernel_rfl) y

/-- The gain's gradient from the rows of a block, -/
def gainOf (X T : Vec Ideal S512x1024 .f32) (g : Vec Ideal S1x1024 .f32) (j : Fin 1024) : EReal :=
  ∑ i, err (row X i) (row T i) (row g 0) j * one * (X (ix2 i j) * scale (row X i))

/-- and the loss. -/
def lossOf (X T : Vec Ideal S512x1024 .f32) (g : Vec Ideal S1x1024 .f32) : EReal :=
  ∑ i, ∑ k, err (row X i) (row T i) (row g 0) k * err (row X i) (row T i) (row g 0) k

/-- What part `s` adds to the first, -/
theorem part_gain (X T : Vec Ideal S512x1024 .f32) (g v : Vec Ideal S1x1024 .f32) (s : Fin 4) {o : ℕ} (ho : o = s.val * 128)
    (inb : ∀ a, (![o, 0] : Fin 2 → ℕ) a + S128x1024.size a ≤ S512x1024.size a) (j : Fin 1024) :
    k0_pay14 (k0_pay6 (View.ld (e' := .f32) (Val := Elt Ideal) X (Rect.unit (s := S512x1024) ![o, 0] S128x1024.size inb)))
      (k0_pay7 (View.ld (e' := .f32) (Val := Elt Ideal) X (Rect.unit (s := S512x1024) ![o, 0] S128x1024.size inb)) g
        (View.ld (e' := .f32) (Val := Elt Ideal) T (Rect.unit (s := S512x1024) ![o, 0] S128x1024.size inb))) v (ix2 0 j)
      = v (ix2 0 j) + ∑ i : Fin 128, err (row X (within s i)) (row T (within s i)) (row g 0) j * one
          * (X (ix2 (within s i) j) * scale (row X (within s i))) := by
  refine (gain_at _ _ g v j).trans (congrArg (v (ix2 0 j) + ·) (Finset.sum_congr rfl fun i _ => ?_))
  rw [sub_row X s ho, sub_row T s ho, sub_at X s ho]

/-- and to the second. -/
theorem part_loss (X T : Vec Ideal S512x1024 .f32) (g : Vec Ideal S1x1024 .f32) (l : Vec Ideal S1x128 .f32) (s : Fin 4) {o : ℕ}
    (ho : o = s.val * 128) (inb : ∀ a, (![o, 0] : Fin 2 → ℕ) a + S128x1024.size a ≤ S512x1024.size a) (j : Fin 128) :
    k0_pay11 (k0_pay8 l) k0_pay9
      (k0_pay10 (View.ld (e' := .f32) (Val := Elt Ideal) X (Rect.unit (s := S512x1024) ![o, 0] S128x1024.size inb)) g
        (View.ld (e' := .f32) (Val := Elt Ideal) T (Rect.unit (s := S512x1024) ![o, 0] S128x1024.size inb))) (ix2 0 j)
      = l (ix2 0 j) + halfOne * ∑ i : Fin 128, ∑ k, err (row X (within s i)) (row T (within s i)) (row g 0) k
          * err (row X (within s i)) (row T (within s i)) (row g 0) k := by
  refine (loss_at _ _ g l j).trans (congrArg (l (ix2 0 j) + halfOne * ·) (Finset.sum_congr rfl fun i _ => ?_))
  rw [sub_row X s ho, sub_row T s ho]

/-- A point adds the four parts to the gain's gradient, -/
theorem gains_at (X T : Vec Ideal S512x1024 .f32) (g v : Vec Ideal S1x1024 .f32) (j : Fin 1024) :
    k0_pay43 (k0_pay37 (View.ld (e' := .f32) (Val := Elt Ideal) X (Rect.unit (s := S512x1024) ![384, 0] S128x1024.size inb_S512x1024_S128x1024_384_0)))
      (k0_pay38 (View.ld (e' := .f32) (Val := Elt Ideal) X (Rect.unit (s := S512x1024) ![384, 0] S128x1024.size inb_S512x1024_S128x1024_384_0)) g)
      (View.ld (e' := .f32) (Val := Elt Ideal) T (Rect.unit (s := S512x1024) ![384, 0] S128x1024.size inb_S512x1024_S128x1024_384_0))
      (k0_pay34 (k0_pay28 (View.ld (e' := .f32) (Val := Elt Ideal) X (Rect.unit (s := S512x1024) ![256, 0] S128x1024.size inb_S512x1024_S128x1024_256_0)))
        (k0_pay29 (View.ld (e' := .f32) (Val := Elt Ideal) X (Rect.unit (s := S512x1024) ![256, 0] S128x1024.size inb_S512x1024_S128x1024_256_0)) g
          (View.ld (e' := .f32) (Val := Elt Ideal) T (Rect.unit (s := S512x1024) ![256, 0] S128x1024.size inb_S512x1024_S128x1024_256_0))) k0_pay31
        (k0_pay25 (k0_pay24 (k0_pay15 (View.ld (e' := .f32) (Val := Elt Ideal) X (Rect.unit (s := S512x1024) ![128, 0] S128x1024.size inb_S512x1024_S128x1024_128_0)))
            (k0_pay16 (View.ld (e' := .f32) (Val := Elt Ideal) X (Rect.unit (s := S512x1024) ![128, 0] S128x1024.size inb_S512x1024_S128x1024_128_0))) k0_pay17 g
            (View.ld (e' := .f32) (Val := Elt Ideal) T (Rect.unit (s := S512x1024) ![128, 0] S128x1024.size inb_S512x1024_S128x1024_128_0)))
          (k0_pay14 (k0_pay6 (View.ld (e' := .f32) (Val := Elt Ideal) X (Rect.unit (s := S512x1024) ![0, 0] S128x1024.size inb_S512x1024_S128x1024_0_0)))
            (k0_pay7 (View.ld (e' := .f32) (Val := Elt Ideal) X (Rect.unit (s := S512x1024) ![0, 0] S128x1024.size inb_S512x1024_S128x1024_0_0)) g
              (View.ld (e' := .f32) (Val := Elt Ideal) T (Rect.unit (s := S512x1024) ![0, 0] S128x1024.size inb_S512x1024_S128x1024_0_0))) v)))
      (ix2 0 j) = v (ix2 0 j) + gainOf X T g j := by
  refine (part_gain X T g _ 3 (o := 384) rfl _ j).trans ?_
  refine (congrArg (· + _) ((part_gain X T g _ 2 (o := 256) rfl _ j).trans (congrArg (· + _)
    ((part_gain X T g _ 1 (o := 128) rfl _ j).trans (congrArg (· + _) (part_gain X T g v 0 (o := 0) rfl _ j)))))).trans ?_
  unfold gainOf
  rw [sum_blocks 4 128, Fin.sum_univ_four]
  simp only [add_assoc]

/-- and to the loss. -/
theorem losses_at (X T : Vec Ideal S512x1024 .f32) (g : Vec Ideal S1x1024 .f32) (l : Vec Ideal S1x128 .f32) (j : Fin 128) :
    k0_pay40 (k0_pay38 (View.ld (e' := .f32) (Val := Elt Ideal) X (Rect.unit (s := S512x1024) ![384, 0] S128x1024.size inb_S512x1024_S128x1024_384_0)) g)
      (View.ld (e' := .f32) (Val := Elt Ideal) T (Rect.unit (s := S512x1024) ![384, 0] S128x1024.size inb_S512x1024_S128x1024_384_0))
      (k0_pay30 (View.ld (e' := .f32) (Val := Elt Ideal) X (Rect.unit (s := S512x1024) ![256, 0] S128x1024.size inb_S512x1024_S128x1024_256_0)) g
        (View.ld (e' := .f32) (Val := Elt Ideal) T (Rect.unit (s := S512x1024) ![256, 0] S128x1024.size inb_S512x1024_S128x1024_256_0))
        (k0_pay21 (k0_pay15 (View.ld (e' := .f32) (Val := Elt Ideal) X (Rect.unit (s := S512x1024) ![128, 0] S128x1024.size inb_S512x1024_S128x1024_128_0)))
          (k0_pay16 (View.ld (e' := .f32) (Val := Elt Ideal) X (Rect.unit (s := S512x1024) ![128, 0] S128x1024.size inb_S512x1024_S128x1024_128_0))) k0_pay17 g
          (View.ld (e' := .f32) (Val := Elt Ideal) T (Rect.unit (s := S512x1024) ![128, 0] S128x1024.size inb_S512x1024_S128x1024_128_0))
          (k0_pay11 (k0_pay8 l) k0_pay9
            (k0_pay10 (View.ld (e' := .f32) (Val := Elt Ideal) X (Rect.unit (s := S512x1024) ![0, 0] S128x1024.size inb_S512x1024_S128x1024_0_0)) g
              (View.ld (e' := .f32) (Val := Elt Ideal) T (Rect.unit (s := S512x1024) ![0, 0] S128x1024.size inb_S512x1024_S128x1024_0_0))))))
      (ix2 0 j) = l (ix2 0 j) + halfOne * lossOf X T g := by
  refine (part_loss X T g _ 3 (o := 384) rfl _ j).trans ?_
  refine (congrArg (· + _) ((part_loss X T g _ 2 (o := 256) rfl _ j).trans (congrArg (· + _)
    ((part_loss X T g _ 1 (o := 128) rfl _ j).trans (congrArg (· + _) (part_loss X T g l 0 (o := 0) rfl _ j)))))).trans ?_
  unfold lossOf
  rw [sum_blocks 4 128, Fin.sum_univ_four, mul_comm halfOne (_ + _), halfOne_eq]
  have h : (0 : EReal) ≤ ((2048⁻¹ : ℝ) : EReal) := EReal.coe_nonneg.mpr (by norm_num)
  rw [EReal.right_distrib_of_nonneg_of_ne_top h (EReal.coe_ne_top _), EReal.right_distrib_of_nonneg_of_ne_top h (EReal.coe_ne_top _),
    EReal.right_distrib_of_nonneg_of_ne_top h (EReal.coe_ne_top _)]
  simp only [add_assoc, mul_comm ((2048⁻¹ : ℝ) : EReal)]

theorem zero_at (j : Fin 1024) : k0_pay1 (F := Ideal) (ix2 0 j) = 0 := by
  pointwise [k0_pay1]

theorem zero_at' (j : Fin 128) : k0_pay2 (F := Ideal) (ix2 0 j) = 0 := by
  pointwise [k0_pay2]

end Cert.LossPoint

end
-- ==== Proof.DownLoss.lean ====
/-
  The second feed-forward product, the loss and the final norm's gradients: each of eight points takes 512 rows, adds the
  product with the weight to the residual path, and from the sum adds its rows' part of the loss and of the gain's gradient
  and stores the rows' input gradients.
-/
module

public import proofs.«01_k».proof.Proof.LossPoint
public import proofs.«01_k».proof.Proof.LossRef
public import proofs.«01_k».proof.Proof.Gen.KernelLIdeal.Value

@[expose] public section

set_option synthInstance.maxSize 4096

noncomputable section

namespace Cert.DownLoss

open Idealize.ShloMosaic Idealize.ShloMosaic.TcCoe Cert.KernelLIdeal Cert.KernelLIdeal.Gen NormRow LossPoint
open NormPoint (row)
open LossRef (err)

theorem eq_row {n : ℕ} (y : (⟨2, ![1, n]⟩ : Shape).Idx) : y = ix2 0 (y 1) := by
  have h : (y 0).val < 1 := (y 0).isLt
  exact eq_ix2 y _ _ (by show (y 0).val = 0; omega) rfl

variable (m : (ℓ : Loc nD τ sig) → Buf (Elt Ideal) ℓ) (c : Dev nD)

/-! ## What a point computes -/

theorem sum_at (a : Vec Ideal S512x2816 .bf16) (b : Vec Ideal S2816x1024 .bf16) (x : Vec Ideal S512x1024 .f32)
    (i : Fin 512) (j : Fin 1024) :
    k0_pay3 a b x (ix2 i j) = (∑ k : Fin 2816, a (ix2 i k) * b (ix2 k j)) + x (ix2 i j) := by
  pointwise [k0_pay3]

/-- A point's rows of the sum. -/
def sum (t : Fin cfg0.N) : Vec Ideal S512x1024 .f32 := k0_pay3 (iblk m c 0 t) (iblk m c 1 t) (iblk m c 2 t)

theorem zeros : ∀ a, (![0, 0] : Fin 2 → ℕ) a = 0 := by decide

/-- What a point stores. -/
theorem stored (t : Fin cfg0.N) (y : S512x1024.Idx) :
    (outsAt0 m c t.val t.isLt).2.1 y = dxAt (sum m c t) (iblk m c 3 t) (iblk m c 4 t) y := by
  by_cases h : t.val % 8 = 0
  · rw [outsAt0_A m c t h]
    frame_out
    simp (disch := first | decide | exact zeros) only [↓View.readCov_skip, ↓View.readCov_fill]
    exact block_at (sum m c t) (iblk m c 3 t) (iblk m c 4 t) _ y
  · rw [outsAt0_B m c t h]
    frame_out
    simp (disch := first | decide | exact zeros) only [↓View.readCov_skip, ↓View.readCov_fill]
    exact block_at (sum m c t) (iblk m c 3 t) (iblk m c 4 t) _ y

/-- What a point adds to the gain's gradient, -/
def part (t : Fin cfg0.N) (y : S1x1024.Idx) : EReal := gainOf (sum m c t) (iblk m c 3 t) (iblk m c 4 t) (y 1)

/-- and to the loss. -/
def lossPart (t : Fin cfg0.N) (_ : S1x128.Idx) : EReal := halfOne * lossOf (sum m c t) (iblk m c 3 t) (iblk m c 4 t)

/-- The gain's gradient after the last point. -/
theorem gains (t : Fin cfg0.N) (h : t.val % 8 = 8 - 1) (y : S1x1024.Idx) :
    (outsAt0 m c t.val t.isLt).2.2 y
      = 0 + ∑ s : Fin 8, part m c ⟨8 * (t.val / 8) + s.val, Pipeline.run_point_lt_of_flush t h s⟩ y := by
  rw [Pipeline.eq_sum_fin_of_reset_step_apply_of_flush (fun n h => (outsAt0 m c n h).2.2) 8 (fun _ => (0 : EReal)) (part m c)
    (fun t h y => by
      obtain ⟨j, rfl⟩ : ∃ j, y = ix2 0 j := ⟨y 1, eq_row y⟩
      rw [outsAt0_A m c t h]
      frame_out
      simp (disch := first | decide | exact zeros) only [↓View.readCov_skip, ↓View.readCov_fill]
      refine (gains_at (sum m c t) (iblk m c 3 t) (iblk m c 4 t) _ j).trans ?_
      exact congrArg (· + _) (zero_at j))
    (fun t h y => by
      obtain ⟨j, rfl⟩ : ∃ j, y = ix2 0 j := ⟨y 1, eq_row y⟩
      rw [outsAt0_B m c t h]
      frame_out
      simp (disch := first | decide | exact zeros) only [↓View.readCov_skip, ↓View.readCov_fill]
      exact gains_at (sum m c t) (iblk m c 3 t) (iblk m c 4 t) _ j) t h y]

/-- The loss after the last point. -/
theorem losses (t : Fin cfg0.N) (h : t.val % 8 = 8 - 1) (y : S1x128.Idx) :
    (outsAt0 m c t.val t.isLt).1 y
      = 0 + ∑ s : Fin 8, lossPart m c ⟨8 * (t.val / 8) + s.val, Pipeline.run_point_lt_of_flush t h s⟩ y := by
  rw [Pipeline.eq_sum_fin_of_reset_step_apply_of_flush (fun n h => (outsAt0 m c n h).1) 8 (fun _ => (0 : EReal)) (lossPart m c)
    (fun t h y => by
      obtain ⟨j, rfl⟩ : ∃ j, y = ix2 0 j := ⟨y 1, eq_row y⟩
      rw [outsAt0_A m c t h]
      frame_out
      simp (disch := first | decide | exact zeros) only [↓View.readCov_skip, ↓View.readCov_fill]
      refine (losses_at (sum m c t) (iblk m c 3 t) (iblk m c 4 t) _ j).trans ?_
      exact congrArg (· + _) (zero_at' j))
    (fun t h y => by
      obtain ⟨j, rfl⟩ : ∃ j, y = ix2 0 j := ⟨y 1, eq_row y⟩
      rw [outsAt0_B m c t h]
      frame_out
      simp (disch := first | decide | exact zeros) only [↓View.readCov_skip, ↓View.readCov_fill]
      exact losses_at (sum m c t) (iblk m c 3 t) (iblk m c 4 t) _ j) t h y]

/-! ## The blocks of the arguments -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

/-- The arguments: the activations, the weight, the residual path, the target, the norm's gain. -/
abbrev argA : Vec Ideal S4096x2816 .bf16 := m ((c : Thread nD τ).loc main_arg0)
abbrev argW : Vec Ideal S2816x1024 .bf16 := m ((c : Thread nD τ).loc main_arg1)
abbrev argX : Vec Ideal S4096x1024 .f32 := m ((c : Thread nD τ).loc main_arg2)
abbrev argT : Vec Ideal S4096x1024 .f32 := m ((c : Thread nD τ).loc main_arg3)
abbrev argG : Vec Ideal S1x1024 .f32 := m ((c : Thread nD τ).loc main_arg4)

/-- The reference's sum. -/
abbrev plain (a : Vec Ideal S4096x2816 .bf16) (b : Vec Ideal S2816x1024 .bf16) (x : Vec Ideal S4096x1024 .f32) :
    FVec Ideal S4096x1024 .f32 :=
  addf x (Host.dotGeneral (F := Ideal) (φ₁ := .f32) (φ₂ := .f32)
    Cert.ReferenceLIdeal.dot_S4096x2816_S2816x1024_S4096x1024_1_0_0_1_n_n none
    (extf .f32 a Cert.ReferenceLIdeal.Facts₀.bitsLt_bf16_f32) (extf .f32 b Cert.ReferenceLIdeal.Facts₀.bitsLt_bf16_f32))

theorem plain_at (a : Vec Ideal S4096x2816 .bf16) (b : Vec Ideal S2816x1024 .bf16) (x : Vec Ideal S4096x1024 .f32)
    (i : Fin 4096) (j : Fin 1024) :
    plain a b x (ix2 i j) = x (ix2 i j) + ∑ k : Fin 2816, a (ix2 i k) * b (ix2 k j) := by
  pointwise [plain]

/-- The final norm's input. -/
abbrev X : FVec Ideal S4096x1024 .f32 := plain (argA m c) (argW m c) (argX m c)

variable (t : Fin cfg0.N) (s : Fin 8) (hs : t.val = s.val)

include hs in
theorem sum_eq (i : Fin 512) (j : Fin 1024) : sum m c t (ix2 i j) = X m c (ix2 (within s i) j) := by
  unfold X
  rw [plain_at]
  refine (sum_at _ _ _ i j).trans ((congrArg₂ (fun p q : EReal => p + q) (Finset.sum_congr rfl fun k _ =>
    congrArg₂ (fun p q : EReal => p * q) ?_ ?_) ?_).trans (add_comm (_ : EReal) _))
  · exact congrArg (argA m c)
      (eq_ix2 (((cfg0.win 0).blk t).view.emb (ix2 i k)) (within s i) k (pos_eq s ((idx0 t).1.trans hs) i) (at_zero (idx0 t).2))
  · exact congrArg (argW m c)
      (eq_ix2 (((cfg0.win 1).blk t).view.emb (ix2 k j)) k j (at_zero (idx1 t).1) (at_zero (idx1 t).2))
  · exact congrArg (argX m c)
      (eq_ix2 (((cfg0.win 2).blk t).view.emb (ix2 i j)) (within s i) j (pos_eq s ((idx2 t).1.trans hs) i) (at_zero (idx2 t).2))

include hs in
theorem t_at (i : Fin 512) (j : Fin 1024) : iblk m c 3 t (ix2 i j) = argT m c (ix2 (within s i) j) :=
  congrArg (argT m c)
    (eq_ix2 (((cfg0.win 3).blk t).view.emb (ix2 i j)) (within s i) j (pos_eq s ((idx3 t).1.trans hs) i) (at_zero (idx3 t).2))

theorem g_at (j : Fin 1024) : iblk m c 4 t (ix2 0 j) = argG m c (ix2 0 j) :=
  congrArg (argG m c) (eq_ix2 (((cfg0.win 4).blk t).view.emb (ix2 0 j)) 0 j (at_zero (idx4 t).1) (at_zero (idx4 t).2))

include hs in
theorem row_sum (i : Fin 512) : row (sum m c t) i = NormRef.row (X m c) (within s i) := funext fun k => sum_eq m c t s hs i k

include hs in
theorem row_target (i : Fin 512) : row (iblk m c 3 t) i = NormRef.row (argT m c) (within s i) :=
  funext fun k => t_at m c t s hs i k

theorem row_gain : row (iblk m c 4 t) 0 = NormRef.row (argG m c) 0 := funext fun k => g_at m c t k

/-! ## The whole arrays -/

/-- The input's gradient: the reference's. -/
theorem input_at (i : Fin 4096) (j : Fin 1024) :
    (dats m 0 c).arrAt 6 cfg0.N (ix2 i j)
      = LossRef.inputGrad (LossRef.grad (X m c) (argG m c) (argT m c)) (X m c) (argG m c) (ix2 i j) := by
  obtain ⟨s, i, rfl⟩ := exists_within (a := 8) (n := 512) i
  let t : Fin cfg0.N := ⟨s.val, lt_of_lt_of_eq s.isLt N_0.symm⟩
  have e := congrFun ((Value.blocks6 m c t (flush0_6 t)).trans (Value.flushed6 m c t)) (ix2 i j)
  have e2 : ((cfg0.win 6).blk t).view.emb (ix2 i j) = ix2 (within s i) j :=
    eq_ix2 _ _ _ (pos_eq s (idx6 t).1 i) (at_zero (idx6 t).2)
  refine Eq.trans ?_ (e.trans ((stored m c t (ix2 i j)).trans ?_))
  · show _ = (dats m 0 c).arrAt 6 cfg0.N (((cfg0.win 6).blk t).view.emb (ix2 i j))
    rw [e2]
  · rw [LossRef.inputGrad_at, ← kernelAt_eq_plainAt]
    show kernelAt (row (sum m c t) i) (fun k => err (row (sum m c t) i) (row (iblk m c 3 t) i) (row (iblk m c 4 t) 0) k * one)
      (row (iblk m c 4 t) 0) 0 j = _
    rw [row_sum m c t s rfl i, row_target m c t s rfl i, row_gain m c t]
    exact congrArg (fun d => kernelAt _ d _ 0 j) (funext fun k => (LossRef.grad_at _ _ _ _ k).symm)

theorem disjoint5 : ∀ t t' : Fin cfg0.N, (cfg0.win 5).flush t = true → (cfg0.win 5).flush t' = true → t ≠ t' →
    Disjoint ((cfg0.win 5).blk t).view.set ((cfg0.win 5).blk t').view.set := by
  intro t t' h h' hne
  have := (flush0_5 t).mp h
  have := (flush0_5 t').mp h'
  have := lt_of_lt_of_eq t.isLt N_0
  have := lt_of_lt_of_eq t'.isLt N_0
  exact absurd (Fin.ext (by omega)) hne

theorem disjoint7 : ∀ t t' : Fin cfg0.N, (cfg0.win 7).flush t = true → (cfg0.win 7).flush t' = true → t ≠ t' →
    Disjoint ((cfg0.win 7).blk t).view.set ((cfg0.win 7).blk t').view.set := by
  intro t t' h h' hne
  have := (flush0_7 t).mp h
  have := (flush0_7 t').mp h'
  have := lt_of_lt_of_eq t.isLt N_0
  have := lt_of_lt_of_eq t'.isLt N_0
  exact absurd (Fin.ext (by omega)) hne

include hs in
theorem part_eq (j : Fin 1024) : part m c t (ix2 0 j)
    = ∑ i : Fin 512, LossRef.grad (X m c) (argG m c) (argT m c) (ix2 (within s i) j)
      * (X m c (ix2 (within s i) j) * scale (NormRef.row (X m c) (within s i))) := by
  unfold part gainOf
  refine Finset.sum_congr rfl fun i _ => ?_
  rw [row_sum m c t s hs i, row_target m c t s hs i, row_gain m c t, LossRef.grad_at]
  exact congrArg (fun p : EReal => _ * (p * _)) (sum_eq m c t s hs i j)

/-- The gain's gradient: the reference's. -/
theorem gain_at (j : Fin 1024) :
    (dats m 0 c).arrAt 7 cfg0.N (ix2 0 j)
      = NormRef.gainGrad (LossRef.grad (X m c) (argG m c) (argT m c)) (X m c) (ix2 0 j) := by
  let t : Fin cfg0.N := ⟨7, lt_of_lt_of_eq (by decide) N_0.symm⟩
  have hf : (cfg0.win 7).flush t = true := (flush0_7 t).mpr rfl
  have e := congrFun (((dats m 0 c).read_blk_arrAt_eq_flushed 7 disjoint7 cfg0.N t t.isLt hf).trans (Value.flushed7 m c t)) (ix2 0 j)
  have e2 : ((cfg0.win 7).blk t).view.emb (ix2 0 j) = ix2 0 j := eq_ix2 _ _ _ (at_zero (idx7 t).1) (at_zero (idx7 t).2)
  refine Eq.trans ?_ (e.trans ((gains m c t rfl (ix2 0 j)).trans ?_))
  · show _ = (dats m 0 c).arrAt 7 cfg0.N (((cfg0.win 7).blk t).view.emb (ix2 0 j))
    rw [e2]
  · rw [zero_add, NormRef.gainGrad_at, sum_blocks 8 512]
    refine Finset.sum_congr rfl fun s _ => part_eq m c _ s ?_ j
    show 8 * (7 / 8) + s.val = s.val
    omega

include hs in
theorem lossPart_eq (y : S1x128.Idx) : lossPart m c t y
    = (∑ i : Fin 512, ∑ k, err (NormRef.row (X m c) (within s i)) (NormRef.row (argT m c) (within s i)) (NormRef.row (argG m c) 0) k
      * err (NormRef.row (X m c) (within s i)) (NormRef.row (argT m c) (within s i)) (NormRef.row (argG m c) 0) k)
        * ((2048⁻¹ : ℝ) : EReal) := by
  unfold lossPart lossOf
  rw [mul_comm, halfOne_eq]
  refine congrArg (· * _) (Finset.sum_congr rfl fun i _ => ?_)
  rw [row_sum m c t s hs i, row_target m c t s hs i, row_gain m c t]

/-- The loss: the reference's. -/
theorem loss_at (j : Fin 128) :
    (dats m 0 c).arrAt 5 cfg0.N (ix2 0 j) = LossRef.loss (X m c) (argG m c) (argT m c) (ix2 0 j) := by
  let t : Fin cfg0.N := ⟨7, lt_of_lt_of_eq (by decide) N_0.symm⟩
  have hf : (cfg0.win 5).flush t = true := (flush0_5 t).mpr rfl
  have e := congrFun (((dats m 0 c).read_blk_arrAt_eq_flushed 5 disjoint5 cfg0.N t t.isLt hf).trans (Value.flushed5 m c t)) (ix2 0 j)
  have e2 : ((cfg0.win 5).blk t).view.emb (ix2 0 j) = ix2 0 j := eq_ix2 _ _ _ (at_zero (idx5 t).1) (at_zero (idx5 t).2)
  refine Eq.trans ?_ (e.trans ((losses m c t rfl (ix2 0 j)).trans ?_))
  · show _ = (dats m 0 c).arrAt 5 cfg0.N (((cfg0.win 5).blk t).view.emb (ix2 0 j))
    rw [e2]
  · rw [zero_add, LossRef.loss_at, sum_blocks 8 512]
    refine Eq.trans (Finset.sum_congr rfl fun s _ => lossPart_eq m c _ s ?_ _) (Eq.trans ?_ (mul_comm (_ : EReal) _))
    · show 8 * (7 / 8) + s.val = s.val
      omega
    · rw [← sum_mul_real _ _ (by norm_num)]
      exact congrArg (_ * ·) halfOne_eq.symm

/-- The kernel's whole arrays are the reference's. -/
theorem loss_equal : ((dats m 0 c).arrAt 5 cfg0.N : Vec Ideal S1x128 .f32) = LossRef.loss (X m c) (argG m c) (argT m c) := by
  funext y
  obtain ⟨j, rfl⟩ : ∃ j, y = ix2 0 j := ⟨y 1, eq_row y⟩
  exact loss_at m c j

theorem input_equal : ((dats m 0 c).arrAt 6 cfg0.N : Vec Ideal S4096x1024 .f32)
    = LossRef.inputGrad (LossRef.grad (X m c) (argG m c) (argT m c)) (X m c) (argG m c) := by
  funext y
  obtain ⟨i, j, rfl⟩ : ∃ i j, y = ix2 i j := ⟨y 0, y 1, eq_ix2 y _ _ rfl rfl⟩
  exact input_at m c i j

theorem gain_equal : ((dats m 0 c).arrAt 7 cfg0.N : Vec Ideal S1x1024 .f32)
    = NormRef.gainGrad (LossRef.grad (X m c) (argG m c) (argT m c)) (X m c) := by
  funext y
  obtain ⟨j, rfl⟩ : ∃ j, y = ix2 0 j := ⟨y 1, eq_row y⟩
  exact gain_at m c j

end Cert.DownLoss

end
-- ==== Proof.MoreProducts.lean ====
/-
  The mixer's output projection, forward and backward, and the loss head: each program's frame, and the kernel's arrays equal
  to the reference's over the extended reals, with no condition on the arguments.
-/
module

public import proofs.«01_k».proof.Defs
public import proofs.«01_k».proof.Proof.MixGrad
public import proofs.«01_k».proof.Proof.Gen.KernelM.Frame
public import proofs.«01_k».proof.Proof.OutGrad
public import proofs.«01_k».proof.Proof.Gen.KernelO.Frame
public import proofs.«01_k».proof.Proof.OutProj
public import proofs.«01_k».proof.Proof.InProj
public import proofs.«01_k».proof.Proof.Gen.KernelY.Frame
public import proofs.«01_k».proof.Proof.DownLoss
public import proofs.«01_k».proof.Proof.Gen.KernelL.Frame

@[expose] public section

noncomputable section

namespace Cert.MoreProducts

open Idealize.ShloMosaic Idealize.SL.Sem

/-- The reference of the gradient of the mixer's output ends with its arguments unchanged. -/
theorem frameM : Cert.quiescent_ReferenceMIdeal := fun m ρ _ =>
  (θ_run Cert.ReferenceMIdeal.defs _ _).mono (fun r h => ⟨fun c => (h c).2, sem_eq_zero_of_no_sems (by decide) r.2⟩)
    (Cert.ReferenceMIdeal.Value.run (F := Ideal) m ρ)

/-- Kernel and reference of the gradient of the mixer's output end with the same array. -/
theorem equalM : Cert.algebraic_KernelMIdeal_ReferenceMIdeal := by
  intro m ρ m' ρ' _ agree
  refine ⟨_, Cert.KernelMIdeal.Value.run_blocks m ρ, ?_⟩
  refine (θ_run Cert.ReferenceMIdeal.defs _ _).mono (fun r h c => ⟨(h c).1.trans ?_, (h c).2⟩)
    (Cert.ReferenceMIdeal.Value.run (F := Ideal) m' ρ')
  rw [(agree c).1, (agree c).2]
  exact (MixGrad.equal m c).symm

/-- The reference of the gradient of the output projection's weight ends with its arguments unchanged. -/
theorem frameO : Cert.quiescent_ReferenceOIdeal := fun m ρ _ =>
  (θ_run Cert.ReferenceOIdeal.defs _ _).mono (fun r h => ⟨fun c => (h c).2, sem_eq_zero_of_no_sems (by decide) r.2⟩)
    (Cert.ReferenceOIdeal.Value.run (F := Ideal) m ρ)

/-- Kernel and reference of the gradient of the output projection's weight end with the same array. -/
theorem equalO : Cert.algebraic_KernelOIdeal_ReferenceOIdeal := by
  intro m ρ m' ρ' _ agree
  refine ⟨_, Cert.KernelOIdeal.Value.run_blocks m ρ, ?_⟩
  refine (θ_run Cert.ReferenceOIdeal.defs _ _).mono (fun r h c => ⟨(h c).1.trans ?_, (h c).2⟩)
    (Cert.ReferenceOIdeal.Value.run (F := Ideal) m' ρ')
  rw [(agree c).1, (agree c).2]
  exact (OutGrad.equal m c).symm

/-- The reference of the input projections ends with its arguments unchanged. -/
theorem frameJ : Cert.quiescent_ReferenceJIdeal := fun m ρ _ =>
  (θ_run Cert.ReferenceJIdeal.defs _ _).mono (fun r h => ⟨fun c => (h c).2.2.2, sem_eq_zero_of_no_sems (by decide) r.2⟩)
    (Cert.ReferenceJIdeal.Value.run (F := Ideal) m ρ)

/-- Kernel and reference of the input projections end with the same projections, normalised rows and widened weight. -/
theorem equalJ : Cert.algebraic_KernelJIdeal_ReferenceJIdeal := by
  intro m ρ m' ρ' _ agree
  refine ⟨_, _, _, InFrame.run_blocks m ρ, ?_⟩
  refine (θ_run Cert.ReferenceJIdeal.defs _ _).mono
    (fun r h c => ⟨(h c).1.trans ?_, (h c).2.1.trans ?_, (h c).2.2.1.trans ?_, (h c).2.2.2⟩)
    (Cert.ReferenceJIdeal.Value.run (F := Ideal) m' ρ')
  · rw [(agree c).1, (agree c).2.1, (agree c).2.2]
    exact (InProj.equal3 m c).symm
  · rw [(agree c).1, (agree c).2.1]
    exact (InProj.equal4 m c).symm
  · rw [(agree c).2.2]
    exact (InProj.equal5 m c).symm

/-- The reference of the output projection ends with its arguments unchanged. -/
theorem frameY : Cert.quiescent_ReferenceYIdeal := fun m ρ _ =>
  (θ_run Cert.ReferenceYIdeal.defs _ _).mono (fun r h => ⟨fun c => (h c).2.2, sem_eq_zero_of_no_sems (by decide) r.2⟩)
    (Cert.ReferenceYIdeal.Value.run (F := Ideal) m ρ)

/-- Kernel and reference of the output projection end with the same residual path and the same normalised rows. -/
theorem equalY : Cert.algebraic_KernelYIdeal_ReferenceYIdeal := by
  intro m ρ m' ρ' _ agree
  refine ⟨_, _, Cert.KernelYIdeal.Value.run_blocks m ρ, ?_⟩
  refine (θ_run Cert.ReferenceYIdeal.defs _ _).mono (fun r h c => ⟨(h c).1.trans ?_, (h c).2.1.trans ?_, (h c).2.2⟩)
    (Cert.ReferenceYIdeal.Value.run (F := Ideal) m' ρ')
  · rw [(agree c).1, (agree c).2.1, (agree c).2.2.1]
    exact (OutProj.equal4 m c).symm
  · rw [(agree c).1, (agree c).2.1, (agree c).2.2.1, (agree c).2.2.2]
    exact (OutProj.equal5 m c).symm

/-- The reference of the loss head ends with its arguments unchanged. -/
theorem frameL : Cert.quiescent_ReferenceLIdeal := fun m ρ _ =>
  (θ_run Cert.ReferenceLIdeal.defs _ _).mono (fun r h => ⟨fun c => (h c).2.2.2, sem_eq_zero_of_no_sems (by decide) r.2⟩)
    (Cert.ReferenceLIdeal.Value.run (F := Ideal) m ρ)

/-- Kernel and reference of the loss head end with the same loss and the same gradients. -/
theorem equalL : Cert.algebraic_KernelLIdeal_ReferenceLIdeal := by
  intro m ρ m' ρ' _ agree
  refine ⟨_, _, _, Cert.KernelLIdeal.Value.run_blocks m ρ, ?_⟩
  refine (θ_run Cert.ReferenceLIdeal.defs _ _).mono
    (fun r h c => ⟨(h c).1.trans ?_, (h c).2.1.trans ?_, (h c).2.2.1.trans ?_, (h c).2.2.2⟩)
    (Cert.ReferenceLIdeal.Value.run (F := Ideal) m' ρ')
  · rw [(agree c).1, (agree c).2.1, (agree c).2.2.1, (agree c).2.2.2.1, (agree c).2.2.2.2]
    exact (DownLoss.loss_equal m c).symm
  · unfold Cert.ReferenceLIdeal.Value.res_main_v55
    rw [(agree c).1, (agree c).2.1, (agree c).2.2.1, (agree c).2.2.2.1, (agree c).2.2.2.2]
    exact (DownLoss.input_equal m c).symm
  · rw [(agree c).1, (agree c).2.1, (agree c).2.2.1, (agree c).2.2.2.1, (agree c).2.2.2.2]
    exact (DownLoss.gain_equal m c).symm

end Cert.MoreProducts

end
-- ==== Proof.InBoth.lean ====
/-
  The input projections' program and its ideal one have the same text: the frame of the one is the frame of the other.
-/
module

public import proofs.«01_k».proof.Defs
public import proofs.«01_k».proof.Proof.InFrame
public import proofs.«01_k».proof.Proof.Gen.KernelJ.Launch

@[expose] public section

noncomputable section

namespace Cert.InBoth

open Idealize.ShloMosaic

variable {F : FTy → Type} [FloatOps F]

/-- The two programs' bodies are the same, -/
theorem bodies : Cert.KernelJ.defs₀ (F := F) = Cert.KernelJIdeal.defs₀ (F := F) := by
  unfold Cert.KernelJ.defs₀ Cert.KernelJIdeal.defs₀
  refine congrArg Defs.onTc ?_
  funext l a
  match l, a with
  | 0, (t, s) => exact rfl

/-- and so are their pipelines. -/
theorem tables : Cert.KernelJ.defs (F := F) = Cert.KernelJIdeal.defs (F := F) :=
  congrArg (Pipeline.defs Cert.KernelJIdeal.pcfgs) bodies

/-- The kernel's frame. -/
theorem frame : Cert.quiescent_KernelJ := by
  intro m ρ _
  rw [tables]
  exact InFrame.frame (F := Bits) m ρ

end Cert.InBoth

end
-- ==== Proof.lean ====
/-
  The proof of `Cert.Claim`: the frames of the three programs, the kernel's naming of its mask constant, and the equality
  of the kernel's four gradients with the reference's over the extended reals, for finite arguments.
-/
module

public import proofs.«01_k».proof.Defs
public import proofs.«01_k».proof.Proof.Gen.Pre_finite
public import proofs.«01_k».proof.Proof.Gen.KernelIdeal.Value
public import proofs.«01_k».proof.Proof.Gen.Kernel.Frame
public import proofs.«01_k».proof.Proof.Gen.ReferenceIdeal.Run
public import proofs.«01_k».proof.Proof.Gen.ReferenceIdeal.Step
public import proofs.«01_k».proof.Proof.Equal
public import proofs.«01_k».proof.Proof.Products
public import proofs.«01_k».proof.Proof.NormProducts
public import proofs.«01_k».proof.Proof.MoreProducts
public import proofs.«01_k».proof.Proof.InBoth
public import Idealize.ShloMosaic.Adequacy
public import Idealize.ShloMosaic.Init

@[expose] public section

noncomputable section

namespace Cert.Proof

open Idealize.ShloMosaic Idealize.SL.Sem

/-- The reference's run ends with its arguments unchanged; it declares no semaphores. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.RefTrip.run_iter m ρ (fun c => Equal.states m c) (fun _ => rfl) (fun _ _ => rfl))

/-- The mask constant stands for minus infinity. -/
theorem preserves : Cert.preserves_Kernel_KernelIdeal :=
  IdealRules.named_const.statement Cert.KernelIdeal.κ "mask" .f32 0xF149F2CA#32 ⊥ rfl

/-- For finite arguments the kernel and the reference end with the same four gradients. -/
theorem algebraic : Cert.algebraic_KernelIdeal_ReferenceIdeal_pre_finite := by
  intro m ρ m' ρ' pre agree
  refine ⟨_, _, _, _, Cert.KernelIdeal.Value.run_blocks m ρ, ?_⟩
  refine (θ_run Cert.ReferenceIdeal.defs _ _).mono (fun r h c => ?_)
    (Cert.RefTrip.run_iter m' ρ' (fun c => Equal.states m' c) (fun _ => rfl) (fun _ _ => rfl))
  obtain ⟨d, a⟩ := Finite.exists_data (pre c)
  have e := Equal.results (m' := m') (c := c) a (agree c)
  exact ⟨(h c).1.trans e.1, (h c).2.1.trans e.2.1, (h c).2.2.1.trans e.2.2.1, (h c).2.2.2.1.trans e.2.2.2,
    (h c).2.2.2.2⟩

theorem claim : Cert.Claim :=
  ⟨Cert.Kernel.Gen.facts, Cert.KernelIdeal.Gen.facts, Cert.ReferenceIdeal.Gen.facts,
    Cert.KernelX.Gen.facts, Cert.KernelXIdeal.Gen.facts, Cert.ReferenceXIdeal.Gen.facts,
    Cert.KernelH.Gen.facts, Cert.KernelHIdeal.Gen.facts, Cert.ReferenceHIdeal.Gen.facts,
    Cert.KernelU.Gen.facts, Cert.KernelUIdeal.Gen.facts, Cert.ReferenceUIdeal.Gen.facts,
    Cert.KernelA.Gen.facts, Cert.KernelAIdeal.Gen.facts, Cert.ReferenceAIdeal.Gen.facts,
    Cert.KernelD.Gen.facts, Cert.KernelDIdeal.Gen.facts, Cert.ReferenceDIdeal.Gen.facts,
    Cert.KernelN.Gen.facts, Cert.KernelNIdeal.Gen.facts, Cert.ReferenceNIdeal.Gen.facts,
    Cert.KernelM.Gen.facts, Cert.KernelMIdeal.Gen.facts, Cert.ReferenceMIdeal.Gen.facts,
    Cert.KernelO.Gen.facts, Cert.KernelOIdeal.Gen.facts, Cert.ReferenceOIdeal.Gen.facts,
    Cert.KernelJ.Gen.facts, Cert.KernelJIdeal.Gen.facts, Cert.ReferenceJIdeal.Gen.facts,
    Cert.KernelY.Gen.facts, Cert.KernelYIdeal.Gen.facts, Cert.ReferenceYIdeal.Gen.facts,
    Cert.KernelL.Gen.facts, Cert.KernelLIdeal.Gen.facts, Cert.ReferenceLIdeal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.KernelX.Gen.frame m ρ, fun m ρ _ => Cert.KernelXIdeal.Gen.frame m ρ, NormProducts.frameX,
    fun m ρ _ => Cert.KernelH.Gen.frame m ρ, fun m ρ _ => Cert.KernelHIdeal.Gen.frame m ρ, NormProducts.frameH,
    fun m ρ _ => Cert.KernelU.Gen.frame m ρ, fun m ρ _ => Cert.KernelUIdeal.Gen.frame m ρ, Products.frameU,
    fun m ρ _ => Cert.KernelA.Gen.frame m ρ, fun m ρ _ => Cert.KernelAIdeal.Gen.frame m ρ, Products.frameA,
    fun m ρ _ => Cert.KernelD.Gen.frame m ρ, fun m ρ _ => Cert.KernelDIdeal.Gen.frame m ρ, Products.frameD,
    fun m ρ _ => Cert.KernelN.Gen.frame m ρ, fun m ρ _ => Cert.KernelNIdeal.Gen.frame m ρ, Products.frameN,
    fun m ρ _ => Cert.KernelM.Gen.frame m ρ, fun m ρ _ => Cert.KernelMIdeal.Gen.frame m ρ, MoreProducts.frameM,
    fun m ρ _ => Cert.KernelO.Gen.frame m ρ, fun m ρ _ => Cert.KernelOIdeal.Gen.frame m ρ, MoreProducts.frameO,
    InBoth.frame, fun m ρ _ => InFrame.frame m ρ, MoreProducts.frameJ,
    fun m ρ _ => Cert.KernelY.Gen.frame m ρ, fun m ρ _ => Cert.KernelYIdeal.Gen.frame m ρ, MoreProducts.frameY,
    fun m ρ _ => Cert.KernelL.Gen.frame m ρ, fun m ρ _ => Cert.KernelLIdeal.Gen.frame m ρ, MoreProducts.frameL,
    preserves, algebraic,
    trivial, NormProducts.equalX,
    trivial, NormProducts.equalH,
    trivial, Products.equalU,
    trivial, Products.equalA,
    trivial, Products.equalD,
    trivial, Products.equalN,
    trivial, MoreProducts.equalM,
    trivial, MoreProducts.equalO,
    trivial, MoreProducts.equalJ,
    trivial, MoreProducts.equalY,
    trivial, MoreProducts.equalL⟩

end Cert.Proof

end
